-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_pre4 [hPre_pre4 : Cert.Pre_pre4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_pre4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_pre4 [hPre_pre4 : Cert.Pre_pre4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_pre4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Kernel4Ideal_pre_pre4 [hKernel4Ideal : Cert.Kernel4Ideal.Facts] [hPre_pre4 : Cert.Pre_pre4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_pre4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Reference4Ideal_pre_pre4 [hReference4Ideal : Cert.Reference4Ideal.Facts] [hPre_pre4 : Cert.Pre_pre4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_pre4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v55) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  IdealRules.named_const.Statement Cert.Kernel3Ideal.κ "scale_log2e" .f32 0x3E38AA3B#32 (((8 * (Real.log 2))⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v35_0)) (v1 : (c : Dev Cert.Kernel3Ideal.nD) → Buf (Elt Ideal) ((c.tc : Thread Cert.Kernel3Ideal.nD Cert.Kernel3Ideal.τ).loc Cert.Kernel3Ideal.main_v35_1)) (v2 : (c : Dev Cert.Kernel3Ideal.nD) → Buf (Elt Ideal) ((c.tc : Thread Cert.Kernel3Ideal.nD Cert.Kernel3Ideal.τ).loc Cert.Kernel3Ideal.main_v35_2)) (v3 : (c : Dev Cert.Kernel3Ideal.nD) → Buf (Elt Ideal) ((c.tc : Thread Cert.Kernel3Ideal.nD Cert.Kernel3Ideal.τ).loc Cert.Kernel3Ideal.main_v35_3)) (v4 : (c : Dev Cert.Kernel3Ideal.nD) → Buf (Elt Ideal) ((c.tc : Thread Cert.Kernel3Ideal.nD Cert.Kernel3Ideal.τ).loc Cert.Kernel3Ideal.main_v35_4)) (v5 : (c : Dev Cert.Kernel3Ideal.nD) → Buf (Elt Ideal) ((c.tc : Thread Cert.Kernel3Ideal.nD Cert.Kernel3Ideal.τ).loc Cert.Kernel3Ideal.main_v35_5)) (v6 : (c : Dev Cert.Kernel3Ideal.nD) → Buf (Elt Ideal) ((c.tc : Thread Cert.Kernel3Ideal.nD Cert.Kernel3Ideal.τ).loc Cert.Kernel3Ideal.main_v35_6)) (v7 : (c : Dev Cert.Kernel3Ideal.nD) → Buf (Elt Ideal) ((c.tc : Thread Cert.Kernel3Ideal.nD Cert.Kernel3Ideal.τ).loc Cert.Kernel3Ideal.main_v35_7)) (v8 : (c : Dev Cert.Kernel3Ideal.nD) → Buf (Elt Ideal) ((c.tc : Thread Cert.Kernel3Ideal.nD Cert.Kernel3Ideal.τ).loc Cert.Kernel3Ideal.main_v35_8)) (v9 : (c : Dev Cert.Kernel3Ideal.nD) → Buf (Elt Ideal) ((c.tc : Thread Cert.Kernel3Ideal.nD Cert.Kernel3Ideal.τ).loc Cert.Kernel3Ideal.main_v35_9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v35_0) = v0 c
          ∧ r.2.mem ((c.tc : Thread Cert.Kernel3Ideal.nD Cert.Kernel3Ideal.τ).loc Cert.Kernel3Ideal.main_v35_1) = v1 c
          ∧ r.2.mem ((c.tc : Thread Cert.Kernel3Ideal.nD Cert.Kernel3Ideal.τ).loc Cert.Kernel3Ideal.main_v35_2) = v2 c
          ∧ r.2.mem ((c.tc : Thread Cert.Kernel3Ideal.nD Cert.Kernel3Ideal.τ).loc Cert.Kernel3Ideal.main_v35_3) = v3 c
          ∧ r.2.mem ((c.tc : Thread Cert.Kernel3Ideal.nD Cert.Kernel3Ideal.τ).loc Cert.Kernel3Ideal.main_v35_4) = v4 c
          ∧ r.2.mem ((c.tc : Thread Cert.Kernel3Ideal.nD Cert.Kernel3Ideal.τ).loc Cert.Kernel3Ideal.main_v35_5) = v5 c
          ∧ r.2.mem ((c.tc : Thread Cert.Kernel3Ideal.nD Cert.Kernel3Ideal.τ).loc Cert.Kernel3Ideal.main_v35_6) = v6 c
          ∧ r.2.mem ((c.tc : Thread Cert.Kernel3Ideal.nD Cert.Kernel3Ideal.τ).loc Cert.Kernel3Ideal.main_v35_7) = v7 c
          ∧ r.2.mem ((c.tc : Thread Cert.Kernel3Ideal.nD Cert.Kernel3Ideal.τ).loc Cert.Kernel3Ideal.main_v35_8) = v8 c
          ∧ r.2.mem ((c.tc : Thread Cert.Kernel3Ideal.nD Cert.Kernel3Ideal.τ).loc Cert.Kernel3Ideal.main_v35_9) = v9 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v41) = v0 c
          ∧ r.2.mem ((c.tc : Thread Cert.Reference3Ideal.nD Cert.Reference3Ideal.τ).loc Cert.Reference3Ideal.main_v122) = v1 c
          ∧ r.2.mem ((c.tc : Thread Cert.Reference3Ideal.nD Cert.Reference3Ideal.τ).loc Cert.Reference3Ideal.main_v124) = v2 c
          ∧ r.2.mem ((c.tc : Thread Cert.Reference3Ideal.nD Cert.Reference3Ideal.τ).loc Cert.Reference3Ideal.main_v126) = v3 c
          ∧ r.2.mem ((c.tc : Thread Cert.Reference3Ideal.nD Cert.Reference3Ideal.τ).loc Cert.Reference3Ideal.main_v131) = v4 c
          ∧ r.2.mem ((c.tc : Thread Cert.Reference3Ideal.nD Cert.Reference3Ideal.τ).loc Cert.Reference3Ideal.main_v133) = v5 c
          ∧ r.2.mem ((c.tc : Thread Cert.Reference3Ideal.nD Cert.Reference3Ideal.τ).loc Cert.Reference3Ideal.main_v135) = v6 c
          ∧ r.2.mem ((c.tc : Thread Cert.Reference3Ideal.nD Cert.Reference3Ideal.τ).loc Cert.Reference3Ideal.main_v137) = v7 c
          ∧ r.2.mem ((c.tc : Thread Cert.Reference3Ideal.nD Cert.Reference3Ideal.τ).loc Cert.Reference3Ideal.main_v142) = v8 c
          ∧ r.2.mem ((c.tc : Thread Cert.Reference3Ideal.nD Cert.Reference3Ideal.τ).loc Cert.Reference3Ideal.main_v144) = v9 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  IdealRules.named_const.Statement Cert.Kernel4Ideal.κ "inv_ln2" .f32 0x3FB8AA3B#32 (((Real.log 2)⁻¹ : ℝ) : EReal)

def algebraic_Kernel4Ideal_Reference4Ideal_pre_pre4 [hKernel4Ideal : Cert.Kernel4Ideal.Facts] [hReference4Ideal : Cert.Reference4Ideal.Facts] [hPre_pre4 : Cert.Pre_pre4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_pre4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v7_0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v106) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_pre : Cert.Pre_pre.Facts) (hPre_pre4 : Cert.Pre_pre4.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_pre4 (hKernel4Ideal := hKernel4Ideal) (hPre_pre4 := hPre_pre4)
    ∧ quiescent_Reference4Ideal (hReference4Ideal := hReference4Ideal)
    ∧ quiescent_Reference4Ideal_pre_pre4 (hReference4Ideal := hReference4Ideal) (hPre_pre4 := hPre_pre4)
    ∧ preserves_Kernel_KernelIdeal
    ∧ algebraic_KernelIdeal_ReferenceIdeal_pre_pre (hKernelIdeal := hKernelIdeal) (hReferenceIdeal := hReferenceIdeal) (hPre_pre := hPre_pre)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_pre4 (hKernel4Ideal := hKernel4Ideal) (hReference4Ideal := hReference4Ideal) (hPre_pre4 := hPre_pre4)
-- ==== Pre_pre.lean ====
abbrev S8x2x64x32768 : Shape := ⟨4, ![8, 2, 64, 32768]⟩
abbrev S8x2x8192x64 : Shape := ⟨4, ![8, 2, 8192, 64]⟩
abbrev S8x2x80x8192 : Shape := ⟨4, ![8, 2, 80, 8192]⟩
abbrev S8x8192x512 : Shape := ⟨3, ![8, 8192, 512]⟩
abbrev S_ : Shape := ⟨0, ![]⟩
abbrev S8x2x64x8192 : Shape := ⟨4, ![8, 2, 64, 8192]⟩
abbrev S8x2x1x8192 : Shape := ⟨4, ![8, 2, 1, 8192]⟩
abbrev S8x2x8192 : Shape := ⟨3, ![8, 2, 8192]⟩

class Facts : Prop where
  bitsLt_bf16_f32 : FTy.bits .bf16 < FTy.bits .f32
  bcast_S_S8x2x64x32768 : S_.BroadcastsInDim S8x2x64x32768 (![] : Fin 0 → Fin S8x2x64x32768.rank)
  reducesTo_S8x2x64x32768_S_d0_1_2_3 : S8x2x64x32768.ReducesTo [0, 1, 2, 3] S_
  h_S_ : 0 < S_.numel
  bcast_S_S8x2x8192x64 : S_.BroadcastsInDim S8x2x8192x64 (![] : Fin 0 → Fin S8x2x8192x64.rank)
  reducesTo_S8x2x8192x64_S_d0_1_2_3 : S8x2x8192x64.ReducesTo [0, 1, 2, 3] S_
  slices_S8x2x80x8192_S8x2x64x8192_0_0_0_0 : S8x2x80x8192.Slices ![0, 0, 0, 0] S8x2x64x8192
  bcast_S_S8x2x64x8192 : S_.BroadcastsInDim S8x2x64x8192 (![] : Fin 0 → Fin S8x2x64x8192.rank)
  reducesTo_S8x2x64x8192_S_d0_1_2_3 : S8x2x64x8192.ReducesTo [0, 1, 2, 3] S_
  slices_S8x2x80x8192_S8x2x1x8192_0_0_64_0 : S8x2x80x8192.Slices ![0, 0, 64, 0] S8x2x1x8192
  shapeCasts_S8x2x1x8192_S8x2x8192 : S8x2x1x8192.ShapeCasts S8x2x8192
  bcast_S_S8x2x8192 : S_.BroadcastsInDim S8x2x8192 (![] : Fin 0 → Fin S8x2x8192.rank)
  reducesTo_S8x2x8192_S_d0_1_2 : S8x2x8192.ReducesTo [0, 1, 2] S_

variable [Facts]

def fn_part1 {F : FTy → Type} [FloatOps F] (main_arg2 : FVec F S8x2x80x8192 .bf16) (main_v17 : IVec S_ 1) : IVec S_ 1 :=
  let main_v18 : FVec F S8x2x1x8192 .bf16 := (extractStridedSlice S8x2x1x8192 ![0, 0, 64, 0] · slices_S8x2x80x8192_S8x2x1x8192_0_0_64_0) main_arg2
  let main_v19 : FVec F S8x2x8192 .bf16 := shapeCast S8x2x8192 main_v18 shapeCasts_S8x2x1x8192_S8x2x8192
  let main_v20 : FVec F S8x2x8192 .f32 := (extf .f32 · bitsLt_bf16_f32) main_v19
  let main_cst_4 : FVec F S_ .f32 := constant S_ .f32 0x3F800000#32
  let main_v21 : FVec F S8x2x8192 .f32 := broadcastInDim S8x2x8192 ![] bcast_S_S8x2x8192 main_cst_4
  let main_v22 : IVec S8x2x8192 1 := cmpf .oeq main_v20 main_v21
  let main_c_5 : IVec S_ 1 := constantI S_ 1 1#1
  let main_v23 : IVec S_ 1 := (fun x v => Host.reduce IntOp.andi x v reducesTo_S8x2x8192_S_d0_1_2 h_S_) main_v22 main_c_5
  let main_v24 : IVec S_ 1 := andi main_v17 main_v23
  main_v24

def fn {F : FTy → Type} [FloatOps F] (main_arg0 : FVec F S8x2x64x32768 .bf16) (main_arg1 : FVec F S8x2x8192x64 .bf16) (main_arg2 : FVec F S8x2x80x8192 .bf16) (main_arg3 : FVec F S8x8192x512 .bf16) : IVec S_ 1 :=
  let main_v0 : FVec F S8x2x64x32768 .f32 := (extf .f32 · bitsLt_bf16_f32) main_arg0
  let main_v1 : FVec F S8x2x64x32768 .f32 := Host.absf main_v0
  let main_cst : FVec F S_ .f32 := constant S_ .f32 0x7F800000#32
  let main_v2 : FVec F S8x2x64x32768 .f32 := broadcastInDim S8x2x64x32768 ![] bcast_S_S8x2x64x32768 main_cst
  let main_v3 : IVec S8x2x64x32768 1 := cmpf .olt main_v1 main_v2
  let main_c : IVec S_ 1 := constantI S_ 1 1#1
  let main_v4 : IVec S_ 1 := (fun x v => Host.reduce IntOp.andi x v reducesTo_S8x2x64x32768_S_d0_1_2_3 h_S_) main_v3 main_c
  let main_v5 : FVec F S8x2x8192x64 .f32 := (extf .f32 · bitsLt_bf16_f32) main_arg1
  let main_v6 : FVec F S8x2x8192x64 .f32 := Host.absf main_v5
  let main_cst_0 : FVec F S_ .f32 := constant S_ .f32 0x7F800000#32
  let main_v7 : FVec F S8x2x8192x64 .f32 := broadcastInDim S8x2x8192x64 ![] bcast_S_S8x2x8192x64 main_cst_0
  let main_v8 : IVec S8x2x8192x64 1 := cmpf .olt main_v6 main_v7
  let main_c_1 : IVec S_ 1 := constantI S_ 1 1#1
  let main_v9 : IVec S_ 1 := (fun x v => Host.reduce IntOp.andi x v reducesTo_S8x2x8192x64_S_d0_1_2_3 h_S_) main_v8 main_c_1
  let main_v10 : IVec S_ 1 := andi main_v4 main_v9
  let main_v11 : FVec F S8x2x64x8192 .bf16 := (extractStridedSlice S8x2x64x8192 ![0, 0, 0, 0] · slices_S8x2x80x8192_S8x2x64x8192_0_0_0_0) main_arg2
  let main_v12 : FVec F S8x2x64x8192 .f32 := (extf .f32 · bitsLt_bf16_f32) main_v11
  let main_v13 : FVec F S8x2x64x8192 .f32 := Host.absf main_v12
  let main_cst_2 : FVec F S_ .f32 := constant S_ .f32 0x7F800000#32
  let main_v14 : FVec F S8x2x64x8192 .f32 := broadcastInDim S8x2x64x8192 ![] bcast_S_S8x2x64x8192 main_cst_2
  let main_v15 : IVec S8x2x64x8192 1 := cmpf .olt main_v13 main_v14
  let main_c_3 : IVec S_ 1 := constantI S_ 1 1#1
  let main_v16 : IVec S_ 1 := (fun x v => Host.reduce IntOp.andi x v reducesTo_S8x2x64x8192_S_d0_1_2_3 h_S_) main_v15 main_c_3
  let main_v17 : IVec S_ 1 := andi main_v10 main_v16
  fn_part1 (F := F) main_arg2 main_v17
-- ==== Pre_pre4.lean ====
abbrev S8x4x128x8192 : Shape := ⟨4, ![8, 4, 128, 8192]⟩
abbrev S8x8x8192x64 : Shape := ⟨4, ![8, 8, 8192, 64]⟩
abbrev S8x4x144x8192 : Shape := ⟨4, ![8, 4, 144, 8192]⟩
abbrev S4x5x256x256 : Shape := ⟨4, ![4, 5, 256, 256]⟩
abbrev S64 : Shape := ⟨1, ![64]⟩
abbrev S128 : Shape := ⟨1, ![128]⟩
abbrev S8x8192x512 : Shape := ⟨3, ![8, 8192, 512]⟩
abbrev S_ : Shape := ⟨0, ![]⟩
abbrev S8x4x1x8192 : Shape := ⟨4, ![8, 4, 1, 8192]⟩
abbrev S8x4x8192 : Shape := ⟨3, ![8, 4, 8192]⟩

class Facts : Prop where
  bitsLt_bf16_f32 : FTy.bits .bf16 < FTy.bits .f32
  bcast_S_S8x4x128x8192 : S_.BroadcastsInDim S8x4x128x8192 (![] : Fin 0 → Fin S8x4x128x8192.rank)
  reducesTo_S8x4x128x8192_S_d0_1_2_3 : S8x4x128x8192.ReducesTo [0, 1, 2, 3] S_
  h_S_ : 0 < S_.numel
  bcast_S_S8x8x8192x64 : S_.BroadcastsInDim S8x8x8192x64 (![] : Fin 0 → Fin S8x8x8192x64.rank)
  reducesTo_S8x8x8192x64_S_d0_1_2_3 : S8x8x8192x64.ReducesTo [0, 1, 2, 3] S_
  slices_S8x4x144x8192_S8x4x128x8192_0_0_0_0 : S8x4x144x8192.Slices ![0, 0, 0, 0] S8x4x128x8192
  slices_S8x4x144x8192_S8x4x1x8192_0_0_128_0 : S8x4x144x8192.Slices ![0, 0, 128, 0] S8x4x1x8192
  shapeCasts_S8x4x1x8192_S8x4x8192 : S8x4x1x8192.ShapeCasts S8x4x8192
  bcast_S_S8x4x8192 : S_.BroadcastsInDim S8x4x8192 (![] : Fin 0 → Fin S8x4x8192.rank)
  reducesTo_S8x4x8192_S_d0_1_2 : S8x4x8192.ReducesTo [0, 1, 2] S_
  bcast_S_S4x5x256x256 : S_.BroadcastsInDim S4x5x256x256 (![] : Fin 0 → Fin S4x5x256x256.rank)
  reducesTo_S4x5x256x256_S_d0_1_2_3 : S4x5x256x256.ReducesTo [0, 1, 2, 3] S_
  bcast_S_S64 : S_.BroadcastsInDim S64 (![] : Fin 0 → Fin S64.rank)
  reducesTo_S64_S_d0 : S64.ReducesTo [0] S_

variable [Facts]

def fn_part2 {F : FTy → Type} [FloatOps F] (main_arg6 : FVec F S64 .f32) (main_arg7 : FVec F S64 .f32) (main_v34 : IVec S_ 1) (main_v35 : FVec F S64 .f32) : IVec S_ 1 :=
  let main_cst_10 : FVec F S_ .f32 := constant S_ .f32 0x7F800000#32
  let main_v36 : FVec F S64 .f32 := broadcastInDim S64 ![] bcast_S_S64 main_cst_10
  let main_v37 : IVec S64 1 := cmpf .olt main_v35 main_v36
  let main_c_11 : IVec S_ 1 := constantI S_ 1 1#1
  let main_v38 : IVec S_ 1 := (fun x v => Host.reduce IntOp.andi x v reducesTo_S64_S_d0 h_S_) main_v37 main_c_11
  let main_v39 : IVec S_ 1 := andi main_v34 main_v38
  let main_v40 : FVec F S64 .f32 := Host.absf main_arg6
  let main_cst_12 : FVec F S_ .f32 := constant S_ .f32 0x7F800000#32
  let main_v41 : FVec F S64 .f32 := broadcastInDim S64 ![] bcast_S_S64 main_cst_12
  let main_v42 : IVec S64 1 := cmpf .olt main_v40 main_v41
  let main_c_13 : IVec S_ 1 := constantI S_ 1 1#1
  let main_v43 : IVec S_ 1 := (fun x v => Host.reduce IntOp.andi x v reducesTo_S64_S_d0 h_S_) main_v42 main_c_13
  let main_v44 : IVec S_ 1 := andi main_v39 main_v43
  let main_v45 : FVec F S64 .f32 := Host.absf main_arg7
  let main_cst_14 : FVec F S_ .f32 := constant S_ .f32 0x7F800000#32
  let main_v46 : FVec F S64 .f32 := broadcastInDim S64 ![] bcast_S_S64 main_cst_14
  let main_v47 : IVec S64 1 := cmpf .olt main_v45 main_v46
  let main_c_15 : IVec S_ 1 := constantI S_ 1 1#1
  let main_v48 : IVec S_ 1 := (fun x v => Host.reduce IntOp.andi x v reducesTo_S64_S_d0 h_S_) main_v47 main_c_15
  let main_v49 : IVec S_ 1 := andi main_v44 main_v48
  main_v49

def fn_part1 {F : FTy → Type} [FloatOps F] (main_arg2 : FVec F S8x4x144x8192 .bf16) (main_arg3 : FVec F S4x5x256x256 .f32) (main_arg4 : FVec F S64 .f32) (main_arg5 : FVec F S64 .f32) (main_arg6 : FVec F S64 .f32) (main_arg7 : FVec F S64 .f32) (main_v17 : IVec S_ 1) : IVec S_ 1 :=
  let main_v18 : FVec F S8x4x1x8192 .bf16 := (extractStridedSlice S8x4x1x8192 ![0, 0, 128, 0] · slices_S8x4x144x8192_S8x4x1x8192_0_0_128_0) main_arg2
  let main_v19 : FVec F S8x4x8192 .bf16 := shapeCast S8x4x8192 main_v18 shapeCasts_S8x4x1x8192_S8x4x8192
  let main_v20 : FVec F S8x4x8192 .f32 := (extf .f32 · bitsLt_bf16_f32) main_v19
  let main_cst_4 : FVec F S_ .f32 := constant S_ .f32 0x3F800000#32
  let main_v21 : FVec F S8x4x8192 .f32 := broadcastInDim S8x4x8192 ![] bcast_S_S8x4x8192 main_cst_4
  let main_v22 : IVec S8x4x8192 1 := cmpf .oeq main_v20 main_v21
  let main_c_5 : IVec S_ 1 := constantI S_ 1 1#1
  let main_v23 : IVec S_ 1 := (fun x v => Host.reduce IntOp.andi x v reducesTo_S8x4x8192_S_d0_1_2 h_S_) main_v22 main_c_5
  let main_v24 : IVec S_ 1 := andi main_v17 main_v23
  let main_v25 : FVec F S4x5x256x256 .f32 := Host.absf main_arg3
  let main_cst_6 : FVec F S_ .f32 := constant S_ .f32 0x7F800000#32
  let main_v26 : FVec F S4x5x256x256 .f32 := broadcastInDim S4x5x256x256 ![] bcast_S_S4x5x256x256 main_cst_6
  let main_v27 : IVec S4x5x256x256 1 := cmpf .olt main_v25 main_v26
  let main_c_7 : IVec S_ 1 := constantI S_ 1 1#1
  let main_v28 : IVec S_ 1 := (fun x v => Host.reduce IntOp.andi x v reducesTo_S4x5x256x256_S_d0_1_2_3 h_S_) main_v27 main_c_7
  let main_v29 : IVec S_ 1 := andi main_v24 main_v28
  let main_v30 : FVec F S64 .f32 := Host.absf main_arg4
  let main_cst_8 : FVec F S_ .f32 := constant S_ .f32 0x7F800000#32
  let main_v31 : FVec F S64 .f32 := broadcastInDim S64 ![] bcast_S_S64 main_cst_8
  let main_v32 : IVec S64 1 := cmpf .olt main_v30 main_v31
  let main_c_9 : IVec S_ 1 := constantI S_ 1 1#1
  let main_v33 : IVec S_ 1 := (fun x v => Host.reduce IntOp.andi x v reducesTo_S64_S_d0 h_S_) main_v32 main_c_9
  let main_v34 : IVec S_ 1 := andi main_v29 main_v33
  let main_v35 : FVec F S64 .f32 := Host.absf main_arg5
  fn_part2 (F := F) main_arg6 main_arg7 main_v34 main_v35

def fn {F : FTy → Type} [FloatOps F] (main_arg0 : FVec F S8x4x128x8192 .bf16) (main_arg1 : FVec F S8x8x8192x64 .bf16) (main_arg2 : FVec F S8x4x144x8192 .bf16) (main_arg3 : FVec F S4x5x256x256 .f32) (main_arg4 : FVec F S64 .f32) (main_arg5 : FVec F S64 .f32) (main_arg6 : FVec F S64 .f32) (main_arg7 : FVec F S64 .f32) (main_arg8 : FVec F S128 .f32) (main_arg9 : FVec F S8x8192x512 .bf16) : IVec S_ 1 :=
  let main_v0 : FVec F S8x4x128x8192 .f32 := (extf .f32 · bitsLt_bf16_f32) main_arg0
  let main_v1 : FVec F S8x4x128x8192 .f32 := Host.absf main_v0
  let main_cst : FVec F S_ .f32 := constant S_ .f32 0x7F800000#32
  let main_v2 : FVec F S8x4x128x8192 .f32 := broadcastInDim S8x4x128x8192 ![] bcast_S_S8x4x128x8192 main_cst
  let main_v3 : IVec S8x4x128x8192 1 := cmpf .olt main_v1 main_v2
  let main_c : IVec S_ 1 := constantI S_ 1 1#1
  let main_v4 : IVec S_ 1 := (fun x v => Host.reduce IntOp.andi x v reducesTo_S8x4x128x8192_S_d0_1_2_3 h_S_) main_v3 main_c
  let main_v5 : FVec F S8x8x8192x64 .f32 := (extf .f32 · bitsLt_bf16_f32) main_arg1
  let main_v6 : FVec F S8x8x8192x64 .f32 := Host.absf main_v5
  let main_cst_0 : FVec F S_ .f32 := constant S_ .f32 0x7F800000#32
  let main_v7 : FVec F S8x8x8192x64 .f32 := broadcastInDim S8x8x8192x64 ![] bcast_S_S8x8x8192x64 main_cst_0
  let main_v8 : IVec S8x8x8192x64 1 := cmpf .olt main_v6 main_v7
  let main_c_1 : IVec S_ 1 := constantI S_ 1 1#1
  let main_v9 : IVec S_ 1 := (fun x v => Host.reduce IntOp.andi x v reducesTo_S8x8x8192x64_S_d0_1_2_3 h_S_) main_v8 main_c_1
  let main_v10 : IVec S_ 1 := andi main_v4 main_v9
  let main_v11 : FVec F S8x4x128x8192 .bf16 := (extractStridedSlice S8x4x128x8192 ![0, 0, 0, 0] · slices_S8x4x144x8192_S8x4x128x8192_0_0_0_0) main_arg2
  let main_v12 : FVec F S8x4x128x8192 .f32 := (extf .f32 · bitsLt_bf16_f32) main_v11
  let main_v13 : FVec F S8x4x128x8192 .f32 := Host.absf main_v12
  let main_cst_2 : FVec F S_ .f32 := constant S_ .f32 0x7F800000#32
  let main_v14 : FVec F S8x4x128x8192 .f32 := broadcastInDim S8x4x128x8192 ![] bcast_S_S8x4x128x8192 main_cst_2
  let main_v15 : IVec S8x4x128x8192 1 := cmpf .olt main_v13 main_v14
  let main_c_3 : IVec S_ 1 := constantI S_ 1 1#1
  let main_v16 : IVec S_ 1 := (fun x v => Host.reduce IntOp.andi x v reducesTo_S8x4x128x8192_S_d0_1_2_3 h_S_) main_v15 main_c_3
  let main_v17 : IVec S_ 1 := andi main_v10 main_v16
  fn_part1 (F := F) main_arg2 main_arg3 main_arg4 main_arg5 main_arg6 main_arg7 main_v17
-- ==== Kernel.lean ====
abbrev S8x2x64x32768 : Shape := ⟨4, ![8, 2, 64, 32768]⟩
abbrev S8x2x8192x64 : Shape := ⟨4, ![8, 2, 8192, 64]⟩
abbrev S8x2x80x8192 : Shape := ⟨4, ![8, 2, 80, 8192]⟩
abbrev S8x8192x512 : Shape := ⟨3, ![8, 8192, 512]⟩
abbrev S16x1x512 : Shape := ⟨3, ![16, 1, 512]⟩
abbrev S1x1x64x32768 : Shape := ⟨4, ![1, 1, 64, 32768]⟩
abbrev S1x1x8192x64 : Shape := ⟨4, ![1, 1, 8192, 64]⟩
abbrev S1x1x80x8192 : Shape := ⟨4, ![1, 1, 80, 8192]⟩
abbrev S1x8192x256 : Shape := ⟨3, ![1, 8192, 256]⟩
abbrev S1x1x512 : Shape := ⟨3, ![1, 1, 512]⟩
abbrev S1x512 : Shape := ⟨2, ![1, 512]⟩
abbrev S80x512 : Shape := ⟨2, ![80, 512]⟩
abbrev S512x512 : Shape := ⟨2, ![512, 512]⟩
abbrev S1x1x64x512 : Shape := ⟨4, ![1, 1, 64, 512]⟩
abbrev S64x512 : Shape := ⟨2, ![64, 512]⟩
abbrev S1x1x512x64 : Shape := ⟨4, ![1, 1, 512, 64]⟩
abbrev S512x64 : Shape := ⟨2, ![512, 64]⟩
abbrev S512 : Shape := ⟨1, ![512]⟩
abbrev S1x1x80x512 : Shape := ⟨4, ![1, 1, 80, 512]⟩
abbrev S1x128x256 : Shape := ⟨3, ![1, 128, 256]⟩
abbrev S128x256 : Shape := ⟨2, ![128, 256]⟩
abbrev S64x128 : Shape := ⟨2, ![64, 128]⟩
abbrev S128x64 : Shape := ⟨2, ![128, 64]⟩

abbrev nBuf : Space → Nat
  | .hbm => 6
  | .vmem => 16
  | .smem => 0
  | _ => 0

abbrev bufTy : (tb : Table) → Fin (tcTables nBuf tb) → BufTy
  | .hbm, ⟨0, _⟩ => ⟨S8x2x64x32768, .bf16⟩
  | .hbm, ⟨1, _⟩ => ⟨S8x2x8192x64, .bf16⟩
  | .hbm, ⟨2, _⟩ => ⟨S8x2x80x8192, .bf16⟩
  | .hbm, ⟨3, _⟩ => ⟨S8x8192x512, .bf16⟩
  | .hbm, ⟨4, _⟩ => ⟨S8x8192x512, .bf16⟩
  | .hbm, ⟨5, _⟩ => ⟨S16x1x512, .f32⟩
  | .local _ .vmem, ⟨0, _⟩ => ⟨S1x1x64x32768, .bf16⟩
  | .local _ .vmem, ⟨1, _⟩ => ⟨S1x1x64x32768, .bf16⟩
  | .local _ .vmem, ⟨2, _⟩ => ⟨S1x1x8192x64, .bf16⟩
  | .local _ .vmem, ⟨3, _⟩ => ⟨S1x1x8192x64, .bf16⟩
  | .local _ .vmem, ⟨4, _⟩ => ⟨S1x1x80x8192, .bf16⟩
  | .local _ .vmem, ⟨5, _⟩ => ⟨S1x1x80x8192, .bf16⟩
  | .local _ .vmem, ⟨6, _⟩ => ⟨S1x8192x256, .bf16⟩
  | .local _ .vmem, ⟨7, _⟩ => ⟨S1x8192x256, .bf16⟩
  | .local _ .vmem, ⟨8, _⟩ => ⟨S1x8192x256, .bf16⟩
  | .local _ .vmem, ⟨9, _⟩ => ⟨S1x8192x256, .bf16⟩
  | .local _ .vmem, ⟨10, _⟩ => ⟨S1x1x512, .f32⟩
  | .local _ .vmem, ⟨11, _⟩ => ⟨S1x1x512, .f32⟩
  | .local _ .vmem, ⟨12, _⟩ => ⟨S1x512, .f32⟩
  | .local _ .vmem, ⟨13, _⟩ => ⟨S80x512, .f32⟩
  | .local _ .vmem, ⟨14, _⟩ => ⟨S80x512, .f32⟩
  | .local _ .vmem, ⟨15, _⟩ => ⟨S512x512, .f32⟩
  | _, _ => ⟨S8x2x64x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c0_i32_22 : BitVec 32 := 0#32
  let c64_i32 : BitVec 32 := 64#32
  let v25 : BitVec 32 := Scalar.addi c0_i32_22 c64_i32
  let c1_i32 : BitVec 32 := 1#32
  ⟨c0_i32_22, v25, c1_i32⟩
def k0_mult1 (k0_t1 : Fin k0_t1_loop.trips) : BitVec 32 :=
  let c0_i32_22 : BitVec 32 := 0#32
  let c1_i32 : BitVec 32 := 1#32
  let arg12 : BitVec 32 := Scf.iv c0_i32_22 c1_i32 k0_t1
  let c512_i32 : BitVec 32 := 512#32
  let v51 : BitVec 32 := Scalar.muli arg12 c512_i32
  v51
def k0_off1 (k0_t1 : Fin k0_t1_loop.trips) : Fin 4 → Nat :=
  let c0_34 : Index := 0#32
  let c0_35 : Index := 0#32
  let c0_36 : Index := 0#32
  let c0_i32_22 : BitVec 32 := 0#32
  let c1_i32 : BitVec 32 := 1#32
  let arg12 : BitVec 32 := Scf.iv c0_i32_22 c1_i32 k0_t1
  let c512_i32 : BitVec 32 := 512#32
  let v51 : BitVec 32 := Scalar.muli arg12 c512_i32
  let v52 : BitVec 32 := v51
  let v53 : Index := Scalar.indexCast v52
  ![0, 0, 0, v53.toNat]
def k0_mult2 (k0_t1 : Fin k0_t1_loop.trips) : BitVec 32 :=
  let c0_i32_22 : BitVec 32 := 0#32
  let c1_i32 : BitVec 32 := 1#32
  let arg12 : BitVec 32 := Scf.iv c0_i32_22 c1_i32 k0_t1
  let c1_i32_62 : BitVec 32 := 1#32
  let v97 : BitVec 32 := Scalar.subi arg12 c1_i32_62
  let c0_i32_63 : BitVec 32 := 0#32
  let v98 : BitVec 32 := Scalar.maxsi v97 c0_i32_63
  let c128_i32 : BitVec 32 := 128#32
  let v100 : BitVec 32 := Scalar.muli v98 c128_i32
  v100
def k0_off2 (k0_t1 : Fin k0_t1_loop.trips) : Fin 3 → Nat :=
  let c0_66 : Index := 0#32
  let c0_i32_22 : BitVec 32 := 0#32
  let c1_i32 : BitVec 32 := 1#32
  let arg12 : BitVec 32 := Scf.iv c0_i32_22 c1_i32 k0_t1
  let c1_i32_62 : BitVec 32 := 1#32
  let v97 : BitVec 32 := Scalar.subi arg12 c1_i32_62
  let c0_i32_63 : BitVec 32 := 0#32
  let v98 : BitVec 32 := Scalar.maxsi v97 c0_i32_63
  let c128_i32 : BitVec 32 := 128#32
  let v100 : BitVec 32 := Scalar.muli v98 c128_i32
  let v101 : BitVec 32 := v100
  let v102 : Index := Scalar.indexCast v101
  let c0_67 : Index := 0#32
  ![0, v102.toNat, 0]
def k0_mult3 (k0_t1 : Fin k0_t1_loop.trips) : BitVec 32 :=
  let c0_i32_22 : BitVec 32 := 0#32
  let c1_i32 : BitVec 32 := 1#32
  let arg12 : BitVec 32 := Scf.iv c0_i32_22 c1_i32 k0_t1
  let c512_i32_71 : BitVec 32 := 512#32
  let v127 : BitVec 32 := Scalar.muli arg12 c512_i32_71
  v127
def k0_mult4 (k0_t1 : Fin k0_t1_loop.trips) : BitVec 32 :=
  let c0_i32_22 : BitVec 32 := 0#32
  let c1_i32 : BitVec 32 := 1#32
  let arg12 : BitVec 32 := Scf.iv c0_i32_22 c1_i32 k0_t1
  let c512_i32_100 : BitVec 32 := 512#32
  let v173 : BitVec 32 := Scalar.muli arg12 c512_i32_100
  v173
def k0_mult5 (k0_t1 : Fin k0_t1_loop.trips) : BitVec 32 :=
  let c0_i32_22 : BitVec 32 := 0#32
  let c1_i32 : BitVec 32 := 1#32
  let arg12 : BitVec 32 := Scf.iv c0_i32_22 c1_i32 k0_t1
  let c512_i32_129 : BitVec 32 := 512#32
  let v219 : BitVec 32 := Scalar.muli arg12 c512_i32_129
  v219
def k0_mult6 (k0_t1 : Fin k0_t1_loop.trips) : BitVec 32 :=
  let c0_i32_22 : BitVec 32 := 0#32
  let c1_i32 : BitVec 32 := 1#32
  let arg12 : BitVec 32 := Scf.iv c0_i32_22 c1_i32 k0_t1
  let c512_i32_158 : BitVec 32 := 512#32
  let v265 : BitVec 32 := Scalar.muli arg12 c512_i32_158
  v265
def k0_mult7 (k0_t1 : Fin k0_t1_loop.trips) : BitVec 32 :=
  let c0_i32_22 : BitVec 32 := 0#32
  let c1_i32 : BitVec 32 := 1#32
  let arg12 : BitVec 32 := Scf.iv c0_i32_22 c1_i32 k0_t1
  let c512_i32_187 : BitVec 32 := 512#32
  let v311 : BitVec 32 := Scalar.muli arg12 c512_i32_187
  v311
def k0_mult8 (k0_t1 : Fin k0_t1_loop.trips) : BitVec 32 :=
  let c0_i32_22 : BitVec 32 := 0#32
  let c1_i32 : BitVec 32 := 1#32
  let arg12 : BitVec 32 := Scf.iv c0_i32_22 c1_i32 k0_t1
  let c512_i32_216 : BitVec 32 := 512#32
  let v357 : BitVec 32 := Scalar.muli arg12 c512_i32_216
  v357
def k0_mult9 (k0_t1 : Fin k0_t1_loop.trips) : BitVec 32 :=
  let c0_i32_22 : BitVec 32 := 0#32
  let c1_i32 : BitVec 32 := 1#32
  let arg12 : BitVec 32 := Scf.iv c0_i32_22 c1_i32 k0_t1
  let c512_i32_245 : BitVec 32 := 512#32
  let v403 : BitVec 32 := Scalar.muli arg12 c512_i32_245
  v403
def k0_mult10 (k0_t1 : Fin k0_t1_loop.trips) : BitVec 32 :=
  let c0_i32_22 : BitVec 32 := 0#32
  let c1_i32 : BitVec 32 := 1#32
  let arg12 : BitVec 32 := Scf.iv c0_i32_22 c1_i32 k0_t1
  let c512_i32_274 : BitVec 32 := 512#32
  let v449 : BitVec 32 := Scalar.muli arg12 c512_i32_274
  v449
def k0_mult11 (k0_t1 : Fin k0_t1_loop.trips) : BitVec 32 :=
  let c0_i32_22 : BitVec 32 := 0#32
  let c1_i32 : BitVec 32 := 1#32
  let arg12 : BitVec 32 := Scf.iv c0_i32_22 c1_i32 k0_t1
  let c512_i32_303 : BitVec 32 := 512#32
  let v495 : BitVec 32 := Scalar.muli arg12 c512_i32_303
  v495
def k0_mult12 (k0_t1 : Fin k0_t1_loop.trips) : BitVec 32 :=
  let c0_i32_22 : BitVec 32 := 0#32
  let c1_i32 : BitVec 32 := 1#32
  let arg12 : BitVec 32 := Scf.iv c0_i32_22 c1_i32 k0_t1
  let c512_i32_332 : BitVec 32 := 512#32
  let v541 : BitVec 32 := Scalar.muli arg12 c512_i32_332
  v541
def k0_mult13 (k0_t1 : Fin k0_t1_loop.trips) : BitVec 32 :=
  let c0_i32_22 : BitVec 32 := 0#32
  let c1_i32 : BitVec 32 := 1#32
  let arg12 : BitVec 32 := Scf.iv c0_i32_22 c1_i32 k0_t1
  let c512_i32_361 : BitVec 32 := 512#32
  let v587 : BitVec 32 := Scalar.muli arg12 c512_i32_361
  v587
def k0_mult14 (k0_t1 : Fin k0_t1_loop.trips) : BitVec 32 :=
  let c0_i32_22 : BitVec 32 := 0#32
  let c1_i32 : BitVec 32 := 1#32
  let arg12 : BitVec 32 := Scf.iv c0_i32_22 c1_i32 k0_t1
  let c512_i32_390 : BitVec 32 := 512#32
  let v633 : BitVec 32 := Scalar.muli arg12 c512_i32_390
  v633
def k0_mult15 (k0_t1 : Fin k0_t1_loop.trips) : BitVec 32 :=
  let c0_i32_22 : BitVec 32 := 0#32
  let c1_i32 : BitVec 32 := 1#32
  let arg12 : BitVec 32 := Scf.iv c0_i32_22 c1_i32 k0_t1
  let c512_i32_419 : BitVec 32 := 512#32
  let v679 : BitVec 32 := Scalar.muli arg12 c512_i32_419
  v679
def k0_mult16 (k0_t1 : Fin k0_t1_loop.trips) : BitVec 32 :=
  let c0_i32_22 : BitVec 32 := 0#32
  let c1_i32 : BitVec 32 := 1#32
  let arg12 : BitVec 32 := Scf.iv c0_i32_22 c1_i32 k0_t1
  let c512_i32_448 : BitVec 32 := 512#32
  let v725 : BitVec 32 := Scalar.muli arg12 c512_i32_448
  v725
def k0_mult17 (k0_t1 : Fin k0_t1_loop.trips) : BitVec 32 :=
  let c0_i32_22 : BitVec 32 := 0#32
  let c1_i32 : BitVec 32 := 1#32
  let arg12 : BitVec 32 := Scf.iv c0_i32_22 c1_i32 k0_t1
  let c1_i32_477 : BitVec 32 := 1#32
  let v771 : BitVec 32 := Scalar.addi arg12 c1_i32_477
  let c63_i32 : BitVec 32 := 63#32
  let v772 : BitVec 32 := Scalar.minsi v771 c63_i32
  let c512_i32_478 : BitVec 32 := 512#32
  let v773 : BitVec 32 := Scalar.muli v772 c512_i32_478
  v773
def k0_off3 (k0_t1 : Fin k0_t1_loop.trips) : Fin 4 → Nat :=
  let c0_479 : Index := 0#32
  let c0_480 : Index := 0#32
  let c0_481 : Index := 0#32
  let c0_i32_22 : BitVec 32 := 0#32
  let c1_i32 : BitVec 32 := 1#32
  let arg12 : BitVec 32 := Scf.iv c0_i32_22 c1_i32 k0_t1
  let c1_i32_477 : BitVec 32 := 1#32
  let v771 : BitVec 32 := Scalar.addi arg12 c1_i32_477
  let c63_i32 : BitVec 32 := 63#32
  let v772 : BitVec 32 := Scalar.minsi v771 c63_i32
  let c512_i32_478 : BitVec 32 := 512#32
  let v773 : BitVec 32 := Scalar.muli v772 c512_i32_478
  let v774 : BitVec 32 := v773
  let v775 : Index := Scalar.indexCast v774
  ![0, 0, 0, v775.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x1x64x32768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8192x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x80x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8192x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8192x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "inv_ln2" => some (((Real.log 2)⁻¹ : ℝ) : EReal)
  | _ => none
-- ==== ReferenceIdeal.lean ====
abbrev S8x2x64x32768 : Shape := ⟨4, ![8, 2, 64, 32768]⟩
abbrev S8x2x8192x64 : Shape := ⟨4, ![8, 2, 8192, 64]⟩
abbrev S8x2x80x8192 : Shape := ⟨4, ![8, 2, 80, 8192]⟩
abbrev S8x8192x512 : Shape := ⟨3, ![8, 8192, 512]⟩
abbrev S8x2x64x64x4x128 : Shape := ⟨6, ![8, 2, 64, 64, 4, 128]⟩
abbrev S8x64x128x2x4x64 : Shape := ⟨6, ![8, 64, 128, 2, 4, 64]⟩
abbrev S8x8192x2x4x64 : Shape := ⟨5, ![8, 8192, 2, 4, 64]⟩
abbrev S8x2x64x8192 : Shape := ⟨4, ![8, 2, 64, 8192]⟩
abbrev S8x2x8192x8192x4 : Shape := ⟨5, ![8, 2, 8192, 8192, 4]⟩
abbrev S8x2x4x8192x8192 : Shape := ⟨5, ![8, 2, 4, 8192, 8192]⟩
abbrev S_ : Shape := ⟨0, ![]⟩
abbrev S8x2x4x8192 : Shape := ⟨4, ![8, 2, 4, 8192]⟩
abbrev S8x2x4x8192x1 : Shape := ⟨5, ![8, 2, 4, 8192, 1]⟩
abbrev S8x2x64x4x8192 : Shape := ⟨5, ![8, 2, 64, 4, 8192]⟩

abbrev nBuf : Space → Nat
  | .hbm => 37
  | .vmem => 0
  | .smem => 0
  | _ => 0

abbrev bufTy : (tb : Table) → Fin (tcTables nBuf tb) → BufTy
  | .hbm, ⟨0, _⟩ => ⟨S8x2x64x32768, .bf16⟩
  | .hbm, ⟨1, _⟩ => ⟨S8x2x8192x64, .bf16⟩
  | .hbm, ⟨2, _⟩ => ⟨S8x2x80x8192, .bf16⟩
  | .hbm, ⟨3, _⟩ => ⟨S8x8192x512, .bf16⟩
  | .hbm, ⟨4, _⟩ => ⟨S8x2x64x32768, .f32⟩
  | .hbm, ⟨5, _⟩ => ⟨S8x2x64x64x4x128, .f32⟩
  | .hbm, ⟨6, _⟩ => ⟨S8x64x128x2x4x64, .f32⟩
  | .hbm, ⟨7, _⟩ => ⟨S8x8192x2x4x64, .f32⟩
  | .hbm, ⟨8, _⟩ => ⟨S8x2x64x8192, .bf16⟩
  | .hbm, ⟨9, _⟩ => ⟨S8x2x64x8192, .f32⟩
  | .hbm, ⟨10, _⟩ => ⟨S8x2x8192x64, .f32⟩
  | .hbm, ⟨11, _⟩ => ⟨S8x2x8192x8192x4, .f32⟩
  | .hbm, ⟨12, _⟩ => ⟨S8x2x4x8192x8192, .f32⟩
  | .hbm, ⟨13, _⟩ => ⟨S_, .f32⟩
  | .hbm, ⟨14, _⟩ => ⟨S_, .f32⟩
  | .hbm, ⟨15, _⟩ => ⟨S8x2x4x8192x8192, .f32⟩
  | .hbm, ⟨16, _⟩ => ⟨S8x2x4x8192x8192, .f32⟩
  | .hbm, ⟨17, _⟩ => ⟨S_, .f32⟩
  | .hbm, ⟨18, _⟩ => ⟨S8x2x4x8192, .f32⟩
  | .hbm, ⟨19, _⟩ => ⟨S_, .f32⟩
  | .hbm, ⟨20, _⟩ => ⟨S8x2x4x8192, .f32⟩
  | .hbm, ⟨21, _⟩ => ⟨S8x2x4x8192, .f32⟩
  | .hbm, ⟨22, _⟩ => ⟨S8x2x4x8192x1, .f32⟩
  | .hbm, ⟨23, _⟩ => ⟨S8x2x4x8192x8192, .f32⟩
  | .hbm, ⟨24, _⟩ => ⟨S8x2x4x8192x8192, .f32⟩
  | .hbm, ⟨25, _⟩ => ⟨S8x2x4x8192x8192, .f32⟩
  | .hbm, ⟨26, _⟩ => ⟨S_, .f32⟩
  | .hbm, ⟨27, _⟩ => ⟨S8x2x4x8192, .f32⟩
  | .hbm, ⟨28, _⟩ => ⟨S8x2x4x8192x1, .f32⟩
  | .hbm, ⟨29, _⟩ => ⟨S8x2x4x8192x8192, .f32⟩
  | .hbm, ⟨30, _⟩ => ⟨S8x2x4x8192x8192, .f32⟩
  | .hbm, ⟨31, _⟩ => ⟨S8x2x64x4x8192, .f32⟩
  | .hbm, ⟨32, _⟩ => ⟨S8x8192x2x4x64, .f32⟩
  | .hbm, ⟨33, _⟩ => ⟨S8x8192x512, .f32⟩
  | .hbm, ⟨34, _⟩ => ⟨S8x8192x512, .f32⟩
  | .hbm, ⟨35, _⟩ => ⟨S8x8192x512, .f32⟩
  | .hbm, ⟨36, _⟩ => ⟨S8x8192x512, .bf16⟩
  | _, _ => ⟨S8x2x64x32768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Kernel2.lean ====
abbrev S65536x1024 : Shape := ⟨2, ![65536, 1024]⟩
abbrev S1024 : Shape := ⟨1, ![1024]⟩
abbrev S65536x512 : Shape := ⟨2, ![65536, 512]⟩
abbrev S1024x3072 : Shape := ⟨2, ![1024, 3072]⟩
abbrev S3072 : Shape := ⟨1, ![3072]⟩
abbrev S512x1024 : Shape := ⟨2, ![512, 1024]⟩
abbrev S1024x1024 : Shape := ⟨2, ![1024, 1024]⟩
abbrev S1x1024 : Shape := ⟨2, ![1, 1024]⟩
abbrev S1x3072 : Shape := ⟨2, ![1, 3072]⟩
abbrev S512x512 : Shape := ⟨2, ![512, 512]⟩
abbrev S512 : Shape := ⟨1, ![512]⟩
abbrev S512x1 : Shape := ⟨2, ![512, 1]⟩

abbrev nBuf : Space → Nat
  | .hbm => 21
  | .vmem => 18
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S65536x512, .bf16⟩
  | .hbm, ⟨3, _⟩ => ⟨S65536x512, .bf16⟩
  | .hbm, ⟨4, _⟩ => ⟨S65536x512, .bf16⟩
  | .hbm, ⟨5, _⟩ => ⟨S1024x3072, .f32⟩
  | .hbm, ⟨6, _⟩ => ⟨S3072, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S1024x3072, .bf16⟩
  | .hbm, ⟨13, _⟩ => ⟨S512x1024, .bf16⟩
  | .hbm, ⟨14, _⟩ => ⟨S512x1024, .bf16⟩
  | .hbm, ⟨15, _⟩ => ⟨S512x1024, .bf16⟩
  | .hbm, ⟨16, _⟩ => ⟨S1024x1024, .bf16⟩
  | .hbm, ⟨17, _⟩ => ⟨S1x1024, .f32⟩
  | .hbm, ⟨18, _⟩ => ⟨S1x3072, .f32⟩
  | .hbm, ⟨19, _⟩ => ⟨S1x1024, .f32⟩
  | .hbm, ⟨20, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S1024x3072, .bf16⟩
  | .local _ .vmem, ⟨10, _⟩ => ⟨S1x3072, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S65536x1024 : Shape := ⟨2, ![65536, 1024]⟩
abbrev S1024 : Shape := ⟨1, ![1024]⟩
abbrev S65536x512 : Shape := ⟨2, ![65536, 512]⟩
abbrev S1024x3072 : Shape := ⟨2, ![1024, 3072]⟩
abbrev S3072 : Shape := ⟨1, ![3072]⟩
abbrev S512x1024 : Shape := ⟨2, ![512, 1024]⟩
abbrev S1024x1024 : Shape := ⟨2, ![1024, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x3072 : Shape := ⟨2, ![65536, 3072]⟩
abbrev S1x3072 : Shape := ⟨2, ![1, 3072]⟩
abbrev S65536x3x1024 : Shape := ⟨3, ![65536, 3, 1024]⟩
abbrev S65536x1x1024 : Shape := ⟨3, ![65536, 1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S65536x512, .bf16⟩
  | .hbm, ⟨3, _⟩ => ⟨S65536x512, .bf16⟩
  | .hbm, ⟨4, _⟩ => ⟨S65536x512, .bf16⟩
  | .hbm, ⟨5, _⟩ => ⟨S1024x3072, .f32⟩
  | .hbm, ⟨6, _⟩ => ⟨S3072, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S65536x1024, .f32⟩
  | .hbm, ⟨13, _⟩ => ⟨S_, .f32⟩
  | .hbm, ⟨14, _⟩ => ⟨S65536, .f32⟩
  | .hbm, ⟨15, _⟩ => ⟨S65536x1, .f32⟩
  | .hbm, ⟨16, _⟩ => ⟨S_, .f32⟩
  | .hbm, ⟨17, _⟩ => ⟨S65536x1, .f32⟩
  | .hbm, ⟨18, _⟩ => ⟨S65536x1, .f32⟩
  | .hbm, ⟨19, _⟩ => ⟨S_, .f32⟩
  | .hbm, ⟨20, _⟩ => ⟨S65536x1, .f32⟩
  | .hbm, ⟨21, _⟩ => ⟨S65536x1, .f32⟩
  | .hbm, ⟨22, _⟩ => ⟨S65536x1, .f32⟩
  | .hbm, ⟨23, _⟩ => ⟨S65536x1024, .f32⟩
  | .hbm, ⟨24, _⟩ => ⟨S65536x1024, .f32⟩
  | .hbm, ⟨25, _⟩ => ⟨S1x1024, .f32⟩
  | .hbm, ⟨26, _⟩ => ⟨S65536x1024, .f32⟩
  | .hbm, ⟨27, _⟩ => ⟨S65536x1024, .f32⟩
  | .hbm, ⟨28, _⟩ => ⟨S65536x3072, .f32⟩
  | .hbm, ⟨29, _⟩ => ⟨S1x3072, .f32⟩
  | .hbm, ⟨30, _⟩ => ⟨S65536x3072, .f32⟩
  | .hbm, ⟨31, _⟩ => ⟨S65536x3072, .f32⟩
  | .hbm, ⟨32, _⟩ => ⟨S65536x3072, .f32⟩
  | .hbm, ⟨33, _⟩ => ⟨S65536x3072, .f32⟩
  | .hbm, ⟨34, _⟩ => ⟨S_, .f32⟩
  | .hbm, ⟨35, _⟩ => ⟨S65536x3072, .f32⟩
  | .hbm, ⟨36, _⟩ => ⟨S65536x3072, .f32⟩
  | .hbm, ⟨37, _⟩ => ⟨S_, .f32⟩
  | .hbm, ⟨38, _⟩ => ⟨S65536x3072, .f32⟩
  | .hbm, ⟨39, _⟩ => ⟨S65536x3072, .f32⟩
  | .hbm, ⟨40, _⟩ => ⟨S65536x3x1024, .f32⟩
  | .hbm, ⟨41, _⟩ => ⟨S65536x1x1024, .f32⟩
  | .hbm, ⟨42, _⟩ => ⟨S65536x1024, .f32⟩
  | .hbm, ⟨43, _⟩ => ⟨S65536x512, .f32⟩
  | .hbm, ⟨44, _⟩ => ⟨S65536x1024, .f32⟩
  | .hbm, ⟨45, _⟩ => ⟨S65536x1024, .f32⟩
  | .hbm, ⟨46, _⟩ => ⟨S65536x1x1024, .f32⟩
  | .hbm, ⟨47, _⟩ => ⟨S65536x1024, .f32⟩
  | .hbm, ⟨48, _⟩ => ⟨S65536x512, .f32⟩
  | .hbm, ⟨49, _⟩ => ⟨S65536x1024, .f32⟩
  | .hbm, ⟨50, _⟩ => ⟨S65536x1024, .f32⟩
  | .hbm, ⟨51, _⟩ => ⟨S65536x1024, .f32⟩
  | .hbm, ⟨52, _⟩ => ⟨S65536x1x1024, .f32⟩
  | .hbm, ⟨53, _⟩ => ⟨S65536x1024, .f32⟩
  | .hbm, ⟨54, _⟩ => ⟨S65536x512, .f32⟩
  | .hbm, ⟨55, _⟩ => ⟨S65536x1024, .f32⟩
  | .hbm, ⟨56, _⟩ => ⟨S65536x1024, .f32⟩
  | .hbm, ⟨57, _⟩ => ⟨S65536x1024, .f32⟩
  | .hbm, ⟨58, _⟩ => ⟨S65536x1024, .f32⟩
  | .hbm, ⟨59, _⟩ => ⟨S65536x1024, .f32⟩
  | .hbm, ⟨60, _⟩ => ⟨S65536x1024, .f32⟩
  | .hbm, ⟨61, _⟩ => ⟨S_, .f32⟩
  | .hbm, ⟨62, _⟩ => ⟨S65536, .f32⟩
  | .hbm, ⟨63, _⟩ => ⟨S65536x1, .f32⟩
  | .hbm, ⟨64, _⟩ => ⟨S_, .f32⟩
  | .hbm, ⟨65, _⟩ => ⟨S65536x1, .f32⟩
  | .hbm, ⟨66, _⟩ => ⟨S65536x1, .f32⟩
  | .hbm, ⟨67, _⟩ => ⟨S_, .f32⟩
  | .hbm, ⟨68, _⟩ => ⟨S65536x1, .f32⟩
  | .hbm, ⟨69, _⟩ => ⟨S65536x1, .f32⟩
  | .hbm, ⟨70, _⟩ => ⟨S65536x1, .f32⟩
  | .hbm, ⟨71, _⟩ => ⟨S65536x1024, .f32⟩
  | .hbm, ⟨72, _⟩ => ⟨S65536x1024, .f32⟩
  | .hbm, ⟨73, _⟩ => ⟨S1x1024, .f32⟩
  | .hbm, ⟨74, _⟩ => ⟨S65536x1024, .f32⟩
  | .hbm, ⟨75, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_4 : Ref sig .tc := ⟨.hbm, 61, rfl⟩
abbrev main_v44 : Ref sig .tc := ⟨.hbm, 62, rfl⟩
abbrev main_v45 : Ref sig .tc := ⟨.hbm, 63, rfl⟩
abbrev main_cst_5 : Ref sig .tc := ⟨.hbm, 64, rfl⟩
abbrev main_v46 : Ref sig .tc := ⟨.hbm, 65, rfl⟩
abbrev main_v47 : Ref sig .tc := ⟨.hbm, 66, rfl⟩
abbrev main_cst_6 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]
-- ==== Kernel3.lean ====
abbrev S8x8192x1024 : Shape := ⟨3, ![8, 8192, 1024]⟩
abbrev S1024 : Shape := ⟨1, ![1024]⟩
abbrev S1024x5376 : Shape := ⟨2, ![1024, 5376]⟩
abbrev S64 : Shape := ⟨1, ![64]⟩
abbrev S128 : Shape := ⟨1, ![128]⟩
abbrev S128x1 : Shape := ⟨2, ![128, 1]⟩
abbrev S128x64 : Shape := ⟨2, ![128, 64]⟩
abbrev S8192 : Shape := ⟨1, ![8192]⟩
abbrev S1x64 : Shape := ⟨2, ![1, 64]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S32x8192 : Shape := ⟨2, ![32, 8192]⟩
abbrev S64x1 : Shape := ⟨2, ![64, 1]⟩
abbrev S64x512 : Shape := ⟨2, ![64, 512]⟩
abbrev S1x1024 : Shape := ⟨2, ![1, 1024]⟩
abbrev S8x8192x1536 : Shape := ⟨3, ![8, 8192, 1536]⟩
abbrev S8x8192x512 : Shape := ⟨3, ![8, 8192, 512]⟩
abbrev S8x2x64x32768 : Shape := ⟨4, ![8, 2, 64, 32768]⟩
abbrev S8x2x8192x64 : Shape := ⟨4, ![8, 2, 8192, 64]⟩
abbrev S8x2x80x8192 : Shape := ⟨4, ![8, 2, 80, 8192]⟩
abbrev S8x4x128x8192 : Shape := ⟨4, ![8, 4, 128, 8192]⟩
abbrev S8x8x8192x64 : Shape := ⟨4, ![8, 8, 8192, 64]⟩
abbrev S8x4x144x8192 : Shape := ⟨4, ![8, 4, 144, 8192]⟩
abbrev S1x512x1024 : Shape := ⟨3, ![1, 512, 1024]⟩
abbrev S32x512 : Shape := ⟨2, ![32, 512]⟩
abbrev S1x512x1536 : Shape := ⟨3, ![1, 512, 1536]⟩
abbrev S1x512x512 : Shape := ⟨3, ![1, 512, 512]⟩
abbrev S1x2x64x2048 : Shape := ⟨4, ![1, 2, 64, 2048]⟩
abbrev S1x2x512x64 : Shape := ⟨4, ![1, 2, 512, 64]⟩
abbrev S1x2x80x512 : Shape := ⟨4, ![1, 2, 80, 512]⟩
abbrev S1x4x128x512 : Shape := ⟨4, ![1, 4, 128, 512]⟩
abbrev S1x8x512x64 : Shape := ⟨4, ![1, 8, 512, 64]⟩
abbrev S1x4x144x512 : Shape := ⟨4, ![1, 4, 144, 512]⟩
abbrev S512x1024 : Shape := ⟨2, ![512, 1024]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1024x512 : Shape := ⟨2, ![1024, 512]⟩
abbrev S512x512 : Shape := ⟨2, ![512, 512]⟩
abbrev S8x64x512 : Shape := ⟨3, ![8, 64, 512]⟩
abbrev S8x512 : Shape := ⟨2, ![8, 512]⟩
abbrev S8x1x512 : Shape := ⟨3, ![8, 1, 512]⟩
abbrev S1x64x512 : Shape := ⟨3, ![1, 64, 512]⟩
abbrev S8x32x512 : Shape := ⟨3, ![8, 32, 512]⟩
abbrev S1x32x512 : Shape := ⟨3, ![1, 32, 512]⟩
abbrev S64x128 : Shape := ⟨2, ![64, 128]⟩
abbrev S1x1x64x128 : Shape := ⟨4, ![1, 1, 64, 128]⟩
abbrev S1024x128 : Shape := ⟨2, ![1024, 128]⟩
abbrev S512x128 : Shape := ⟨2, ![512, 128]⟩
abbrev S128x512 : Shape := ⟨2, ![128, 512]⟩
abbrev S2x64x512 : Shape := ⟨3, ![2, 64, 512]⟩
abbrev S2x512 : Shape := ⟨2, ![2, 512]⟩
abbrev S2x1x512 : Shape := ⟨3, ![2, 1, 512]⟩
abbrev S2x32x512 : Shape := ⟨3, ![2, 32, 512]⟩
abbrev S512x64 : Shape := ⟨2, ![512, 64]⟩
abbrev S1x1x512x64 : Shape := ⟨4, ![1, 1, 512, 64]⟩
abbrev S16x512 : Shape := ⟨2, ![16, 512]⟩
abbrev S1x1x64x512 : Shape := ⟨4, ![1, 1, 64, 512]⟩
abbrev S1x1x16x512 : Shape := ⟨4, ![1, 1, 16, 512]⟩
abbrev S4x128x512 : Shape := ⟨3, ![4, 128, 512]⟩
abbrev S1x1x128x512 : Shape := ⟨4, ![1, 1, 128, 512]⟩

abbrev nBuf : Space → Nat
  | .hbm => 52
  | .vmem => 30
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x5376, .f32⟩
  | .hbm, ⟨3, _⟩ => ⟨S64, .f32⟩
  | .hbm, ⟨4, _⟩ => ⟨S64, .f32⟩
  | .hbm, ⟨5, _⟩ => ⟨S128, .f32⟩
  | .hbm, ⟨6, _⟩ => ⟨S128x1, .f32⟩
  | .hbm, ⟨7, _⟩ => ⟨S128x64, .f32⟩
  | .hbm, ⟨8, _⟩ => ⟨S8192, .f32⟩
  | .hbm, ⟨9, _⟩ => ⟨S64, .f32⟩
  | .hbm, ⟨10, _⟩ => ⟨S1x64, .f32⟩
  | .hbm, ⟨11, _⟩ => ⟨S128x64, .f32⟩
  | .hbm, ⟨12, _⟩ => ⟨S8192, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S8192x1, .f32⟩
  | .hbm, ⟨22, _⟩ => ⟨S1x16, .f32⟩
  | .hbm, ⟨23, _⟩ => ⟨S8192x16, .f32⟩
  | .hbm, ⟨24, _⟩ => ⟨S8192x16, .f32⟩
  | .hbm, ⟨25, _⟩ => ⟨S8192x16, .f32⟩
  | .hbm, ⟨26, _⟩ => ⟨S8192x1, .f32⟩
  | .hbm, ⟨27, _⟩ => ⟨S1x16, .f32⟩
  | .hbm, ⟨28, _⟩ => ⟨S8192x16, .f32⟩
  | .hbm, ⟨29, _⟩ => ⟨S8192x16, .f32⟩
  | .hbm, ⟨30, _⟩ => ⟨S8192x16, .f32⟩
  | .hbm, ⟨31, _⟩ => ⟨S8192x32, .f32⟩
  | .hbm, ⟨32, _⟩ => ⟨S8192x32, .f32⟩
  | .hbm, ⟨33, _⟩ => ⟨S32x8192, .f32⟩
  | .hbm, ⟨34, _⟩ => ⟨S8192x32, .f32⟩
  | .hbm, ⟨35, _⟩ => ⟨S32x8192, .f32⟩
  | .hbm, ⟨36, _⟩ => ⟨S1024x5376, .bf16⟩
  | .hbm, ⟨37, _⟩ => ⟨S64x1, .f32⟩
  | .hbm, ⟨38, _⟩ => ⟨S64x512, .f32⟩
  | .hbm, ⟨39, _⟩ => ⟨S64x1, .f32⟩
  | .hbm, ⟨40, _⟩ => ⟨S64x512, .f32⟩
  | .hbm, ⟨41, _⟩ => ⟨S1x1024, .f32⟩
  | .hbm, ⟨42, _⟩ => ⟨S8x8192x1536, .f32⟩
  | .hbm, ⟨43, _⟩ => ⟨S8x8192x512, .bf16⟩
  | .hbm, ⟨44, _⟩ => ⟨S8x2x64x32768, .bf16⟩
  | .hbm, ⟨45, _⟩ => ⟨S8x2x8192x64, .bf16⟩
  | .hbm, ⟨46, _⟩ => ⟨S8x2x80x8192, .bf16⟩
  | .hbm, ⟨47, _⟩ => ⟨S8x8192x512, .bf16⟩
  | .hbm, ⟨48, _⟩ => ⟨S8x4x128x8192, .bf16⟩
  | .hbm, ⟨49, _⟩ => ⟨S8x8x8192x64, .bf16⟩
  | .hbm, ⟨50, _⟩ => ⟨S8x4x144x8192, .bf16⟩
  | .hbm, ⟨51, _⟩ => ⟨S8x8192x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x5376, .bf16⟩
  | .local _ .vmem, ⟨4, _⟩ => ⟨S64x512, .f32⟩
  | .local _ .vmem, ⟨5, _⟩ => ⟨S64x512, .f32⟩
  | .local _ .vmem, ⟨6, _⟩ => ⟨S32x512, .f32⟩
  | .local _ .vmem, ⟨7, _⟩ => ⟨S32x512, .f32⟩
  | .local _ .vmem, ⟨8, _⟩ => ⟨S32x512, .f32⟩
  | .local _ .vmem, ⟨9, _⟩ => ⟨S32x512, .f32⟩
  | .local _ .vmem, ⟨10, _⟩ => ⟨S1x512x1536, .f32⟩
  | .local _ .vmem, ⟨11, _⟩ => ⟨S1x512x1536, .f32⟩
  | .local _ .vmem, ⟨12, _⟩ => ⟨S1x512x512, .bf16⟩
  | .local _ .vmem, ⟨13, _⟩ => ⟨S1x512x512, .bf16⟩
  | .local _ .vmem, ⟨14, _⟩ => ⟨S1x2x64x2048, .bf16⟩
  | .local _ .vmem, ⟨15, _⟩ => ⟨S1x2x64x2048, .bf16⟩
  | .local _ .vmem, ⟨16, _⟩ => ⟨S1x2x512x64, .bf16⟩
  | .local _ .vmem, ⟨17, _⟩ => ⟨S1x2x512x64, .bf16⟩
  | .local _ .vmem, ⟨18, _⟩ => ⟨S1x2x80x512, .bf16⟩
  | .local _ .vmem, ⟨19, _⟩ => ⟨S1x2x80x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x4x128x512, .bf16⟩
  | .local _ .vmem, ⟨23, _⟩ => ⟨S1x4x128x512, .bf16⟩
  | .local _ .vmem, ⟨24, _⟩ => ⟨S1x8x512x64, .bf16⟩
  | .local _ .vmem, ⟨25, _⟩ => ⟨S1x8x512x64, .bf16⟩
  | .local _ .vmem, ⟨26, _⟩ => ⟨S1x4x144x512, .bf16⟩
  | .local _ .vmem, ⟨27, _⟩ => ⟨S1x4x144x512, .bf16⟩
  | .local _ .vmem, ⟨28, _⟩ => ⟨S1x512x512, .bf16⟩
  | .local _ .vmem, ⟨29, _⟩ => ⟨S1x512x512, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35_0 : Ref sig .tc := ⟨.hbm, 42, rfl⟩
abbrev main_v35_1 : Ref sig .tc := ⟨.hbm, 43, rfl⟩
abbrev main_v35_2 : Ref sig .tc := ⟨.hbm, 44, rfl⟩
abbrev main_v35_3 : Ref sig .tc := ⟨.hbm, 45, rfl⟩
abbrev main_v35_4 : Ref sig .tc := ⟨.hbm, 46, rfl⟩
abbrev main_v35_5 : Ref sig .tc := ⟨.hbm, 47, rfl⟩
abbrev main_v35_6 : Ref sig .tc := ⟨.hbm, 48, rfl⟩
abbrev main_v35_7 : Ref sig .tc := ⟨.hbm, 49, rfl⟩
abbrev main_v35_8 : Ref sig .tc := ⟨.hbm, 50, rfl⟩
abbrev main_v35_9 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5376 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x64x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x512x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x80x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x128x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x512x64 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x4x144x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Kernel3Ideal.lean ====
variable {F : FTy → Type} [FloatOps F] [Named F]
def κ : String → Option EReal := fun
  | "scale_log2e" => some (((8 * (Real.log 2))⁻¹ : ℝ) : EReal)
  | _ => none
-- ==== Reference3Ideal.lean ====
abbrev S8x8192x1024 : Shape := ⟨3, ![8, 8192, 1024]⟩
abbrev S1024 : Shape := ⟨1, ![1024]⟩
abbrev S1024x5376 : Shape := ⟨2, ![1024, 5376]⟩
abbrev S64 : Shape := ⟨1, ![64]⟩
abbrev S128 : Shape := ⟨1, ![128]⟩
abbrev S128x1 : Shape := ⟨2, ![128, 1]⟩
abbrev S128x64 : Shape := ⟨2, ![128, 64]⟩
abbrev S8192 : Shape := ⟨1, ![8192]⟩
abbrev S1x64 : Shape := ⟨2, ![1, 64]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S8x8192 : Shape := ⟨2, ![8, 8192]⟩
abbrev S8x8192x1 : Shape := ⟨3, ![8, 8192, 1]⟩
abbrev S1x1x1024 : Shape := ⟨3, ![1, 1, 1024]⟩
abbrev S8x8192x5376 : Shape := ⟨3, ![8, 8192, 5376]⟩
abbrev S8x8192x1536 : Shape := ⟨3, ![8, 8192, 1536]⟩
abbrev S8x8192x512 : Shape := ⟨3, ![8, 8192, 512]⟩
abbrev S8x8192x128 : Shape := ⟨3, ![8, 8192, 128]⟩
abbrev S8x8192x8x64 : Shape := ⟨4, ![8, 8192, 8, 64]⟩
abbrev S8x8192x8 : Shape := ⟨3, ![8, 8192, 8]⟩
abbrev S8x8192x8x1 : Shape := ⟨4, ![8, 8192, 8, 1]⟩
abbrev S1x1x1x64 : Shape := ⟨4, ![1, 1, 1, 64]⟩
abbrev S8x8192x8x32 : Shape := ⟨4, ![8, 8192, 8, 32]⟩
abbrev S1x8192x1x32 : Shape := ⟨4, ![1, 8192, 1, 32]⟩
abbrev S8x8192x2x64 : Shape := ⟨4, ![8, 8192, 2, 64]⟩
abbrev S8x8192x2 : Shape := ⟨3, ![8, 8192, 2]⟩
abbrev S8x8192x2x1 : Shape := ⟨4, ![8, 8192, 2, 1]⟩
abbrev S8x8192x2x32 : Shape := ⟨4, ![8, 8192, 2, 32]⟩
abbrev S8x8192x4x128 : Shape := ⟨4, ![8, 8192, 4, 128]⟩
abbrev S8x64x128x2x4x64 : Shape := ⟨6, ![8, 64, 128, 2, 4, 64]⟩
abbrev S8x2x64x64x4x128 : Shape := ⟨6, ![8, 2, 64, 64, 4, 128]⟩
abbrev S8x2x64x32768 : Shape := ⟨4, ![8, 2, 64, 32768]⟩
abbrev S8x2x8192x64 : Shape := ⟨4, ![8, 2, 8192, 64]⟩
abbrev S8x8192x2x15 : Shape := ⟨4, ![8, 8192, 2, 15]⟩
abbrev S8x8192x2x80 : Shape := ⟨4, ![8, 8192, 2, 80]⟩
abbrev S8x2x80x8192 : Shape := ⟨4, ![8, 2, 80, 8192]⟩
abbrev S8x4x128x8192 : Shape := ⟨4, ![8, 4, 128, 8192]⟩
abbrev S8x8x8192x64 : Shape := ⟨4, ![8, 8, 8192, 64]⟩
abbrev S8x8192x4x1 : Shape := ⟨4, ![8, 8192, 4, 1]⟩
abbrev S8x8192x4x15 : Shape := ⟨4, ![8, 8192, 4, 15]⟩
abbrev S8x8192x4x144 : Shape := ⟨4, ![8, 8192, 4, 144]⟩
abbrev S8x4x144x8192 : Shape := ⟨4, ![8, 4, 144, 8192]⟩

abbrev nBuf : Space → Nat
  | .hbm => 191
  | .vmem => 0
  | .smem => 0
  | _ => 0

abbrev hbmTy0_0 (i : Nat) : BufTy := match i % 128 with
  | 0 => ⟨S8x8192x1024, .f32⟩
  | 1 => ⟨S1024, .f32⟩
  | 2 => ⟨S1024x5376, .f32⟩
  | 3 => ⟨S64, .f32⟩
  | 4 => ⟨S64, .f32⟩
  | 5 => ⟨S128, .f32⟩
  | 6 => ⟨S128x1, .f32⟩
  | 7 => ⟨S128x64, .f32⟩
  | 8 => ⟨S8192, .f32⟩
  | 9 => ⟨S64, .f32⟩
  | 10 => ⟨S1x64, .f32⟩
  | 11 => ⟨S128x64, .f32⟩
  | 12 => ⟨S8192, .f32⟩
  | 13 => ⟨S16, .f32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S8192x1, .f32⟩
  | 22 => ⟨S1x16, .f32⟩
  | 23 => ⟨S8192x16, .f32⟩
  | 24 => ⟨S8192x16, .f32⟩
  | 25 => ⟨S8192x16, .f32⟩
  | 26 => ⟨S8192x1, .f32⟩
  | 27 => ⟨S1x16, .f32⟩
  | 28 => ⟨S8192x16, .f32⟩
  | 29 => ⟨S8192x16, .f32⟩
  | 30 => ⟨S8192x16, .f32⟩
  | 31 => ⟨S8192x32, .f32⟩
  | 32 => ⟨S8192x32, .f32⟩
  | 33 => ⟨S8192x32, .f32⟩
  | 34 => ⟨S8x8192x1024, .f32⟩
  | 35 => ⟨S_, .f32⟩
  | 36 => ⟨S8x8192, .f32⟩
  | 37 => ⟨S8x8192x1, .f32⟩
  | 38 => ⟨S_, .f32⟩
  | 39 => ⟨S8x8192x1, .f32⟩
  | 40 => ⟨S8x8192x1, .f32⟩
  | 41 => ⟨S_, .f32⟩
  | 42 => ⟨S8x8192x1, .f32⟩
  | 43 => ⟨S8x8192x1, .f32⟩
  | 44 => ⟨S8x8192x1, .f32⟩
  | 45 => ⟨S8x8192x1024, .f32⟩
  | 46 => ⟨S8x8192x1024, .f32⟩
  | 47 => ⟨S1x1x1024, .f32⟩
  | 48 => ⟨S8x8192x1024, .f32⟩
  | 49 => ⟨S8x8192x1024, .f32⟩
  | 50 => ⟨S8x8192x5376, .f32⟩
  | 51 => ⟨S8x8192x1536, .f32⟩
  | 52 => ⟨S8x8192x512, .f32⟩
  | 53 => ⟨S8x8192x512, .f32⟩
  | 54 => ⟨S8x8192x128, .f32⟩
  | 55 => ⟨S8x8192x128, .f32⟩
  | 56 => ⟨S8x8192x512, .f32⟩
  | 57 => ⟨S8x8192x512, .f32⟩
  | 58 => ⟨S8x8192x512, .f32⟩
  | 59 => ⟨S8x8192x512, .f32⟩
  | 60 => ⟨S8x8192x512, .f32⟩
  | 61 => ⟨S_, .f32⟩
  | 62 => ⟨S_, .f32⟩
  | 63 => ⟨S_, .f32⟩
  | 64 => ⟨S_, .f32⟩
  | 65 => ⟨S8x8192x8x64, .f32⟩
  | 66 => ⟨S8x8192x8x64, .f32⟩
  | 67 => ⟨S_, .f32⟩
  | 68 => ⟨S8x8192x8, .f32⟩
  | 69 => ⟨S8x8192x8x1, .f32⟩
  | 70 => ⟨S_, .f32⟩
  | 71 => ⟨S8x8192x8x1, .f32⟩
  | 72 => ⟨S8x8192x8x1, .f32⟩
  | 73 => ⟨S_, .f32⟩
  | 74 => ⟨S8x8192x8x1, .f32⟩
  | 75 => ⟨S8x8192x8x1, .f32⟩
  | 76 => ⟨S8x8192x8x1, .f32⟩
  | 77 => ⟨S8x8192x8x64, .f32⟩
  | 78 => ⟨S8x8192x8x64, .f32⟩
  | 79 => ⟨S1x1x1x64, .f32⟩
  | 80 => ⟨S8x8192x8x64, .f32⟩
  | 81 => ⟨S8x8192x8x64, .f32⟩
  | 82 => ⟨S8x8192x8x32, .f32⟩
  | 83 => ⟨S8x8192x8x32, .f32⟩
  | 84 => ⟨S1x8192x1x32, .f32⟩
  | 85 => ⟨S1x8192x1x32, .f32⟩
  | 86 => ⟨S8x8192x8x32, .f32⟩
  | 87 => ⟨S8x8192x8x32, .f32⟩
  | 88 => ⟨S8x8192x8x32, .f32⟩
  | 89 => ⟨S8x8192x8x32, .f32⟩
  | 90 => ⟨S8x8192x8x32, .f32⟩
  | 91 => ⟨S8x8192x8x32, .f32⟩
  | 92 => ⟨S8x8192x8x32, .f32⟩
  | 93 => ⟨S8x8192x8x32, .f32⟩
  | 94 => ⟨S8x8192x8x32, .f32⟩
  | 95 => ⟨S8x8192x8x32, .f32⟩
  | 96 => ⟨S8x8192x8x64, .f32⟩
  | 97 => ⟨S8x8192x8x64, .f32⟩
  | 98 => ⟨S8x8192x8x64, .f32⟩
  | 99 => ⟨S8x8192x2x64, .f32⟩
  | 100 => ⟨S8x8192x2x64, .f32⟩
  | 101 => ⟨S_, .f32⟩
  | 102 => ⟨S8x8192x2, .f32⟩
  | 103 => ⟨S8x8192x2x1, .f32⟩
  | 104 => ⟨S_, .f32⟩
  | 105 => ⟨S8x8192x2x1, .f32⟩
  | 106 => ⟨S8x8192x2x1, .f32⟩
  | 107 => ⟨S_, .f32⟩
  | 108 => ⟨S8x8192x2x1, .f32⟩
  | 109 => ⟨S8x8192x2x1, .f32⟩
  | 110 => ⟨S8x8192x2x1, .f32⟩
  | 111 => ⟨S8x8192x2x64, .f32⟩
  | 112 => ⟨S8x8192x2x64, .f32⟩
  | 113 => ⟨S1x1x1x64, .f32⟩
  | 114 => ⟨S8x8192x2x64, .f32⟩
  | 115 => ⟨S8x8192x2x64, .f32⟩
  | 116 => ⟨S8x8192x2x32, .f32⟩
  | 117 => ⟨S8x8192x2x32, .f32⟩
  | 118 => ⟨S1x8192x1x32, .f32⟩
  | 119 => ⟨S1x8192x1x32, .f32⟩
  | 120 => ⟨S8x8192x2x32, .f32⟩
  | 121 => ⟨S8x8192x2x32, .f32⟩
  | 122 => ⟨S8x8192x2x32, .f32⟩
  | 123 => ⟨S8x8192x2x32, .f32⟩
  | 124 => ⟨S8x8192x2x32, .f32⟩
  | 125 => ⟨S8x8192x2x32, .f32⟩
  | 126 => ⟨S8x8192x2x32, .f32⟩
  | 127 => ⟨S8x8192x2x32, .f32⟩
  | _ => ⟨S8x8192x1024, .f32⟩

abbrev hbmTy0_1 (i : Nat) : BufTy := match i % 128 with
  | 0 => ⟨S8x8192x2x32, .f32⟩
  | 1 => ⟨S8x8192x2x32, .f32⟩
  | 2 => ⟨S8x8192x2x64, .f32⟩
  | 3 => ⟨S8x8192x2x64, .f32⟩
  | 4 => ⟨S8x8192x4x128, .f32⟩
  | 5 => ⟨S8x8192x4x128, .f32⟩
  | 6 => ⟨S8x8192x4x128, .f32⟩
  | 7 => ⟨S8x8192x8x64, .f32⟩
  | 8 => ⟨S8x8192x4x128, .f32⟩
  | 9 => ⟨S8x64x128x2x4x64, .f32⟩
  | 10 => ⟨S8x2x64x64x4x128, .f32⟩
  | 11 => ⟨S8x8192x512, .f32⟩
  | 12 => ⟨S8x8192x512, .f32⟩
  | 13 => ⟨S_, .f32⟩
  | 14 => ⟨S8x8192x512, .f32⟩
  | 15 => ⟨S8x8192x512, .f32⟩
  | 16 => ⟨S_, .f32⟩
  | 17 => ⟨S8x8192x512, .f32⟩
  | 18 => ⟨S8x8192x512, .f32⟩
  | 19 => ⟨S8x8192x512, .f32⟩
  | 20 => ⟨S8x8192x512, .bf16⟩
  | 21 => ⟨S8x2x64x32768, .f32⟩
  | 22 => ⟨S8x2x64x32768, .bf16⟩
  | 23 => ⟨S8x2x8192x64, .f32⟩
  | 24 => ⟨S8x2x8192x64, .bf16⟩
  | 25 => ⟨S_, .f32⟩
  | 26 => ⟨S8x8192x2x1, .f32⟩
  | 27 => ⟨S_, .f32⟩
  | 28 => ⟨S8x8192x2x15, .f32⟩
  | 29 => ⟨S8x8192x2x80, .f32⟩
  | 30 => ⟨S8x2x80x8192, .f32⟩
  | 31 => ⟨S8x2x80x8192, .bf16⟩
  | 32 => ⟨S8x8192x512, .f32⟩
  | 33 => ⟨S8x8192x512, .f32⟩
  | 34 => ⟨S_, .f32⟩
  | 35 => ⟨S8x8192x512, .f32⟩
  | 36 => ⟨S8x8192x512, .f32⟩
  | 37 => ⟨S_, .f32⟩
  | 38 => ⟨S8x8192x512, .f32⟩
  | 39 => ⟨S8x8192x512, .f32⟩
  | 40 => ⟨S8x8192x512, .f32⟩
  | 41 => ⟨S8x8192x512, .bf16⟩
  | 42 => ⟨S8x4x128x8192, .f32⟩
  | 43 => ⟨S8x4x128x8192, .bf16⟩
  | 44 => ⟨S8x8x8192x64, .f32⟩
  | 45 => ⟨S8x8x8192x64, .bf16⟩
  | 46 => ⟨S_, .f32⟩
  | 47 => ⟨S8x8192x4x1, .f32⟩
  | 48 => ⟨S_, .f32⟩
  | 49 => ⟨S8x8192x4x15, .f32⟩
  | 50 => ⟨S8x8192x4x144, .f32⟩
  | 51 => ⟨S8x4x144x8192, .f32⟩
  | 52 => ⟨S8x4x144x8192, .bf16⟩
  | 53 => ⟨S8x8192x512, .f32⟩
  | 54 => ⟨S8x8192x512, .f32⟩
  | 55 => ⟨S_, .f32⟩
  | 56 => ⟨S8x8192x512, .f32⟩
  | 57 => ⟨S8x8192x512, .f32⟩
  | 58 => ⟨S_, .f32⟩
  | 59 => ⟨S8x8192x512, .f32⟩
  | 60 => ⟨S8x8192x512, .f32⟩
  | 61 => ⟨S8x8192x512, .f32⟩
  | 62 => ⟨S8x8192x512, .bf16⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_1 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_4 : Ref sig .tc := ⟨.hbm, 61, rfl⟩
abbrev main_v51 : Ref sig .tc := ⟨.hbm, 62, rfl⟩
abbrev main_cst_5 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_6 : Ref sig .tc := ⟨.hbm, 67, rfl⟩
abbrev main_v55 : Ref sig .tc := ⟨.hbm, 68, rfl⟩
abbrev main_v56 : Ref sig .tc := ⟨.hbm, 69, rfl⟩
abbrev main_cst_7 : Ref sig .tc := ⟨.hbm, 70, rfl⟩
abbrev main_v57 : Ref sig .tc := ⟨.hbm, 71, rfl⟩
abbrev main_v58 : Ref sig .tc := ⟨.hbm, 72, rfl⟩
abbrev main_cst_8 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_cst_9 : Ref sig .tc := ⟨.hbm, 101, rfl⟩
abbrev main_v86 : Ref sig .tc := ⟨.hbm, 102, rfl⟩
abbrev main_v87 : Ref sig .tc := ⟨.hbm, 103, rfl⟩
abbrev main_cst_10 : Ref sig .tc := ⟨.hbm, 104, rfl⟩
abbrev main_v88 : Ref sig .tc := ⟨.hbm, 105, rfl⟩
abbrev main_v89 : Ref sig .tc := ⟨.hbm, 106, rfl⟩
abbrev main_cst_11 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_call0_v0 : Ref sig .tc := ⟨.hbm, 139, rfl⟩
abbrev main_call0_v1 : Ref sig .tc := ⟨.hbm, 140, rfl⟩
abbrev main_call0_cst : Ref sig .tc := ⟨.hbm, 141, rfl⟩
abbrev main_call0_v2 : Ref sig .tc := ⟨.hbm, 142, rfl⟩
abbrev main_call0_v3 : Ref sig .tc := ⟨.hbm, 143, rfl⟩
abbrev main_call0_cst_0 : Ref sig .tc := ⟨.hbm, 144, rfl⟩
abbrev main_call0_v4 : Ref sig .tc := ⟨.hbm, 145, rfl⟩
abbrev main_call0_v5 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_cst_12 : Ref sig .tc := ⟨.hbm, 153, rfl⟩
abbrev main_v127 : Ref sig .tc := ⟨.hbm, 154, rfl⟩
abbrev main_cst_13 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_call1_v0 : Ref sig .tc := ⟨.hbm, 160, rfl⟩
abbrev main_call1_v1 : Ref sig .tc := ⟨.hbm, 161, rfl⟩
abbrev main_call1_cst : Ref sig .tc := ⟨.hbm, 162, rfl⟩
abbrev main_call1_v2 : Ref sig .tc := ⟨.hbm, 163, rfl⟩
abbrev main_call1_v3 : Ref sig .tc := ⟨.hbm, 164, rfl⟩
abbrev main_call1_cst_0 : Ref sig .tc := ⟨.hbm, 165, rfl⟩
abbrev main_call1_v4 : Ref sig .tc := ⟨.hbm, 166, rfl⟩
abbrev main_call1_v5 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_cst_14 : Ref sig .tc := ⟨.hbm, 174, rfl⟩
abbrev main_v138 : Ref sig .tc := ⟨.hbm, 175, rfl⟩
abbrev main_cst_15 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_call2_v0 : Ref sig .tc := ⟨.hbm, 181, rfl⟩
abbrev main_call2_v1 : Ref sig .tc := ⟨.hbm, 182, rfl⟩
abbrev main_call2_cst : Ref sig .tc := ⟨.hbm, 183, rfl⟩
abbrev main_call2_v2 : Ref sig .tc := ⟨.hbm, 184, rfl⟩
abbrev main_call2_v3 : Ref sig .tc := ⟨.hbm, 185, rfl⟩
abbrev main_call2_cst_0 : Ref sig .tc := ⟨.hbm, 186, rfl⟩
abbrev main_call2_v4 : Ref sig .tc := ⟨.hbm, 187, rfl⟩
abbrev main_call2_v5 : Ref sig .tc := ⟨.hbm, 188, rfl⟩
abbrev main_v143 : Ref sig .tc := ⟨.hbm, 189, rfl⟩
abbrev main_v144 : Ref sig .tc := ⟨.hbm, 190, rfl⟩

abbrev nD : Nat := 1
abbrev τ : Topo := Topo.v7x

variable {F : FTy → Type} [FloatOps F]
-- ==== Kernel4.lean ====
abbrev S8x4x128x8192 : Shape := ⟨4, ![8, 4, 128, 8192]⟩
abbrev S8x8x8192x64 : Shape := ⟨4, ![8, 8, 8192, 64]⟩
abbrev S8x4x144x8192 : Shape := ⟨4, ![8, 4, 144, 8192]⟩
abbrev S4x5x256x256 : Shape := ⟨4, ![4, 5, 256, 256]⟩
abbrev S64 : Shape := ⟨1, ![64]⟩
abbrev S128 : Shape := ⟨1, ![128]⟩
abbrev S8x8192x512 : Shape := ⟨3, ![8, 8192, 512]⟩
abbrev S1x64 : Shape := ⟨2, ![1, 64]⟩
abbrev S4x64 : Shape := ⟨2, ![4, 64]⟩
abbrev S128x1 : Shape := ⟨2, ![128, 1]⟩
abbrev S128x256 : Shape := ⟨2, ![128, 256]⟩
abbrev S32x1x512 : Shape := ⟨3, ![32, 1, 512]⟩
abbrev S1x1x128x8192 : Shape := ⟨4, ![1, 1, 128, 8192]⟩
abbrev S1x1x8192x64 : Shape := ⟨4, ![1, 1, 8192, 64]⟩
abbrev S1x1x144x8192 : Shape := ⟨4, ![1, 1, 144, 8192]⟩
abbrev S1x5x256x256 : Shape := ⟨4, ![1, 5, 256, 256]⟩
abbrev S1x8192x128 : Shape := ⟨3, ![1, 8192, 128]⟩
abbrev S1x1x512 : Shape := ⟨3, ![1, 1, 512]⟩
abbrev S1x512 : Shape := ⟨2, ![1, 512]⟩
abbrev S144x512 : Shape := ⟨2, ![144, 512]⟩
abbrev S512x512 : Shape := ⟨2, ![512, 512]⟩
abbrev S1x1x128x256 : Shape := ⟨4, ![1, 1, 128, 256]⟩
abbrev S1x1x256x256 : Shape := ⟨4, ![1, 1, 256, 256]⟩
abbrev S256x256 : Shape := ⟨2, ![256, 256]⟩
abbrev S512x256 : Shape := ⟨2, ![512, 256]⟩
abbrev S1x1x512x64 : Shape := ⟨4, ![1, 1, 512, 64]⟩
abbrev S512x64 : Shape := ⟨2, ![512, 64]⟩
abbrev S64x256 : Shape := ⟨2, ![64, 256]⟩
abbrev S512 : Shape := ⟨1, ![512]⟩
abbrev S1x1x144x512 : Shape := ⟨4, ![1, 1, 144, 512]⟩
abbrev S1x256x128 : Shape := ⟨3, ![1, 256, 128]⟩
abbrev S256x128 : Shape := ⟨2, ![256, 128]⟩
abbrev S1 : Shape := ⟨1, ![1]⟩
abbrev S1x1 : Shape := ⟨2, ![1, 1]⟩
abbrev S128x512 : Shape := ⟨2, ![128, 512]⟩
abbrev S256 : Shape := ⟨1, ![256]⟩
abbrev S1x256 : Shape := ⟨2, ![1, 256]⟩

abbrev nBuf : Space → Nat
  | .hbm => 19
  | .vmem => 22
  | .smem => 0
  | _ => 0

abbrev bufTy : (tb : Table) → Fin (tcTables nBuf tb) → BufTy
  | .hbm, ⟨0, _⟩ => ⟨S8x4x128x8192, .bf16⟩
  | .hbm, ⟨1, _⟩ => ⟨S8x8x8192x64, .bf16⟩
  | .hbm, ⟨2, _⟩ => ⟨S8x4x144x8192, .bf16⟩
  | .hbm, ⟨3, _⟩ => ⟨S4x5x256x256, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S128, .f32⟩
  | .hbm, ⟨9, _⟩ => ⟨S8x8192x512, .bf16⟩
  | .hbm, ⟨10, _⟩ => ⟨S1x64, .f32⟩
  | .hbm, ⟨11, _⟩ => ⟨S1x64, .f32⟩
  | .hbm, ⟨12, _⟩ => ⟨S1x64, .f32⟩
  | .hbm, ⟨13, _⟩ => ⟨S1x64, .f32⟩
  | .hbm, ⟨14, _⟩ => ⟨S4x64, .f32⟩
  | .hbm, ⟨15, _⟩ => ⟨S128x1, .f32⟩
  | .hbm, ⟨16, _⟩ => ⟨S128x256, .f32⟩
  | .hbm, ⟨17, _⟩ => ⟨S8x8192x512, .bf16⟩
  | .hbm, ⟨18, _⟩ => ⟨S32x1x512, .f32⟩
  | .local _ .vmem, ⟨0, _⟩ => ⟨S1x1x128x8192, .bf16⟩
  | .local _ .vmem, ⟨1, _⟩ => ⟨S1x1x128x8192, .bf16⟩
  | .local _ .vmem, ⟨2, _⟩ => ⟨S1x1x8192x64, .bf16⟩
  | .local _ .vmem, ⟨3, _⟩ => ⟨S1x1x8192x64, .bf16⟩
  | .local _ .vmem, ⟨4, _⟩ => ⟨S1x1x8192x64, .bf16⟩
  | .local _ .vmem, ⟨5, _⟩ => ⟨S1x1x8192x64, .bf16⟩
  | .local _ .vmem, ⟨6, _⟩ => ⟨S1x1x144x8192, .bf16⟩
  | .local _ .vmem, ⟨7, _⟩ => ⟨S1x1x144x8192, .bf16⟩
  | .local _ .vmem, ⟨8, _⟩ => ⟨S1x5x256x256, .f32⟩
  | .local _ .vmem, ⟨9, _⟩ => ⟨S1x5x256x256, .f32⟩
  | .local _ .vmem, ⟨10, _⟩ => ⟨S4x64, .f32⟩
  | .local _ .vmem, ⟨11, _⟩ => ⟨S128x256, .f32⟩
  | .local _ .vmem, ⟨12, _⟩ => ⟨S1x8192x128, .bf16⟩
  | .local _ .vmem, ⟨13, _⟩ => ⟨S1x8192x128, .bf16⟩
  | .local _ .vmem, ⟨14, _⟩ => ⟨S1x8192x128, .bf16⟩
  | .local _ .vmem, ⟨15, _⟩ => ⟨S1x8192x128, .bf16⟩
  | .local _ .vmem, ⟨16, _⟩ => ⟨S1x1x512, .f32⟩
  | .local _ .vmem, ⟨17, _⟩ => ⟨S1x1x512, .f32⟩
  | .local _ .vmem, ⟨18, _⟩ => ⟨S1x512, .f32⟩
  | .local _ .vmem, ⟨19, _⟩ => ⟨S144x512, .f32⟩
  | .local _ .vmem, ⟨20, _⟩ => ⟨S144x512, .f32⟩
  | .local _ .vmem, ⟨21, _⟩ => ⟨S512x512, .f32⟩
  | _, _ => ⟨S8x4x128x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 4], ![false, false]⟩

def k0_off1 (c0_i32 : BitVec 32) : Fin 4 → Nat :=
  let c0_4 : Index := 0#32
  let c2_i32 : BitVec 32 := 2#32
  let c_m2_i32 : BitVec 32 := 4294967294#32
  let v2 : BitVec 32 := Scalar.maxsi c_m2_i32 c0_i32
  let v3 : BitVec 32 := Scalar.minsi c2_i32 v2
  let c2_i32_3 : BitVec 32 := 2#32
  let v4 : BitVec 32 := Scalar.addi v3 c2_i32_3
  let v5 : Index := Scalar.indexCast v4
  let c0_5 : Index := 0#32
  let c0_6 : Index := 0#32
  ![0, v5.toNat, 0, 0]
@[reducible] def k0_t1_loop : Scf.Loop 32 :=
  let c0_i32_38 : BitVec 32 := 0#32
  let c32_i32 : BitVec 32 := 32#32
  let v46 : BitVec 32 := Scalar.addi c0_i32_38 c32_i32
  let c1_i32_39 : BitVec 32 := 1#32
  ⟨c0_i32_38, v46, c1_i32_39⟩
def k0_mult1 (k0_t1 : Fin k0_t1_loop.trips) : BitVec 32 :=
  let c0_i32_38 : BitVec 32 := 0#32
  let c1_i32_39 : BitVec 32 := 1#32
  let arg16 : BitVec 32 := Scf.iv c0_i32_38 c1_i32_39 k0_t1
  let c256_i32 : BitVec 32 := 256#32
  let v101 : BitVec 32 := Scalar.muli arg16 c256_i32
  v101
def k0_off2 (k0_t1 : Fin k0_t1_loop.trips) : Fin 4 → Nat :=
  let c0_62 : Index := 0#32
  let c0_63 : Index := 0#32
  let c0_64 : Index := 0#32
  let c0_i32_38 : BitVec 32 := 0#32
  let c1_i32_39 : BitVec 32 := 1#32
  let arg16 : BitVec 32 := Scf.iv c0_i32_38 c1_i32_39 k0_t1
  let c256_i32 : BitVec 32 := 256#32
  let v101 : BitVec 32 := Scalar.muli arg16 c256_i32
  let v102 : BitVec 32 := v101
  let v103 : Index := Scalar.indexCast v102
  ![0, 0, 0, v103.toNat]
def k0_off3 (k0_t1 : Fin k0_t1_loop.trips) (c2_i32_65 : BitVec 32) : Fin 4 → Nat :=
  let c0_69 : Index := 0#32
  let c2_i32_67 : BitVec 32 := 2#32
  let c_m2_i32_66 : BitVec 32 := 4294967294#32
  let c0_i32_38 : BitVec 32 := 0#32
  let c1_i32_39 : BitVec 32 := 1#32
  let arg16 : BitVec 32 := Scf.iv c0_i32_38 c1_i32_39 k0_t1
  let v106 : BitVec 32 := Scalar.subi c2_i32_65 arg16
  let v107 : BitVec 32 := Scalar.maxsi c_m2_i32_66 v106
  let v108 : BitVec 32 := Scalar.minsi c2_i32_67 v107
  let c2_i32_68 : BitVec 32 := 2#32
  let v109 : BitVec 32 := Scalar.addi v108 c2_i32_68
  let v110 : Index := Scalar.indexCast v109
  let c0_70 : Index := 0#32
  let c0_71 : Index := 0#32
  ![0, v110.toNat, 0, 0]
def k0_mult2 (k0_t1 : Fin k0_t1_loop.trips) : BitVec 32 :=
  let c0_i32_38 : BitVec 32 := 0#32
  let c1_i32_39 : BitVec 32 := 1#32
  let arg16 : BitVec 32 := Scf.iv c0_i32_38 c1_i32_39 k0_t1
  let c1_i32_108 : BitVec 32 := 1#32
  let v170 : BitVec 32 := Scalar.subi arg16 c1_i32_108
  let c0_i32_109 : BitVec 32 := 0#32
  let v171 : BitVec 32 := Scalar.maxsi v170 c0_i32_109
  let c256_i32_112 : BitVec 32 := 256#32
  let v173 : BitVec 32 := Scalar.muli v171 c256_i32_112
  v173
def k0_off4 (k0_t1 : Fin k0_t1_loop.trips) : Fin 3 → Nat :=
  let c0_113 : Index := 0#32
  let c0_i32_38 : BitVec 32 := 0#32
  let c1_i32_39 : BitVec 32 := 1#32
  let arg16 : BitVec 32 := Scf.iv c0_i32_38 c1_i32_39 k0_t1
  let c1_i32_108 : BitVec 32 := 1#32
  let v170 : BitVec 32 := Scalar.subi arg16 c1_i32_108
  let c0_i32_109 : BitVec 32 := 0#32
  let v171 : BitVec 32 := Scalar.maxsi v170 c0_i32_109
  let c256_i32_112 : BitVec 32 := 256#32
  let v173 : BitVec 32 := Scalar.muli v171 c256_i32_112
  let v174 : BitVec 32 := v173
  let v175 : Index := Scalar.indexCast v174
  let c0_114 : Index := 0#32
  ![0, v175.toNat, 0]
def k0_mult3 (k0_t1 : Fin k0_t1_loop.trips) : BitVec 32 :=
  let c0_i32_38 : BitVec 32 := 0#32
  let c1_i32_39 : BitVec 32 := 1#32
  let arg16 : BitVec 32 := Scf.iv c0_i32_38 c1_i32_39 k0_t1
  let c256_i32_129 : BitVec 32 := 256#32
  let v229 : BitVec 32 := Scalar.muli arg16 c256_i32_129
  v229
def k0_mult4 (k0_t1 : Fin k0_t1_loop.trips) : BitVec 32 :=
  let c0_i32_38 : BitVec 32 := 0#32
  let c1_i32_39 : BitVec 32 := 1#32
  let arg16 : BitVec 32 := Scf.iv c0_i32_38 c1_i32_39 k0_t1
  let c256_i32_175 : BitVec 32 := 256#32
  let v298 : BitVec 32 := Scalar.muli arg16 c256_i32_175
  v298
def k0_mult5 (k0_t1 : Fin k0_t1_loop.trips) : BitVec 32 :=
  let c0_i32_38 : BitVec 32 := 0#32
  let c1_i32_39 : BitVec 32 := 1#32
  let arg16 : BitVec 32 := Scf.iv c0_i32_38 c1_i32_39 k0_t1
  let c256_i32_221 : BitVec 32 := 256#32
  let v367 : BitVec 32 := Scalar.muli arg16 c256_i32_221
  v367
def k0_mult6 (k0_t1 : Fin k0_t1_loop.trips) : BitVec 32 :=
  let c0_i32_38 : BitVec 32 := 0#32
  let c1_i32_39 : BitVec 32 := 1#32
  let arg16 : BitVec 32 := Scf.iv c0_i32_38 c1_i32_39 k0_t1
  let c256_i32_267 : BitVec 32 := 256#32
  let v436 : BitVec 32 := Scalar.muli arg16 c256_i32_267
  v436
def k0_mult7 (k0_t1 : Fin k0_t1_loop.trips) : BitVec 32 :=
  let c0_i32_38 : BitVec 32 := 0#32
  let c1_i32_39 : BitVec 32 := 1#32
  let arg16 : BitVec 32 := Scf.iv c0_i32_38 c1_i32_39 k0_t1
  let c256_i32_313 : BitVec 32 := 256#32
  let v505 : BitVec 32 := Scalar.muli arg16 c256_i32_313
  v505
def k0_mult8 (k0_t1 : Fin k0_t1_loop.trips) : BitVec 32 :=
  let c0_i32_38 : BitVec 32 := 0#32
  let c1_i32_39 : BitVec 32 := 1#32
  let arg16 : BitVec 32 := Scf.iv c0_i32_38 c1_i32_39 k0_t1
  let c256_i32_359 : BitVec 32 := 256#32
  let v574 : BitVec 32 := Scalar.muli arg16 c256_i32_359
  v574
def k0_mult9 (k0_t1 : Fin k0_t1_loop.trips) : BitVec 32 :=
  let c0_i32_38 : BitVec 32 := 0#32
  let c1_i32_39 : BitVec 32 := 1#32
  let arg16 : BitVec 32 := Scf.iv c0_i32_38 c1_i32_39 k0_t1
  let c256_i32_405 : BitVec 32 := 256#32
  let v643 : BitVec 32 := Scalar.muli arg16 c256_i32_405
  v643
def k0_mult10 (k0_t1 : Fin k0_t1_loop.trips) : BitVec 32 :=
  let c0_i32_38 : BitVec 32 := 0#32
  let c1_i32_39 : BitVec 32 := 1#32
  let arg16 : BitVec 32 := Scf.iv c0_i32_38 c1_i32_39 k0_t1
  let c256_i32_451 : BitVec 32 := 256#32
  let v712 : BitVec 32 := Scalar.muli arg16 c256_i32_451
  v712
def k0_mult11 (k0_t1 : Fin k0_t1_loop.trips) : BitVec 32 :=
  let c0_i32_38 : BitVec 32 := 0#32
  let c1_i32_39 : BitVec 32 := 1#32
  let arg16 : BitVec 32 := Scf.iv c0_i32_38 c1_i32_39 k0_t1
  let c256_i32_497 : BitVec 32 := 256#32
  let v781 : BitVec 32 := Scalar.muli arg16 c256_i32_497
  v781
def k0_mult12 (k0_t1 : Fin k0_t1_loop.trips) : BitVec 32 :=
  let c0_i32_38 : BitVec 32 := 0#32
  let c1_i32_39 : BitVec 32 := 1#32
  let arg16 : BitVec 32 := Scf.iv c0_i32_38 c1_i32_39 k0_t1
  let c256_i32_543 : BitVec 32 := 256#32
  let v850 : BitVec 32 := Scalar.muli arg16 c256_i32_543
  v850
def k0_mult13 (k0_t1 : Fin k0_t1_loop.trips) : BitVec 32 :=
  let c0_i32_38 : BitVec 32 := 0#32
  let c1_i32_39 : BitVec 32 := 1#32
  let arg16 : BitVec 32 := Scf.iv c0_i32_38 c1_i32_39 k0_t1
  let c256_i32_589 : BitVec 32 := 256#32
  let v919 : BitVec 32 := Scalar.muli arg16 c256_i32_589
  v919
def k0_mult14 (k0_t1 : Fin k0_t1_loop.trips) : BitVec 32 :=
  let c0_i32_38 : BitVec 32 := 0#32
  let c1_i32_39 : BitVec 32 := 1#32
  let arg16 : BitVec 32 := Scf.iv c0_i32_38 c1_i32_39 k0_t1
  let c256_i32_635 : BitVec 32 := 256#32
  let v988 : BitVec 32 := Scalar.muli arg16 c256_i32_635
  v988
def k0_mult15 (k0_t1 : Fin k0_t1_loop.trips) : BitVec 32 :=
  let c0_i32_38 : BitVec 32 := 0#32
  let c1_i32_39 : BitVec 32 := 1#32
  let arg16 : BitVec 32 := Scf.iv c0_i32_38 c1_i32_39 k0_t1
  let c256_i32_681 : BitVec 32 := 256#32
  let v1057 : BitVec 32 := Scalar.muli arg16 c256_i32_681
  v1057
def k0_mult16 (k0_t1 : Fin k0_t1_loop.trips) : BitVec 32 :=
  let c0_i32_38 : BitVec 32 := 0#32
  let c1_i32_39 : BitVec 32 := 1#32
  let arg16 : BitVec 32 := Scf.iv c0_i32_38 c1_i32_39 k0_t1
  let c256_i32_727 : BitVec 32 := 256#32
  let v1126 : BitVec 32 := Scalar.muli arg16 c256_i32_727
  v1126
def k0_mult17 (k0_t1 : Fin k0_t1_loop.trips) : BitVec 32 :=
  let c0_i32_38 : BitVec 32 := 0#32
  let c1_i32_39 : BitVec 32 := 1#32
  let arg16 : BitVec 32 := Scf.iv c0_i32_38 c1_i32_39 k0_t1
  let c1_i32_773 : BitVec 32 := 1#32
  let v1195 : BitVec 32 := Scalar.addi arg16 c1_i32_773
  let c31_i32_774 : BitVec 32 := 31#32
  let v1196 : BitVec 32 := Scalar.minsi v1195 c31_i32_774
  let c256_i32_775 : BitVec 32 := 256#32
  let v1197 : BitVec 32 := Scalar.muli v1196 c256_i32_775
  v1197
def k0_off5 (k0_t1 : Fin k0_t1_loop.trips) : Fin 4 → Nat :=
  let c0_776 : Index := 0#32
  let c0_777 : Index := 0#32
  let c0_778 : Index := 0#32
  let c0_i32_38 : BitVec 32 := 0#32
  let c1_i32_39 : BitVec 32 := 1#32
  let arg16 : BitVec 32 := Scf.iv c0_i32_38 c1_i32_39 k0_t1
  let c1_i32_773 : BitVec 32 := 1#32
  let v1195 : BitVec 32 := Scalar.addi arg16 c1_i32_773
  let c31_i32_774 : BitVec 32 := 31#32
  let v1196 : BitVec 32 := Scalar.minsi v1195 c31_i32_774
  let c256_i32_775 : BitVec 32 := 256#32
  let v1197 : BitVec 32 := Scalar.muli v1196 c256_i32_775
  let v1198 : BitVec 32 := v1197
  let v1199 : Index := Scalar.indexCast v1198
  ![0, 0, 0, v1199.toNat]
def k0_off6 (k0_t1 : Fin k0_t1_loop.trips) (c0_i32_779 : BitVec 32) : Fin 4 → Nat :=
  let c0_783 : Index := 0#32
  let c2_i32_781 : BitVec 32 := 2#32
  let c_m2_i32_780 : BitVec 32 := 4294967294#32
  let c0_i32_38 : BitVec 32 := 0#32
  let c1_i32_39 : BitVec 32 := 1#32
  let arg16 : BitVec 32 := Scf.iv c0_i32_38 c1_i32_39 k0_t1
  let c1_i32_773 : BitVec 32 := 1#32
  let v1195 : BitVec 32 := Scalar.addi arg16 c1_i32_773
  let c31_i32_774 : BitVec 32 := 31#32
  let v1196 : BitVec 32 := Scalar.minsi v1195 c31_i32_774
  let v1202 : BitVec 32 := Scalar.subi c0_i32_779 v1196
  let v1203 : BitVec 32 := Scalar.maxsi c_m2_i32_780 v1202
  let v1204 : BitVec 32 := Scalar.minsi c2_i32_781 v1203
  let c2_i32_782 : BitVec 32 := 2#32
  let v1205 : BitVec 32 := Scalar.addi v1204 c2_i32_782
  let v1206 : Index := Scalar.indexCast v1205
  let c0_784 : Index := 0#32
  let c0_785 : Index := 0#32
  ![0, v1206.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![arg0.toNat, v1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x1x128x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8192x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x8192x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x144x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x5x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8192x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Kernel4Ideal.lean ====
variable {F : FTy → Type} [FloatOps F] [Named F]
def κ : String → Option EReal := fun
  | "inv_ln2" => some (((Real.log 2)⁻¹ : ℝ) : EReal)
  | _ => none
-- ==== Reference4Ideal.lean ====
abbrev S8x4x128x8192 : Shape := ⟨4, ![8, 4, 128, 8192]⟩
abbrev S8x8x8192x64 : Shape := ⟨4, ![8, 8, 8192, 64]⟩
abbrev S8x4x144x8192 : Shape := ⟨4, ![8, 4, 144, 8192]⟩
abbrev S4x5x256x256 : Shape := ⟨4, ![4, 5, 256, 256]⟩
abbrev S64 : Shape := ⟨1, ![64]⟩
abbrev S128 : Shape := ⟨1, ![128]⟩
abbrev S8x8192x512 : Shape := ⟨3, ![8, 8192, 512]⟩
abbrev S8x4x2x64x8192 : Shape := ⟨5, ![8, 4, 2, 64, 8192]⟩
abbrev S8x4x2x8192x64 : Shape := ⟨5, ![8, 4, 2, 8192, 64]⟩
abbrev S32 : Shape := ⟨1, ![32]⟩
abbrev S1x32 : Shape := ⟨2, ![1, 32]⟩
abbrev S32x1 : Shape := ⟨2, ![32, 1]⟩
abbrev S32x32 : Shape := ⟨2, ![32, 32]⟩
abbrev S_ : Shape := ⟨0, ![]⟩
abbrev S1x32x1x32x1 : Shape := ⟨5, ![1, 32, 1, 32, 1]⟩
abbrev S4x32x256x32x256 : Shape := ⟨5, ![4, 32, 256, 32, 256]⟩
abbrev S4x1x256x256 : Shape := ⟨4, ![4, 1, 256, 256]⟩
abbrev S4x256x256 : Shape := ⟨3, ![4, 256, 256]⟩
abbrev S4x1x256x1x256 : Shape := ⟨5, ![4, 1, 256, 1, 256]⟩
abbrev S4x8192x8192 : Shape := ⟨3, ![4, 8192, 8192]⟩
abbrev S8x4x2x8192x8192 : Shape := ⟨5, ![8, 4, 2, 8192, 8192]⟩
abbrev S1x4x1x8192x8192 : Shape := ⟨5, ![1, 4, 1, 8192, 8192]⟩
abbrev S8x4x2x8192 : Shape := ⟨4, ![8, 4, 2, 8192]⟩
abbrev S8x4x2x8192x1 : Shape := ⟨5, ![8, 4, 2, 8192, 1]⟩
abbrev S8x4x1x8192x8192 : Shape := ⟨5, ![8, 4, 1, 8192, 8192]⟩
abbrev S8x4x8192x8192 : Shape := ⟨4, ![8, 4, 8192, 8192]⟩
abbrev S8x8192x4x128 : Shape := ⟨4, ![8, 8192, 4, 128]⟩
abbrev S8x8192x4 : Shape := ⟨3, ![8, 8192, 4]⟩
abbrev S8x8192x4x1 : Shape := ⟨4, ![8, 8192, 4, 1]⟩
abbrev S1x1x1x128 : Shape := ⟨4, ![1, 1, 1, 128]⟩

abbrev nBuf : Space → Nat
  | .hbm => 152
  | .vmem => 0
  | .smem => 0
  | _ => 0

abbrev hbmTy0_0 (i : Nat) : BufTy := match i % 128 with
  | 0 => ⟨S8x4x128x8192, .bf16⟩
  | 1 => ⟨S8x8x8192x64, .bf16⟩
  | 2 => ⟨S8x4x144x8192, .bf16⟩
  | 3 => ⟨S4x5x256x256, .f32⟩
  | 4 => ⟨S64, .f32⟩
  | 5 => ⟨S64, .f32⟩
  | 6 => ⟨S64, .f32⟩
  | 7 => ⟨S64, .f32⟩
  | 8 => ⟨S128, .f32⟩
  | 9 => ⟨S8x8192x512, .bf16⟩
  | 10 => ⟨S8x4x128x8192, .f32⟩
  | 11 => ⟨S8x4x2x64x8192, .f32⟩
  | 12 => ⟨S8x8x8192x64, .f32⟩
  | 13 => ⟨S8x4x2x8192x64, .f32⟩
  | 14 => ⟨S8x4x128x8192, .bf16⟩
  | 15 => ⟨S8x4x128x8192, .f32⟩
  | 16 => ⟨S32, .i32⟩
  | 17 => ⟨S1x32, .i32⟩
  | 18 => ⟨S32x1, .i32⟩
  | 19 => ⟨S32x32, .i32⟩
  | 20 => ⟨S32x32, .i32⟩
  | 21 => ⟨S32x32, .i32⟩
  | 22 => ⟨S_, .i32⟩
  | 23 => ⟨S_, .i32⟩
  | 24 => ⟨S_, .i32⟩
  | 25 => ⟨S32x32, .i32⟩
  | 26 => ⟨S32x32, .i32⟩
  | 27 => ⟨S_, .i32⟩
  | 28 => ⟨S32x32, .i32⟩
  | 29 => ⟨S32x32, .i32⟩
  | 30 => ⟨S_, .i32⟩
  | 31 => ⟨S32x32, .i32⟩
  | 32 => ⟨S32x32, .i32⟩
  | 33 => ⟨S1x32x1x32x1, .i32⟩
  | 34 => ⟨S_, .f32⟩
  | 35 => ⟨S4x32x256x32x256, .f32⟩
  | 36 => ⟨S_, .i32⟩
  | 37 => ⟨S1x32x1x32x1, .i32⟩
  | 38 => ⟨S1x32x1x32x1, .i1⟩
  | 39 => ⟨S4x1x256x256, .f32⟩
  | 40 => ⟨S4x256x256, .f32⟩
  | 41 => ⟨S4x256x256, .f32⟩
  | 42 => ⟨S4x1x256x1x256, .f32⟩
  | 43 => ⟨S4x32x256x32x256, .i1⟩
  | 44 => ⟨S4x32x256x32x256, .f32⟩
  | 45 => ⟨S4x32x256x32x256, .f32⟩
  | 46 => ⟨S_, .i32⟩
  | 47 => ⟨S1x32x1x32x1, .i32⟩
  | 48 => ⟨S1x32x1x32x1, .i1⟩
  | 49 => ⟨S4x1x256x256, .f32⟩
  | 50 => ⟨S4x256x256, .f32⟩
  | 51 => ⟨S4x256x256, .f32⟩
  | 52 => ⟨S4x1x256x1x256, .f32⟩
  | 53 => ⟨S4x32x256x32x256, .i1⟩
  | 54 => ⟨S4x32x256x32x256, .f32⟩
  | 55 => ⟨S4x32x256x32x256, .f32⟩
  | 56 => ⟨S_, .i32⟩
  | 57 => ⟨S1x32x1x32x1, .i32⟩
  | 58 => ⟨S1x32x1x32x1, .i1⟩
  | 59 => ⟨S4x1x256x256, .f32⟩
  | 60 => ⟨S4x256x256, .f32⟩
  | 61 => ⟨S4x256x256, .f32⟩
  | 62 => ⟨S4x1x256x1x256, .f32⟩
  | 63 => ⟨S4x32x256x32x256, .i1⟩
  | 64 => ⟨S4x32x256x32x256, .f32⟩
  | 65 => ⟨S4x32x256x32x256, .f32⟩
  | 66 => ⟨S_, .i32⟩
  | 67 => ⟨S1x32x1x32x1, .i32⟩
  | 68 => ⟨S1x32x1x32x1, .i1⟩
  | 69 => ⟨S4x1x256x256, .f32⟩
  | 70 => ⟨S4x256x256, .f32⟩
  | 71 => ⟨S4x256x256, .f32⟩
  | 72 => ⟨S4x1x256x1x256, .f32⟩
  | 73 => ⟨S4x32x256x32x256, .i1⟩
  | 74 => ⟨S4x32x256x32x256, .f32⟩
  | 75 => ⟨S4x32x256x32x256, .f32⟩
  | 76 => ⟨S_, .i32⟩
  | 77 => ⟨S1x32x1x32x1, .i32⟩
  | 78 => ⟨S1x32x1x32x1, .i1⟩
  | 79 => ⟨S4x1x256x256, .f32⟩
  | 80 => ⟨S4x256x256, .f32⟩
  | 81 => ⟨S4x256x256, .f32⟩
  | 82 => ⟨S4x1x256x1x256, .f32⟩
  | 83 => ⟨S4x32x256x32x256, .i1⟩
  | 84 => ⟨S4x32x256x32x256, .f32⟩
  | 85 => ⟨S4x32x256x32x256, .f32⟩
  | 86 => ⟨S4x8192x8192, .f32⟩
  | 87 => ⟨S8x4x2x8192x8192, .f32⟩
  | 88 => ⟨S1x4x1x8192x8192, .f32⟩
  | 89 => ⟨S8x4x2x8192x8192, .f32⟩
  | 90 => ⟨S8x4x2x8192x8192, .f32⟩
  | 91 => ⟨S_, .f32⟩
  | 92 => ⟨S_, .f32⟩
  | 93 => ⟨S8x4x2x8192x8192, .f32⟩
  | 94 => ⟨S8x4x2x8192x8192, .f32⟩
  | 95 => ⟨S_, .f32⟩
  | 96 => ⟨S8x4x2x8192, .f32⟩
  | 97 => ⟨S_, .f32⟩
  | 98 => ⟨S8x4x2x8192, .f32⟩
  | 99 => ⟨S8x4x2x8192, .f32⟩
  | 100 => ⟨S8x4x2x8192x1, .f32⟩
  | 101 => ⟨S8x4x2x8192x8192, .f32⟩
  | 102 => ⟨S8x4x2x8192x8192, .f32⟩
  | 103 => ⟨S8x4x2x8192x8192, .f32⟩
  | 104 => ⟨S_, .f32⟩
  | 105 => ⟨S8x4x2x8192, .f32⟩
  | 106 => ⟨S8x4x2x8192x1, .f32⟩
  | 107 => ⟨S8x4x2x8192x8192, .f32⟩
  | 108 => ⟨S8x4x2x8192x8192, .f32⟩
  | 109 => ⟨S64, .f32⟩
  | 110 => ⟨S_, .f32⟩
  | 111 => ⟨S_, .f32⟩
  | 112 => ⟨S_, .f32⟩
  | 113 => ⟨S64, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S8x4x1x8192x8192, .f32⟩
  | 121 => ⟨S8x4x8192x8192, .f32⟩
  | 122 => ⟨S8x4x1x8192x8192, .f32⟩
  | 123 => ⟨S8x4x8192x8192, .f32⟩
  | 124 => ⟨S8x4x8192x8192, .f32⟩
  | 125 => ⟨S8x4x8192x8192, .f32⟩
  | 126 => ⟨S8x4x8192x8192, .f32⟩
  | 127 => ⟨S8x4x128x8192, .f32⟩
  | _ => ⟨S8x4x128x8192, .bf16⟩

abbrev hbmTy0_1 (i : Nat) : BufTy := match i % 128 with
  | 0 => ⟨S8x8192x4x128, .f32⟩
  | 1 => ⟨S8x8192x4x128, .f32⟩
  | 2 => ⟨S_, .f32⟩
  | 3 => ⟨S8x8192x4, .f32⟩
  | 4 => ⟨S8x8192x4x1, .f32⟩
  | 5 => ⟨S_, .f32⟩
  | 6 => ⟨S8x8192x4x1, .f32⟩
  | 7 => ⟨S8x8192x4x1, .f32⟩
  | 8 => ⟨S_, .f32⟩
  | 9 => ⟨S8x8192x4x1, .f32⟩
  | 10 => ⟨S8x8192x4x1, .f32⟩
  | 11 => ⟨S8x8192x4x1, .f32⟩
  | 12 => ⟨S8x8192x4x128, .f32⟩
  | 13 => ⟨S8x8192x4x128, .f32⟩
  | 14 => ⟨S1x1x1x128, .f32⟩
  | 15 => ⟨S8x8192x4x128, .f32⟩
  | 16 => ⟨S8x8192x4x128, .f32⟩
  | 17 => ⟨S_, .f32⟩
  | 18 => ⟨S8x8192x4x128, .f32⟩
  | 19 => ⟨S8x8192x4x128, .f32⟩
  | 20 => ⟨S8x8192x512, .f32⟩
  | 21 => ⟨S8x8192x512, .f32⟩
  | 22 => ⟨S8x8192x512, .f32⟩
  | 23 => ⟨S8x8192x512, .bf16⟩
  | _ => ⟨S8x4x128x8192, .bf16⟩

abbrev hbmTy (i : Nat) : BufTy := match i / 128 with
  | 0 => hbmTy0_0 i
  | 1 => hbmTy0_1 i
  | _ => ⟨S8x4x128x8192, .bf16⟩

abbrev bufTy : (tb : Table) → Fin (tcTables nBuf tb) → BufTy
  | .hbm, ⟨i, _⟩ => hbmTy i
  | _, _ => ⟨S8x4x128x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_c_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v12 : Ref sig .tc := ⟨.hbm, 29, rfl⟩
abbrev main_c_1 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst : Ref sig .tc := ⟨.hbm, 34, rfl⟩
abbrev main_v16 : Ref sig .tc := ⟨.hbm, 35, rfl⟩
abbrev main_c_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call1_v0 : Ref sig .tc := ⟨.hbm, 43, rfl⟩
abbrev main_call1_v1 : Ref sig .tc := ⟨.hbm, 44, rfl⟩
abbrev main_v23 : Ref sig .tc := ⟨.hbm, 45, rfl⟩
abbrev main_c_3 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call2_v0 : Ref sig .tc := ⟨.hbm, 53, rfl⟩
abbrev main_call2_v1 : Ref sig .tc := ⟨.hbm, 54, rfl⟩
abbrev main_v30 : Ref sig .tc := ⟨.hbm, 55, rfl⟩
abbrev main_c_4 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_call3_v0 : Ref sig .tc := ⟨.hbm, 63, rfl⟩
abbrev main_call3_v1 : Ref sig .tc := ⟨.hbm, 64, rfl⟩
abbrev main_v37 : Ref sig .tc := ⟨.hbm, 65, rfl⟩
abbrev main_c_5 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_call4_v0 : Ref sig .tc := ⟨.hbm, 73, rfl⟩
abbrev main_call4_v1 : Ref sig .tc := ⟨.hbm, 74, rfl⟩
abbrev main_v44 : Ref sig .tc := ⟨.hbm, 75, rfl⟩
abbrev main_c_6 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_call5_v0 : Ref sig .tc := ⟨.hbm, 83, rfl⟩
abbrev main_call5_v1 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_7 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_8 : Ref sig .tc := ⟨.hbm, 95, rfl⟩
abbrev main_v60 : Ref sig .tc := ⟨.hbm, 96, rfl⟩
abbrev main_cst_9 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_10 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_cst_11 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_12 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_cst_13 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_14 : Ref sig .tc := ⟨.hbm, 130, rfl⟩
abbrev main_v89 : Ref sig .tc := ⟨.hbm, 131, rfl⟩
abbrev main_v90 : Ref sig .tc := ⟨.hbm, 132, rfl⟩
abbrev main_cst_15 : Ref sig .tc := ⟨.hbm, 133, rfl⟩
abbrev main_v91 : Ref sig .tc := ⟨.hbm, 134, rfl⟩
abbrev main_v92 : Ref sig .tc := ⟨.hbm, 135, rfl⟩
abbrev main_cst_16 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_cst_17 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩

abbrev nD : Nat := 1
abbrev τ : Topo := Topo.v7x

variable {F : FTy → Type} [FloatOps F]
-- ==== Proof.K.Off.lean ====
module

public import proofs.«01_k».proof.Proof.Gen.Kernel.Frame
public import proofs.«01_k».proof.Proof.Gen.Kernel.Skeleton
public import proofs.«01_k».proof.Proof.Gen.Kernel.Loops
public import Idealize.ShloMosaic.Lib.Tactic

@[expose] public section

noncomputable section

namespace Cert.Proof.Kernel

open Cert.Kernel Cert.Kernel.Gen
open Idealize.ShloMosaic Idealize.ShloMosaic.TcCoe Idealize.ShloMosaic.Tactic

/-- The loop runs one trip per query tile. -/
theorem trips_eq : k0_t1_loop.trips = 64 := by decide

/-- The tile whose rows trip `k` writes: the one before it. -/
theorem off2_eq (k : Fin k0_t1_loop.trips) : k0_off2 k = ![0, 128 * (k.val - 1), 0] := by
  revert k; decide +kernel

/-- The same, as the executor reads it. -/
instance closed_off2 (k : Fin k0_t1_loop.trips) : ClosedOff (k0_off2 k) := ⟨![0, 128 * (k.val - 1), 0], off2_eq k⟩

end Cert.Proof.Kernel

end
-- ==== Proof.K.Vals.lean ====
module

public import proofs.«01_k».proof.Proof.K.Body

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg2 : Memref sig .tc .vmem S1x1x64x32768 .bf16) (harg2 : arg2.IsWhole)
  (arg3 : Memref sig .tc .vmem S1x1x8192x64 .bf16) (harg3 : arg3.IsWhole)
  (arg4 : Memref sig .tc .vmem S1x1x80x8192 .bf16) (harg4 : arg4.IsWhole)
  (arg5 : Memref sig .tc .vmem S1x8192x256 .bf16) (harg5 : arg5.IsWhole)
  (arg6 : Memref sig .tc .vmem S1x8192x256 .bf16) (harg6 : arg6.IsWhole)
  (arg7 : Memref sig .tc .vmem S1x1x512 .f32) (harg7 : arg7.IsWhole)
  (arg8 : Memref sig .tc .vmem S1x512 .f32) (harg8 : arg8.IsWhole)
  (arg9 : Memref sig .tc .vmem S80x512 .f32) (harg9 : arg9.IsWhole)
  (arg10 : Memref sig .tc .vmem S80x512 .f32) (harg10 : arg10.IsWhole)
  (arg11 : Memref sig .tc .vmem S512x512 .f32) (harg11 : arg11.IsWhole)
  (c0_i32 c0_i32_22 : BitVec 32)

/-- What the load of the whole third scratch buffer reads. -/
def g10 (f10 : Bf (F := F) c arg10) : Vec F S80x512 .f32 := arg10.view.readAt (Elt F) (Rect.unit (s := S80x512) ![0, 0] S80x512.size inb_S80x512_S80x512_0_0).toLoadRect f10

variable (k : Fin k0_t1_loop.trips) (f2 : Bf (F := F) c arg2) (f3 : Bf (F := F) c arg3) (f4 : Bf (F := F) c arg4) (f5 : Bf (F := F) c arg5)
    (f6 : Bf (F := F) c arg6) (f7 : Bf (F := F) c arg7) (f8 : Bf (F := F) c arg8) (f9 : Bf (F := F) c arg9) (f10 : Bf (F := F) c arg10) (f11 : Bf (F := F) c arg11)

theorem e6 : (trip c i arg2 harg2 arg3 harg3 arg4 harg4 arg5 harg5 arg6 harg6 arg7 harg7 arg8 harg8 arg9 harg9 arg10 harg10 arg11 harg11 c0_i32 c0_i32_22 k f2 f3 f4 f5 f6 f7 f8 f9 f10 f11).1.1 = arg6.view.writes (Elt F) f6 (trip.sl.H6_1 c arg5 arg10 k f5 f10) := by dsimp only [trip]
theorem e7 : (trip c i arg2 harg2 arg3 harg3 arg4 harg4 arg5 harg5 arg6 harg6 arg7 harg7 arg8 harg8 arg9 harg9 arg10 harg10 arg11 harg11 c0_i32 c0_i32_22 k f2 f3 f4 f5 f6 f7 f8 f9 f10 f11).1.2.1 = arg7.view.writes (Elt F) f7 (⟨Rect.unit (s := S1x1x512) ![0, 0, 0] S1x1x512.size inb_S1x1x512_S1x1x512_0_0_0,
    k0_pay127 (trip.sl.r_56 c arg2 arg3 arg8 arg11 k f2 f3 f8 f11) (trip.sl.v808 c arg2 arg3 arg7 arg8 arg11 k f2 f3 f7 f8 f11)⟩ :: trip.sl.H7_15 c arg2 arg3 arg7 arg8 arg11 k f2 f3 f7 f8 f11) := by dsimp only [trip]
theorem e8 : (trip c i arg2 harg2 arg3 harg3 arg4 harg4 arg5 harg5 arg6 harg6 arg7 harg7 arg8 harg8 arg9 harg9 arg10 harg10 arg11 harg11 c0_i32 c0_i32_22 k f2 f3 f4 f5 f6 f7 f8 f9 f10 f11).1.2.2.1 = arg8.view.writes (Elt F) f8 (⟨Rect.unit (s := S1x512) ![0, 0] S1x512.size inb_S1x512_S1x512_0_0, k0_pay3 (trip.sl.r_54 c arg2 arg3 k f2 f3)⟩ ::
    ⟨Rect.unit (s := S1x512) ![0, 0] S1x512.size inb_S1x512_S1x512_0_0, k0_pay128 (trip.sl.v781 c arg2 arg3 arg8 arg11 k f2 f3 f8 f11) (trip.sl.r_56 c arg2 arg3 arg8 arg11 k f2 f3 f8 f11)⟩ :: trip.sl.H8_15 c arg2 arg3 arg8 arg11 k f2 f3 f8 f11) := by dsimp only [trip]
theorem e9 : (trip c i arg2 harg2 arg3 harg3 arg4 harg4 arg5 harg5 arg6 harg6 arg7 harg7 arg8 harg8 arg9 harg9 arg10 harg10 arg11 harg11 c0_i32 c0_i32_22 k f2 f3 f4 f5 f6 f7 f8 f9 f10 f11).1.2.2.2.1 = arg9.view.writes (Elt F) f9 (⟨Rect.unit (s := S80x512) ![0, 0] S80x512.size inb_S80x512_S80x512_0_0, k0_pay2⟩ :: trip.sl.H9_16 c arg2 arg3 arg4 arg8 arg9 arg11 k f2 f3 f4 f8 f9 f11) := by dsimp only [trip]
theorem e10 : (trip c i arg2 harg2 arg3 harg3 arg4 harg4 arg5 harg5 arg6 harg6 arg7 harg7 arg8 harg8 arg9 harg9 arg10 harg10 arg11 harg11 c0_i32 c0_i32_22 k f2 f3 f4 f5 f6 f7 f8 f9 f10 f11).1.2.2.2.2.1 = arg10.view.writes (Elt F) f10 [⟨Rect.unit (s := S80x512) ![0, 0] S80x512.size inb_S80x512_S80x512_0_0, k0_pay1 (trip.sl.v822 c arg2 arg3 arg4 arg8 arg9 arg11 k f2 f3 f4 f8 f9 f11)⟩] := by dsimp only [trip]
theorem e11 : (trip c i arg2 harg2 arg3 harg3 arg4 harg4 arg5 harg5 arg6 harg6 arg7 harg7 arg8 harg8 arg9 harg9 arg10 harg10 arg11 harg11 c0_i32 c0_i32_22 k f2 f3 f4 f5 f6 f7 f8 f9 f10 f11).1.2.2.2.2.2 = arg11.view.writes (Elt F) f11 [⟨Rect.unit (s := S512x512) ![0, 0] S512x512.size inb_S512x512_S512x512_0_0, k0_pay129 (trip.sl.r_54 c arg2 arg3 k f2 f3)⟩] := by dsimp only [trip]

theorem w6 : (trip c i arg2 harg2 arg3 harg3 arg4 harg4 arg5 harg5 arg6 harg6 arg7 harg7 arg8 harg8 arg9 harg9 arg10 harg10 arg11 harg11 c0_i32 c0_i32_22 k f2 f3 f4 f5 f6 f7 f8 f9 f10 f11).1.1 = arg6.view.writes (Elt F) f6 [⟨Rect.unit (s := S1x8192x256) (k0_off2 k) S1x128x256.size (facts₀.k0_off2_inb k),
    k0_pay4 (g10 c arg10 f10) (View.ld (arg5.view.read (Elt F) f5) (Rect.unit (s := S1x8192x256) (k0_off2 k) S1x128x256.size (facts₀.k0_off2_inb k)))⟩] := by
  rw [e6]; rfl

theorem w7 : arg7.view.read (Elt F) (trip c i arg2 harg2 arg3 harg3 arg4 harg4 arg5 harg5 arg6 harg6 arg7 harg7 arg8 harg8 arg9 harg9 arg10 harg10 arg11 harg11 c0_i32 c0_i32_22 k f2 f3 f4 f5 f6 f7 f8 f9 f10 f11).1.2.1 = jS (S₀ c arg2 arg3 arg11 k f2 f3 f11) (g8 c arg8 f8) (g7 c arg7 f7) 16 := by
  rw [e7]; refine (View.read_writes_full _ _ _ _ _).trans ?_
  rw [show jS (S₀ c arg2 arg3 arg11 k f2 f3 f11) (g8 c arg8 f8) (g7 c arg7 f7) 16 = k0_pay11 (k0_pay7 ((S₀ c arg2 arg3 arg11 k f2 f3 f11) 15) (mS (S₀ c arg2 arg3 arg11 k f2 f3 f11) (g8 c arg8 f8) 15)) (jS (S₀ c arg2 arg3 arg11 k f2 f3 f11) (g8 c arg8 f8) (g7 c arg7 f7) 15) from rfl,
    ← hm15 c arg2 arg3 arg8 arg11 k f2 f3 f8 f11, ← hj15 c arg2 arg3 arg7 arg8 arg11 k f2 f3 f7 f8 f11]
  rfl

theorem w8 : arg8.view.read (Elt F) (trip c i arg2 harg2 arg3 harg3 arg4 harg4 arg5 harg5 arg6 harg6 arg7 harg7 arg8 harg8 arg9 harg9 arg10 harg10 arg11 harg11 c0_i32 c0_i32_22 k f2 f3 f4 f5 f6 f7 f8 f9 f10 f11).1.2.2.1 = k0_pay3 (sc (View.ld (arg2.view.read (Elt F) f2) (Rect.unit (s := S1x1x64x32768) (k0_off3 k) S1x1x64x512.size (facts₀.k0_off3_inb k))) (arg3.view.read (Elt F) f3) 0) := by
  rw [e8]; refine (View.read_writes_full _ _ _ _ _).trans ?_; rfl

theorem w9 : arg9.view.read (Elt F) (trip c i arg2 harg2 arg3 harg3 arg4 harg4 arg5 harg5 arg6 harg6 arg7 harg7 arg8 harg8 arg9 harg9 arg10 harg10 arg11 harg11 c0_i32 c0_i32_22 k f2 f3 f4 f5 f6 f7 f8 f9 f10 f11).1.2.2.2.1 = k0_pay133 := by
  rw [e9]; refine (View.read_writes_full _ _ _ _ _).trans ?_; rfl

theorem w10 : arg10.view.read (Elt F) (trip c i arg2 harg2 arg3 harg3 arg4 harg4 arg5 harg5 arg6 harg6 arg7 harg7 arg8 harg8 arg9 harg9 arg10 harg10 arg11 harg11 c0_i32 c0_i32_22 k f2 f3 f4 f5 f6 f7 f8 f9 f10 f11).1.2.2.2.2.1 = k0_pay1 (aS (S₀ c arg2 arg3 arg11 k f2 f3 f11) (g8 c arg8 f8) (arg4.view.read (Elt F) f4) (g9 c arg9 f9) 16) := by
  rw [e10]; refine (View.read_writes_full _ _ _ _ _).trans ?_
  rw [← ha16 c arg2 arg3 arg4 arg8 arg9 arg11 k f2 f3 f4 f8 f9 f11]

theorem w11 : arg11.view.read (Elt F) (trip c i arg2 harg2 arg3 harg3 arg4 harg4 arg5 harg5 arg6 harg6 arg7 harg7 arg8 harg8 arg9 harg9 arg10 harg10 arg11 harg11 c0_i32 c0_i32_22 k f2 f3 f4 f5 f6 f7 f8 f9 f10 f11).1.2.2.2.2.2 = k0_pay129 (sc (View.ld (arg2.view.read (Elt F) f2) (Rect.unit (s := S1x1x64x32768) (k0_off3 k) S1x1x64x512.size (facts₀.k0_off3_inb k))) (arg3.view.read (Elt F) f3) 0) := by
  rw [e11]; refine (View.read_writes_full _ _ _ _ _).trans ?_; rfl

end Cert.Proof.Kernel

end
-- ==== Proof.KI.Off.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic

/-- The loop runs one trip per query tile. -/
theorem trips_eq : k0_t1_loop.trips = 64 := by decide

/-- The tile whose rows trip `k` writes: the one before it. -/
theorem off2_eq (k : Fin k0_t1_loop.trips) : k0_off2 k = ![0, 128 * (k.val - 1), 0] := by
  revert k; decide +kernel

/-- The same, as the executor reads it. -/
instance closed_off2 (k : Fin k0_t1_loop.trips) : ClosedOff (k0_off2 k) := ⟨![0, 128 * (k.val - 1), 0], off2_eq k⟩

end Cert.Proof.KernelIdeal

end
-- ==== Proof.KI.State.lean ====
module

public import proofs.«01_k».proof.Proof.KI.Off
public import Idealize.ShloMosaic.Lib.VecWindow

@[expose] public section

noncomputable section

namespace Cert.Proof.KernelIdeal

open Cert.KernelIdeal Cert.KernelIdeal.Gen
open Idealize.ShloMosaic Idealize.ShloMosaic.TcCoe

variable {F : FTy → Type} [FloatOps F] [Named F]

/-- The query columns trip `k` loads for its own scores, and those it loads for the next tile's. -/
theorem off1_eq (k : Fin k0_t1_loop.trips) : k0_off1 k = ![0, 0, 0, 512 * k.val] := by
  revert k; decide +kernel
theorem off3_eq (k : Fin k0_t1_loop.trips) : k0_off3 k = ![0, 0, 0, 512 * min (k.val + 1) 63] := by
  revert k; decide +kernel

/-- The columns of query tile `t`, the rows of key chunk `d` and the columns of value chunk `d`. -/
def qt (x2 : Vec F S1x1x64x32768 .bf16) (t : ℕ) : Vec F S1x1x64x512 .bf16 :=
  View.ld x2 (Rect.unit (s := S1x1x64x32768) ![0, 0, 0, 512 * (t % 64)] S1x1x64x512.size
    (fun a => by fin_cases a <;> simp [Shape.size] <;> omega))
def kc (x3 : Vec F S1x1x8192x64 .bf16) (d : ℕ) : Vec F S1x1x512x64 .bf16 :=
  View.ld x3 (Rect.unit (s := S1x1x8192x64) ![0, 0, 512 * (d % 16), 0] S1x1x512x64.size
    (fun a => by fin_cases a <;> simp [Shape.size] <;> omega))
def vc (x4 : Vec F S1x1x80x8192 .bf16) (d : ℕ) : Vec F S1x1x80x512 .bf16 :=
  View.ld x4 (Rect.unit (s := S1x1x80x8192) ![0, 0, 0, 512 * (d % 16)] S1x1x80x512.size
    (fun a => by fin_cases a <;> simp [Shape.size] <;> omega))
def sgt (x5 : Vec F S1x8192x256 .bf16) (t : ℕ) : Vec F S1x128x256 .bf16 :=
  View.ld x5 (Rect.unit (s := S1x8192x256) ![0, 128 * (t % 64), 0] S1x128x256.size
    (fun a => by fin_cases a <;> simp [Shape.size] <;> omega))

/-- The scores of query columns `q` against key chunk `d`. -/
def sc (q : Vec F S1x1x64x512 .bf16) (x3 : Vec F S1x1x8192x64 .bf16) (d : ℕ) : FVec F S512x512 .f32 := k0_pay5 q (kc x3 d)

/-- The offset, the accumulator and the largest rise after `d` chunks of scores `S`. -/
def mS (S : ℕ → FVec F S512x512 .f32) (m0 : Vec F S1x512 .f32) : ℕ → Vec F S1x512 .f32
  | 0 => m0
  | d + 1 => k0_pay12 (mS S m0 d) (k0_pay8 (S d) (mS S m0 d))
def aS (S : ℕ → FVec F S512x512 .f32) (m0 : Vec F S1x512 .f32) (x4 : Vec F S1x1x80x8192 .bf16) (a0 : Vec F S80x512 .f32) :
    ℕ → Vec F S80x512 .f32
  | 0 => a0
  | d + 1 => k0_pay10 (k0_pay9 (S d) (mS S m0 d) (aS S m0 x4 a0 d) (vc x4 d))
def jS (S : ℕ → FVec F S512x512 .f32) (m0 : Vec F S1x512 .f32) (j0 : Vec F S1x1x512 .f32) : ℕ → Vec F S1x1x512 .f32
  | 0 => j0
  | d + 1 => k0_pay11 (k0_pay7 (S d) (mS S m0 d)) (jS S m0 j0 d)

/-- The scores of tile `t`, chunk by chunk, as trip `t` meets them; its accumulator at its end; the largest rise after `t` tiles. -/
def tS (x2 : Vec F S1x1x64x32768 .bf16) (x3 : Vec F S1x1x8192x64 .bf16) (t : ℕ) : ℕ → FVec F S512x512 .f32 := sc (qt x2 t) x3
def tM (x2 : Vec F S1x1x64x32768 .bf16) (x3 : Vec F S1x1x8192x64 .bf16) (t : ℕ) : Vec F S1x512 .f32 := k0_pay3 (tS x2 x3 t 0)
def tA (x2 : Vec F S1x1x64x32768 .bf16) (x3 : Vec F S1x1x8192x64 .bf16) (x4 : Vec F S1x1x80x8192 .bf16) (t : ℕ) : Vec F S80x512 .f32 :=
  aS (tS x2 x3 t) (tM x2 x3 t) x4 k0_pay133 16
def tJ (x2 : Vec F S1x1x64x32768 .bf16) (x3 : Vec F S1x1x8192x64 .bf16) : ℕ → Vec F S1x1x512 .f32
  | 0 => k0_pay135
  | t + 1 => jS (tS x2 x3 t) (tM x2 x3 t) (tJ x2 x3 t) 16

/-- The rows of tile `t` of the output block. -/
def tO (x2 : Vec F S1x1x64x32768 .bf16) (x3 : Vec F S1x1x8192x64 .bf16) (x4 : Vec F S1x1x80x8192 .bf16) (x5 : Vec F S1x8192x256 .bf16) (t : ℕ) :
    FVec F S1x128x256 .bf16 := k0_pay4 (tA x2 x3 x4 t) (sgt x5 t)

end Cert.Proof.KernelIdeal

end
-- ==== Proof.KI.Trip.lean ====
module

public import proofs.«01_k».proof.Proof.KI.State

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords)
  (arg2 : Memref sig .tc .vmem S1x1x64x32768 .bf16) (harg2 : arg2.IsWhole)
  (arg3 : Memref sig .tc .vmem S1x1x8192x64 .bf16) (harg3 : arg3.IsWhole)
  (arg4 : Memref sig .tc .vmem S1x1x80x8192 .bf16) (harg4 : arg4.IsWhole)
  (arg5 : Memref sig .tc .vmem S1x8192x256 .bf16) (harg5 : arg5.IsWhole)
  (arg6 : Memref sig .tc .vmem S1x8192x256 .bf16) (harg6 : arg6.IsWhole)
  (arg7 : Memref sig .tc .vmem S1x1x512 .f32) (harg7 : arg7.IsWhole)
  (arg8 : Memref sig .tc .vmem S1x512 .f32) (harg8 : arg8.IsWhole)
  (arg9 : Memref sig .tc .vmem S80x512 .f32) (harg9 : arg9.IsWhole)
  (arg10 : Memref sig .tc .vmem S80x512 .f32) (harg10 : arg10.IsWhole)
  (arg11 : Memref sig .tc .vmem S512x512 .f32) (harg11 : arg11.IsWhole)
  (c0_i32 c0_i32_22 : BitVec 32)

/-- A memref's buffer on core `c`, and it held whole at `f`. -/
abbrev Bf {sp : Space} {S : Shape} {e : EltTy} (M : Memref sig .tc sp S e) : Type := Buf (Elt F) (M.view.loc (c : Thread nD τ))
abbrev pt {sp : Space} {S : Shape} {e : EltTy} (M : Memref sig .tc sp S e) (f : Bf (F := F) c M) : sProp 𝕄 :=
  M.view.loc (c : Thread nD τ) ↦{fullShare} f

/-- One trip, from any contents: what it leaves in the output, the jump and the four scratch buffers, with its run. -/
def trip (k : Fin k0_t1_loop.trips) (f2 : Bf (F := F) c arg2) (f3 : Bf (F := F) c arg3) (f4 : Bf (F := F) c arg4) (f5 : Bf (F := F) c arg5)
    (f6 : Bf (F := F) c arg6) (f7 : Bf (F := F) c arg7) (f8 : Bf (F := F) c arg8) (f9 : Bf (F := F) c arg9) (f10 : Bf (F := F) c arg10) (f11 : Bf (F := F) c arg11) :
    { W : Bf (F := F) c arg6 × Bf (F := F) c arg7 × Bf (F := F) c arg8 × Bf (F := F) c arg9 × Bf (F := F) c arg10 × Bf (F := F) c arg11 //
      iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11)
      ⊢ wp frame (wpE (defs₀ (F := F)) Variants.none (c : Thread nD τ) none) Set.univ
        (k0_t1_body (F := F) i arg2 harg2 arg3 harg3 arg4 harg4 arg5 harg5 arg6 harg6 arg7 harg7 arg8 harg8 arg9 harg9 arg10 harg10 arg11 harg11 c0_i32 c0_i32_22 k ())
        (fun _ => iprop(pt c arg2 f2 ∗ pt c arg3 f3 ∗ pt c arg4 f4 ∗ pt c arg5 f5 ∗ pt c arg6 W.1 ∗ pt c arg7 W.2.1 ∗ pt c arg8 W.2.2.1 ∗ pt c arg9 W.2.2.2.1 ∗ pt c arg10 W.2.2.2.2.1 ∗ pt c arg11 W.2.2.2.2.2)) } := by
  refine ⟨⟨?_, ?_, ?_, ?_, ?_, ?_⟩, ?run⟩
  case run =>
    unfold k0_t1_body
    iintro ⟨H2, H3, H4, H5, H6, H7, H8, H9, H10, H11⟩
    sl_exec_parts
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end Cert.Proof.KernelIdeal

end
-- ==== Proof.KI.Steps.lean ====
module

public import proofs.«01_k».proof.Proof.KI.Trip

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords)
  (arg2 : Memref sig .tc .vmem S1x1x64x32768 .bf16) (harg2 : arg2.IsWhole)
  (arg3 : Memref sig .tc .vmem S1x1x8192x64 .bf16) (harg3 : arg3.IsWhole)
  (arg4 : Memref sig .tc .vmem S1x1x80x8192 .bf16) (harg4 : arg4.IsWhole)
  (arg5 : Memref sig .tc .vmem S1x8192x256 .bf16) (harg5 : arg5.IsWhole)
  (arg6 : Memref sig .tc .vmem S1x8192x256 .bf16) (harg6 : arg6.IsWhole)
  (arg7 : Memref sig .tc .vmem S1x1x512 .f32) (harg7 : arg7.IsWhole)
  (arg8 : Memref sig .tc .vmem S1x512 .f32) (harg8 : arg8.IsWhole)
  (arg9 : Memref sig .tc .vmem S80x512 .f32) (harg9 : arg9.IsWhole)
  (arg10 : Memref sig .tc .vmem S80x512 .f32) (harg10 : arg10.IsWhole)
  (arg11 : Memref sig .tc .vmem S512x512 .f32) (harg11 : arg11.IsWhole)
  (c0_i32 c0_i32_22 : BitVec 32)

/-- What the loads of the whole scratch buffers read. -/
def g7 (f7 : Bf (F := F) c arg7) : Vec F S1x1x512 .f32 := arg7.view.readAt (Elt F) (Rect.unit (s := S1x1x512) ![0, 0, 0] S1x1x512.size inb_S1x1x512_S1x1x512_0_0_0).toLoadRect f7
def g8 (f8 : Bf (F := F) c arg8) : Vec F S1x512 .f32 := arg8.view.readAt (Elt F) (Rect.unit (s := S1x512) ![0, 0] S1x512.size inb_S1x512_S1x512_0_0).toLoadRect f8
def g9 (f9 : Bf (F := F) c arg9) : Vec F S80x512 .f32 := arg9.view.readAt (Elt F) (Rect.unit (s := S80x512) ![0, 0] S80x512.size inb_S80x512_S80x512_0_0).toLoadRect f9
def g11 (f11 : Bf (F := F) c arg11) : Vec F S512x512 .f32 := arg11.view.readAt (Elt F) (Rect.unit (s := S512x512) ![0, 0] S512x512.size inb_S512x512_S512x512_0_0).toLoadRect f11

/-- The scores trip `k` meets: those it finds, then its own tile's against each later chunk. -/
def S₀ (k : Fin k0_t1_loop.trips) (f2 : Bf (F := F) c arg2) (f3 : Bf (F := F) c arg3) (f11 : Bf (F := F) c arg11) : ℕ → FVec F S512x512 .f32
  | 0 => g11 c arg11 f11
  | d + 1 => k0_pay5 (View.ld (arg2.view.read (Elt F) f2) (Rect.unit (s := S1x1x64x32768) (k0_off1 k) S1x1x64x512.size (facts₀.k0_off1_inb k))) (kc (arg3.view.read (Elt F) f3) (d + 1))

variable (k : Fin k0_t1_loop.trips) (f2 : Bf (F := F) c arg2) (f3 : Bf (F := F) c arg3) (f4 : Bf (F := F) c arg4) (f5 : Bf (F := F) c arg5)
    (f6 : Bf (F := F) c arg6) (f7 : Bf (F := F) c arg7) (f8 : Bf (F := F) c arg8) (f9 : Bf (F := F) c arg9) (f10 : Bf (F := F) c arg10) (f11 : Bf (F := F) c arg11)

theorem hm1 : trip.sl.v135 c arg8 arg11 f8 f11 = mS (S₀ c arg2 arg3 arg11 k f2 f3 f11) (g8 c arg8 f8) 1 := by
  unfold trip.sl.v135; refine (View.readCov_full _ _ _ _ _).trans ?_
  rfl
theorem hj1 : trip.sl.v162 c arg7 arg8 arg11 f7 f8 f11 = jS (S₀ c arg2 arg3 arg11 k f2 f3 f11) (g8 c arg8 f8) (g7 c arg7 f7) 1 := by
  unfold trip.sl.v162; refine (View.readCov_full _ _ _ _ _).trans ?_
  rfl
theorem ha1 : trip.sl.v148 c arg4 arg8 arg9 arg11 f4 f8 f9 f11 = aS (S₀ c arg2 arg3 arg11 k f2 f3 f11) (g8 c arg8 f8) (arg4.view.read (Elt F) f4) (g9 c arg9 f9) 1 := by
  unfold trip.sl.v148; refine (View.readCov_full _ _ _ _ _).trans ?_
  rfl
theorem hm2 : trip.sl.v181 c arg2 arg3 arg8 arg11 k f2 f3 f8 f11 = mS (S₀ c arg2 arg3 arg11 k f2 f3 f11) (g8 c arg8 f8) 2 := by
  unfold trip.sl.v181; refine (View.readCov_full _ _ _ _ _).trans ?_
  rw [show mS (S₀ c arg2 arg3 arg11 k f2 f3 f11) (g8 c arg8 f8) 2 = k0_pay12 (mS (S₀ c arg2 arg3 arg11 k f2 f3 f11) (g8 c arg8 f8) 1) (k0_pay8 ((S₀ c arg2 arg3 arg11 k f2 f3 f11) 1) (mS (S₀ c arg2 arg3 arg11 k f2 f3 f11) (g8 c arg8 f8) 1)) from rfl, ← hm1 c arg2 arg3 arg8 arg11 k f2 f3 f8 f11]; rfl
theorem hj2 : trip.sl.v208 c arg2 arg3 arg7 arg8 arg11 k f2 f3 f7 f8 f11 = jS (S₀ c arg2 arg3 arg11 k f2 f3 f11) (g8 c arg8 f8) (g7 c arg7 f7) 2 := by
  unfold trip.sl.v208; refine (View.readCov_full _ _ _ _ _).trans ?_
  rw [show jS (S₀ c arg2 arg3 arg11 k f2 f3 f11) (g8 c arg8 f8) (g7 c arg7 f7) 2 = k0_pay11 (k0_pay7 ((S₀ c arg2 arg3 arg11 k f2 f3 f11) 1) (mS (S₀ c arg2 arg3 arg11 k f2 f3 f11) (g8 c arg8 f8) 1)) (jS (S₀ c arg2 arg3 arg11 k f2 f3 f11) (g8 c arg8 f8) (g7 c arg7 f7) 1) from rfl, ← hm1 c arg2 arg3 arg8 arg11 k f2 f3 f8 f11, ← hj1 c arg2 arg3 arg7 arg8 arg11 k f2 f3 f7 f8 f11]; rfl
theorem ha2 : trip.sl.v194 c arg2 arg3 arg4 arg8 arg9 arg11 k f2 f3 f4 f8 f9 f11 = aS (S₀ c arg2 arg3 arg11 k f2 f3 f11) (g8 c arg8 f8) (arg4.view.read (Elt F) f4) (g9 c arg9 f9) 2 := by
  unfold trip.sl.v194; refine (View.readCov_full _ _ _ _ _).trans ?_
  rw [show aS (S₀ c arg2 arg3 arg11 k f2 f3 f11) (g8 c arg8 f8) (arg4.view.read (Elt F) f4) (g9 c arg9 f9) 2 = k0_pay10 (k0_pay9 ((S₀ c arg2 arg3 arg11 k f2 f3 f11) 1) (mS (S₀ c arg2 arg3 arg11 k f2 f3 f11) (g8 c arg8 f8) 1) (aS (S₀ c arg2 arg3 arg11 k f2 f3 f11) (g8 c arg8 f8) (arg4.view.read (Elt F) f4) (g9 c arg9 f9) 1) (vc (arg4.view.read (Elt F) f4) 1)) from rfl, ← hm1 c arg2 arg3 arg8 arg11 k f2 f3 f8 f11, ← ha1 c arg2 arg3 arg4 arg8 arg9 arg11 k f2 f3 f4 f8 f9 f11]; rfl
theorem hm3 : trip.sl.v227 c arg2 arg3 arg8 arg11 k f2 f3 f8 f11 = mS (S₀ c arg2 arg3 arg11 k f2 f3 f11) (g8 c arg8 f8) 3 := by
  unfold trip.sl.v227; refine (View.readCov_full _ _ _ _ _).trans ?_
  rw [show mS (S₀ c arg2 arg3 arg11 k f2 f3 f11) (g8 c arg8 f8) 3 = k0_pay12 (mS (S₀ c arg2 arg3 arg11 k f2 f3 f11) (g8 c arg8 f8) 2) (k0_pay8 ((S₀ c arg2 arg3 arg11 k f2 f3 f11) 2) (mS (S₀ c arg2 arg3 arg11 k f2 f3 f11) (g8 c arg8 f8) 2)) from rfl, ← hm2 c arg2 arg3 arg8 arg11 k f2 f3 f8 f11]; rfl
theorem hj3 : trip.sl.v254 c arg2 arg3 arg7 arg8 arg11 k f2 f3 f7 f8 f11 = jS (S₀ c arg2 arg3 arg11 k f2 f3 f11) (g8 c arg8 f8) (g7 c arg7 f7) 3 := by
  unfold trip.sl.v254; refine (View.readCov_full _ _ _ _ _).trans ?_
  rw [show jS (S₀ c arg2 arg3 arg11 k f2 f3 f11) (g8 c arg8 f8) (g7 c arg7 f7) 3 = k0_pay11 (k0_pay7 ((S₀ c arg2 arg3 arg11 k f2 f3 f11) 2) (mS (S₀ c arg2 arg3 arg11 k f2 f3 f11) (g8 c arg8 f8) 2)) (jS (S₀ c arg2 arg3 arg11 k f2 f3 f11) (g8 c arg8 f8) (g7 c arg7 f7) 2) from rfl, ← hm2 c arg2 arg3 arg8 arg11 k f2 f3 f8 f11, ← hj2 c arg2 arg3 arg7 arg8 arg11 k f2 f3 f7 f8 f11]; rfl
theorem ha3 : trip.sl.v240 c arg2 arg3 arg4 arg8 arg9 arg11 k f2 f3 f4 f8 f9 f11 = aS (S₀ c arg2 arg3 arg11 k f2 f3 f11) (g8 c arg8 f8) (arg4.view.read (Elt F) f4) (g9 c arg9 f9) 3 := by
  unfold trip.sl.v240; refine (View.readCov_full _ _ _ _ _).trans ?_
  rw [show aS (S₀ c arg2 arg3 arg11 k f2 f3 f11) (g8 c arg8 f8) (arg4.view.read (Elt F) f4) (g9 c arg9 f9) 3 = k0_pay10 (k0_pay9 ((S₀ c arg2 arg3 arg11 k f2 f3 f11) 2) (mS (S₀ c arg2 arg3 arg11 k f2 f3 f11) (g8 c arg8 f8) 2) (aS (S₀ c arg2 arg3 arg11 k f2 f3 f11) (g8 c arg8 f8) (arg4.view.read (Elt F) f4) (g9 c arg9 f9) 2) (vc (arg4.view.read (Elt F) f4) 2)) from rfl, ← hm2 c arg2 arg3 arg8 arg11 k f2 f3 f8 f11, ← ha2 c arg2 arg3 arg4 arg8 arg9 arg11 k f2 f3 f4 f8 f9 f11]; rfl
theorem hm4 : trip.sl.v273 c arg2 arg3 arg8 arg11 k f2 f3 f8 f11 = mS (S₀ c arg2 arg3 arg11 k f2 f3 f11) (g8 c arg8 f8) 4 := by
  unfold trip.sl.v273; refine (View.readCov_full _ _ _ _ _).trans ?_
  rw [show mS (S₀ c arg2 arg3 arg11 k f2 f3 f11) (g8 c arg8 f8) 4 = k0_pay12 (mS (S₀ c arg2 arg3 arg11 k f2 f3 f11) (g8 c arg8 f8) 3) (k0_pay8 ((S₀ c arg2 arg3 arg11 k f2 f3 f11) 3) (mS (S₀ c arg2 arg3 arg11 k f2 f3 f11) (g8 c arg8 f8) 3)) from rfl, ← hm3 c arg2 arg3 arg8 arg11 k f2 f3 f8 f11]; rfl
theorem hj4 : trip.sl.v300 c arg2 arg3 arg7 arg8 arg11 k f2 f3 f7 f8 f11 = jS (S₀ c arg2 arg3 arg11 k f2 f3 f11) (g8 c arg8 f8) (g7 c arg7 f7) 4 := by
  unfold trip.sl.v300; refine (View.readCov_full _ _ _ _ _).trans ?_
  rw [show jS (S₀ c arg2 arg3 arg11 k f2 f3 f11) (g8 c arg8 f8) (g7 c arg7 f7) 4 = k0_pay11 (k0_pay7 ((S₀ c arg2 arg3 arg11 k f2 f3 f11) 3) (mS (S₀ c arg2 arg3 arg11 k f2 f3 f11) (g8 c arg8 f8) 3)) (jS (S₀ c arg2 arg3 arg11 k f2 f3 f11) (g8 c arg8 f8) (g7 c arg7 f7) 3) from rfl, ← hm3 c arg2 arg3 arg8 arg11 k f2 f3 f8 f11, ← hj3 c arg2 arg3 arg7 arg8 arg11 k f2 f3 f7 f8 f11]; rfl
theorem ha4 : trip.sl.v286 c arg2 arg3 arg4 arg8 arg9 arg11 k f2 f3 f4 f8 f9 f11 = aS (S₀ c arg2 arg3 arg11 k f2 f3 f11) (g8 c arg8 f8) (arg4.view.read (Elt F) f4) (g9 c arg9 f9) 4 := by
  unfold trip.sl.v286; refine (View.readCov_full _ _ _ _ _).trans ?_
  rw [show aS (S₀ c arg2 arg3 arg11 k f2 f3 f11) (g8 c arg8 f8) (arg4.view.read (Elt F) f4) (g9 c arg9 f9) 4 = k0_pay10 (k0_pay9 ((S₀ c arg2 arg3 arg11 k f2 f3 f11) 3) (mS (S₀ c arg2 arg3 arg11 k f2 f3 f11) (g8 c arg8 f8) 3) (aS (S₀ c arg2 arg3 arg11 k f2 f3 f11) (g8 c arg8 f8) (arg4.view.read (Elt F) f4) (g9 c arg9 f9) 3) (vc (arg4.view.read (Elt F) f4) 3)) from rfl, ← hm3 c arg2 arg3 arg8 arg11 k f2 f3 f8 f11, ← ha3 c arg2 arg3 arg4 arg8 arg9 arg11 k f2 f3 f4 f8 f9 f11]; rfl
theorem hm5 : trip.sl.v319 c arg2 arg3 arg8 arg11 k f2 f3 f8 f11 = mS (S₀ c arg2 arg3 arg11 k f2 f3 f11) (g8 c arg8 f8) 5 := by
  unfold trip.sl.v319; refine (View.readCov_full _ _ _ _ _).trans ?_
  rw [show mS (S₀ c arg2 arg3 arg11 k f2 f3 f11) (g8 c arg8 f8) 5 = k0_pay12 (mS (S₀ c arg2 arg3 arg11 k f2 f3 f11) (g8 c arg8 f8) 4) (k0_pay8 ((S₀ c arg2 arg3 arg11 k f2 f3 f11) 4) (mS (S₀ c arg2 arg3 arg11 k f2 f3 f11) (g8 c arg8 f8) 4)) from rfl, ← hm4 c arg2 arg3 arg8 arg11 k f2 f3 f8 f11]; rfl
theorem hj5 : trip.sl.v346 c arg2 arg3 arg7 arg8 arg11 k f2 f3 f7 f8 f11 = jS (S₀ c arg2 arg3 arg11 k f2 f3 f11) (g8 c arg8 f8) (g7 c arg7 f7) 5 := by
  unfold trip.sl.v346; refine (View.readCov_full _ _ _ _ _).trans ?_
  rw [show jS (S₀ c arg2 arg3 arg11 k f2 f3 f11) (g8 c arg8 f8) (g7 c arg7 f7) 5 = k0_pay11 (k0_pay7 ((S₀ c arg2 arg3 arg11 k f2 f3 f11) 4) (mS (S₀ c arg2 arg3 arg11 k f2 f3 f11) (g8 c arg8 f8) 4)) (jS (S₀ c arg2 arg3 arg11 k f2 f3 f11) (g8 c arg8 f8) (g7 c arg7 f7) 4) from rfl, ← hm4 c arg2 arg3 arg8 arg11 k f2 f3 f8 f11, ← hj4 c arg2 arg3 arg7 arg8 arg11 k f2 f3 f7 f8 f11]; rfl
theorem ha5 : trip.sl.v332 c arg2 arg3 arg4 arg8 arg9 arg11 k f2 f3 f4 f8 f9 f11 = aS (S₀ c arg2 arg3 arg11 k f2 f3 f11) (g8 c arg8 f8) (arg4.view.read (Elt F) f4) (g9 c arg9 f9) 5 := by
  unfold trip.sl.v332; refine (View.readCov_full _ _ _ _ _).trans ?_
  rw [show aS (S₀ c arg2 arg3 arg11 k f2 f3 f11) (g8 c arg8 f8) (arg4.view.read (Elt F) f4) (g9 c arg9 f9) 5 = k0_pay10 (k0_pay9 ((S₀ c arg2 arg3 arg11 k f2 f3 f11) 4) (mS (S₀ c arg2 arg3 arg11 k f2 f3 f11) (g8 c arg8 f8) 4) (aS (S₀ c arg2 arg3 arg11 k f2 f3 f11) (g8 c arg8 f8) (arg4.view.read (Elt F) f4) (g9 c arg9 f9) 4) (vc (arg4.view.read (Elt F) f4) 4)) from rfl, ← hm4 c arg2 arg3 arg8 arg11 k f2 f3 f8 f11, ← ha4 c arg2 arg3 arg4 arg8 arg9 arg11 k f2 f3 f4 f8 f9 f11]; rfl
theorem hm6 : trip.sl.v365 c arg2 arg3 arg8 arg11 k f2 f3 f8 f11 = mS (S₀ c arg2 arg3 arg11 k f2 f3 f11) (g8 c arg8 f8) 6 := by
  unfold trip.sl.v365; refine (View.readCov_full _ _ _ _ _).trans ?_
  rw [show mS (S₀ c arg2 arg3 arg11 k f2 f3 f11) (g8 c arg8 f8) 6 = k0_pay12 (mS (S₀ c arg2 arg3 arg11 k f2 f3 f11) (g8 c arg8 f8) 5) (k0_pay8 ((S₀ c arg2 arg3 arg11 k f2 f3 f11) 5) (mS (S₀ c arg2 arg3 arg11 k f2 f3 f11) (g8 c arg8 f8) 5)) from rfl, ← hm5 c arg2 arg3 arg8 arg11 k f2 f3 f8 f11]; rfl
theorem hj6 : trip.sl.v392 c arg2 arg3 arg7 arg8 arg11 k f2 f3 f7 f8 f11 = jS (S₀ c arg2 arg3 arg11 k f2 f3 f11) (g8 c arg8 f8) (g7 c arg7 f7) 6 := by
  unfold trip.sl.v392; refine (View.readCov_full _ _ _ _ _).trans ?_
  rw [show jS (S₀ c arg2 arg3 arg11 k f2 f3 f11) (g8 c arg8 f8) (g7 c arg7 f7) 6 = k0_pay11 (k0_pay7 ((S₀ c arg2 arg3 arg11 k f2 f3 f11) 5) (mS (S₀ c arg2 arg3 arg11 k f2 f3 f11) (g8 c arg8 f8) 5)) (jS (S₀ c arg2 arg3 arg11 k f2 f3 f11) (g8 c arg8 f8) (g7 c arg7 f7) 5) from rfl, ← hm5 c arg2 arg3 arg8 arg11 k f2 f3 f8 f11, ← hj5 c arg2 arg3 arg7 arg8 arg11 k f2 f3 f7 f8 f11]; rfl
theorem ha6 : trip.sl.v378 c arg2 arg3 arg4 arg8 arg9 arg11 k f2 f3 f4 f8 f9 f11 = aS (S₀ c arg2 arg3 arg11 k f2 f3 f11) (g8 c arg8 f8) (arg4.view.read (Elt F) f4) (g9 c arg9 f9) 6 := by
  unfold trip.sl.v378; refine (View.readCov_full _ _ _ _ _).trans ?_
  rw [show aS (S₀ c arg2 arg3 arg11 k f2 f3 f11) (g8 c arg8 f8) (arg4.view.read (Elt F) f4) (g9 c arg9 f9) 6 = k0_pay10 (k0_pay9 ((S₀ c arg2 arg3 arg11 k f2 f3 f11) 5) (mS (S₀ c arg2 arg3 arg11 k f2 f3 f11) (g8 c arg8 f8) 5) (aS (S₀ c arg2 arg3 arg11 k f2 f3 f11) (g8 c arg8 f8) (arg4.view.read (Elt F) f4) (g9 c arg9 f9) 5) (vc (arg4.view.read (Elt F) f4) 5)) from rfl, ← hm5 c arg2 arg3 arg8 arg11 k f2 f3 f8 f11, ← ha5 c arg2 arg3 arg4 arg8 arg9 arg11 k f2 f3 f4 f8 f9 f11]; rfl
theorem hm7 : trip.sl.v411 c arg2 arg3 arg8 arg11 k f2 f3 f8 f11 = mS (S₀ c arg2 arg3 arg11 k f2 f3 f11) (g8 c arg8 f8) 7 := by
  unfold trip.sl.v411; refine (View.readCov_full _ _ _ _ _).trans ?_
  rw [show mS (S₀ c arg2 arg3 arg11 k f2 f3 f11) (g8 c arg8 f8) 7 = k0_pay12 (mS (S₀ c arg2 arg3 arg11 k f2 f3 f11) (g8 c arg8 f8) 6) (k0_pay8 ((S₀ c arg2 arg3 arg11 k f2 f3 f11) 6) (mS (S₀ c arg2 arg3 arg11 k f2 f3 f11) (g8 c arg8 f8) 6)) from rfl, ← hm6 c arg2 arg3 arg8 arg11 k f2 f3 f8 f11]; rfl
theorem hj7 : trip.sl.v438 c arg2 arg3 arg7 arg8 arg11 k f2 f3 f7 f8 f11 = jS (S₀ c arg2 arg3 arg11 k f2 f3 f11) (g8 c arg8 f8) (g7 c arg7 f7) 7 := by
  unfold trip.sl.v438; refine (View.readCov_full _ _ _ _ _).trans ?_
  rw [show jS (S₀ c arg2 arg3 arg11 k f2 f3 f11) (g8 c arg8 f8) (g7 c arg7 f7) 7 = k0_pay11 (k0_pay7 ((S₀ c arg2 arg3 arg11 k f2 f3 f11) 6) (mS (S₀ c arg2 arg3 arg11 k f2 f3 f11) (g8 c arg8 f8) 6)) (jS (S₀ c arg2 arg3 arg11 k f2 f3 f11) (g8 c arg8 f8) (g7 c arg7 f7) 6) from rfl, ← hm6 c arg2 arg3 arg8 arg11 k f2 f3 f8 f11, ← hj6 c arg2 arg3 arg7 arg8 arg11 k f2 f3 f7 f8 f11]; rfl
theorem ha7 : trip.sl.v424 c arg2 arg3 arg4 arg8 arg9 arg11 k f2 f3 f4 f8 f9 f11 = aS (S₀ c arg2 arg3 arg11 k f2 f3 f11) (g8 c arg8 f8) (arg4.view.read (Elt F) f4) (g9 c arg9 f9) 7 := by
  unfold trip.sl.v424; refine (View.readCov_full _ _ _ _ _).trans ?_
  rw [show aS (S₀ c arg2 arg3 arg11 k f2 f3 f11) (g8 c arg8 f8) (arg4.view.read (Elt F) f4) (g9 c arg9 f9) 7 = k0_pay10 (k0_pay9 ((S₀ c arg2 arg3 arg11 k f2 f3 f11) 6) (mS (S₀ c arg2 arg3 arg11 k f2 f3 f11) (g8 c arg8 f8) 6) (aS (S₀ c arg2 arg3 arg11 k f2 f3 f11) (g8 c arg8 f8) (arg4.view.read (Elt F) f4) (g9 c arg9 f9) 6) (vc (arg4.view.read (Elt F) f4) 6)) from rfl, ← hm6 c arg2 arg3 arg8 arg11 k f2 f3 f8 f11, ← ha6 c arg2 arg3 arg4 arg8 arg9 arg11 k f2 f3 f4 f8 f9 f11]; rfl
theorem hm8 : trip.sl.v457 c arg2 arg3 arg8 arg11 k f2 f3 f8 f11 = mS (S₀ c arg2 arg3 arg11 k f2 f3 f11) (g8 c arg8 f8) 8 := by
  unfold trip.sl.v457; refine (View.readCov_full _ _ _ _ _).trans ?_
  rw [show mS (S₀ c arg2 arg3 arg11 k f2 f3 f11) (g8 c arg8 f8) 8 = k0_pay12 (mS (S₀ c arg2 arg3 arg11 k f2 f3 f11) (g8 c arg8 f8) 7) (k0_pay8 ((S₀ c arg2 arg3 arg11 k f2 f3 f11) 7) (mS (S₀ c arg2 arg3 arg11 k f2 f3 f11) (g8 c arg8 f8) 7)) from rfl, ← hm7 c arg2 arg3 arg8 arg11 k f2 f3 f8 f11]; rfl
theorem hj8 : trip.sl.v484 c arg2 arg3 arg7 arg8 arg11 k f2 f3 f7 f8 f11 = jS (S₀ c arg2 arg3 arg11 k f2 f3 f11) (g8 c arg8 f8) (g7 c arg7 f7) 8 := by
  unfold trip.sl.v484; refine (View.readCov_full _ _ _ _ _).trans ?_
  rw [show jS (S₀ c arg2 arg3 arg11 k f2 f3 f11) (g8 c arg8 f8) (g7 c arg7 f7) 8 = k0_pay11 (k0_pay7 ((S₀ c arg2 arg3 arg11 k f2 f3 f11) 7) (mS (S₀ c arg2 arg3 arg11 k f2 f3 f11) (g8 c arg8 f8) 7)) (jS (S₀ c arg2 arg3 arg11 k f2 f3 f11) (g8 c arg8 f8) (g7 c arg7 f7) 7) from rfl, ← hm7 c arg2 arg3 arg8 arg11 k f2 f3 f8 f11, ← hj7 c arg2 arg3 arg7 arg8 arg11 k f2 f3 f7 f8 f11]; rfl
theorem ha8 : trip.sl.v470 c arg2 arg3 arg4 arg8 arg9 arg11 k f2 f3 f4 f8 f9 f11 = aS (S₀ c arg2 arg3 arg11 k f2 f3 f11) (g8 c arg8 f8) (arg4.view.read (Elt F) f4) (g9 c arg9 f9) 8 := by
  unfold trip.sl.v470; refine (View.readCov_full _ _ _ _ _).trans ?_
  rw [show aS (S₀ c arg2 arg3 arg11 k f2 f3 f11) (g8 c arg8 f8) (arg4.view.read (Elt F) f4) (g9 c arg9 f9) 8 = k0_pay10 (k0_pay9 ((S₀ c arg2 arg3 arg11 k f2 f3 f11) 7) (mS (S₀ c arg2 arg3 arg11 k f2 f3 f11) (g8 c arg8 f8) 7) (aS (S₀ c arg2 arg3 arg11 k f2 f3 f11) (g8 c arg8 f8) (arg4.view.read (Elt F) f4) (g9 c arg9 f9) 7) (vc (arg4.view.read (Elt F) f4) 7)) from rfl, ← hm7 c arg2 arg3 arg8 arg11 k f2 f3 f8 f11, ← ha7 c arg2 arg3 arg4 arg8 arg9 arg11 k f2 f3 f4 f8 f9 f11]; rfl
theorem hm9 : trip.sl.v503 c arg2 arg3 arg8 arg11 k f2 f3 f8 f11 = mS (S₀ c arg2 arg3 arg11 k f2 f3 f11) (g8 c arg8 f8) 9 := by
  unfold trip.sl.v503; refine (View.readCov_full _ _ _ _ _).trans ?_
  rw [show mS (S₀ c arg2 arg3 arg11 k f2 f3 f11) (g8 c arg8 f8) 9 = k0_pay12 (mS (S₀ c arg2 arg3 arg11 k f2 f3 f11) (g8 c arg8 f8) 8) (k0_pay8 ((S₀ c arg2 arg3 arg11 k f2 f3 f11) 8) (mS (S₀ c arg2 arg3 arg11 k f2 f3 f11) (g8 c arg8 f8) 8)) from rfl, ← hm8 c arg2 arg3 arg8 arg11 k f2 f3 f8 f11]; rfl
theorem hj9 : trip.sl.v530 c arg2 arg3 arg7 arg8 arg11 k f2 f3 f7 f8 f11 = jS (S₀ c arg2 arg3 arg11 k f2 f3 f11) (g8 c arg8 f8) (g7 c arg7 f7) 9 := by
  unfold trip.sl.v530; refine (View.readCov_full _ _ _ _ _).trans ?_
  rw [show jS (S₀ c arg2 arg3 arg11 k f2 f3 f11) (g8 c arg8 f8) (g7 c arg7 f7) 9 = k0_pay11 (k0_pay7 ((S₀ c arg2 arg3 arg11 k f2 f3 f11) 8) (mS (S₀ c arg2 arg3 arg11 k f2 f3 f11) (g8 c arg8 f8) 8)) (jS (S₀ c arg2 arg3 arg11 k f2 f3 f11) (g8 c arg8 f8) (g7 c arg7 f7) 8) from rfl, ← hm8 c arg2 arg3 arg8 arg11 k f2 f3 f8 f11, ← hj8 c arg2 arg3 arg7 arg8 arg11 k f2 f3 f7 f8 f11]; rfl
theorem ha9 : trip.sl.v516 c arg2 arg3 arg4 arg8 arg9 arg11 k f2 f3 f4 f8 f9 f11 = aS (S₀ c arg2 arg3 arg11 k f2 f3 f11) (g8 c arg8 f8) (arg4.view.read (Elt F) f4) (g9 c arg9 f9) 9 := by
  unfold trip.sl.v516; refine (View.readCov_full _ _ _ _ _).trans ?_
  rw [show aS (S₀ c arg2 arg3 arg11 k f2 f3 f11) (g8 c arg8 f8) (arg4.view.read (Elt F) f4) (g9 c arg9 f9) 9 = k0_pay10 (k0_pay9 ((S₀ c arg2 arg3 arg11 k f2 f3 f11) 8) (mS (S₀ c arg2 arg3 arg11 k f2 f3 f11) (g8 c arg8 f8) 8) (aS (S₀ c arg2 arg3 arg11 k f2 f3 f11) (g8 c arg8 f8) (arg4.view.read (Elt F) f4) (g9 c arg9 f9) 8) (vc (arg4.view.read (Elt F) f4) 8)) from rfl, ← hm8 c arg2 arg3 arg8 arg11 k f2 f3 f8 f11, ← ha8 c arg2 arg3 arg4 arg8 arg9 arg11 k f2 f3 f4 f8 f9 f11]; rfl
theorem hm10 : trip.sl.v549 c arg2 arg3 arg8 arg11 k f2 f3 f8 f11 = mS (S₀ c arg2 arg3 arg11 k f2 f3 f11) (g8 c arg8 f8) 10 := by
  unfold trip.sl.v549; refine (View.readCov_full _ _ _ _ _).trans ?_
  rw [show mS (S₀ c arg2 arg3 arg11 k f2 f3 f11) (g8 c arg8 f8) 10 = k0_pay12 (mS (S₀ c arg2 arg3 arg11 k f2 f3 f11) (g8 c arg8 f8) 9) (k0_pay8 ((S₀ c arg2 arg3 arg11 k f2 f3 f11) 9) (mS (S₀ c arg2 arg3 arg11 k f2 f3 f11) (g8 c arg8 f8) 9)) from rfl, ← hm9 c arg2 arg3 arg8 arg11 k f2 f3 f8 f11]; rfl
theorem hj10 : trip.sl.v576 c arg2 arg3 arg7 arg8 arg11 k f2 f3 f7 f8 f11 = jS (S₀ c arg2 arg3 arg11 k f2 f3 f11) (g8 c arg8 f8) (g7 c arg7 f7) 10 := by
  unfold trip.sl.v576; refine (View.readCov_full _ _ _ _ _).trans ?_
  rw [show jS (S₀ c arg2 arg3 arg11 k f2 f3 f11) (g8 c arg8 f8) (g7 c arg7 f7) 10 = k0_pay11 (k0_pay7 ((S₀ c arg2 arg3 arg11 k f2 f3 f11) 9) (mS (S₀ c arg2 arg3 arg11 k f2 f3 f11) (g8 c arg8 f8) 9)) (jS (S₀ c arg2 arg3 arg11 k f2 f3 f11) (g8 c arg8 f8) (g7 c arg7 f7) 9) from rfl, ← hm9 c arg2 arg3 arg8 arg11 k f2 f3 f8 f11, ← hj9 c arg2 arg3 arg7 arg8 arg11 k f2 f3 f7 f8 f11]; rfl
theorem ha10 : trip.sl.v562 c arg2 arg3 arg4 arg8 arg9 arg11 k f2 f3 f4 f8 f9 f11 = aS (S₀ c arg2 arg3 arg11 k f2 f3 f11) (g8 c arg8 f8) (arg4.view.read (Elt F) f4) (g9 c arg9 f9) 10 := by
  unfold trip.sl.v562; refine (View.readCov_full _ _ _ _ _).trans ?_
  rw [show aS (S₀ c arg2 arg3 arg11 k f2 f3 f11) (g8 c arg8 f8) (arg4.view.read (Elt F) f4) (g9 c arg9 f9) 10 = k0_pay10 (k0_pay9 ((S₀ c arg2 arg3 arg11 k f2 f3 f11) 9) (mS (S₀ c arg2 arg3 arg11 k f2 f3 f11) (g8 c arg8 f8) 9) (aS (S₀ c arg2 arg3 arg11 k f2 f3 f11) (g8 c arg8 f8) (arg4.view.read (Elt F) f4) (g9 c arg9 f9) 9) (vc (arg4.view.read (Elt F) f4) 9)) from rfl, ← hm9 c arg2 arg3 arg8 arg11 k f2 f3 f8 f11, ← ha9 c arg2 arg3 arg4 arg8 arg9 arg11 k f2 f3 f4 f8 f9 f11]; rfl
theorem hm11 : trip.sl.v595 c arg2 arg3 arg8 arg11 k f2 f3 f8 f11 = mS (S₀ c arg2 arg3 arg11 k f2 f3 f11) (g8 c arg8 f8) 11 := by
  unfold trip.sl.v595; refine (View.readCov_full _ _ _ _ _).trans ?_
  rw [show mS (S₀ c arg2 arg3 arg11 k f2 f3 f11) (g8 c arg8 f8) 11 = k0_pay12 (mS (S₀ c arg2 arg3 arg11 k f2 f3 f11) (g8 c arg8 f8) 10) (k0_pay8 ((S₀ c arg2 arg3 arg11 k f2 f3 f11) 10) (mS (S₀ c arg2 arg3 arg11 k f2 f3 f11) (g8 c arg8 f8) 10)) from rfl, ← hm10 c arg2 arg3 arg8 arg11 k f2 f3 f8 f11]; rfl
theorem hj11 : trip.sl.v622 c arg2 arg3 arg7 arg8 arg11 k f2 f3 f7 f8 f11 = jS (S₀ c arg2 arg3 arg11 k f2 f3 f11) (g8 c arg8 f8) (g7 c arg7 f7) 11 := by
  unfold trip.sl.v622; refine (View.readCov_full _ _ _ _ _).trans ?_
  rw [show jS (S₀ c arg2 arg3 arg11 k f2 f3 f11) (g8 c arg8 f8) (g7 c arg7 f7) 11 = k0_pay11 (k0_pay7 ((S₀ c arg2 arg3 arg11 k f2 f3 f11) 10) (mS (S₀ c arg2 arg3 arg11 k f2 f3 f11) (g8 c arg8 f8) 10)) (jS (S₀ c arg2 arg3 arg11 k f2 f3 f11) (g8 c arg8 f8) (g7 c arg7 f7) 10) from rfl, ← hm10 c arg2 arg3 arg8 arg11 k f2 f3 f8 f11, ← hj10 c arg2 arg3 arg7 arg8 arg11 k f2 f3 f7 f8 f11]; rfl
theorem ha11 : trip.sl.v608 c arg2 arg3 arg4 arg8 arg9 arg11 k f2 f3 f4 f8 f9 f11 = aS (S₀ c arg2 arg3 arg11 k f2 f3 f11) (g8 c arg8 f8) (arg4.view.read (Elt F) f4) (g9 c arg9 f9) 11 := by
  unfold trip.sl.v608; refine (View.readCov_full _ _ _ _ _).trans ?_
  rw [show aS (S₀ c arg2 arg3 arg11 k f2 f3 f11) (g8 c arg8 f8) (arg4.view.read (Elt F) f4) (g9 c arg9 f9) 11 = k0_pay10 (k0_pay9 ((S₀ c arg2 arg3 arg11 k f2 f3 f11) 10) (mS (S₀ c arg2 arg3 arg11 k f2 f3 f11) (g8 c arg8 f8) 10) (aS (S₀ c arg2 arg3 arg11 k f2 f3 f11) (g8 c arg8 f8) (arg4.view.read (Elt F) f4) (g9 c arg9 f9) 10) (vc (arg4.view.read (Elt F) f4) 10)) from rfl, ← hm10 c arg2 arg3 arg8 arg11 k f2 f3 f8 f11, ← ha10 c arg2 arg3 arg4 arg8 arg9 arg11 k f2 f3 f4 f8 f9 f11]; rfl
theorem hm12 : trip.sl.v641 c arg2 arg3 arg8 arg11 k f2 f3 f8 f11 = mS (S₀ c arg2 arg3 arg11 k f2 f3 f11) (g8 c arg8 f8) 12 := by
  unfold trip.sl.v641; refine (View.readCov_full _ _ _ _ _).trans ?_
  rw [show mS (S₀ c arg2 arg3 arg11 k f2 f3 f11) (g8 c arg8 f8) 12 = k0_pay12 (mS (S₀ c arg2 arg3 arg11 k f2 f3 f11) (g8 c arg8 f8) 11) (k0_pay8 ((S₀ c arg2 arg3 arg11 k f2 f3 f11) 11) (mS (S₀ c arg2 arg3 arg11 k f2 f3 f11) (g8 c arg8 f8) 11)) from rfl, ← hm11 c arg2 arg3 arg8 arg11 k f2 f3 f8 f11]; rfl
theorem hj12 : trip.sl.v668 c arg2 arg3 arg7 arg8 arg11 k f2 f3 f7 f8 f11 = jS (S₀ c arg2 arg3 arg11 k f2 f3 f11) (g8 c arg8 f8) (g7 c arg7 f7) 12 := by
  unfold trip.sl.v668; refine (View.readCov_full _ _ _ _ _).trans ?_
  rw [show jS (S₀ c arg2 arg3 arg11 k f2 f3 f11) (g8 c arg8 f8) (g7 c arg7 f7) 12 = k0_pay11 (k0_pay7 ((S₀ c arg2 arg3 arg11 k f2 f3 f11) 11) (mS (S₀ c arg2 arg3 arg11 k f2 f3 f11) (g8 c arg8 f8) 11)) (jS (S₀ c arg2 arg3 arg11 k f2 f3 f11) (g8 c arg8 f8) (g7 c arg7 f7) 11) from rfl, ← hm11 c arg2 arg3 arg8 arg11 k f2 f3 f8 f11, ← hj11 c arg2 arg3 arg7 arg8 arg11 k f2 f3 f7 f8 f11]; rfl
theorem ha12 : trip.sl.v654 c arg2 arg3 arg4 arg8 arg9 arg11 k f2 f3 f4 f8 f9 f11 = aS (S₀ c arg2 arg3 arg11 k f2 f3 f11) (g8 c arg8 f8) (arg4.view.read (Elt F) f4) (g9 c arg9 f9) 12 := by
  unfold trip.sl.v654; refine (View.readCov_full _ _ _ _ _).trans ?_
  rw [show aS (S₀ c arg2 arg3 arg11 k f2 f3 f11) (g8 c arg8 f8) (arg4.view.read (Elt F) f4) (g9 c arg9 f9) 12 = k0_pay10 (k0_pay9 ((S₀ c arg2 arg3 arg11 k f2 f3 f11) 11) (mS (S₀ c arg2 arg3 arg11 k f2 f3 f11) (g8 c arg8 f8) 11) (aS (S₀ c arg2 arg3 arg11 k f2 f3 f11) (g8 c arg8 f8) (arg4.view.read (Elt F) f4) (g9 c arg9 f9) 11) (vc (arg4.view.read (Elt F) f4) 11)) from rfl, ← hm11 c arg2 arg3 arg8 arg11 k f2 f3 f8 f11, ← ha11 c arg2 arg3 arg4 arg8 arg9 arg11 k f2 f3 f4 f8 f9 f11]; rfl
theorem hm13 : trip.sl.v687 c arg2 arg3 arg8 arg11 k f2 f3 f8 f11 = mS (S₀ c arg2 arg3 arg11 k f2 f3 f11) (g8 c arg8 f8) 13 := by
  unfold trip.sl.v687; refine (View.readCov_full _ _ _ _ _).trans ?_
  rw [show mS (S₀ c arg2 arg3 arg11 k f2 f3 f11) (g8 c arg8 f8) 13 = k0_pay12 (mS (S₀ c arg2 arg3 arg11 k f2 f3 f11) (g8 c arg8 f8) 12) (k0_pay8 ((S₀ c arg2 arg3 arg11 k f2 f3 f11) 12) (mS (S₀ c arg2 arg3 arg11 k f2 f3 f11) (g8 c arg8 f8) 12)) from rfl, ← hm12 c arg2 arg3 arg8 arg11 k f2 f3 f8 f11]; rfl
theorem hj13 : trip.sl.v714 c arg2 arg3 arg7 arg8 arg11 k f2 f3 f7 f8 f11 = jS (S₀ c arg2 arg3 arg11 k f2 f3 f11) (g8 c arg8 f8) (g7 c arg7 f7) 13 := by
  unfold trip.sl.v714; refine (View.readCov_full _ _ _ _ _).trans ?_
  rw [show jS (S₀ c arg2 arg3 arg11 k f2 f3 f11) (g8 c arg8 f8) (g7 c arg7 f7) 13 = k0_pay11 (k0_pay7 ((S₀ c arg2 arg3 arg11 k f2 f3 f11) 12) (mS (S₀ c arg2 arg3 arg11 k f2 f3 f11) (g8 c arg8 f8) 12)) (jS (S₀ c arg2 arg3 arg11 k f2 f3 f11) (g8 c arg8 f8) (g7 c arg7 f7) 12) from rfl, ← hm12 c arg2 arg3 arg8 arg11 k f2 f3 f8 f11, ← hj12 c arg2 arg3 arg7 arg8 arg11 k f2 f3 f7 f8 f11]; rfl
theorem ha13 : trip.sl.v700 c arg2 arg3 arg4 arg8 arg9 arg11 k f2 f3 f4 f8 f9 f11 = aS (S₀ c arg2 arg3 arg11 k f2 f3 f11) (g8 c arg8 f8) (arg4.view.read (Elt F) f4) (g9 c arg9 f9) 13 := by
  unfold trip.sl.v700; refine (View.readCov_full _ _ _ _ _).trans ?_
  rw [show aS (S₀ c arg2 arg3 arg11 k f2 f3 f11) (g8 c arg8 f8) (arg4.view.read (Elt F) f4) (g9 c arg9 f9) 13 = k0_pay10 (k0_pay9 ((S₀ c arg2 arg3 arg11 k f2 f3 f11) 12) (mS (S₀ c arg2 arg3 arg11 k f2 f3 f11) (g8 c arg8 f8) 12) (aS (S₀ c arg2 arg3 arg11 k f2 f3 f11) (g8 c arg8 f8) (arg4.view.read (Elt F) f4) (g9 c arg9 f9) 12) (vc (arg4.view.read (Elt F) f4) 12)) from rfl, ← hm12 c arg2 arg3 arg8 arg11 k f2 f3 f8 f11, ← ha12 c arg2 arg3 arg4 arg8 arg9 arg11 k f2 f3 f4 f8 f9 f11]; rfl
theorem hm14 : trip.sl.v733 c arg2 arg3 arg8 arg11 k f2 f3 f8 f11 = mS (S₀ c arg2 arg3 arg11 k f2 f3 f11) (g8 c arg8 f8) 14 := by
  unfold trip.sl.v733; refine (View.readCov_full _ _ _ _ _).trans ?_
  rw [show mS (S₀ c arg2 arg3 arg11 k f2 f3 f11) (g8 c arg8 f8) 14 = k0_pay12 (mS (S₀ c arg2 arg3 arg11 k f2 f3 f11) (g8 c arg8 f8) 13) (k0_pay8 ((S₀ c arg2 arg3 arg11 k f2 f3 f11) 13) (mS (S₀ c arg2 arg3 arg11 k f2 f3 f11) (g8 c arg8 f8) 13)) from rfl, ← hm13 c arg2 arg3 arg8 arg11 k f2 f3 f8 f11]; rfl
theorem hj14 : trip.sl.v760 c arg2 arg3 arg7 arg8 arg11 k f2 f3 f7 f8 f11 = jS (S₀ c arg2 arg3 arg11 k f2 f3 f11) (g8 c arg8 f8) (g7 c arg7 f7) 14 := by
  unfold trip.sl.v760; refine (View.readCov_full _ _ _ _ _).trans ?_
  rw [show jS (S₀ c arg2 arg3 arg11 k f2 f3 f11) (g8 c arg8 f8) (g7 c arg7 f7) 14 = k0_pay11 (k0_pay7 ((S₀ c arg2 arg3 arg11 k f2 f3 f11) 13) (mS (S₀ c arg2 arg3 arg11 k f2 f3 f11) (g8 c arg8 f8) 13)) (jS (S₀ c arg2 arg3 arg11 k f2 f3 f11) (g8 c arg8 f8) (g7 c arg7 f7) 13) from rfl, ← hm13 c arg2 arg3 arg8 arg11 k f2 f3 f8 f11, ← hj13 c arg2 arg3 arg7 arg8 arg11 k f2 f3 f7 f8 f11]; rfl
theorem ha14 : trip.sl.v746 c arg2 arg3 arg4 arg8 arg9 arg11 k f2 f3 f4 f8 f9 f11 = aS (S₀ c arg2 arg3 arg11 k f2 f3 f11) (g8 c arg8 f8) (arg4.view.read (Elt F) f4) (g9 c arg9 f9) 14 := by
  unfold trip.sl.v746; refine (View.readCov_full _ _ _ _ _).trans ?_
  rw [show aS (S₀ c arg2 arg3 arg11 k f2 f3 f11) (g8 c arg8 f8) (arg4.view.read (Elt F) f4) (g9 c arg9 f9) 14 = k0_pay10 (k0_pay9 ((S₀ c arg2 arg3 arg11 k f2 f3 f11) 13) (mS (S₀ c arg2 arg3 arg11 k f2 f3 f11) (g8 c arg8 f8) 13) (aS (S₀ c arg2 arg3 arg11 k f2 f3 f11) (g8 c arg8 f8) (arg4.view.read (Elt F) f4) (g9 c arg9 f9) 13) (vc (arg4.view.read (Elt F) f4) 13)) from rfl, ← hm13 c arg2 arg3 arg8 arg11 k f2 f3 f8 f11, ← ha13 c arg2 arg3 arg4 arg8 arg9 arg11 k f2 f3 f4 f8 f9 f11]; rfl
theorem hm15 : trip.sl.v781 c arg2 arg3 arg8 arg11 k f2 f3 f8 f11 = mS (S₀ c arg2 arg3 arg11 k f2 f3 f11) (g8 c arg8 f8) 15 := by
  unfold trip.sl.v781; refine (View.readCov_full _ _ _ _ _).trans ?_
  rw [show mS (S₀ c arg2 arg3 arg11 k f2 f3 f11) (g8 c arg8 f8) 15 = k0_pay12 (mS (S₀ c arg2 arg3 arg11 k f2 f3 f11) (g8 c arg8 f8) 14) (k0_pay8 ((S₀ c arg2 arg3 arg11 k f2 f3 f11) 14) (mS (S₀ c arg2 arg3 arg11 k f2 f3 f11) (g8 c arg8 f8) 14)) from rfl, ← hm14 c arg2 arg3 arg8 arg11 k f2 f3 f8 f11]; rfl
theorem hj15 : trip.sl.v808 c arg2 arg3 arg7 arg8 arg11 k f2 f3 f7 f8 f11 = jS (S₀ c arg2 arg3 arg11 k f2 f3 f11) (g8 c arg8 f8) (g7 c arg7 f7) 15 := by
  unfold trip.sl.v808; refine (View.readCov_full _ _ _ _ _).trans ?_
  rw [show jS (S₀ c arg2 arg3 arg11 k f2 f3 f11) (g8 c arg8 f8) (g7 c arg7 f7) 15 = k0_pay11 (k0_pay7 ((S₀ c arg2 arg3 arg11 k f2 f3 f11) 14) (mS (S₀ c arg2 arg3 arg11 k f2 f3 f11) (g8 c arg8 f8) 14)) (jS (S₀ c arg2 arg3 arg11 k f2 f3 f11) (g8 c arg8 f8) (g7 c arg7 f7) 14) from rfl, ← hm14 c arg2 arg3 arg8 arg11 k f2 f3 f8 f11, ← hj14 c arg2 arg3 arg7 arg8 arg11 k f2 f3 f7 f8 f11]; rfl
theorem ha15 : trip.sl.v794 c arg2 arg3 arg4 arg8 arg9 arg11 k f2 f3 f4 f8 f9 f11 = aS (S₀ c arg2 arg3 arg11 k f2 f3 f11) (g8 c arg8 f8) (arg4.view.read (Elt F) f4) (g9 c arg9 f9) 15 := by
  unfold trip.sl.v794; refine (View.readCov_full _ _ _ _ _).trans ?_
  rw [show aS (S₀ c arg2 arg3 arg11 k f2 f3 f11) (g8 c arg8 f8) (arg4.view.read (Elt F) f4) (g9 c arg9 f9) 15 = k0_pay10 (k0_pay9 ((S₀ c arg2 arg3 arg11 k f2 f3 f11) 14) (mS (S₀ c arg2 arg3 arg11 k f2 f3 f11) (g8 c arg8 f8) 14) (aS (S₀ c arg2 arg3 arg11 k f2 f3 f11) (g8 c arg8 f8) (arg4.view.read (Elt F) f4) (g9 c arg9 f9) 14) (vc (arg4.view.read (Elt F) f4) 14)) from rfl, ← hm14 c arg2 arg3 arg8 arg11 k f2 f3 f8 f11, ← ha14 c arg2 arg3 arg4 arg8 arg9 arg11 k f2 f3 f4 f8 f9 f11]; rfl
theorem ha16 : trip.sl.v822 c arg2 arg3 arg4 arg8 arg9 arg11 k f2 f3 f4 f8 f9 f11 = aS (S₀ c arg2 arg3 arg11 k f2 f3 f11) (g8 c arg8 f8) (arg4.view.read (Elt F) f4) (g9 c arg9 f9) 16 := by
  unfold trip.sl.v822; refine (View.readCov_full _ _ _ _ _).trans ?_
  rw [show aS (S₀ c arg2 arg3 arg11 k f2 f3 f11) (g8 c arg8 f8) (arg4.view.read (Elt F) f4) (g9 c arg9 f9) 16 = k0_pay10 (k0_pay9 ((S₀ c arg2 arg3 arg11 k f2 f3 f11) 15) (mS (S₀ c arg2 arg3 arg11 k f2 f3 f11) (g8 c arg8 f8) 15) (aS (S₀ c arg2 arg3 arg11 k f2 f3 f11) (g8 c arg8 f8) (arg4.view.read (Elt F) f4) (g9 c arg9 f9) 15) (vc (arg4.view.read (Elt F) f4) 15)) from rfl, ← hm15 c arg2 arg3 arg8 arg11 k f2 f3 f8 f11, ← ha15 c arg2 arg3 arg4 arg8 arg9 arg11 k f2 f3 f4 f8 f9 f11]; rfl

end Cert.Proof.KernelIdeal

end
-- ==== Proof.KI.Body.lean ====
module

public import proofs.«01_k».proof.Proof.KI.Steps

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords)
  (arg2 : Memref sig .tc .vmem S1x1x64x32768 .bf16) (harg2 : arg2.IsWhole)
  (arg3 : Memref sig .tc .vmem S1x1x8192x64 .bf16) (harg3 : arg3.IsWhole)
  (arg4 : Memref sig .tc .vmem S1x1x80x8192 .bf16) (harg4 : arg4.IsWhole)
  (arg5 : Memref sig .tc .vmem S1x8192x256 .bf16) (harg5 : arg5.IsWhole)
  (arg6 : Memref sig .tc .vmem S1x8192x256 .bf16) (harg6 : arg6.IsWhole)
  (arg7 : Memref sig .tc .vmem S1x1x512 .f32) (harg7 : arg7.IsWhole)
  (arg8 : Memref sig .tc .vmem S1x512 .f32) (harg8 : arg8.IsWhole)
  (arg9 : Memref sig .tc .vmem S80x512 .f32) (harg9 : arg9.IsWhole)
  (arg10 : Memref sig .tc .vmem S80x512 .f32) (harg10 : arg10.IsWhole)
  (arg11 : Memref sig .tc .vmem S512x512 .f32) (harg11 : arg11.IsWhole)
  (c0_i32 c0_i32_22 : BitVec 32)

/-- The contents of the output, the jump and the four scratch buffers. -/
abbrev St : Type := Bf (F := F) c arg6 × Bf (F := F) c arg7 × Bf (F := F) c arg8 × Bf (F := F) c arg9 × Bf (F := F) c arg10 × Bf (F := F) c arg11

/-- The state held. -/
abbrev held (f2 : Bf (F := F) c arg2) (f3 : Bf (F := F) c arg3) (f4 : Bf (F := F) c arg4) (f5 : Bf (F := F) c arg5) (W : St (F := F) c arg6 arg7 arg8 arg9 arg10 arg11) : sProp 𝕄 :=
  iprop(pt c arg2 f2 ∗ pt c arg3 f3 ∗ pt c arg4 f4 ∗ pt c arg5 f5 ∗ pt c arg6 W.1 ∗ pt c arg7 W.2.1 ∗ pt c arg8 W.2.2.1 ∗ pt c arg9 W.2.2.2.1 ∗ pt c arg10 W.2.2.2.2.1 ∗ pt c arg11 W.2.2.2.2.2)

/-- The contents before trip `k`, from those at the loop's entry. -/
def st (f2 : Bf (F := F) c arg2) (f3 : Bf (F := F) c arg3) (f4 : Bf (F := F) c arg4) (f5 : Bf (F := F) c arg5) (z : St (F := F) c arg6 arg7 arg8 arg9 arg10 arg11) : ℕ → St (F := F) c arg6 arg7 arg8 arg9 arg10 arg11
  | 0 => z
  | k + 1 =>
    if h : k < k0_t1_loop.trips then
      (trip c i arg2 harg2 arg3 harg3 arg4 harg4 arg5 harg5 arg6 harg6 arg7 harg7 arg8 harg8 arg9 harg9 arg10 harg10 arg11 harg11 c0_i32 c0_i32_22 ⟨k, h⟩ f2 f3 f4 f5 (st f2 f3 f4 f5 z k).1 (st f2 f3 f4 f5 z k).2.1 (st f2 f3 f4 f5 z k).2.2.1 (st f2 f3 f4 f5 z k).2.2.2.1 (st f2 f3 f4 f5 z k).2.2.2.2.1 (st f2 f3 f4 f5 z k).2.2.2.2.2).1
    else st f2 f3 f4 f5 z k

/-- The loop's invariant: everything held, at the contents before trip `k`. -/
def inv (f2 : Bf (F := F) c arg2) (f3 : Bf (F := F) c arg3) (f4 : Bf (F := F) c arg4) (f5 : Bf (F := F) c arg5) (z : St (F := F) c arg6 arg7 arg8 arg9 arg10 arg11) (k : ℕ) (_ : Unit) : sProp 𝕄 :=
  held c arg2 arg3 arg4 arg5 arg6 arg7 arg8 arg9 arg10 arg11 f2 f3 f4 f5 (st c i arg2 harg2 arg3 harg3 arg4 harg4 arg5 harg5 arg6 harg6 arg7 harg7 arg8 harg8 arg9 harg9 arg10 harg10 arg11 harg11 c0_i32 c0_i32_22 f2 f3 f4 f5 z k)

theorem step (f2 : Bf (F := F) c arg2) (f3 : Bf (F := F) c arg3) (f4 : Bf (F := F) c arg4) (f5 : Bf (F := F) c arg5) (z : St (F := F) c arg6 arg7 arg8 arg9 arg10 arg11) (k : Fin k0_t1_loop.trips) (a : Unit) :
    inv c i arg2 harg2 arg3 harg3 arg4 harg4 arg5 harg5 arg6 harg6 arg7 harg7 arg8 harg8 arg9 harg9 arg10 harg10 arg11 harg11 c0_i32 c0_i32_22 f2 f3 f4 f5 z k a
      ⊢ wp frame (wpE (defs₀ (F := F)) Variants.none (c : Thread nD τ) none) Set.univ
        (k0_t1_body (F := F) i arg2 harg2 arg3 harg3 arg4 harg4 arg5 harg5 arg6 harg6 arg7 harg7 arg8 harg8 arg9 harg9 arg10 harg10 arg11 harg11 c0_i32 c0_i32_22 k a) (inv c i arg2 harg2 arg3 harg3 arg4 harg4 arg5 harg5 arg6 harg6 arg7 harg7 arg8 harg8 arg9 harg9 arg10 harg10 arg11 harg11 c0_i32 c0_i32_22 f2 f3 f4 f5 z (k.val + 1)) := by
  have e : inv c i arg2 harg2 arg3 harg3 arg4 harg4 arg5 harg5 arg6 harg6 arg7 harg7 arg8 harg8 arg9 harg9 arg10 harg10 arg11 harg11 c0_i32 c0_i32_22 f2 f3 f4 f5 z (k.val + 1)
      = fun _ => held c arg2 arg3 arg4 arg5 arg6 arg7 arg8 arg9 arg10 arg11 f2 f3 f4 f5 (trip c i arg2 harg2 arg3 harg3 arg4 harg4 arg5 harg5 arg6 harg6 arg7 harg7 arg8 harg8 arg9 harg9 arg10 harg10 arg11 harg11 c0_i32 c0_i32_22 k f2 f3 f4 f5 _ _ _ _ _ _).1 :=
    funext fun _ => congrArg (held c arg2 arg3 arg4 arg5 arg6 arg7 arg8 arg9 arg10 arg11 f2 f3 f4 f5) (by rw [st, dif_pos k.isLt])
  rw [e]
  exact (trip c i arg2 harg2 arg3 harg3 arg4 harg4 arg5 harg5 arg6 harg6 arg7 harg7 arg8 harg8 arg9 harg9 arg10 harg10 arg11 harg11 c0_i32 c0_i32_22 k f2 f3 f4 f5 _ _ _ _ _ _).2

/-- The whole body, from any contents. -/
def body (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) :
    { W : St (F := F) c arg6 arg7 arg8 arg9 arg10 arg11 //
      held c arg2 arg3 arg4 arg5 arg6 arg7 arg8 arg9 arg10 arg11 f2 f3 f4 f5 (f6, f7, f8, f9, f10, f11)
      ⊢ wp frame (wpE (defs₀ (F := F)) Variants.none (c : Thread nD τ) none) Set.univ
        (cc0_gqa_attn (F := F) i arg2 harg2 arg3 harg3 arg4 harg4 arg5 harg5 arg6 harg6 arg7 harg7 arg8 harg8 arg9 harg9 arg10 harg10 arg11 harg11)
        (fun _ => held c arg2 arg3 arg4 arg5 arg6 arg7 arg8 arg9 arg10 arg11 f2 f3 f4 f5 W) } := by
  refine ⟨⟨?_, ?_, ?_, ?_, ?_, ?_⟩, ?run⟩
  case run =>
    dsimp only
    iintro ⟨H2, H3, H4, H5, H6, H7, H8, H9, H10, H11⟩
    unfold cc0_gqa_attn
    sl_exec_parts
    sl_for (inv c i arg2 harg2 arg3 harg3 arg4 harg4 arg5 harg5 arg6 harg6 arg7 harg7 arg8 harg8 arg9 harg9 arg10 harg10 arg11 harg11 0#32 0#32 f2 f3 f4 f5 ⟨_, _, _, _, _, _⟩) $$ [H2 H3 H4 H5 H6 H7 H8 H9 H10 H11]
    · intro k a; exact step c i arg2 harg2 arg3 harg3 arg4 harg4 arg5 harg5 arg6 harg6 arg7 harg7 arg8 harg8 arg9 harg9 arg10 harg10 arg11 harg11 0#32 0#32 f2 f3 f4 f5 _ k a
    · unfold inv held st
      dsimp only
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro %acc HI
    unfold inv held
    icases HI with ⟨H2, H3, H4, H5, H6, H7, H8, H9, H10, H11⟩
    sl_exec
    sl_step
    dsimp only
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end Cert.Proof.KernelIdeal

end
-- ==== Proof.KI.Vals.lean ====
module

public import proofs.«01_k».proof.Proof.KI.Body

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords)
  (arg2 : Memref sig .tc .vmem S1x1x64x32768 .bf16) (harg2 : arg2.IsWhole)
  (arg3 : Memref sig .tc .vmem S1x1x8192x64 .bf16) (harg3 : arg3.IsWhole)
  (arg4 : Memref sig .tc .vmem S1x1x80x8192 .bf16) (harg4 : arg4.IsWhole)
  (arg5 : Memref sig .tc .vmem S1x8192x256 .bf16) (harg5 : arg5.IsWhole)
  (arg6 : Memref sig .tc .vmem S1x8192x256 .bf16) (harg6 : arg6.IsWhole)
  (arg7 : Memref sig .tc .vmem S1x1x512 .f32) (harg7 : arg7.IsWhole)
  (arg8 : Memref sig .tc .vmem S1x512 .f32) (harg8 : arg8.IsWhole)
  (arg9 : Memref sig .tc .vmem S80x512 .f32) (harg9 : arg9.IsWhole)
  (arg10 : Memref sig .tc .vmem S80x512 .f32) (harg10 : arg10.IsWhole)
  (arg11 : Memref sig .tc .vmem S512x512 .f32) (harg11 : arg11.IsWhole)
  (c0_i32 c0_i32_22 : BitVec 32)

/-- What the load of the whole third scratch buffer reads. -/
def g10 (f10 : Bf (F := F) c arg10) : Vec F S80x512 .f32 := arg10.view.readAt (Elt F) (Rect.unit (s := S80x512) ![0, 0] S80x512.size inb_S80x512_S80x512_0_0).toLoadRect f10

variable (k : Fin k0_t1_loop.trips) (f2 : Bf (F := F) c arg2) (f3 : Bf (F := F) c arg3) (f4 : Bf (F := F) c arg4) (f5 : Bf (F := F) c arg5)
    (f6 : Bf (F := F) c arg6) (f7 : Bf (F := F) c arg7) (f8 : Bf (F := F) c arg8) (f9 : Bf (F := F) c arg9) (f10 : Bf (F := F) c arg10) (f11 : Bf (F := F) c arg11)

theorem e6 : (trip c i arg2 harg2 arg3 harg3 arg4 harg4 arg5 harg5 arg6 harg6 arg7 harg7 arg8 harg8 arg9 harg9 arg10 harg10 arg11 harg11 c0_i32 c0_i32_22 k f2 f3 f4 f5 f6 f7 f8 f9 f10 f11).1.1 = arg6.view.writes (Elt F) f6 (trip.sl.H6_1 c arg5 arg10 k f5 f10) := by dsimp only [trip]
theorem e7 : (trip c i arg2 harg2 arg3 harg3 arg4 harg4 arg5 harg5 arg6 harg6 arg7 harg7 arg8 harg8 arg9 harg9 arg10 harg10 arg11 harg11 c0_i32 c0_i32_22 k f2 f3 f4 f5 f6 f7 f8 f9 f10 f11).1.2.1 = arg7.view.writes (Elt F) f7 (⟨Rect.unit (s := S1x1x512) ![0, 0, 0] S1x1x512.size inb_S1x1x512_S1x1x512_0_0_0,
    k0_pay127 (trip.sl.v786 c arg2 arg3 arg8 arg11 k f2 f3 f8 f11) (trip.sl.v808 c arg2 arg3 arg7 arg8 arg11 k f2 f3 f7 f8 f11)⟩ :: trip.sl.H7_15 c arg2 arg3 arg7 arg8 arg11 k f2 f3 f7 f8 f11) := by dsimp only [trip]
theorem e8 : (trip c i arg2 harg2 arg3 harg3 arg4 harg4 arg5 harg5 arg6 harg6 arg7 harg7 arg8 harg8 arg9 harg9 arg10 harg10 arg11 harg11 c0_i32 c0_i32_22 k f2 f3 f4 f5 f6 f7 f8 f9 f10 f11).1.2.2.1 = arg8.view.writes (Elt F) f8 (⟨Rect.unit (s := S1x512) ![0, 0] S1x512.size inb_S1x512_S1x512_0_0, k0_pay3 (trip.sl.v780 c arg2 arg3 k f2 f3)⟩ ::
    ⟨Rect.unit (s := S1x512) ![0, 0] S1x512.size inb_S1x512_S1x512_0_0, k0_pay128 (trip.sl.v781 c arg2 arg3 arg8 arg11 k f2 f3 f8 f11) (trip.sl.v786 c arg2 arg3 arg8 arg11 k f2 f3 f8 f11)⟩ :: trip.sl.H8_15 c arg2 arg3 arg8 arg11 k f2 f3 f8 f11) := by dsimp only [trip]
theorem e9 : (trip c i arg2 harg2 arg3 harg3 arg4 harg4 arg5 harg5 arg6 harg6 arg7 harg7 arg8 harg8 arg9 harg9 arg10 harg10 arg11 harg11 c0_i32 c0_i32_22 k f2 f3 f4 f5 f6 f7 f8 f9 f10 f11).1.2.2.2.1 = arg9.view.writes (Elt F) f9 (⟨Rect.unit (s := S80x512) ![0, 0] S80x512.size inb_S80x512_S80x512_0_0, k0_pay2⟩ :: trip.sl.H9_16 c arg2 arg3 arg4 arg8 arg9 arg11 k f2 f3 f4 f8 f9 f11) := by dsimp only [trip]
theorem e10 : (trip c i arg2 harg2 arg3 harg3 arg4 harg4 arg5 harg5 arg6 harg6 arg7 harg7 arg8 harg8 arg9 harg9 arg10 harg10 arg11 harg11 c0_i32 c0_i32_22 k f2 f3 f4 f5 f6 f7 f8 f9 f10 f11).1.2.2.2.2.1 = arg10.view.writes (Elt F) f10 [⟨Rect.unit (s := S80x512) ![0, 0] S80x512.size inb_S80x512_S80x512_0_0, k0_pay1 (trip.sl.v822 c arg2 arg3 arg4 arg8 arg9 arg11 k f2 f3 f4 f8 f9 f11)⟩] := by dsimp only [trip]
theorem e11 : (trip c i arg2 harg2 arg3 harg3 arg4 harg4 arg5 harg5 arg6 harg6 arg7 harg7 arg8 harg8 arg9 harg9 arg10 harg10 arg11 harg11 c0_i32 c0_i32_22 k f2 f3 f4 f5 f6 f7 f8 f9 f10 f11).1.2.2.2.2.2 = arg11.view.writes (Elt F) f11 [⟨Rect.unit (s := S512x512) ![0, 0] S512x512.size inb_S512x512_S512x512_0_0, k0_pay129 (trip.sl.v780 c arg2 arg3 k f2 f3)⟩] := by dsimp only [trip]

theorem w6 : (trip c i arg2 harg2 arg3 harg3 arg4 harg4 arg5 harg5 arg6 harg6 arg7 harg7 arg8 harg8 arg9 harg9 arg10 harg10 arg11 harg11 c0_i32 c0_i32_22 k f2 f3 f4 f5 f6 f7 f8 f9 f10 f11).1.1 = arg6.view.writes (Elt F) f6 [⟨Rect.unit (s := S1x8192x256) (k0_off2 k) S1x128x256.size (facts₀.k0_off2_inb k),
    k0_pay4 (g10 c arg10 f10) (View.ld (arg5.view.read (Elt F) f5) (Rect.unit (s := S1x8192x256) (k0_off2 k) S1x128x256.size (facts₀.k0_off2_inb k)))⟩] := by
  rw [e6]; rfl

theorem w7 : arg7.view.read (Elt F) (trip c i arg2 harg2 arg3 harg3 arg4 harg4 arg5 harg5 arg6 harg6 arg7 harg7 arg8 harg8 arg9 harg9 arg10 harg10 arg11 harg11 c0_i32 c0_i32_22 k f2 f3 f4 f5 f6 f7 f8 f9 f10 f11).1.2.1 = jS (S₀ c arg2 arg3 arg11 k f2 f3 f11) (g8 c arg8 f8) (g7 c arg7 f7) 16 := by
  rw [e7]; refine (View.read_writes_full _ _ _ _ _).trans ?_
  rw [show jS (S₀ c arg2 arg3 arg11 k f2 f3 f11) (g8 c arg8 f8) (g7 c arg7 f7) 16 = k0_pay11 (k0_pay7 ((S₀ c arg2 arg3 arg11 k f2 f3 f11) 15) (mS (S₀ c arg2 arg3 arg11 k f2 f3 f11) (g8 c arg8 f8) 15)) (jS (S₀ c arg2 arg3 arg11 k f2 f3 f11) (g8 c arg8 f8) (g7 c arg7 f7) 15) from rfl,
    ← hm15 c arg2 arg3 arg8 arg11 k f2 f3 f8 f11, ← hj15 c arg2 arg3 arg7 arg8 arg11 k f2 f3 f7 f8 f11]
  rfl

theorem w8 : arg8.view.read (Elt F) (trip c i arg2 harg2 arg3 harg3 arg4 harg4 arg5 harg5 arg6 harg6 arg7 harg7 arg8 harg8 arg9 harg9 arg10 harg10 arg11 harg11 c0_i32 c0_i32_22 k f2 f3 f4 f5 f6 f7 f8 f9 f10 f11).1.2.2.1 = k0_pay3 (sc (View.ld (arg2.view.read (Elt F) f2) (Rect.unit (s := S1x1x64x32768) (k0_off3 k) S1x1x64x512.size (facts₀.k0_off3_inb k))) (arg3.view.read (Elt F) f3) 0) := by
  rw [e8]; refine (View.read_writes_full _ _ _ _ _).trans ?_; rfl

theorem w9 : arg9.view.read (Elt F) (trip c i arg2 harg2 arg3 harg3 arg4 harg4 arg5 harg5 arg6 harg6 arg7 harg7 arg8 harg8 arg9 harg9 arg10 harg10 arg11 harg11 c0_i32 c0_i32_22 k f2 f3 f4 f5 f6 f7 f8 f9 f10 f11).1.2.2.2.1 = k0_pay133 := by
  rw [e9]; refine (View.read_writes_full _ _ _ _ _).trans ?_; rfl

theorem w10 : arg10.view.read (Elt F) (trip c i arg2 harg2 arg3 harg3 arg4 harg4 arg5 harg5 arg6 harg6 arg7 harg7 arg8 harg8 arg9 harg9 arg10 harg10 arg11 harg11 c0_i32 c0_i32_22 k f2 f3 f4 f5 f6 f7 f8 f9 f10 f11).1.2.2.2.2.1 = k0_pay1 (aS (S₀ c arg2 arg3 arg11 k f2 f3 f11) (g8 c arg8 f8) (arg4.view.read (Elt F) f4) (g9 c arg9 f9) 16) := by
  rw [e10]; refine (View.read_writes_full _ _ _ _ _).trans ?_
  rw [← ha16 c arg2 arg3 arg4 arg8 arg9 arg11 k f2 f3 f4 f8 f9 f11]

theorem w11 : arg11.view.read (Elt F) (trip c i arg2 harg2 arg3 harg3 arg4 harg4 arg5 harg5 arg6 harg6 arg7 harg7 arg8 harg8 arg9 harg9 arg10 harg10 arg11 harg11 c0_i32 c0_i32_22 k f2 f3 f4 f5 f6 f7 f8 f9 f10 f11).1.2.2.2.2.2 = k0_pay129 (sc (View.ld (arg2.view.read (Elt F) f2) (Rect.unit (s := S1x1x64x32768) (k0_off3 k) S1x1x64x512.size (facts₀.k0_off3_inb k))) (arg3.view.read (Elt F) f3) 0) := by
  rw [e11]; refine (View.read_writes_full _ _ _ _ _).trans ?_; rfl

end Cert.Proof.KernelIdeal

end
-- ==== Proof.KI.Inv.lean ====
module

public import proofs.«01_k».proof.Proof.KI.Vals

public import Idealize.ShloMosaic.Lib.Pipeline.Value

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords)
  (arg2 : Memref sig .tc .vmem S1x1x64x32768 .bf16) (harg2 : arg2.IsWhole)
  (arg3 : Memref sig .tc .vmem S1x1x8192x64 .bf16) (harg3 : arg3.IsWhole)
  (arg4 : Memref sig .tc .vmem S1x1x80x8192 .bf16) (harg4 : arg4.IsWhole)
  (arg5 : Memref sig .tc .vmem S1x8192x256 .bf16) (harg5 : arg5.IsWhole)
  (arg6 : Memref sig .tc .vmem S1x8192x256 .bf16) (harg6 : arg6.IsWhole)
  (arg7 : Memref sig .tc .vmem S1x1x512 .f32) (harg7 : arg7.IsWhole)
  (arg8 : Memref sig .tc .vmem S1x512 .f32) (harg8 : arg8.IsWhole)
  (arg9 : Memref sig .tc .vmem S80x512 .f32) (harg9 : arg9.IsWhole)
  (arg10 : Memref sig .tc .vmem S80x512 .f32) (harg10 : arg10.IsWhole)
  (arg11 : Memref sig .tc .vmem S512x512 .f32) (harg11 : arg11.IsWhole)
  (c0_i32 c0_i32_22 : BitVec 32)

theorem sgt_apply (x : Vec F S1x8192x256 .bf16) (t : ℕ) (ht : t < 64) (z : S1x128x256.Idx) (y : S1x8192x256.Idx)
    (hy : ∀ a, (y a).val = (![0, 128 * t, 0] : Fin 3 → ℕ) a + (z a).val) : sgt x t z = x y := by
  unfold sgt
  refine congrArg x (funext fun a => Fin.ext ?_)
  rw [hy a]
  show (![0, 128 * (t % 64), 0] : Fin 3 → ℕ) a + 1 * (z a).val = _
  rw [Nat.mod_eq_of_lt ht, Nat.one_mul]

theorem rd_mem (v : View sig .tc .vmem S1x8192x256 .bf16) (f : v.ty.Contents (Elt F)) (off : Fin 3 → ℕ) (inb) (o : ℕ) (heq : off = ![0, 128 * o, 0])
    (p : FVec F S1x128x256 .bf16) (y : S1x8192x256.Idx) (z : S1x128x256.Idx) (hy : ∀ a, (y a).val = (![0, 128 * o, 0] : Fin 3 → ℕ) a + (z a).val) :
    v.read (Elt F) (v.writes (Elt F) f [⟨Rect.unit (s := S1x8192x256) off S1x128x256.size inb, p⟩]) y = p z :=
  View.read_writes_cons_unit_of_mem v f inb p [] y z heq hy

theorem rd_not_mem (v : View sig .tc .vmem S1x8192x256 .bf16) (f : v.ty.Contents (Elt F)) (off : Fin 3 → ℕ) (inb) (o : ℕ) (heq : off = ![0, 128 * o, 0])
    (p : FVec F S1x128x256 .bf16) (y : S1x8192x256.Idx) (hy : (y 1).val < 128 * o ∨ 128 * o + 128 ≤ (y 1).val) :
    v.read (Elt F) (v.writes (Elt F) f [⟨Rect.unit (s := S1x8192x256) off S1x128x256.size inb, p⟩]) y = v.read (Elt F) f y :=
  View.read_writes_cons_unit_of_not_mem v f inb p [] y heq 1 hy

/-- The rows of tile `t` after a write of tile `o`'s. -/
theorem sgt_writes (v : View sig .tc .vmem S1x8192x256 .bf16) (f : v.ty.Contents (Elt F)) (off : Fin 3 → ℕ) (inb) (o : ℕ) (heq : off = ![0, 128 * o, 0])
    (p : FVec F S1x128x256 .bf16) (t : ℕ) (ht : t < 64) :
    sgt (v.read (Elt F) (v.writes (Elt F) f [⟨Rect.unit (s := S1x8192x256) off S1x128x256.size inb, p⟩])) t
      = if t = o then p else sgt (v.read (Elt F) f) t := by
  funext z
  have z0 : (z 0).val < 1 := (z 0).isLt
  have z1 : (z 1).val < 128 := (z 1).isLt
  have z2 : (z 2).val < 256 := (z 2).isLt
  obtain ⟨y, hy⟩ : ∃ y : S1x8192x256.Idx, ∀ a, (y a).val = (![0, 128 * t, 0] : Fin 3 → ℕ) a + (z a).val :=
    ⟨fun a => ⟨(![0, 128 * t, 0] : Fin 3 → ℕ) a + (z a).val, by
      fin_cases a
      · show 0 + (z 0).val < 1; omega
      · show 128 * t + (z 1).val < 8192; omega
      · show 0 + (z 2).val < 256; omega⟩, fun _ => rfl⟩
  rw [sgt_apply _ t ht z y hy]
  by_cases h : t = o
  · rw [if_pos h]; rw [h] at hy
    exact rd_mem v f off inb o heq p y z hy
  · have e : (y 1).val = 128 * t + (z 1).val := hy 1
    rw [if_neg h, sgt_apply _ t ht z y hy]
    exact rd_not_mem v f off inb o heq p y (by omega)

/-- The accumulator that trip `k` turns into rows: the tile's before it. -/
def dn (x2 : Vec F S1x1x64x32768 .bf16) (x3 : Vec F S1x1x8192x64 .bf16) (x4 : Vec F S1x1x80x8192 .bf16) : ℕ → Vec F S80x512 .f32
  | 0 => k0_pay134
  | k + 1 => k0_pay1 (tA x2 x3 x4 k)

/-- What is in the buffers before trip `k`. -/
structure Good (x2 : Vec F S1x1x64x32768 .bf16) (x3 : Vec F S1x1x8192x64 .bf16) (x4 : Vec F S1x1x80x8192 .bf16) (x5 : Vec F S1x8192x256 .bf16)
    (k : ℕ) (W : St (F := F) c arg6 arg7 arg8 arg9 arg10 arg11) : Prop where
  r6 : ∀ t, t + 1 < k → t < 64 → sgt (arg6.view.read (Elt F) W.1) t = tO x2 x3 x4 x5 t
  r7 : arg7.view.read (Elt F) W.2.1 = tJ x2 x3 k
  r8 : arg8.view.read (Elt F) W.2.2.1 = tM x2 x3 (min k 63)
  r9 : arg9.view.read (Elt F) W.2.2.2.1 = k0_pay133
  r10 : arg10.view.read (Elt F) W.2.2.2.2.1 = dn x2 x3 x4 k
  r11 : arg11.view.read (Elt F) W.2.2.2.2.2 = tS x2 x3 (min k 63) 0

variable (f2 : Bf (F := F) c arg2) (f3 : Bf (F := F) c arg3) (f4 : Bf (F := F) c arg4) (f5 : Bf (F := F) c arg5)

theorem ld_unit_congr (S : Shape) (e : EltTy) (x : Vec F S e) (off off' size : Fin S.rank → ℕ) (inb) (inb') (h : off = off') :
    View.ld x (Rect.unit off size inb) = View.ld x (Rect.unit off' size inb') := by
  subst h; rfl

theorem ld_off1 (x2 : Vec F S1x1x64x32768 .bf16) (k : Fin k0_t1_loop.trips) :
    View.ld x2 (Rect.unit (s := S1x1x64x32768) (k0_off1 k) S1x1x64x512.size (facts₀.k0_off1_inb k)) = qt x2 k.val :=
  ld_unit_congr _ _ x2 _ _ _ _ _ (by rw [off1_eq, Nat.mod_eq_of_lt (trips_eq ▸ k.isLt)])

theorem ld_off3 (x2 : Vec F S1x1x64x32768 .bf16) (k : Fin k0_t1_loop.trips) :
    View.ld x2 (Rect.unit (s := S1x1x64x32768) (k0_off3 k) S1x1x64x512.size (facts₀.k0_off3_inb k)) = qt x2 (min (k.val + 1) 63) :=
  ld_unit_congr _ _ x2 _ _ _ _ _ (by rw [off3_eq, Nat.mod_eq_of_lt (show min (k.val + 1) 63 < 64 by omega)])

theorem ld_off2 (x5 : Vec F S1x8192x256 .bf16) (k : Fin k0_t1_loop.trips) :
    View.ld x5 (Rect.unit (s := S1x8192x256) (k0_off2 k) S1x128x256.size (facts₀.k0_off2_inb k)) = sgt x5 (k.val - 1) :=
  ld_unit_congr _ _ x5 _ _ _ _ _ (by rw [off2_eq, Nat.mod_eq_of_lt (show k.val - 1 < 64 by have : k.val < 64 := trips_eq ▸ k.isLt; omega)])

theorem S₀_eq (k : Fin k0_t1_loop.trips) (f11 : Bf (F := F) c arg11) (h : arg11.view.read (Elt F) f11 = tS (arg2.view.read (Elt F) f2) (arg3.view.read (Elt F) f3) (min k.val 63) 0) :
    S₀ c arg2 arg3 arg11 k f2 f3 f11 = tS (arg2.view.read (Elt F) f2) (arg3.view.read (Elt F) f3) k.val := by
  have hk : k.val < 64 := trips_eq ▸ k.isLt
  funext d
  match d with
  | 0 => unfold S₀ g11; rw [View.readAt_full, h, Nat.min_eq_left (by omega)]
  | d + 1 => unfold S₀; rw [ld_off1]; rfl

theorem pay1_eq (v : Vec F S80x512 .f32) : k0_pay1 v = v := shapeCast_self _ _
theorem dn_succ (x2 : Vec F S1x1x64x32768 .bf16) (x3 : Vec F S1x1x8192x64 .bf16) (x4 : Vec F S1x1x80x8192 .bf16) (k : ℕ) : dn x2 x3 x4 (k + 1) = tA x2 x3 x4 k := pay1_eq _
theorem pay129_eq (v : FVec F S512x512 .f32) : k0_pay129 v = v := shapeCast_self _ _

theorem good_step (k : Fin k0_t1_loop.trips) (W : St (F := F) c arg6 arg7 arg8 arg9 arg10 arg11)
    (h : Good c arg6 arg7 arg8 arg9 arg10 arg11 (arg2.view.read (Elt F) f2) (arg3.view.read (Elt F) f3) (arg4.view.read (Elt F) f4) (arg5.view.read (Elt F) f5) k.val W) :
    Good c arg6 arg7 arg8 arg9 arg10 arg11 (arg2.view.read (Elt F) f2) (arg3.view.read (Elt F) f3) (arg4.view.read (Elt F) f4) (arg5.view.read (Elt F) f5) (k.val + 1) (trip c i arg2 harg2 arg3 harg3 arg4 harg4 arg5 harg5 arg6 harg6 arg7 harg7 arg8 harg8 arg9 harg9 arg10 harg10 arg11 harg11 c0_i32 c0_i32_22 k f2 f3 f4 f5 W.1 W.2.1 W.2.2.1 W.2.2.2.1 W.2.2.2.2.1 W.2.2.2.2.2).1 := by
  have hk : k.val < 64 := trips_eq ▸ k.isLt
  have hS := S₀_eq c arg2 arg3 arg11 f2 f3 k W.2.2.2.2.2 h.r11
  have h8 : g8 c arg8 W.2.2.1 = tM (arg2.view.read (Elt F) f2) (arg3.view.read (Elt F) f3) k.val := by
    unfold g8; rw [View.readAt_full, h.r8, Nat.min_eq_left (by omega)]
  have h9 : g9 c arg9 W.2.2.2.1 = k0_pay133 := by unfold g9; rw [View.readAt_full, h.r9]
  have h7 : g7 c arg7 W.2.1 = tJ (arg2.view.read (Elt F) f2) (arg3.view.read (Elt F) f3) k.val := by unfold g7; rw [View.readAt_full, h.r7]
  have h10 : g10 c arg10 W.2.2.2.2.1 = dn (arg2.view.read (Elt F) f2) (arg3.view.read (Elt F) f3) (arg4.view.read (Elt F) f4) k.val := by unfold g10; rw [View.readAt_full, h.r10]
  refine ⟨fun t ht ht' => ?_, ?_, ?_, ?_, ?_, ?_⟩
  · rw [w6, sgt_writes arg6.view _ (k0_off2 k) _ (k.val - 1) (off2_eq k) _ t ht', ld_off2, h10]
    by_cases e : t = k.val - 1
    · rw [if_pos e]
      obtain ⟨j, hj⟩ : ∃ j, k.val = j + 1 := ⟨k.val - 1, by omega⟩
      rw [hj] at e ⊢; rw [show t = j from by omega, show j + 1 - 1 = j from rfl]; rw [dn_succ]; rfl
    · rw [if_neg e]; exact h.r6 t (by omega) ht'
  · rw [w7, hS, h8, h7]; rfl
  · rw [w8, ld_off3]; rfl
  · rw [w9]
  · rw [w10, hS, h8, h9]; rfl
  · rw [w11, ld_off3, pay129_eq]; rfl

theorem good_st (z : St (F := F) c arg6 arg7 arg8 arg9 arg10 arg11)
    (h : Good c arg6 arg7 arg8 arg9 arg10 arg11 (arg2.view.read (Elt F) f2) (arg3.view.read (Elt F) f3) (arg4.view.read (Elt F) f4) (arg5.view.read (Elt F) f5) 0 z) (k : ℕ) (hk : k ≤ 64) :
    Good c arg6 arg7 arg8 arg9 arg10 arg11 (arg2.view.read (Elt F) f2) (arg3.view.read (Elt F) f3) (arg4.view.read (Elt F) f4) (arg5.view.read (Elt F) f5) k (st c i arg2 harg2 arg3 harg3 arg4 harg4 arg5 harg5 arg6 harg6 arg7 harg7 arg8 harg8 arg9 harg9 arg10 harg10 arg11 harg11 c0_i32 c0_i32_22 f2 f3 f4 f5 z k) := by
  induction k with
  | zero => exact h
  | succ k ih =>
    have hk' : k < k0_t1_loop.trips := trips_eq ▸ hk
    rw [st, dif_pos hk']
    exact good_step c i arg2 harg2 arg3 harg3 arg4 harg4 arg5 harg5 arg6 harg6 arg7 harg7 arg8 harg8 arg9 harg9 arg10 harg10 arg11 harg11 c0_i32 c0_i32_22 f2 f3 f4 f5 ⟨k, hk'⟩ _ (ih (by omega))

variable (f6 : Bf (F := F) c arg6) (f7 : Bf (F := F) c arg7) (f8 : Bf (F := F) c arg8) (f9 : Bf (F := F) c arg9) (f10 : Bf (F := F) c arg10) (f11 : Bf (F := F) c arg11)

/-- The contents at the loop's entry. -/
def z₀ : St (F := F) c arg6 arg7 arg8 arg9 arg10 arg11 :=
  (f6, arg7.view.writes (Elt F) arg7.view.junk body.sl.H7_1,
            arg8.view.writes (Elt F) arg8.view.junk (body.sl.H8_1 c arg2 arg3 f2 f3),
            arg9.view.writes (Elt F) arg9.view.junk body.sl.H9_1,
            arg10.view.writes (Elt F) arg10.view.junk body.sl.H10_1,
            arg11.view.writes (Elt F) arg11.view.junk (body.sl.H11_1 c arg2 arg3 f2 f3))

theorem ld_zero (x2 : Vec F S1x1x64x32768 .bf16) (inb) :
    View.ld x2 (Rect.unit (s := S1x1x64x32768) ![0, 0, 0, 0] S1x1x64x512.size inb) = qt x2 0 := rfl

end Cert.Proof.KernelIdeal

end
-- ==== Proof.KI.Out.lean ====
module

public import proofs.«01_k».proof.Proof.KI.Inv

public import Idealize.ShloMosaic.Lib.Pipeline.Value

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords)
  (arg2 : Memref sig .tc .vmem S1x1x64x32768 .bf16) (harg2 : arg2.IsWhole)
  (arg3 : Memref sig .tc .vmem S1x1x8192x64 .bf16) (harg3 : arg3.IsWhole)
  (arg4 : Memref sig .tc .vmem S1x1x80x8192 .bf16) (harg4 : arg4.IsWhole)
  (arg5 : Memref sig .tc .vmem S1x8192x256 .bf16) (harg5 : arg5.IsWhole)
  (arg6 : Memref sig .tc .vmem S1x8192x256 .bf16) (harg6 : arg6.IsWhole)
  (arg7 : Memref sig .tc .vmem S1x1x512 .f32) (harg7 : arg7.IsWhole)
  (arg8 : Memref sig .tc .vmem S1x512 .f32) (harg8 : arg8.IsWhole)
  (arg9 : Memref sig .tc .vmem S80x512 .f32) (harg9 : arg9.IsWhole)
  (arg10 : Memref sig .tc .vmem S80x512 .f32) (harg10 : arg10.IsWhole)
  (arg11 : Memref sig .tc .vmem S512x512 .f32) (harg11 : arg11.IsWhole)
  (c0_i32 c0_i32_22 : BitVec 32)

variable (f2 : Bf (F := F) c arg2) (f3 : Bf (F := F) c arg3) (f4 : Bf (F := F) c arg4) (f5 : Bf (F := F) c arg5)
variable (f6 : Bf (F := F) c arg6) (f7 : Bf (F := F) c arg7) (f8 : Bf (F := F) c arg8) (f9 : Bf (F := F) c arg9) (f10 : Bf (F := F) c arg10) (f11 : Bf (F := F) c arg11)

theorem e24 : body.sl.v24 (F := F) = k0_pay135 := by
  unfold body.sl.v24 k0_pay135; rfl
theorem e16 : body.sl.v16 (F := F) = k0_pay133 := by
  unfold body.sl.v16 k0_pay133; rfl
theorem e20 : body.sl.v20 (F := F) = k0_pay134 := by
  unfold body.sl.v20 k0_pay134; rfl
theorem e12 : body.sl.v12 c arg2 arg3 f2 f3 = tM (arg2.view.read (Elt F) f2) (arg3.view.read (Elt F) f3) 0 := by
  unfold body.sl.v12 tM; rfl
theorem e7' : body.sl.v7 c arg2 arg3 f2 f3 = tS (arg2.view.read (Elt F) f2) (arg3.view.read (Elt F) f3) 0 0 := by
  unfold body.sl.v7; rw [shapeCast_self]; rfl

theorem good_z₀ : Good c arg6 arg7 arg8 arg9 arg10 arg11 (arg2.view.read (Elt F) f2) (arg3.view.read (Elt F) f3) (arg4.view.read (Elt F) f4) (arg5.view.read (Elt F) f5) 0 (z₀ c arg2 arg3 arg6 arg7 arg8 arg9 arg10 arg11 f2 f3 f6) := by
  unfold z₀ body.sl.H7_1 body.sl.H8_1 body.sl.H9_1 body.sl.H10_1 body.sl.H11_1
  rw [e24, e16, e20, e12, e7']
  refine ⟨fun t ht => absurd ht (by omega), ?_, ?_, ?_, ?_, ?_⟩ <;> dsimp only
  · exact View.read_writes_full _ _ _ _ _
  · exact View.read_writes_full _ _ _ _ _
  · exact View.read_writes_full _ _ _ _ _
  · exact View.read_writes_full _ _ _ _ _
  · exact View.read_writes_full _ _ _ _ _

theorem nT_eq : Scf.trips k0_t1_loop.lb k0_t1_loop.ub k0_t1_loop.st = 64 := trips_eq

theorem nT_eq' : Scf.trips (0#32) (Scalar.addi 0#32 64#32) 1#32 = 64 := by decide

/-- The state at the loop's exit. -/
def sT : St (F := F) c arg6 arg7 arg8 arg9 arg10 arg11 :=
  st c i arg2 harg2 arg3 harg3 arg4 harg4 arg5 harg5 arg6 harg6 arg7 harg7 arg8 harg8 arg9 harg9 arg10 harg10 arg11 harg11 (0#32) (0#32) f2 f3 f4 f5 (z₀ c arg2 arg3 arg6 arg7 arg8 arg9 arg10 arg11 f2 f3 f6) (Scf.trips k0_t1_loop.lb k0_t1_loop.ub k0_t1_loop.st)

theorem v49_eq : body.sl.v49 c i arg2 harg2 arg3 harg3 arg4 harg4 arg5 harg5 arg6 harg6 arg7 harg7 arg8 harg8 arg9 harg9 arg10 harg10 arg11 harg11 f2 f3 f4 f5 f6 = k0_pay4 (g10 c arg10 (sT c i arg2 harg2 arg3 harg3 arg4 harg4 arg5 harg5 arg6 harg6 arg7 harg7 arg8 harg8 arg9 harg9 arg10 harg10 arg11 harg11 f2 f3 f4 f5 f6).2.2.2.2.1) (sgt (arg5.view.read (Elt F) f5) 63) := by
  try unfold body.sl.v49
  try unfold body.sl.v46
  try unfold body.sl.v45
  try unfold body.sl.v44
  try unfold body.sl.v43
  try unfold body.sl.v42
  try unfold body.sl.v41
  try unfold body.sl.v40
  try unfold body.sl.v39
  try unfold body.sl.v38
  try unfold body.sl.v37
  try unfold body.sl.v36
  try unfold body.sl.v35
  try unfold body.sl.v34
  try unfold body.sl.v33
  try unfold body.sl.v32
  try unfold body.sl.v31
  try unfold body.sl.v30
  try unfold body.sl.v29
  try unfold body.sl.v28
  try unfold body.sl.v27
  try unfold body.sl.v26
  try unfold body.sl.cst_28
  unfold sT z₀
  generalize st c i arg2 harg2 arg3 harg3 arg4 harg4 arg5 harg5 arg6 harg6 arg7 harg7 arg8 harg8 arg9 harg9 arg10 harg10 arg11 harg11 (0#32) (0#32) f2 f3 f4 f5 (f6, arg7.view.writes (Elt F) arg7.view.junk body.sl.H7_1,
            arg8.view.writes (Elt F) arg8.view.junk (body.sl.H8_1 c arg2 arg3 f2 f3),
            arg9.view.writes (Elt F) arg9.view.junk body.sl.H9_1,
            arg10.view.writes (Elt F) arg10.view.junk body.sl.H10_1,
            arg11.view.writes (Elt F) arg11.view.junk (body.sl.H11_1 c arg2 arg3 f2 f3)) (Scf.trips k0_t1_loop.lb k0_t1_loop.ub k0_t1_loop.st) = W
  rfl

theorem body_eq : (body c i arg2 harg2 arg3 harg3 arg4 harg4 arg5 harg5 arg6 harg6 arg7 harg7 arg8 harg8 arg9 harg9 arg10 harg10 arg11 harg11 f2 f3 f4 f5 f6 f7 f8 f9 f10 f11).1 = (arg6.view.writes (Elt F) (sT c i arg2 harg2 arg3 harg3 arg4 harg4 arg5 harg5 arg6 harg6 arg7 harg7 arg8 harg8 arg9 harg9 arg10 harg10 arg11 harg11 f2 f3 f4 f5 f6).1
    [⟨Rect.unit (s := S1x8192x256) ![0, 8064, 0] S1x128x256.size inb_S1x8192x256_S1x128x256_0_8064_0, body.sl.v49 c i arg2 harg2 arg3 harg3 arg4 harg4 arg5 harg5 arg6 harg6 arg7 harg7 arg8 harg8 arg9 harg9 arg10 harg10 arg11 harg11 f2 f3 f4 f5 f6⟩],
    (sT c i arg2 harg2 arg3 harg3 arg4 harg4 arg5 harg5 arg6 harg6 arg7 harg7 arg8 harg8 arg9 harg9 arg10 harg10 arg11 harg11 f2 f3 f4 f5 f6).2.1, (sT c i arg2 harg2 arg3 harg3 arg4 harg4 arg5 harg5 arg6 harg6 arg7 harg7 arg8 harg8 arg9 harg9 arg10 harg10 arg11 harg11 f2 f3 f4 f5 f6).2.2.1, (sT c i arg2 harg2 arg3 harg3 arg4 harg4 arg5 harg5 arg6 harg6 arg7 harg7 arg8 harg8 arg9 harg9 arg10 harg10 arg11 harg11 f2 f3 f4 f5 f6).2.2.2.1, (sT c i arg2 harg2 arg3 harg3 arg4 harg4 arg5 harg5 arg6 harg6 arg7 harg7 arg8 harg8 arg9 harg9 arg10 harg10 arg11 harg11 f2 f3 f4 f5 f6).2.2.2.2.1, (sT c i arg2 harg2 arg3 harg3 arg4 harg4 arg5 harg5 arg6 harg6 arg7 harg7 arg8 harg8 arg9 harg9 arg10 harg10 arg11 harg11 f2 f3 f4 f5 f6).2.2.2.2.2) := by
  unfold body sT z₀
  dsimp only

theorem pr1 {α β : Type} (a : α) (b : β) : (a, b).1 = a := rfl
theorem pr2 {α β γ : Type} (a : α) (b : β) (d : γ) : (a, b, d).2.1 = b := rfl

theorem b6 : (body c i arg2 harg2 arg3 harg3 arg4 harg4 arg5 harg5 arg6 harg6 arg7 harg7 arg8 harg8 arg9 harg9 arg10 harg10 arg11 harg11 f2 f3 f4 f5 f6 f7 f8 f9 f10 f11).1.1 = arg6.view.writes (Elt F) (sT c i arg2 harg2 arg3 harg3 arg4 harg4 arg5 harg5 arg6 harg6 arg7 harg7 arg8 harg8 arg9 harg9 arg10 harg10 arg11 harg11 f2 f3 f4 f5 f6).1
    [⟨Rect.unit (s := S1x8192x256) ![0, 8064, 0] S1x128x256.size inb_S1x8192x256_S1x128x256_0_8064_0, body.sl.v49 c i arg2 harg2 arg3 harg3 arg4 harg4 arg5 harg5 arg6 harg6 arg7 harg7 arg8 harg8 arg9 harg9 arg10 harg10 arg11 harg11 f2 f3 f4 f5 f6⟩] :=
  (congrArg (fun W => W.1) (body_eq c i arg2 harg2 arg3 harg3 arg4 harg4 arg5 harg5 arg6 harg6 arg7 harg7 arg8 harg8 arg9 harg9 arg10 harg10 arg11 harg11 f2 f3 f4 f5 f6 f7 f8 f9 f10 f11)).trans (pr1 _ _)

theorem b7 : (body c i arg2 harg2 arg3 harg3 arg4 harg4 arg5 harg5 arg6 harg6 arg7 harg7 arg8 harg8 arg9 harg9 arg10 harg10 arg11 harg11 f2 f3 f4 f5 f6 f7 f8 f9 f10 f11).1.2.1 = (sT c i arg2 harg2 arg3 harg3 arg4 harg4 arg5 harg5 arg6 harg6 arg7 harg7 arg8 harg8 arg9 harg9 arg10 harg10 arg11 harg11 f2 f3 f4 f5 f6).2.1 :=
  (congrArg (fun W => W.2.1) (body_eq c i arg2 harg2 arg3 harg3 arg4 harg4 arg5 harg5 arg6 harg6 arg7 harg7 arg8 harg8 arg9 harg9 arg10 harg10 arg11 harg11 f2 f3 f4 f5 f6 f7 f8 f9 f10 f11)).trans (pr2 _ _ _)

theorem good_sT : Good c arg6 arg7 arg8 arg9 arg10 arg11 (arg2.view.read (Elt F) f2) (arg3.view.read (Elt F) f3) (arg4.view.read (Elt F) f4) (arg5.view.read (Elt F) f5) 64 (sT c i arg2 harg2 arg3 harg3 arg4 harg4 arg5 harg5 arg6 harg6 arg7 harg7 arg8 harg8 arg9 harg9 arg10 harg10 arg11 harg11 f2 f3 f4 f5 f6) := by
  unfold sT
  rw [nT_eq]
  exact good_st c i arg2 harg2 arg3 harg3 arg4 harg4 arg5 harg5 arg6 harg6 arg7 harg7 arg8 harg8 arg9 harg9 arg10 harg10 arg11 harg11 (0#32) (0#32) f2 f3 f4 f5 _ (good_z₀ c arg2 arg3 arg4 arg5 arg6 arg7 arg8 arg9 arg10 arg11 f2 f3 f4 f5 f6) 64 le_rfl

/-- The output block the body leaves: its rows tile by tile. -/
def oBlk (x2 : Vec F S1x1x64x32768 .bf16) (x3 : Vec F S1x1x8192x64 .bf16) (x4 : Vec F S1x1x80x8192 .bf16) (x5 : Vec F S1x8192x256 .bf16) :
    Vec F S1x8192x256 .bf16 := fun y =>
  tO x2 x3 x4 x5 ((y 1).val / 128) (fun a => ⟨(![0, (y 1).val % 128, (y 2).val] : Fin 3 → ℕ) a, by
    have := (y 2).isLt; fin_cases a <;> simp [Shape.size] at this ⊢ <;> omega⟩)

theorem body_out : arg6.view.read (Elt F) (body c i arg2 harg2 arg3 harg3 arg4 harg4 arg5 harg5 arg6 harg6 arg7 harg7 arg8 harg8 arg9 harg9 arg10 harg10 arg11 harg11 f2 f3 f4 f5 f6 f7 f8 f9 f10 f11).1.1 = oBlk (arg2.view.read (Elt F) f2) (arg3.view.read (Elt F) f3) (arg4.view.read (Elt F) f4) (arg5.view.read (Elt F) f5) := by
  have g := good_sT c i arg2 harg2 arg3 harg3 arg4 harg4 arg5 harg5 arg6 harg6 arg7 harg7 arg8 harg8 arg9 harg9 arg10 harg10 arg11 harg11 f2 f3 f4 f5 f6
  funext y
  have h1 : (y 1).val < 8192 := (y 1).isLt
  have h0 : (y 0).val < 1 := (y 0).isLt
  unfold oBlk
  rw [← sgt_apply (arg6.view.read (Elt F) _) ((y 1).val / 128) (by omega)
    (fun a => ⟨(![0, (y 1).val % 128, (y 2).val] : Fin 3 → ℕ) a, by
      have := (y 2).isLt; fin_cases a <;> simp [Shape.size] at this ⊢ <;> omega⟩) y (by
      intro a; fin_cases a <;> simp <;> omega)]
  refine congrFun ?_ _
  rw [b6, v49_eq, sgt_writes arg6.view _ _ _ 63 rfl _ _ (by omega)]
  by_cases e : (y 1).val / 128 = 63
  · rw [if_pos e, e]; unfold g10; rw [View.readAt_full, g.r10, dn_succ]; rfl
  · rw [if_neg e]; exact g.r6 _ (by omega) (by omega)

theorem body_jump : arg7.view.read (Elt F) (body c i arg2 harg2 arg3 harg3 arg4 harg4 arg5 harg5 arg6 harg6 arg7 harg7 arg8 harg8 arg9 harg9 arg10 harg10 arg11 harg11 f2 f3 f4 f5 f6 f7 f8 f9 f10 f11).1.2.1 = tJ (arg2.view.read (Elt F) f2) (arg3.view.read (Elt F) f3) 64 := by
  rw [b7]; exact (good_sT c i arg2 harg2 arg3 harg3 arg4 harg4 arg5 harg5 arg6 harg6 arg7 harg7 arg8 harg8 arg9 harg9 arg10 harg10 arg11 harg11 f2 f3 f4 f5 f6).r7

end Cert.Proof.KernelIdeal

end
-- ==== Proof.KI.Run.lean ====
module

public import proofs.«01_k».proof.Proof.KI.Out
public import proofs.«01_k».proof.Proof.Gen.KernelIdeal.Frame

public import Idealize.ShloMosaic.Lib.Claim

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

theorem owns_pt (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  have hs : M.view.set = Finset.univ := by
    obtain ⟨b, rfl, rfl, rfl, h⟩ := h
    cases h
    rw [Memref.view_whole, View.set_whole]
  unfold owns pt
  rw [hs]

/-- The body on whole buffers: the inputs stay as they are, the two results are their blocks, the
    scratch ends at some contents. -/
theorem sound_kernel (c : Dev nD) (i : grid0.Coords) (arg2 : Memref sig .tc .vmem S1x1x64x32768 .bf16) (harg2 : arg2.IsWhole) (arg3 : Memref sig .tc .vmem S1x1x8192x64 .bf16) (harg3 : arg3.IsWhole) (arg4 : Memref sig .tc .vmem S1x1x80x8192 .bf16) (harg4 : arg4.IsWhole) (arg5 : Memref sig .tc .vmem S1x8192x256 .bf16) (harg5 : arg5.IsWhole) (arg6 : Memref sig .tc .vmem S1x8192x256 .bf16) (harg6 : arg6.IsWhole) (arg7 : Memref sig .tc .vmem S1x1x512 .f32) (harg7 : arg7.IsWhole) (arg8 : Memref sig .tc .vmem S1x512 .f32) (harg8 : arg8.IsWhole) (arg9 : Memref sig .tc .vmem S80x512 .f32) (harg9 : arg9.IsWhole) (arg10 : Memref sig .tc .vmem S80x512 .f32) (harg10 : arg10.IsWhole) (arg11 : Memref sig .tc .vmem S512x512 .f32) (harg11 : arg11.IsWhole)
    (x2 : Vec F S1x1x64x32768 .bf16) (x3 : Vec F S1x1x8192x64 .bf16) (x4 : Vec F S1x1x80x8192 .bf16) (x5 : Vec F S1x8192x256 .bf16) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (∃ f, pt c arg8 f) ∗ (∃ f, pt c arg9 f) ∗ (∃ f, pt c arg10 f) ∗ (∃ f, pt c arg11 f)
        ∗ (iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (oBlk x2 x3 x4 x5) ∗ owns (c : Thread nD τ) arg7 fullShare (tJ x2 x3 64)
            ∗ (∃ f, pt c arg8 f) ∗ (∃ f, pt c arg9 f) ∗ (∃ f, pt c arg10 f) ∗ (∃ f, pt c arg11 f)) -∗ K ⟨⟩))
      ⊢ wp frame (wpE (defs₀ (F := F)) Variants.none (c : Thread nD τ) none) Set.univ (cc0_gqa_attn (F := F) i arg2 harg2 arg3 harg3 arg4 harg4 arg5 harg5 arg6 harg6 arg7 harg7 arg8 harg8 arg9 harg9 arg10 harg10 arg11 harg11) K := by
  rw [owns_pt c arg2 harg2, owns_pt c arg3 harg3, owns_pt c arg4 harg4, owns_pt c arg5 harg5, owns_pt c arg6 harg6, owns_pt c arg7 harg7]
  simp only [owns_pt c arg6 harg6, owns_pt c arg7 harg7]
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%f8, H8⟩, ⟨%f9, H9⟩, ⟨%f10, H10⟩, ⟨%f11, H11⟩, Hk⟩
  subst hf2 hf3 hf4 hf5
  have b6 := body_out c i arg2 harg2 arg3 harg3 arg4 harg4 arg5 harg5 arg6 harg6 arg7 harg7 arg8 harg8 arg9 harg9 arg10 harg10 arg11 harg11 f2 f3 f4 f5 f6 f7 f8 f9 f10 f11
  have b7 := body_jump c i arg2 harg2 arg3 harg3 arg4 harg4 arg5 harg5 arg6 harg6 arg7 harg7 arg8 harg8 arg9 harg9 arg10 harg10 arg11 harg11 f2 f3 f4 f5 f6 f7 f8 f9 f10 f11
  have w := (body c i arg2 harg2 arg3 harg3 arg4 harg4 arg5 harg5 arg6 harg6 arg7 harg7 arg8 harg8 arg9 harg9 arg10 harg10 arg11 harg11 f2 f3 f4 f5 f6 f7 f8 f9 f10 f11).2
  generalize (body c i arg2 harg2 arg3 harg3 arg4 harg4 arg5 harg5 arg6 harg6 arg7 harg7 arg8 harg8 arg9 harg9 arg10 harg10 arg11 harg11 f2 f3 f4 f5 f6 f7 f8 f9 f10 f11).1 = W at b6 b7 w
  iapply (wp_wand_r _ _ _)
  isplitl [H2 H3 H4 H5 H6 H7 H8 H9 H10 H11]
  · iapply w
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iintro %u ⟨H2, H3, H4, H5, H6, H7, H8, H9, H10, H11⟩
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists W.1; isplitr; · ipureintro; exact b6
    iexact H6
  isplitl [H7]
  · iexists W.2.1; isplitr; · ipureintro; exact b7
    iexact H7
  isplitl [H8]; · iexists _; iexact H8
  isplitl [H9]; · iexists _; iexact H9
  isplitl [H10]; · iexists _; iexact H10
  iexists _; iexact H11

variable (m : (ℓ : Loc nD τ sig) → Buf (Elt F) ℓ) (ρ : Dev nD → PrngReg)

/-- The launch's data: the inputs' buffers at their blocks, the two results' at the body's values. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => oBlk (iblk m c 0 t) (iblk m c 1 t) (iblk m c 2 t) (iblk m c 3 t)
    | ⟨5, _⟩ => tJ (iblk m c 0 t) (iblk m c 1 t) 64
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = oBlk (iblk m c 0 t) (iblk m c 1 t) (iblk m c 2 t) (iblk m c 3 t) := by dsimp only [dats]
theorem after0_5 (c : Dev nD) (t : Fin cfg0.N) : (dats m 0 c).after 5 t = tJ (iblk m c 0 t) (iblk m c 1 t) 64 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is given at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl,
    after0_0, after0_1, after0_2, after0_3, after0_4, after0_5]
  unfold Pipeline.ΦA
  rw [scopedRest0_eq]
  iintro ⟨⟨⟨S8, S9, S10, S11⟩, Hr⟩, Ho, ⟨%d0, H0⟩, ⟨%d1, H1⟩, ⟨%d2, H2⟩, ⟨%d3, H3⟩, ⟨%d4, H4⟩, ⟨%d5, H5⟩⟩
  iapply (sound_kernel c _ _ _ _ _ _ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [S8]; · iexact S8
  isplitl [S9]; · iexact S9
  isplitl [S10]; · iexact S10
  isplitl [S11]; · iexact S11
  iintro ⟨H0, H1, H2, H3, H4, H5, S8, S9, S10, S11⟩
  isplitl [S8 S9 S10 S11 Hr]
  · isplitl [S8 S9 S10 S11]
    · isplitl [S8]; · iexact S8
      isplitl [S9]; · iexact S9
      isplitl [S10]; · iexact S10
      iexact S11
    · iexact Hr
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run ends with the arrays as the launch's data say and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.Proof.KernelIdeal
-- ==== Proof.Val.Real.lean ====
module

public import Idealize.ShloMosaic.PureOps
public import Idealize.ShloMosaic.Lib.IdealHost

@[expose] public section
noncomputable section

/-! Arithmetic of extended reals that happen to be real. -/

namespace Cert.Proof.Val
open Idealize.ShloMosaic

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The largest of finitely many reals, folded from `-∞`, is one of them. -/
theorem fold_max_coe {ι : Type} [Fintype ι] [Nonempty ι] (b : EReal) (hb : b = ⊥) (f : ι → ℝ) :
    ∃ i, Finset.univ.fold max b (fun i => (f i : EReal)) = (f i : EReal) := by
  subst hb
  obtain ⟨i, _, hi⟩ := Finset.exists_mem_eq_sup (Finset.univ : Finset ι) Finset.univ_nonempty (fun i => (f i : EReal))
  exact ⟨i, hi⟩

theorem exp2_coe (r : ℝ) : Ideal.exp2 (r : EReal) = (((2 : ℝ) ^ r : ℝ) : EReal) := rfl
theorem exp_coe (r : ℝ) : Ideal.exp (r : EReal) = ((Real.exp r : ℝ) : EReal) := rfl
theorem log_coe {r : ℝ} (h : 0 < r) : Ideal.log (r : EReal) = ((Real.log r : ℝ) : EReal) := by
  show (if r ≤ 0 then (⊥ : EReal) else (Real.log r : EReal)) = _
  rw [if_neg (not_le.mpr h)]
theorem div_coe (x : ℝ) {y : ℝ} (h : y ≠ 0) : Ideal.div (x : EReal) (y : EReal) = ((x / y : ℝ) : EReal) := by
  rw [Ideal.div, if_neg (by exact_mod_cast h), ← EReal.coe_inv, ← EReal.coe_mul, div_eq_mul_inv]

theorem bot_f32 : Ideal.ofBits .f32 0xFF800000#32 = ⊥ := by
  show Ideal.ieee 8 23 0xFF800000#32 = ⊥
  simp [Ideal.ieee]
theorem bot_bf16 : Ideal.ofBits .bf16 0xFF80#16 = ⊥ := by
  show Ideal.ieee 8 7 0xFF80#16 = ⊥
  simp [Ideal.ieee]
theorem top_f32 : Ideal.ofBits .f32 0x7F800000#32 = ⊤ := by
  show Ideal.ieee 8 23 0x7F800000#32 = ⊤
  simp [Ideal.ieee]
theorem two_f32 : Ideal.ofBits .f32 0x40000000#32 = ((2 : ℝ) : EReal) := by
  simp [Ideal.ofBits, Ideal.ieee, -EReal.coe_mul]; norm_num

/-- A real is what lies strictly below `∞` in absolute value. -/
theorem real_of_abs_lt_top {x : EReal} (h : max x (-x) < ⊤) : x = ((x.toReal : ℝ) : EReal) := by
  refine (EReal.coe_toReal ?_ ?_).symm
  · rintro rfl; simp at h
  · rintro rfl; simp at h

/-- The weighted mean does not see the shift its exponents are taken against. -/
theorem shift_div {ι : Type} [Fintype ι] (w s : ι → ℝ) (μ : ℝ) :
    (∑ κ, w κ * (2 : ℝ) ^ (s κ - μ)) = (∑ κ, w κ * (2 : ℝ) ^ s κ) * (2 : ℝ) ^ (-μ) := by
  rw [Finset.sum_mul]
  refine Finset.sum_congr rfl fun κ _ => ?_
  rw [sub_eq_add_neg, Real.rpow_add (by norm_num), mul_assoc]

end Cert.Proof.Val
end
-- ==== Proof.Val.Step.lean ====
module

public import proofs.«01_k».proof.Proof.KI.State
public import proofs.«01_k».proof.Proof.Val.Real
public import Idealize.ShloMosaic.Lib.Pointwise

@[expose] public section
set_option maxRecDepth 16384
noncomputable section

/-! One chunk of keys, read at one query column. -/

namespace Cert.Proof.Val
open Cert.Proof.KernelIdeal Cert.KernelIdeal Cert.KernelIdeal.Gen
open Idealize.ShloMosaic

variable (S : FVec Ideal S512x512 .f32) (m : FVec Ideal S1x512 .f32) (j : Fin 512) (s : Fin 512 → ℝ) (μ : ℝ)

theorem pay5_at (q : FVec Ideal S1x1x64x512 .bf16) (k : FVec Ideal S1x1x512x64 .bf16) (i : Fin 512) (a b : Fin 64 → ℝ)
    (hk : ∀ x, k (ix4 0 0 i x) = (a x : EReal)) (hq : ∀ x, q (ix4 0 0 x j) = (b x : EReal)) :
    k0_pay5 (F := Ideal) q k (ix2 i j) = ((∑ x, a x * b x : ℝ) : EReal) := by
  pointwise [k0_pay5]
  rw [← coe_sum]
  refine Finset.sum_congr rfl fun x _ => ?_
  rw [hk, hq, EReal.coe_mul]

theorem pay3_at (hS : ∀ x, S (ix2 x j) = (s x : EReal)) : ∃ μ : ℝ, k0_pay3 (F := Ideal) S (ix2 0 j) = (μ : EReal) := by
  pointwise [k0_pay3]
  obtain ⟨i, hi⟩ := fold_max_coe _ bot_f32 s
  exact ⟨_, (congrArg (fun f => Finset.fold max _ f Finset.univ) (funext hS)).trans hi⟩

theorem pay7_at (hS : ∀ x, S (ix2 x j) = (s x : EReal)) (hm : m (ix2 0 j) = (μ : EReal)) :
    ∃ u : ℝ, k0_pay7 (F := Ideal) S m (ix2 0 j) = (u : EReal) := by
  pointwise [k0_pay7, k0_pay6]
  have e : ∀ x, (FloatOps.exp2 (F := Ideal) (φ := .bf16) (S (ix2 x j) - m (ix2 0 j)) : EReal) = (((2 : ℝ) ^ (s x - μ) : ℝ) : EReal) := fun x => by
    rw [hS, hm, ← EReal.coe_sub]; rfl
  obtain ⟨i, hi⟩ := fold_max_coe _ bot_bf16 fun x => (2 : ℝ) ^ (s x - μ)
  have h := (congrArg (fun f => Finset.fold max (Ideal.ofBits .bf16 0xFF80#16) f Finset.univ) (funext e)).trans hi
  refine ⟨Real.log ((2 : ℝ) ^ (s i - μ)) * (Real.log 2)⁻¹, ?_⟩
  rw [EReal.coe_mul, ← log_coe (by positivity)]
  exact congrArg₂ (· * ·) (congrArg Ideal.log h) rfl

theorem pay8_at (hS : ∀ x, S (ix2 x j) = (s x : EReal)) (hm : m (ix2 0 j) = (μ : EReal)) :
    ∃ u : ℝ, k0_pay8 (F := Ideal) S m (ix2 0 j) = (u : EReal) := by
  obtain ⟨u, hu⟩ := pay7_at S m j s μ hS hm
  refine ⟨max u 0, ?_⟩
  pointwise [k0_pay8]
  rw [hu, ← EReal.coe_zero]
  exact (EReal.coe_strictMono.monotone.map_max).symm

theorem pay12_at (u : FVec Ideal S1x512 .f32) (ρ : ℝ) (hm : m (ix2 0 j) = (μ : EReal)) (hu : u (ix2 0 j) = (ρ : EReal)) :
    k0_pay12 (F := Ideal) m u (ix2 0 j) = ((μ + ρ : ℝ) : EReal) := by
  pointwise [k0_pay12]
  rw [hm, hu, EReal.coe_add]

theorem pay9_at (a : FVec Ideal S80x512 .f32) (v : FVec Ideal S1x1x80x512 .bf16) (i : Fin 80) (α u : ℝ) (w : Fin 512 → ℝ)
    (hS : ∀ x, S (ix2 x j) = (s x : EReal)) (hm : m (ix2 0 j) = (μ : EReal)) (hu : k0_pay8 (F := Ideal) S m (ix2 0 j) = (u : EReal))
    (ha : a (ix2 i j) = (α : EReal)) (hv : ∀ x, v (ix4 0 0 i x) = (w x : EReal)) :
    k0_pay10 (F := Ideal) (k0_pay9 (F := Ideal) S m a v) (ix2 i j)
      = (((α + ∑ x, w x * (2 : ℝ) ^ (s x - μ)) * (2 : ℝ) ^ (-u) : ℝ) : EReal) := by
  pointwise [k0_pay9, k0_pay10, k0_pay6]
  rw [EReal.coe_mul, EReal.coe_add, ← coe_sum]
  refine congrArg₂ (· * ·) (congrArg₂ (· + ·) ha (Finset.sum_congr rfl fun x _ => ?_)) ?_
  · rw [hv, hS, hm, ← EReal.coe_sub, EReal.coe_mul]
    rfl
  · rw [hu, ← EReal.coe_zero, ← EReal.coe_sub, zero_sub]
    rfl

end Cert.Proof.Val
end
-- ==== Proof.Val.Tile.lean ====
module

public import proofs.«01_k».proof.Proof.Val.Step
public import Idealize.ShloMosaic.Lib.Pipeline.ValueKit.Acc

@[expose] public section
set_option maxRecDepth 16384
noncomputable section

/-! A tile of queries against all the keys: its rows of the output block. -/

namespace Cert.Proof.Val
open Cert.Proof.KernelIdeal Cert.KernelIdeal Cert.KernelIdeal.Gen
open Idealize.ShloMosaic

/-- Column `x` of tile `t`, and row `x` of chunk `d`. -/
def qcol (t : ℕ) (x : Fin 512) : Fin 32768 := ⟨512 * (t % 64) + x.val, by omega⟩
def krow (d : ℕ) (x : Fin 512) : Fin 8192 := ⟨512 * (d % 16) + x.val, by omega⟩

theorem qt_at (x2 : FVec Ideal S1x1x64x32768 .bf16) (t : ℕ) (e : Fin 64) (x : Fin 512) :
    qt (F := Ideal) x2 t (ix4 0 0 e x) = x2 (ix4 0 0 e (qcol t x)) := by
  unfold qt
  refine congrArg x2 (funext fun a => Fin.ext ?_)
  fin_cases a <;> simp [qcol, Rect.unit, Rect.emb] <;> rfl
theorem kc_at (x3 : FVec Ideal S1x1x8192x64 .bf16) (d : ℕ) (x : Fin 512) (e : Fin 64) :
    kc (F := Ideal) x3 d (ix4 0 0 x e) = x3 (ix4 0 0 (krow d x) e) := by
  unfold kc
  refine congrArg x3 (funext fun a => Fin.ext ?_)
  fin_cases a <;> simp [krow, Rect.unit, Rect.emb] <;> rfl
theorem vc_at (x4 : FVec Ideal S1x1x80x8192 .bf16) (d : ℕ) (i : Fin 80) (x : Fin 512) :
    vc (F := Ideal) x4 d (ix4 0 0 i x) = x4 (ix4 0 0 i (krow d x)) := by
  unfold vc
  refine congrArg x4 (funext fun a => Fin.ext ?_)
  fin_cases a <;> simp [krow, Rect.unit, Rect.emb] <;> rfl
theorem sgt_at (x5 : FVec Ideal S1x8192x256 .bf16) (t : ℕ) (i : Fin 128) (x : Fin 256) :
    sgt (F := Ideal) x5 t (ix3 0 i x) = x5 (ix3 0 ⟨128 * (t % 64) + i.val, by omega⟩ x) := by
  unfold sgt
  refine congrArg x5 (funext fun a => Fin.ext ?_)
  fin_cases a <;> simp [Rect.unit, Rect.emb] <;> rfl

/-- The sum over all keys, chunk by chunk. -/
theorem sum_chunks (f : Fin 8192 → ℝ) : ∑ b ∈ Finset.range 16, ∑ x : Fin 512, f (krow b x) = ∑ κ, f κ := by
  have h := Fin.sum_univ_univ_mul_add 16 512 fun n => f ⟨n % 8192, Nat.mod_lt _ (by norm_num)⟩
  rw [Finset.sum_range]
  refine Eq.trans (Finset.sum_congr rfl fun b _ => Finset.sum_congr rfl fun x _ => congrArg f (Fin.ext ?_)) (h.trans ?_)
  · show 512 * (b.val % 16) + x.val = (b.val * 512 + x.val) % 8192
    omega
  · refine Finset.sum_congr rfl fun l _ => congrArg f (Fin.ext ?_)
    show l.val % 8192 = l.val
    have : l.val < 8192 := l.isLt
    omega

variable (x2 : FVec Ideal S1x1x64x32768 .bf16) (x3 : FVec Ideal S1x1x8192x64 .bf16) (x4 : FVec Ideal S1x1x80x8192 .bf16)
  (x5 : FVec Ideal S1x8192x256 .bf16) (Q : Fin 64 → Fin 32768 → ℝ) (K : Fin 8192 → Fin 64 → ℝ) (W : Fin 80 → Fin 8192 → ℝ)

/-- The score of key `κ` for query column `x`. -/
def score (x : Fin 32768) (κ : Fin 8192) : ℝ := ∑ e, K κ e * Q e x

theorem tS_at (hQ : ∀ e x, x2 (ix4 0 0 e x) = (Q e x : EReal)) (hK : ∀ κ e, x3 (ix4 0 0 κ e) = (K κ e : EReal))
    (t d : ℕ) (x j : Fin 512) : tS (F := Ideal) x2 x3 t d (ix2 x j) = (score Q K (qcol t j) (krow d x) : EReal) := by
  unfold tS sc
  exact pay5_at j _ _ x (fun e => K (krow d x) e) (fun e => Q e (qcol t j)) (fun e => (kc_at x3 d x e).trans (hK _ _))
    (fun e => (qt_at x2 t e j).trans (hQ _ _))

/-- After `d` chunks the offset is some real, and every row the result reads is its weighted sum against that offset. -/
theorem aS_at (hQ : ∀ e x, x2 (ix4 0 0 e x) = (Q e x : EReal)) (hK : ∀ κ e, x3 (ix4 0 0 κ e) = (K κ e : EReal))
    (hW : ∀ i κ, i.val ≤ 64 → x4 (ix4 0 0 i κ) = (W i κ : EReal)) (t : ℕ) (j : Fin 512) (d : ℕ) :
    ∃ μ : ℝ, mS (F := Ideal) (tS x2 x3 t) (tM x2 x3 t) d (ix2 0 j) = (μ : EReal) ∧ ∀ i : Fin 80, i.val ≤ 64 →
      aS (F := Ideal) (tS x2 x3 t) (tM x2 x3 t) x4 (k0_pay133 (F := Ideal)) d (ix2 i j)
        = ((∑ b ∈ Finset.range d, ∑ x, W i (krow b x) * (2 : ℝ) ^ (score Q K (qcol t j) (krow b x) - μ) : ℝ) : EReal) := by
  induction d with
  | zero =>
    obtain ⟨μ, h⟩ := pay3_at (tS (F := Ideal) x2 x3 t 0) j _ fun x => tS_at x2 x3 Q K hQ hK t 0 x j
    refine ⟨μ, h, fun i _ => ?_⟩
    rw [Finset.range_zero, Finset.sum_empty]
    unfold aS
    pointwise [k0_pay133]
    simp
  | succ d ih =>
    obtain ⟨μ, hm, ha⟩ := ih
    have hS := fun x => tS_at x2 x3 Q K hQ hK t d x j
    obtain ⟨u, hu⟩ := pay8_at (tS (F := Ideal) x2 x3 t d) _ j _ μ hS hm
    refine ⟨μ + u, ?_, fun i hi => ?_⟩
    · unfold mS
      exact pay12_at _ j μ _ u hm hu
    · unfold aS
      refine (pay9_at _ _ j _ μ _ _ i _ u (fun x => W i (krow d x)) hS hm hu (ha i hi) fun x => (vc_at x4 d i x).trans (hW _ _ hi)).trans ?_
      rw [← Finset.sum_range_succ (fun b => ∑ x, W i (krow b x) * (2 : ℝ) ^ (score Q K (qcol t j) (krow b x) - μ)), Finset.sum_mul]
      refine congrArg _ (Finset.sum_congr rfl fun b _ => ?_)
      rw [Finset.sum_mul]
      refine Finset.sum_congr rfl fun x _ => ?_
      rw [mul_assoc, ← Real.rpow_add (by norm_num), ← sub_eq_add_neg, sub_sub]

theorem tA_at (hQ : ∀ e x, x2 (ix4 0 0 e x) = (Q e x : EReal)) (hK : ∀ κ e, x3 (ix4 0 0 κ e) = (K κ e : EReal))
    (hW : ∀ i κ, i.val ≤ 64 → x4 (ix4 0 0 i κ) = (W i κ : EReal)) (t : ℕ) (j : Fin 512) :
    ∃ μ : ℝ, ∀ i : Fin 80, i.val ≤ 64 → tA (F := Ideal) x2 x3 x4 t (ix2 i j)
        = (((∑ κ, W i κ * (2 : ℝ) ^ score Q K (qcol t j) κ) * (2 : ℝ) ^ (-μ) : ℝ) : EReal) := by
  obtain ⟨μ, -, h⟩ := aS_at x2 x3 x4 Q K W hQ hK hW t j 16
  refine ⟨μ, fun i hi => (h i hi).trans ?_⟩
  rw [sum_chunks fun κ => W i κ * (2 : ℝ) ^ (score Q K (qcol t j) κ - μ), shift_div]

theorem pay4_at (a : FVec Ideal S80x512 .f32) (m : FVec Ideal S1x128x256 .bf16) (i : Fin 128) (j : Fin 256) (hj : 128 * (j.val / 64) + i.val < 512) :
    (k0_pay4 (F := Ideal) a m (ix3 0 i j) : EReal) = (a (ix2 ⟨j.val % 64, by omega⟩ ⟨128 * (j.val / 64) + i.val, hj⟩) : EReal)
      * Ideal.div 1 (a (ix2 64 ⟨128 * (j.val / 64) + i.val, hj⟩)) * m (ix3 0 i j) := by
  have key : ∀ (r : Fin 80) (x : Fin 512), r.val = j.val % 64 → x.val = 128 * (j.val / 64) + i.val →
      (a (ix2 r x) : EReal) * Ideal.div 1 (a (ix2 64 x)) = (a (ix2 ⟨j.val % 64, by omega⟩ ⟨128 * (j.val / 64) + i.val, hj⟩) : EReal)
      * Ideal.div 1 (a (ix2 64 ⟨128 * (j.val / 64) + i.val, hj⟩)) := fun r x hr hx => by
    rw [show r = (⟨j.val % 64, by omega⟩ : Fin 80) from Fin.ext hr, show x = ⟨128 * (j.val / 64) + i.val, hj⟩ from Fin.ext hx]
  pointwise [k0_pay4]
  refine congrArg₂ (· * ·) ?_ rfl
  split_ifs <;> exact key _ _ (by simp only []; omega) (by simp only []; omega)

/-- The attention of query column `x` in row `r`: the mean of the values weighted by `2` to the scores. -/
def att (r : Fin 80) (x : Fin 32768) : ℝ :=
  (∑ κ, W r κ * (2 : ℝ) ^ score Q K x κ) / ∑ κ, (2 : ℝ) ^ score Q K x κ

theorem sum_pos (x : Fin 32768) : 0 < ∑ κ, (2 : ℝ) ^ score Q K x κ :=
  Finset.sum_pos (fun κ _ => by positivity) Finset.univ_nonempty

theorem tO_at (hQ : ∀ e x, x2 (ix4 0 0 e x) = (Q e x : EReal)) (hK : ∀ κ e, x3 (ix4 0 0 κ e) = (K κ e : EReal))
    (hW : ∀ i κ, i.val ≤ 64 → x4 (ix4 0 0 i κ) = (W i κ : EReal)) (h1 : ∀ κ, W 64 κ = 1) (t : ℕ) (i : Fin 128) (j : Fin 256) :
    (tO (F := Ideal) x2 x3 x4 x5 t (ix3 0 i j) : EReal)
      = (att Q K W ⟨j.val % 64, by omega⟩ ⟨512 * (t % 64) + (128 * (j.val / 64) + i.val), by omega⟩ : EReal)
        * x5 (ix3 0 ⟨128 * (t % 64) + i.val, by omega⟩ j) := by
  obtain ⟨μ, h⟩ := tA_at x2 x3 x4 Q K W hQ hK hW t ⟨128 * (j.val / 64) + i.val, by omega⟩
  unfold tO
  rw [pay4_at _ _ i j (by omega), h _ (by show j.val % 64 ≤ 64; omega), h 64 (le_refl _), sgt_at]
  refine congrArg₂ (· * ·) ?_ rfl
  have hs := sum_pos Q K (qcol t ⟨128 * (j.val / 64) + i.val, by omega⟩)
  have hp : 0 < (2 : ℝ) ^ (-μ) := by positivity
  simp only [h1, one_mul]
  rw [← EReal.coe_one, div_coe _ (mul_pos hs hp).ne', ← EReal.coe_mul]
  refine congrArg _ ?_
  unfold att qcol
  unfold qcol at hs
  field_simp

end Cert.Proof.Val
end
-- ==== Proof.Val.Out.lean ====
module

public import proofs.«01_k».proof.Proof.KI.Run
public import proofs.«01_k».proof.Proof.Val.Tile
public import Idealize.ShloMosaic.Lib.Pipeline.ValueKit

@[expose] public section
set_option maxRecDepth 16384
noncomputable section

/-! The result array after the launch. -/

namespace Cert.Proof.Val
open Cert.Proof.KernelIdeal Cert.KernelIdeal Cert.KernelIdeal.Gen
open Idealize.ShloMosaic Idealize.ShloMosaic.TcCoe

variable (m : (ℓ : Loc nD τ sig) → Buf (Elt Ideal) ℓ) (c : Dev nD)

/-- The blocks of a grid point: its batch row and its group, and for the last two its half of the columns. -/
theorem idx0 : ∀ t : Fin grid0.N, win0_0.index t = ![(grid0.coords t 0).val, (grid0.coords t 1).val, 0, 0]
    ∧ win0_1.index t = ![(grid0.coords t 0).val, (grid0.coords t 1).val, 0, 0] ∧ win0_2.index t = ![(grid0.coords t 0).val, (grid0.coords t 1).val, 0, 0]
    ∧ win0_3.index t = ![(grid0.coords t 0).val, 0, (grid0.coords t 1).val] ∧ win0_4.index t = ![(grid0.coords t 0).val, 0, (grid0.coords t 1).val] := by
  decide +kernel

def pb (t : Fin cfg0.N) : Fin 8 := ⟨(grid0.coords t 0).val, (grid0.coords t 0).isLt⟩
def pg (t : Fin cfg0.N) : Fin 2 := ⟨(grid0.coords t 1).val, (grid0.coords t 1).isLt⟩

theorem blk0 (t : Fin cfg0.N) (e : Fin 64) (x : Fin 32768) : (iblk m c 0 t (ix4 0 0 e x) : EReal) = m ((c.tc : Thread nD τ).loc main_arg0) (ix4 (pb t) (pg t) e x) := by
  have h := (idx0 t).1
  blk_ext [iblk, V, h, pb, pg]
theorem blk1 (t : Fin cfg0.N) (κ : Fin 8192) (e : Fin 64) : (iblk m c 1 t (ix4 0 0 κ e) : EReal) = m ((c.tc : Thread nD τ).loc main_arg1) (ix4 (pb t) (pg t) κ e) := by
  have h := (idx0 t).2.1
  blk_ext [iblk, V, h, pb, pg]
theorem blk2 (t : Fin cfg0.N) (i : Fin 80) (κ : Fin 8192) : (iblk m c 2 t (ix4 0 0 i κ) : EReal) = m ((c.tc : Thread nD τ).loc main_arg2) (ix4 (pb t) (pg t) i κ) := by
  have h := (idx0 t).2.2.1
  blk_ext [iblk, V, h, pb, pg]
theorem blk3 (t : Fin cfg0.N) (l : Fin 8192) (j : Fin 256) : (iblk m c 3 t (ix3 0 l j) : EReal)
    = m ((c.tc : Thread nD τ).loc main_arg3) (ix3 (pb t) l ⟨256 * (pg t).val + j.val, by have := (pg t).isLt; omega⟩) := by
  have h := (idx0 t).2.2.2.1
  blk_ext [iblk, V, h, pb, pg]

theorem emb4 (t : Fin cfg0.N) (l : Fin 8192) (j : Fin 256) : (win0_4.blk t).view.emb (ix3 0 l j)
    = (ix3 (pb t) l ⟨256 * (pg t).val + j.val, by have := (pg t).isLt; omega⟩ : S8x8192x512.Idx) := by
  have h := (idx0 t).2.2.2.2
  blk_ext [h, pb, pg]

/-- Row by row the output block is its tiles. -/
theorem oBlk_at (x2 : FVec Ideal S1x1x64x32768 .bf16) (x3 : FVec Ideal S1x1x8192x64 .bf16) (x4 : FVec Ideal S1x1x80x8192 .bf16)
    (x5 : FVec Ideal S1x8192x256 .bf16) (l : Fin 8192) (j : Fin 256) :
    oBlk (F := Ideal) x2 x3 x4 x5 (ix3 0 l j) = tO (F := Ideal) x2 x3 x4 x5 (l.val / 128) (ix3 0 ⟨l.val % 128, by omega⟩ j) := by
  unfold oBlk
  refine congrArg _ (funext fun a => Fin.ext ?_)
  fin_cases a <;> rfl

/-- The query column behind row `l` and column `j` of the result. -/
def col (l : Fin 8192) (j : Fin 512) : Fin 32768 := ⟨l.val / 128 * 512 + j.val / 64 % 4 * 128 + l.val % 128, by omega⟩
def grp (j : Fin 512) : Fin 2 := ⟨j.val / 256, by omega⟩
def row (j : Fin 512) : Fin 80 := ⟨j.val % 64, by omega⟩

/-- The array holds the gated attention. -/
theorem out_eq (Q : Fin 8 → Fin 2 → Fin 64 → Fin 32768 → ℝ) (K : Fin 8 → Fin 2 → Fin 8192 → Fin 64 → ℝ) (W : Fin 8 → Fin 2 → Fin 80 → Fin 8192 → ℝ)
    (hQ : ∀ b g e x, m ((c.tc : Thread nD τ).loc main_arg0) (ix4 b g e x) = (Q b g e x : EReal))
    (hK : ∀ b g κ e, m ((c.tc : Thread nD τ).loc main_arg1) (ix4 b g κ e) = (K b g κ e : EReal))
    (hW : ∀ b g i κ, i.val ≤ 64 → m ((c.tc : Thread nD τ).loc main_arg2) (ix4 b g i κ) = (W b g i κ : EReal)) (h1 : ∀ b g κ, W b g 64 κ = 1)
    (G : Buf (Elt Ideal) ((c.tc : Thread nD τ).loc main_v0_0))
    (hG : ∀ (b : Fin 8) (l : Fin 8192) (j : Fin 512), G (ix3 b l j)
      = (att (Q b (grp j)) (K b (grp j)) (W b (grp j)) (row j) (col l j) : EReal) * m ((c.tc : Thread nD τ).loc main_arg3) (ix3 b l j)) :
    (dats m 0 c).arrAt 4 cfg0.N = G := by
  refine (dats m 0 c).arrAt_eq_of_covers 4 _ (by decide +kernel) fun t hf y => ?_
  blk_simp
  rw [after0_4]
  obtain ⟨l, j, rfl⟩ : ∃ (l : Fin 8192) (j : Fin 256), y = ix3 0 l j := ⟨y 1, y 2, by
    funext a
    have h0 : (y 0).val < 1 := (y 0).isLt
    refine Fin.ext ?_
    fin_cases a
    · show (y 0).val = 0
      omega
    · rfl
    · rfl⟩
  have hp := (pg t).isLt
  have hl := l.isLt
  have hj := j.isLt
  refine (oBlk_at _ _ _ _ l j).trans ((tO_at _ _ _ _ (Q (pb t) (pg t)) (K (pb t) (pg t)) (W (pb t) (pg t)) (fun e x => (blk0 m c t e x).trans (hQ _ _ _ _))
    (fun κ e => (blk1 m c t κ e).trans (hK _ _ _ _)) (fun i κ hi => (blk2 m c t i κ).trans (hW _ _ _ _ hi)) (h1 _ _) _ _ j).trans ?_)
  rw [emb4, hG, blk3]
  have hg : grp ⟨256 * (pg t).val + j.val, by omega⟩ = pg t := Fin.ext (by show (256 * (pg t).val + j.val) / 256 = (pg t).val; omega)
  rw [hg]
  refine congrArg₂ (· * ·) (congrArg _ (congrArg₂ _ (Fin.ext ?_) (Fin.ext ?_))) (congrArg _ (congrArg₂ _ (Fin.ext ?_) rfl))
  · show j.val % 64 = (256 * (pg t).val + j.val) % 64
    omega
  · show 512 * (l.val / 128 % 64) + (128 * (j.val / 64) + l.val % 128) = l.val / 128 * 512 + (256 * (pg t).val + j.val) / 64 % 4 * 128 + l.val % 128
    omega
  · show 128 * (l.val / 128 % 64) + l.val % 128 = l.val
    omega

end Cert.Proof.Val
end
-- ==== Proof.Val.Ref.lean ====
module

public import proofs.«01_k».proof.Proof.Val.Real
public import proofs.«01_k».proof.Proof.Gen.ReferenceIdeal.Run
public import Idealize.ShloMosaic.Lib.Pointwise

@[expose] public section
set_option maxRecDepth 16384
noncomputable section

/-! The reference, read at an index. -/

namespace Cert.Proof.Val.Ref
open Cert.ReferenceIdeal Cert.ReferenceIdeal.Gen
open Idealize.ShloMosaic

/-- The reference's queries by token and head, its scores times `ln 2`, its exponentials, its weights and its result. -/
def qs (q : FVec Ideal S8x2x64x32768 .bf16) : FVec Ideal S8x8192x2x4x64 .f32 :=
  shapeCast _ (transpose S8x64x128x2x4x64 [0, 3, 5, 1, 4, 2] (shapeCast _ (extf .f32 q bitsLt_bf16_f32) shapeCasts_S8x2x64x32768_S8x2x64x64x4x128) transposes_S8x2x64x64x4x128_S8x64x128x2x4x64_0_3_5_1_4_2) shapeCasts_S8x64x128x2x4x64_S8x8192x2x4x64
def ss (q : FVec Ideal S8x2x64x32768 .bf16) (k : FVec Ideal S8x2x8192x64 .bf16) : FVec Ideal S8x2x4x8192x8192 .f32 :=
  mulf (transpose S8x2x4x8192x8192 [0, 1, 4, 3, 2] (Host.dotGeneral dot_S8x2x8192x64_S8x8192x2x4x64_S8x2x8192x8192x4_3_4_2_13_01_02 none (extf .f32 k bitsLt_bf16_f32) (qs q)) transposes_S8x2x8192x8192x4_S8x2x4x8192x8192_0_1_4_3_2) (broadcastInDim S8x2x4x8192x8192 ![] bcast_S_S8x2x4x8192x8192 (Host.log (constant (F := Ideal) S_ .f32 0x40000000#32)))
def mx (s : FVec Ideal S8x2x4x8192x8192 .f32) : FVec Ideal S8x2x4x8192 .f32 :=
  Host.reduce FloatOps.maximumf s (constant (F := Ideal) S_ .f32 0xFF800000#32) reducesTo_S8x2x4x8192x8192_S8x2x4x8192_d4 h_S_
def es (s : FVec Ideal S8x2x4x8192x8192 .f32) (M : FVec Ideal S8x2x4x8192 .f32) : FVec Ideal S8x2x4x8192x8192 .f32 :=
  Host.exp (subf s (broadcastInDim S8x2x4x8192x8192 ![0, 1, 2, 3, 4] bcast_S8x2x4x8192x1_S8x2x4x8192x8192_0_1_2_3_4 (broadcastInDim S8x2x4x8192x1 ![0, 1, 2, 3] bcast_S8x2x4x8192_S8x2x4x8192x1_0_1_2_3 (maximumf (broadcastInDim S8x2x4x8192 ![] bcast_S_S8x2x4x8192 (constant S_ .f32 0xFF800000#32)) M))))
def ws (e : FVec Ideal S8x2x4x8192x8192 .f32) : FVec Ideal S8x2x4x8192x8192 .f32 :=
  Host.divf e (broadcastInDim S8x2x4x8192x8192 ![0, 1, 2, 3, 4] bcast_S8x2x4x8192x1_S8x2x4x8192x8192_0_1_2_3_4 (broadcastInDim S8x2x4x8192x1 ![0, 1, 2, 3] bcast_S8x2x4x8192_S8x2x4x8192x1_0_1_2_3 (Host.reduceAdd e (constant S_ .f32 0x00000000#32) reducesTo_S8x2x4x8192x8192_S8x2x4x8192_d4 h_S_)))
def os (w : FVec Ideal S8x2x4x8192x8192 .f32) (v : FVec Ideal S8x2x80x8192 .bf16) (g : FVec Ideal S8x8192x512 .bf16) : FVec Ideal S8x8192x512 .bf16 :=
  truncf .bf16 (mulf (shapeCast _ (transpose S8x8192x2x4x64 [0, 4, 1, 3, 2] (Host.dotGeneral dot_S8x2x64x8192_S8x2x4x8192x8192_S8x2x64x4x8192_3_4_2_23_01_01 none (extf .f32 (extractStridedSlice S8x2x64x8192 ![0, 0, 0, 0] v slices_S8x2x80x8192_S8x2x64x8192_0_0_0_0) bitsLt_bf16_f32) w) transposes_S8x2x64x4x8192_S8x8192x2x4x64_0_4_1_3_2) shapeCasts_S8x8192x2x4x64_S8x8192x512) (extf .f32 g bitsLt_bf16_f32)) bitsLt_bf16_f32

/-- The largest of reals along one axis is real. -/
theorem reduce_max_real {s t u : Shape} {a : Fin s.rank} [Nonempty (Fin (s.size a))] (x : s.Idx → EReal) (r : s.Idx → ℝ) (hx : ∀ i, x i = (r i : EReal))
    (init : u.Idx → EReal) (h' : s.ReducesTo [a] t) (h : s.Reduces [a] t) (hu : 0 < u.numel) (hi : init (Shape.Idx.first hu) = ⊥) (j : t.Idx) :
    ∃ μ : ℝ, Host.reduce (FloatOps.maximumf (F := Ideal) (φ := .f32)) x init h' hu j = (μ : EReal) := by
  rw [Host.reduce_eq_fold_single _ x init h' h hu j]
  obtain ⟨i, e⟩ := fold_max_coe _ hi fun k => r (h.lift j k)
  exact ⟨_, (congrArg (fun f => Finset.fold max _ f Finset.univ) (funext fun k => hx _)).trans e⟩

theorem reduces_keys : S8x2x4x8192x8192.Reduces [(4 : Fin 5)] S8x2x4x8192 := by decide

theorem mx_at (s : FVec Ideal S8x2x4x8192x8192 .f32) (r : S8x2x4x8192x8192.Idx → ℝ) (hs : ∀ i, s i = (r i : EReal)) (j : S8x2x4x8192.Idx) :
    ∃ μ : ℝ, mx s j = (μ : EReal) := by
  unfold mx
  haveI : Nonempty (Fin (S8x2x4x8192x8192.size (4 : Fin 5))) := ⟨(⟨0, by decide⟩ : Fin 8192)⟩
  exact reduce_max_real s r hs _ _ reduces_keys _ bot_f32 j

theorem qs_at (q : FVec Ideal S8x2x64x32768 .bf16) (b : Fin 8) (l : Fin 8192) (g : Fin 2) (h : Fin 4) (e : Fin 64) :
    (qs q (ix5 b l g h e) : EReal) = q (ix4 b g e ⟨l.val / 128 * 512 + h.val * 128 + l.val % 128, by omega⟩) := by
  pointwise [qs]

variable (q : FVec Ideal S8x2x64x32768 .bf16) (k : FVec Ideal S8x2x8192x64 .bf16) (v : FVec Ideal S8x2x80x8192 .bf16) (sg : FVec Ideal S8x8192x512 .bf16)
  (s : FVec Ideal S8x2x4x8192x8192 .f32) (b : Fin 8) (l κ : Fin 8192) (g : Fin 2) (h : Fin 4)

theorem ss_at : (ss q k (ix5 b g h l κ) : EReal) = (∑ x, (k (ix4 b g κ x) : EReal) * qs q (ix5 b l g h x)) * Ideal.log (Ideal.ofBits FTy.f32 0x40000000#32) := by
  pointwise [ss]
theorem es_at (M : FVec Ideal S8x2x4x8192 .f32) : (es s M (ix5 b g h l κ) : EReal) = Ideal.exp ((s (ix5 b g h l κ) : EReal) - max (Ideal.ofBits FTy.f32 0xFF800000#32) (M (ix4 b g h l))) := by
  pointwise [es]
theorem ws_at : (ws s (ix5 b g h l κ) : EReal) = Ideal.div (s (ix5 b g h l κ)) (∑ x, (s (ix5 b g h l x) : EReal)) := by
  pointwise [ws]
theorem os_at (j : Fin 512) : (os s v sg (ix3 b l j) : EReal)
    = (∑ x, (v (ix4 b ⟨j.val / 256, by omega⟩ ⟨j.val % 64, by omega⟩ x) : EReal) * s (ix5 b ⟨j.val / 256, by omega⟩ ⟨j.val / 64 % 4, by omega⟩ l x)) * sg (ix3 b l j) := by
  pointwise [os]

end Cert.Proof.Val.Ref
end
-- ==== Proof.Val.Alg.lean ====
module

public import proofs.«01_k».proof.Proof.Val.Ref
public import proofs.«01_k».proof.Proof.Val.Tile

@[expose] public section
set_option maxRecDepth 16384
noncomputable section

/-! The reference is the attention too. -/

namespace Cert.Proof.Val.Ref
open Cert.ReferenceIdeal Cert.ReferenceIdeal.Gen
open Idealize.ShloMosaic

theorem res_eq (m : (ℓ : Loc nD τ sig) → Buf (Elt Ideal) ℓ) (c : Dev nD) :
    Cert.ReferenceIdeal.Value.res_main_v28 m c = os (ws (es (ss (m ((c.tc : Thread nD τ).loc main_arg0)) (m ((c.tc : Thread nD τ).loc main_arg1)))
        (mx (ss (m ((c.tc : Thread nD τ).loc main_arg0)) (m ((c.tc : Thread nD τ).loc main_arg1))))))
      (m ((c.tc : Thread nD τ).loc main_arg2)) (m ((c.tc : Thread nD τ).loc main_arg3)) := by
  unfold Cert.ReferenceIdeal.Value.res_main_v28 os ws es mx ss qs
  rfl

variable (q : FVec Ideal S8x2x64x32768 .bf16) (k : FVec Ideal S8x2x8192x64 .bf16) (v : FVec Ideal S8x2x80x8192 .bf16) (sg : FVec Ideal S8x8192x512 .bf16)
  (Q : Fin 8 → Fin 2 → Fin 64 → Fin 32768 → ℝ) (K : Fin 8 → Fin 2 → Fin 8192 → Fin 64 → ℝ) (W : Fin 8 → Fin 2 → Fin 80 → Fin 8192 → ℝ)

/-- The query column of token `l` in head `h`. -/
def hcol (l : Fin 8192) (h : Fin 4) : Fin 32768 := ⟨l.val / 128 * 512 + h.val * 128 + l.val % 128, by omega⟩

theorem ss_real (hQ : ∀ b g e x, q (ix4 b g e x) = (Q b g e x : EReal)) (hK : ∀ b g κ e, k (ix4 b g κ e) = (K b g κ e : EReal))
    (b : Fin 8) (l κ : Fin 8192) (g : Fin 2) (h : Fin 4) :
    (ss q k (ix5 b g h l κ) : EReal) = ((score (Q b g) (K b g) (hcol l h) κ * Real.log 2 : ℝ) : EReal) := by
  rw [ss_at, two_f32, log_coe (by norm_num), EReal.coe_mul]
  refine congrArg₂ (· * ·) ?_ rfl
  unfold score
  rw [← coe_sum]
  refine Finset.sum_congr rfl fun e _ => ?_
  rw [qs_at, hK, hQ, EReal.coe_mul]
  rfl

theorem es_real (hQ : ∀ b g e x, q (ix4 b g e x) = (Q b g e x : EReal)) (hK : ∀ b g κ e, k (ix4 b g κ e) = (K b g κ e : EReal))
    (M : FVec Ideal S8x2x4x8192 .f32) (b : Fin 8) (l : Fin 8192) (g : Fin 2) (h : Fin 4) (μ : ℝ) (hM : M (ix4 b g h l) = (μ : EReal)) (κ : Fin 8192) :
    (es (ss q k) M (ix5 b g h l κ) : EReal) = (((2 : ℝ) ^ score (Q b g) (K b g) (hcol l h) κ * Real.exp (-μ) : ℝ) : EReal) := by
  rw [es_at, ss_real q k Q K hQ hK, hM, bot_f32, max_eq_right bot_le, ← EReal.coe_sub, exp_coe]
  refine congrArg _ ?_
  rw [sub_eq_add_neg, Real.exp_add, Real.rpow_def_of_pos (by norm_num), mul_comm (Real.log 2)]

theorem ws_real (hQ : ∀ b g e x, q (ix4 b g e x) = (Q b g e x : EReal)) (hK : ∀ b g κ e, k (ix4 b g κ e) = (K b g κ e : EReal))
    (b : Fin 8) (l κ : Fin 8192) (g : Fin 2) (h : Fin 4) :
    (ws (es (ss q k) (mx (ss q k))) (ix5 b g h l κ) : EReal)
      = (((2 : ℝ) ^ score (Q b g) (K b g) (hcol l h) κ / ∑ κ, (2 : ℝ) ^ score (Q b g) (K b g) (hcol l h) κ : ℝ) : EReal) := by
  obtain ⟨μ, hμ⟩ := mx_at (ss q k) (fun i => (ss q k i : EReal).toReal) (fun i => by
    idx_vars i
    rw [ss_real q k Q K hQ hK, EReal.toReal_coe]) (ix4 b g h l)
  have he := es_real q k Q K hQ hK (mx (ss q k)) b l g h μ hμ
  have hs := sum_pos (Q b g) (K b g) (hcol l h)
  have hp := Real.exp_pos (-μ)
  rw [ws_at, he, Finset.sum_congr rfl fun κ _ => he κ, coe_sum, ← Finset.sum_mul, div_coe _ (mul_pos hs hp).ne']
  refine congrArg _ ?_
  rw [mul_div_mul_right _ _ hp.ne']

theorem os_real (hQ : ∀ b g e x, q (ix4 b g e x) = (Q b g e x : EReal)) (hK : ∀ b g κ e, k (ix4 b g κ e) = (K b g κ e : EReal))
    (hW : ∀ b g i κ, i.val ≤ 64 → v (ix4 b g i κ) = (W b g i κ : EReal)) (b : Fin 8) (l : Fin 8192) (j : Fin 512) :
    (os (ws (es (ss q k) (mx (ss q k)))) v sg (ix3 b l j) : EReal)
      = (att (Q b ⟨j.val / 256, by omega⟩) (K b ⟨j.val / 256, by omega⟩) (W b ⟨j.val / 256, by omega⟩) ⟨j.val % 64, by omega⟩
          (hcol l ⟨j.val / 64 % 4, by omega⟩) : EReal) * sg (ix3 b l j) := by
  rw [os_at]
  refine congrArg₂ (· * ·) ?_ rfl
  unfold att
  rw [Finset.sum_div, ← coe_sum]
  refine Finset.sum_congr rfl fun κ _ => ?_
  rw [ws_real q k Q K hQ hK, hW _ _ _ _ (by show j.val % 64 ≤ 64; omega), ← EReal.coe_mul, mul_div_assoc]

end Cert.Proof.Val.Ref
end
-- ==== Proof.Val.Pre.lean ====
module

public import proofs.«01_k».proof.Pre_pre
public import proofs.«01_k».proof.Proof.Val.Real
public import Idealize.ShloMosaic.Lib.ReduceAll
public import Idealize.ShloMosaic.Lib.Pointwise

@[expose] public section
set_option maxRecDepth 16384
noncomputable section

/-! What the precondition says of the arguments: the queries, the keys and the sixty-four value rows are
real, and value row 64 is all ones. -/

namespace Cert.Proof.Val.Pre
open Cert.Pre_pre
open Idealize.ShloMosaic

instance facts : Cert.Pre_pre.Facts where
  bitsLt_bf16_f32 := by decide
  bcast_S_S8x2x64x32768 := by decide
  reducesTo_S8x2x64x32768_S_d0_1_2_3 := by decide
  h_S_ := by decide
  bcast_S_S8x2x8192x64 := by decide
  reducesTo_S8x2x8192x64_S_d0_1_2_3 := by decide
  slices_S8x2x80x8192_S8x2x64x8192_0_0_0_0 := by decide
  bcast_S_S8x2x64x8192 := by decide
  reducesTo_S8x2x64x8192_S_d0_1_2_3 := by decide
  slices_S8x2x80x8192_S8x2x1x8192_0_0_64_0 := by decide
  shapeCasts_S8x2x1x8192_S8x2x8192 := by decide
  bcast_S_S8x2x8192 := by decide
  reducesTo_S8x2x8192_S_d0_1_2 := by decide

open Cert.Pre_pre.Facts

theorem andi_at (x y : IVec S_ 1) (h : andi x y = fun _ => 1#1) : (x = fun _ => 1#1) ∧ (y = fun _ => 1#1) :=
  ⟨funext fun j => (IntOp.andi_eq_one.1 (congrFun h j)).1, funext fun j => (IntOp.andi_eq_one.1 (congrFun h j)).2⟩

theorem lt_of_cmp {x y : EReal} (h : Ideal.cmp .olt x y = 1#1) : x < y := by
  unfold Ideal.cmp at h
  by_contra hn
  simp [hn] at h
theorem eq_of_cmp {x y : EReal} (h : Ideal.cmp .oeq x y = 1#1) : x = y := by
  unfold Ideal.cmp at h
  by_contra hn
  simp [hn] at h

/-- An array whose absolute values all compare below infinity is real everywhere. -/
theorem real_of_all {s : Shape} (x : FVec Ideal s .bf16) (hb : S_.BroadcastsInDim s (![] : Fin 0 → Fin s.rank)) (hx : FTy.bits .bf16 < FTy.bits .f32)
    (a : List (Fin s.rank)) (hr : s.ReducesTo a S_) (hu : 0 < S_.numel)
    (h : Host.reduce IntOp.andi (cmpf .olt (Host.absf (extf .f32 x hx)) (broadcastInDim s ![] hb (constant (F := Ideal) S_ .f32 0x7F800000#32))) (constantI S_ 1 1#1) hr hu = fun _ => 1#1)
    (i : s.Idx) : (x i : EReal) = ((x i : EReal).toReal : EReal) := by
  haveI : Subsingleton S_.Idx := ⟨fun a b => funext fun k => k.elim0⟩
  have h1 := Host.reduce_andi_all _ _ hr hu ix0 (congrFun h ix0) i
  refine real_of_abs_lt_top ?_
  rw [← top_f32]
  exact lt_of_cmp h1

theorem one_of_all {s : Shape} (x : FVec Ideal s .bf16) (hb : S_.BroadcastsInDim s (![] : Fin 0 → Fin s.rank)) (hx : FTy.bits .bf16 < FTy.bits .f32)
    (a : List (Fin s.rank)) (hr : s.ReducesTo a S_) (hu : 0 < S_.numel)
    (h : Host.reduce IntOp.andi (cmpf .oeq (extf .f32 x hx) (broadcastInDim s ![] hb (constant (F := Ideal) S_ .f32 0x3F800000#32))) (constantI S_ 1 1#1) hr hu = fun _ => 1#1)
    (i : s.Idx) : (x i : EReal) = 1 := by
  haveI : Subsingleton S_.Idx := ⟨fun a b => funext fun k => k.elim0⟩
  have h1 := Host.reduce_andi_all _ _ hr hu ix0 (congrFun h ix0) i
  rw [← Ideal.ofBits_one_f32]
  exact eq_of_cmp h1

theorem decode (q : FVec Ideal S8x2x64x32768 .bf16) (k : FVec Ideal S8x2x8192x64 .bf16) (v : FVec Ideal S8x2x80x8192 .bf16) (sg : FVec Ideal S8x8192x512 .bf16)
    (h : Cert.Pre_pre.fn (F := Ideal) q k v sg = fun _ => 1#1) :
    (∀ i, (q i : EReal) = ((q i : EReal).toReal : EReal)) ∧ (∀ i, (k i : EReal) = ((k i : EReal).toReal : EReal))
      ∧ (∀ b g (i : Fin 80) κ, i.val < 64 → (v (ix4 b g i κ) : EReal) = ((v (ix4 b g i κ) : EReal).toReal : EReal)) ∧ ∀ b g κ, (v (ix4 b g 64 κ) : EReal) = 1 := by
  unfold Cert.Pre_pre.fn Cert.Pre_pre.fn_part1 at h
  obtain ⟨h, h4⟩ := andi_at _ _ h
  obtain ⟨h, h3⟩ := andi_at _ _ h
  obtain ⟨h1, h2⟩ := andi_at _ _ h
  refine ⟨real_of_all q _ _ _ _ _ h1, real_of_all k _ _ _ _ _ h2, fun b g i κ hi => ?_, fun b g κ => ?_⟩
  · have e := real_of_all _ _ _ _ _ _ h3 (ix4 b g ⟨i.val, hi⟩ κ)
    pointwise at e
    exact e
  · have e := one_of_all _ _ _ _ _ _ h4 (ix3 b g κ)
    pointwise at e
    exact e

end Cert.Proof.Val.Pre
end
-- ==== Proof.Merge.Row.lean ====
module

public import Idealize.ShloMosaic.Lib.Pointwise

@[expose] public section
noncomputable section

/-! The merge of one token, as a function of its row and the weights. -/

namespace Cert.Proof.Merge
open Idealize.ShloMosaic

/-- The row over the root of its mean square, times the gains. -/
def nrm (x g : Fin 1024 → EReal) (k : Fin 1024) : EReal :=
  x k * Ideal.rsqrt (Ideal.div (∑ j, x j * x j) (Ideal.ofBits FTy.f32 0x44800000#32) + Ideal.ofBits FTy.f32 0x358637BD#32) * g k

/-- One branch: the gate of its column of the merge weights, times its projection. -/
def term (h : Fin 1024 → EReal) (wm : Fin 1024 → Fin 3072 → EReal) (bm : Fin 3072 → EReal) (y : Fin 512 → EReal) (w : Fin 512 → Fin 1024 → EReal)
    (p : Fin 3072) (k : Fin 1024) : EReal :=
  Ideal.div 1 (1 + Ideal.exp (-(∑ x, h x * wm x p + bm p))) * ∑ x, y x * w x k

/-- The three branches added. -/
def merged (h : Fin 1024 → EReal) (wm : Fin 1024 → Fin 3072 → EReal) (bm : Fin 3072 → EReal) (yh yg yd : Fin 512 → EReal)
    (wh wg wd : Fin 512 → Fin 1024 → EReal) (k : Fin 1024) : EReal :=
  term h wm bm yh wh ⟨k.val, by omega⟩ k + term h wm bm yg wg ⟨1024 + k.val, by omega⟩ k + term h wm bm yd wd ⟨2048 + k.val, by omega⟩ k

/-- The token after the output projection, the residual and the last norm. -/
def outRow (x ng : Fin 1024 → EReal) (yh yg yd : Fin 512 → EReal) (wm : Fin 1024 → Fin 3072 → EReal) (bm : Fin 3072 → EReal)
    (wh wg wd : Fin 512 → Fin 1024 → EReal) (wo : Fin 1024 → Fin 1024 → EReal) (fg : Fin 1024 → EReal) (k : Fin 1024) : EReal :=
  nrm (fun j => x j + ∑ i, merged (nrm x ng) wm bm yh yg yd wh wg wd i * wo i j) fg k

end Cert.Proof.Merge
end
-- ==== Proof.Merge.Body.lean ====
module

public import proofs.«01_k».proof.Proof.Gen.Kernel2Ideal.Value
public import proofs.«01_k».proof.Proof.Merge.Row
public import Idealize.ShloMosaic.Lib.Pipeline.ValueKit
public import Idealize.ShloMosaic.Lib.Pipeline.ValueKit.Acc
public import Idealize.ShloMosaic.Lib.StableHlo.ReadAt
public import Idealize.ShloMosaic.Lib.Pointwise

@[expose] public section
set_option maxRecDepth 16384
noncomputable section

/-! One block of tokens of the merge, and the array of all blocks. -/

namespace Cert.Proof.Merge
open Cert.Kernel2Ideal Cert.Kernel2Ideal.Gen
open Idealize.ShloMosaic Idealize.ShloMosaic.TcCoe

variable (x0 : FVec Ideal S512x1024 .f32) (x1 : FVec Ideal S1x1024 .f32) (x2 x3 x4 : FVec Ideal S512x512 .bf16) (x5 : FVec Ideal S1024x3072 .bf16)
  (x6 : FVec Ideal S1x3072 .f32) (x7 x8 x9 : FVec Ideal S512x1024 .bf16) (x10 : FVec Ideal S1024x1024 .bf16) (x11 : FVec Ideal S1x1024 .f32)
  (r : Fin 512) (k : Fin 1024)

theorem out_at : (out0_12 (F := Ideal) x0 x1 x2 x3 x4 x5 x6 x7 x8 x9 x10 x11 (ix2 r k) : EReal)
    = outRow (fun j => x0 (ix2 r j)) (fun j => x1 (ix2 0 j)) (fun j => x2 (ix2 r j)) (fun j => x3 (ix2 r j)) (fun j => x4 (ix2 r j))
      (fun i j => x5 (ix2 i j)) (fun j => x6 (ix2 0 j)) (fun i j => x7 (ix2 i j)) (fun i j => x8 (ix2 i j)) (fun i j => x9 (ix2 i j))
      (fun i j => x10 (ix2 i j)) (fun j => x11 (ix2 0 j)) k := by
  unfold_out out0_12
  rw [View.canon_cons_unit_lit _ _ _ (by decide)]
  pointwise [k0_pay1, k0_pay2, k0_pay3, k0_pay4, k0_pay5, k0_pay6, k0_pay7]
  simp only [zero_sub]
  rfl

variable (m : (ℓ : Loc nD τ sig) → Buf (Elt Ideal) ℓ) (c : Dev nD)
theorem V0 (i : Fin 1024) (j : Fin 3072) : (V m c main_v0 (ix2 i j) : EReal) = m ((c.tc : Thread nD τ).loc main_arg5) (ix2 i j) := by
  unfold V
  after_reads_at
theorem V1 (i : Fin 512) (j : Fin 1024) : (V m c main_v1 (ix2 i j) : EReal) = m ((c.tc : Thread nD τ).loc main_arg7) (ix2 i j) := by
  unfold V
  after_reads_at
theorem V2 (i : Fin 512) (j : Fin 1024) : (V m c main_v2 (ix2 i j) : EReal) = m ((c.tc : Thread nD τ).loc main_arg8) (ix2 i j) := by
  unfold V
  after_reads_at
theorem V3 (i : Fin 512) (j : Fin 1024) : (V m c main_v3 (ix2 i j) : EReal) = m ((c.tc : Thread nD τ).loc main_arg9) (ix2 i j) := by
  unfold V
  after_reads_at
theorem V4 (i j : Fin 1024) : (V m c main_v4 (ix2 i j) : EReal) = m ((c.tc : Thread nD τ).loc main_arg10) (ix2 i j) := by
  unfold V
  after_reads_at
theorem V5 (j : Fin 1024) : (V m c main_v5 (ix2 0 j) : EReal) = m ((c.tc : Thread nD τ).loc main_arg1) (ix1 j) := by
  unfold V
  after_reads_at
theorem V6 (j : Fin 3072) : (V m c main_v6 (ix2 0 j) : EReal) = m ((c.tc : Thread nD τ).loc main_arg6) (ix1 j) := by
  unfold V
  after_reads_at
theorem V7 (j : Fin 1024) : (V m c main_v7 (ix2 0 j) : EReal) = m ((c.tc : Thread nD τ).loc main_arg11) (ix1 j) := by
  unfold V
  after_reads_at

/-- The blocks of a grid point: 512 tokens of the token arrays, the weights whole. -/
theorem idx : ∀ t : Fin grid0.N, win0_0.index t = ![(grid0.coords t 0).val, 0] ∧ win0_2.index t = ![(grid0.coords t 0).val, 0] ∧ win0_3.index t = ![(grid0.coords t 0).val, 0]
    ∧ win0_4.index t = ![(grid0.coords t 0).val, 0] ∧ win0_12.index t = ![(grid0.coords t 0).val, 0] ∧ win0_1.index t = ![0, 0] ∧ win0_5.index t = ![0, 0]
    ∧ win0_6.index t = ![0, 0] ∧ win0_7.index t = ![0, 0] ∧ win0_8.index t = ![0, 0] ∧ win0_9.index t = ![0, 0] ∧ win0_10.index t = ![0, 0] ∧ win0_11.index t = ![0, 0] := by
  decide +kernel

def tok (t : Fin cfg0.N) (r : Fin 512) : Fin 65536 := ⟨512 * (grid0.coords t 0).val + r.val, by
  have h : (grid0.coords t 0).val < 128 := (grid0.coords t 0).isLt
  omega⟩

theorem blk0 (t : Fin cfg0.N) (j : Fin 1024) : (iblk m c 0 t (ix2 r j) : EReal) = m ((c.tc : Thread nD τ).loc main_arg0) (ix2 (tok t r) j) := by
  have h := (idx t).1
  refine Eq.trans ?_ (congrFun (V_main_arg0 m c) _)
  blk_ext [iblk, h, tok]
theorem blk2 (t : Fin cfg0.N) (j : Fin 512) : (iblk m c 2 t (ix2 r j) : EReal) = m ((c.tc : Thread nD τ).loc main_arg2) (ix2 (tok t r) j) := by
  have h := (idx t).2.1
  refine Eq.trans ?_ (congrFun (V_main_arg2 m c) _)
  blk_ext [iblk, h, tok]
theorem blk3 (t : Fin cfg0.N) (j : Fin 512) : (iblk m c 3 t (ix2 r j) : EReal) = m ((c.tc : Thread nD τ).loc main_arg3) (ix2 (tok t r) j) := by
  have h := (idx t).2.2.1
  refine Eq.trans ?_ (congrFun (V_main_arg3 m c) _)
  blk_ext [iblk, h, tok]
theorem blk4 (t : Fin cfg0.N) (j : Fin 512) : (iblk m c 4 t (ix2 r j) : EReal) = m ((c.tc : Thread nD τ).loc main_arg4) (ix2 (tok t r) j) := by
  have h := (idx t).2.2.2.1
  refine Eq.trans ?_ (congrFun (V_main_arg4 m c) _)
  blk_ext [iblk, h, tok]
theorem blk1 (t : Fin cfg0.N) (j : Fin 1024) : (iblk m c 1 t (ix2 0 j) : EReal) = m ((c.tc : Thread nD τ).loc main_arg1) (ix1 j) := by
  have h := (idx t).2.2.2.2.2.1
  refine Eq.trans ?_ (V5 m c j)
  blk_ext [iblk, h]
theorem blk5 (t : Fin cfg0.N) (i : Fin 1024) (j : Fin 3072) : (iblk m c 5 t (ix2 i j) : EReal) = m ((c.tc : Thread nD τ).loc main_arg5) (ix2 i j) := by
  have h := (idx t).2.2.2.2.2.2.1
  refine Eq.trans ?_ (V0 m c i j)
  blk_ext [iblk, h]
theorem blk6 (t : Fin cfg0.N) (j : Fin 3072) : (iblk m c 6 t (ix2 0 j) : EReal) = m ((c.tc : Thread nD τ).loc main_arg6) (ix1 j) := by
  have h := (idx t).2.2.2.2.2.2.2.1
  refine Eq.trans ?_ (V6 m c j)
  blk_ext [iblk, h]
theorem blk7 (t : Fin cfg0.N) (i : Fin 512) (j : Fin 1024) : (iblk m c 7 t (ix2 i j) : EReal) = m ((c.tc : Thread nD τ).loc main_arg7) (ix2 i j) := by
  have h := (idx t).2.2.2.2.2.2.2.2.1
  refine Eq.trans ?_ (V1 m c i j)
  blk_ext [iblk, h]
theorem blk8 (t : Fin cfg0.N) (i : Fin 512) (j : Fin 1024) : (iblk m c 8 t (ix2 i j) : EReal) = m ((c.tc : Thread nD τ).loc main_arg8) (ix2 i j) := by
  have h := (idx t).2.2.2.2.2.2.2.2.2.1
  refine Eq.trans ?_ (V2 m c i j)
  blk_ext [iblk, h]
theorem blk9 (t : Fin cfg0.N) (i : Fin 512) (j : Fin 1024) : (iblk m c 9 t (ix2 i j) : EReal) = m ((c.tc : Thread nD τ).loc main_arg9) (ix2 i j) := by
  have h := (idx t).2.2.2.2.2.2.2.2.2.2.1
  refine Eq.trans ?_ (V3 m c i j)
  blk_ext [iblk, h]
theorem blk10 (t : Fin cfg0.N) (i : Fin 1024) (j : Fin 1024) : (iblk m c 10 t (ix2 i j) : EReal) = m ((c.tc : Thread nD τ).loc main_arg10) (ix2 i j) := by
  have h := (idx t).2.2.2.2.2.2.2.2.2.2.2.1
  refine Eq.trans ?_ (V4 m c i j)
  blk_ext [iblk, h]
theorem blk11 (t : Fin cfg0.N) (j : Fin 1024) : (iblk m c 11 t (ix2 0 j) : EReal) = m ((c.tc : Thread nD τ).loc main_arg11) (ix1 j) := by
  have h := (idx t).2.2.2.2.2.2.2.2.2.2.2.2
  refine Eq.trans ?_ (V7 m c j)
  blk_ext [iblk, h]

theorem emb12 (t : Fin cfg0.N) : (win0_12.blk t).view.emb (ix2 r k) = (ix2 (tok t r) k : S65536x1024.Idx) := by
  have h := (idx t).2.2.2.2.1
  blk_ext [h, tok]

/-- The array holds every token's merge. -/
theorem out_eq (G : Buf (Elt Ideal) ((c.tc : Thread nD τ).loc main_v8))
    (hG : ∀ (l : Fin 65536) (k : Fin 1024), G (ix2 l k)
      = outRow (fun j => m ((c.tc : Thread nD τ).loc main_arg0) (ix2 l j)) (fun j => m ((c.tc : Thread nD τ).loc main_arg1) (ix1 j))
        (fun j => m ((c.tc : Thread nD τ).loc main_arg2) (ix2 l j)) (fun j => m ((c.tc : Thread nD τ).loc main_arg3) (ix2 l j))
        (fun j => m ((c.tc : Thread nD τ).loc main_arg4) (ix2 l j)) (fun i j => m ((c.tc : Thread nD τ).loc main_arg5) (ix2 i j))
        (fun j => m ((c.tc : Thread nD τ).loc main_arg6) (ix1 j)) (fun i j => m ((c.tc : Thread nD τ).loc main_arg7) (ix2 i j))
        (fun i j => m ((c.tc : Thread nD τ).loc main_arg8) (ix2 i j)) (fun i j => m ((c.tc : Thread nD τ).loc main_arg9) (ix2 i j))
        (fun i j => m ((c.tc : Thread nD τ).loc main_arg10) (ix2 i j)) (fun j => m ((c.tc : Thread nD τ).loc main_arg11) (ix1 j)) k) :
    (dats m 0 c).arrAt 12 cfg0.N = G := by
  refine (dats m 0 c).arrAt_eq_of_covers 12 _ (by decide +kernel) fun t hf y => ?_
  blk_simp
  rw [after0_12]
  obtain ⟨r, k, rfl⟩ : ∃ (r : Fin 512) (k : Fin 1024), y = ix2 r k := ⟨y 0, y 1, by
    funext a
    fin_cases a <;> rfl⟩
  refine (out_at _ _ _ _ _ _ _ _ _ _ _ _ r k).trans ?_
  rw [emb12, hG]
  simp only [blk0, blk1, blk2, blk3, blk4, blk5, blk6, blk7, blk8, blk9, blk10, blk11]

end Cert.Proof.Merge
end
-- ==== Proof.Merge.Ref.lean ====
module

public import proofs.«01_k».proof.Proof.Merge.Row
public import proofs.«01_k».proof.Proof.Gen.Reference2Ideal.Run
public import Idealize.ShloMosaic.Lib.Pointwise

@[expose] public section
set_option maxRecDepth 16384
noncomputable section

/-! The reference of the merge, read at an index. -/

namespace Cert.Proof.Merge.Ref
open Cert.Reference2Ideal Cert.Reference2Ideal.Gen
open Idealize.ShloMosaic Idealize.ShloMosaic.TcCoe

variable (m : (ℓ : Loc nD τ sig) → Buf (Elt Ideal) ℓ) (c : Dev nD) (l : Fin 65536) (k : Fin 1024)

theorem res_at : (Cert.Reference2Ideal.Value.res_main_v55 m c (ix2 l k) : EReal)
      = outRow (fun j => m ((c.tc : Thread nD τ).loc main_arg0) (ix2 l j)) (fun j => m ((c.tc : Thread nD τ).loc main_arg1) (ix1 j))
        (fun j => m ((c.tc : Thread nD τ).loc main_arg2) (ix2 l j)) (fun j => m ((c.tc : Thread nD τ).loc main_arg3) (ix2 l j))
        (fun j => m ((c.tc : Thread nD τ).loc main_arg4) (ix2 l j)) (fun i j => m ((c.tc : Thread nD τ).loc main_arg5) (ix2 i j))
        (fun j => m ((c.tc : Thread nD τ).loc main_arg6) (ix1 j)) (fun i j => m ((c.tc : Thread nD τ).loc main_arg7) (ix2 i j))
        (fun i j => m ((c.tc : Thread nD τ).loc main_arg8) (ix2 i j)) (fun i j => m ((c.tc : Thread nD τ).loc main_arg9) (ix2 i j))
        (fun i j => m ((c.tc : Thread nD τ).loc main_arg10) (ix2 i j)) (fun j => m ((c.tc : Thread nD τ).loc main_arg11) (ix1 j)) k := by
  unfold Cert.Reference2Ideal.Value.res_main_v55
  pointwise
  rfl

end Cert.Proof.Merge.Ref
end
-- ==== Proof.Merge.Claim.lean ====
module

public import proofs.«01_k».proof.Defs
public import proofs.«01_k».proof.Proof.Merge.Body
public import proofs.«01_k».proof.Proof.Merge.Ref
public import Idealize.ShloMosaic.Adequacy
public import Idealize.ShloMosaic.Init

@[expose] public section
set_option maxRecDepth 16384
noncomputable section

/-! The claims on the merge's values. -/

namespace Cert.Proof.Merge
open Idealize.ShloMosaic Idealize.SL.Sem

/-- The reference runs, keeps its arguments, and has no counters. -/
theorem frame_reference : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

/-- Call and reference leave the same merged tokens. -/
theorem algebraic : Cert.algebraic_Kernel2Ideal_Reference2Ideal := by
  intro m ρ m' ρ' _ hagree
  have key : ∀ c : Dev Cert.Kernel2Ideal.nD, (Cert.Kernel2Ideal.Gen.dats m 0 c).arrAt 12 Cert.Kernel2Ideal.cfg0.N = Cert.Reference2Ideal.Value.res_main_v55 m' c := by
    intro c
    obtain ⟨h0, h1, h2, h3, h4, h5, h6, h7, h8, h9, h10, h11⟩ := hagree c
    refine out_eq m c _ fun l k => (Ref.res_at m' c l k).trans ?_
    rw [h0, h1, h2, h3, h4, h5, h6, h7, h8, h9, h10, h11]
  exact ⟨_, (θ_run Cert.Kernel2Ideal.defs _ _).mono (fun r h c => ⟨(h c).1.trans (key c), (h c).2⟩)
    (Cert.Kernel2Ideal.Value.run_blocks (F := Ideal) m ρ),
    (θ_run Cert.Reference2Ideal.defs _ _).mono (fun _ h => h) (Cert.Reference2Ideal.Value.run (F := Ideal) m' ρ')⟩

end Cert.Proof.Merge
end
-- ==== Proof.In.Row.lean ====
module

public import proofs.«01_k».proof.Proof.Merge.Row
public import Idealize.ShloMosaic.Lib.Pointwise

@[expose] public section
noncomputable section

/-! The combined projection of one token, as functions of its row and the weights. -/

namespace Cert.Proof.In
open Idealize.ShloMosaic

/-- A column of the projection of the normalised row. -/
def col (x g : Fin 1024 → EReal) (w : Fin 1024 → Fin 5376 → EReal) (j : Fin 5376) : EReal := ∑ i, Merge.nrm x g i * w i j

def silu (z : EReal) : EReal := z * Ideal.div 1 (1 + Ideal.exp (-z))

/-- A head over the root of its mean square, times the gains. -/
def hnrm (p g : Fin 64 → EReal) (d : Fin 64) : EReal :=
  p d * Ideal.rsqrt (Ideal.div (∑ j, p j * p j) (Ideal.ofBits FTy.f32 0x42800000#32) + Ideal.ofBits FTy.f32 0x358637BD#32) * g d

/-- The pairs (d, d + 32) turned by the angle whose cosine and sine are given. -/
def rope (y : Fin 64 → EReal) (c s : Fin 32 → EReal) (d : Fin 64) : EReal :=
  if h : d.val < 32 then y d * c ⟨d.val, h⟩ - y ⟨32 + d.val, by omega⟩ * s ⟨d.val, h⟩
  else y ⟨32 + (d.val - 32), by omega⟩ * c ⟨d.val - 32, by omega⟩ + y ⟨d.val - 32, by omega⟩ * s ⟨d.val - 32, by omega⟩

/-- The rotary angle: the row of the position for the first sixteen frequencies, its column for the others. -/
def ang (l : Fin 8192) (k : Fin 32) : EReal :=
  if k.val < 16 then
    FloatOps.sitofp (F := Ideal) FTy.f32 (BitVec.ofNat 32 (l.val / 64)) * Ideal.pow (Ideal.ofBits FTy.f32 0x461C4000#32)
      (Ideal.div (-FloatOps.sitofp (F := Ideal) FTy.f32 (BitVec.ofNat 32 k.val)) (Ideal.ofBits FTy.f32 0x41800000#32))
  else
    FloatOps.sitofp (F := Ideal) FTy.f32 (BitVec.ofNat 32 (l.val % 64)) * Ideal.pow (Ideal.ofBits FTy.f32 0x461C4000#32)
      (Ideal.div (-FloatOps.sitofp (F := Ideal) FTy.f32 (BitVec.ofNat 32 (k.val - 16))) (Ideal.ofBits FTy.f32 0x41800000#32))

/-- 1/8 and the change to base 2, as the reference writes them. -/
def scale : EReal := Ideal.div (Ideal.ofBits FTy.f32 0x3E000000#32) (Ideal.log (Ideal.ofBits FTy.f32 0x40000000#32))

/-! The results that are more than a column, of one token's columns `u`. -/

variable (u : Fin 5376 → EReal)

/-- A query head of the token at position `l`, normalised and turned. -/
def qhead (qg : Fin 64 → EReal) (l : Fin 8192) (h : Fin 8) (d : Fin 64) : EReal :=
  rope (hnrm (fun d => u ⟨2048 + (h.val * 64 + d.val), by omega⟩) qg) (fun k => Ideal.cos (ang l k)) (fun k => Ideal.sin (ang l k)) d

/-- A key head. -/
def khead (kg : Fin 64 → EReal) (l : Fin 8192) (h : Fin 2) (d : Fin 64) : EReal :=
  rope (hnrm (fun d => u ⟨2560 + (h.val * 64 + d.val), by omega⟩) kg) (fun k => Ideal.cos (ang l k)) (fun k => Ideal.sin (ang l k)) d

/-- The values of a head, then a one and zeros. -/
def vrow (h : Fin 2) (d : Fin 80) : EReal := if h' : d.val < 64 then u ⟨2688 + (h.val * 64 + d.val), by omega⟩ else if d.val - 64 < 1 then 1 else 0

def dvrow (h : Fin 4) (d : Fin 144) : EReal := if h' : d.val < 128 then u ⟨4352 + (h.val * 128 + d.val), by omega⟩ else if d.val - 128 < 1 then 1 else 0

end Cert.Proof.In
end
-- ==== Proof.In.Body.lean ====
module

public import proofs.«01_k».proof.Proof.Gen.Kernel3Ideal.Value
public import proofs.«01_k».proof.Proof.In.Row
public import Idealize.ShloMosaic.Lib.Pipeline.ValueKit
public import Idealize.ShloMosaic.Lib.Pipeline.ValueKit.Acc
public import Idealize.ShloMosaic.Lib.StableHlo.ReadAt
public import Idealize.ShloMosaic.Lib.Pointwise
public import proofs.«01_k».proof.Proof.Val.Real

@[expose] public section
set_option maxRecDepth 16384
noncomputable section

namespace Cert.Proof.In
open Cert.Kernel3Ideal Cert.Kernel3Ideal.Gen
open Idealize.ShloMosaic Idealize.ShloMosaic.TcCoe

variable (x0 : FVec Ideal S1x512x1024 .f32) (x1 : FVec Ideal S1x1024 .f32) (x2 : FVec Ideal S1024x5376 .bf16) (xg : FVec Ideal S64x512 .f32)
  (x5 x6 : FVec Ideal S32x512 .f32) (a : FVec Ideal S512x1024 .bf16) (w : FVec Ideal S1024x512 .bf16) (w' : FVec Ideal S1024x128 .bf16)

theorem p3 (r : Fin 512) (i : Fin 1024) : (k0_pay3 (F := Ideal) x0 x1 (ix2 r i) : EReal) = Merge.nrm (fun i => x0 (ix3 0 r i)) (fun i => x1 (ix2 0 i)) i := by
  pointwise [k0_pay3]
  rfl

theorem p4 (w : FVec Ideal S1024x1536 .bf16) (r : Fin 512) (j : Fin 1536) : (k0_pay4 (F := Ideal) x0 x1 w (ix3 0 r j) : EReal)
    = ∑ i, (k0_pay3 (F := Ideal) x0 x1 (ix2 r i) : EReal) * w (ix2 i j) := by
  pointwise [k0_pay4]

theorem scale_eq : (Named.named (F := Ideal) κ "scale_log2e" (φ := .f32) 0x3E38AA3B#32 : EReal) = scale := by
  rw [show (Named.named (F := Ideal) κ "scale_log2e" (φ := .f32) 0x3E38AA3B#32 : EReal) = (((8 * (Real.log 2))⁻¹ : ℝ) : EReal) from rfl]
  unfold scale
  rw [show Ideal.ofBits FTy.f32 0x3E000000#32 = ((1 / 8 : ℝ) : EReal) from by simp [Ideal.ofBits, Ideal.ieee, -EReal.coe_mul]; norm_num,
    Val.two_f32, Ideal.log_coe, if_neg (by norm_num), Ideal.div_coe (Real.log_pos (by norm_num)).ne', ← EReal.coe_mul]
  congr 1
  rw [mul_inv]
  ring

theorem p9 (h : Fin 8) (d : Fin 64) (r : Fin 512) :
    (k0_pay9 (F := Ideal) a x5 x6 w xg (ix3 h d r) : EReal)
    = rope (hnrm (fun d => ∑ i, (a (ix2 r i) : EReal) * w (ix2 i ⟨h.val * 64 + d.val, by omega⟩)) (fun d => xg (ix2 d r))) (fun k => x5 (ix2 k r)) (fun k => x6 (ix2 k r)) d * scale := by
  pointwise [k0_pay9, k0_pay7, k0_pay8]
  exact congrArg₂ (· * ·) rfl scale_eq

theorem p47 (h : Fin 2) (d : Fin 64) (r : Fin 512) :
    (k0_pay47 (F := Ideal) x5 x6 (k0_pay46 a w') xg (ix3 h d r) : EReal)
    = rope (hnrm (fun d => ∑ i, (a (ix2 r i) : EReal) * w' (ix2 i ⟨h.val * 64 + d.val, by omega⟩)) (fun d => xg (ix2 d r))) (fun k => x5 (ix2 k r)) (fun k => x6 (ix2 k r)) d := by
  pointwise [k0_pay47, k0_pay46]
  rfl

theorem p50 (d : Fin 16) (r : Fin 512) : (k0_pay50 (F := Ideal) (iota Kind.tc S16x512 32 [0] iota_S16x512_d0_w32) (ix2 d r) : EReal) = if d.val < 1 then 1 else 0 := by
  pointwise [k0_pay50]
  fin_cases d
  · show ((((1#32 : BitVec 32).toInt : ℤ) : ℝ) : EReal) = 1
    simp
  all_goals
    show ((((0#32 : BitVec 32).toInt : ℤ) : ℝ) : EReal) = 0
    simp

theorem p60 (h : Fin 4) (d : Fin 128) (r : Fin 512) :
    (k0_pay60 (F := Ideal) a w (ix4 0 h d r) : EReal) = (∑ i, (a (ix2 r i) : EReal) * w (ix2 i ⟨h.val * 128 + d.val, by omega⟩)) * scale := by
  pointwise [k0_pay60]
  rw [scale_eq]

theorem ldw (off n : ℕ) (hn : off + n ≤ 5376) (inb : ∀ a, (![0, off] : Fin 2 → Nat) a + (![1024, n] : Fin 2 → Nat) a ≤ S1024x5376.size a) (i : Fin 1024) (j : Fin n) :
    ((View.ld (Val := Elt Ideal) (S := S1024x5376) (e' := .bf16) x2 (Rect.unit (s := S1024x5376) (![0, off] : Fin 2 → Nat) (![1024, n] : Fin 2 → Nat) inb) : Vec Ideal (⟨2, ![1024, n]⟩ : Shape) .bf16) (ix2 i j) : EReal) = x2 (ix2 i ⟨off + j.val, by omega⟩) :=
  View.ld_unit_apply_of _ _ _ _ _ _ fun a => by
    fin_cases a
    · exact (Nat.zero_add _).symm
    · rfl

variable (m : (ℓ : Loc nD τ sig) → Buf (Elt Ideal) ℓ) (c : Dev nD)

theorem V26 (k : Fin 32) (l : Fin 8192) : (V m c main_v26 (ix2 k l) : EReal) = Ideal.cos (ang l k) := by
  unfold V
  after_reads_at
  by_cases h : k.val < 16 <;> simp only [ang, h, dif_pos, if_pos, dif_neg, if_neg, not_false_eq_true] <;> after_reads_at
theorem V28 (k : Fin 32) (l : Fin 8192) : (V m c main_v28 (ix2 k l) : EReal) = Ideal.sin (ang l k) := by
  unfold V
  after_reads_at
  by_cases h : k.val < 16 <;> simp only [ang, h, dif_pos, if_pos, dif_neg, if_neg, not_false_eq_true] <;> after_reads_at
theorem V29 (i : Fin 1024) (j : Fin 5376) : (V m c main_v29 (ix2 i j) : EReal) = m ((c.tc : Thread nD τ).loc main_arg2) (ix2 i j) := by
  unfold V
  after_reads_at
theorem V31 (d : Fin 64) (r : Fin 512) : (V m c main_v31 (ix2 d r) : EReal) = m ((c.tc : Thread nD τ).loc main_arg3) (ix1 d) := by
  unfold V
  after_reads_at
theorem V33 (d : Fin 64) (r : Fin 512) : (V m c main_v33 (ix2 d r) : EReal) = m ((c.tc : Thread nD τ).loc main_arg4) (ix1 d) := by
  unfold V
  after_reads_at
theorem V34 (i : Fin 1024) : (V m c main_v34 (ix2 0 i) : EReal) = m ((c.tc : Thread nD τ).loc main_arg1) (ix1 i) := by
  unfold V
  after_reads_at

/-- The blocks of a grid point: 512 tokens of a batch entry, the weights and the gains whole. -/
theorem idx : ∀ t : Fin grid0.N, win0_0.index t = ![(grid0.coords t 0).val, (grid0.coords t 1).val, 0] ∧ win0_1.index t = ![0, 0] ∧ win0_2.index t = ![0, 0]
    ∧ win0_3.index t = ![0, 0] ∧ win0_4.index t = ![0, 0] ∧ win0_5.index t = ![0, (grid0.coords t 1).val] ∧ win0_6.index t = ![0, (grid0.coords t 1).val] := by
  decide +kernel
theorem odx : ∀ t : Fin grid0.N, win0_7.index t = ![(grid0.coords t 0).val, (grid0.coords t 1).val, 0] ∧ win0_8.index t = ![(grid0.coords t 0).val, (grid0.coords t 1).val, 0]
    ∧ win0_9.index t = ![(grid0.coords t 0).val, 0, 0, (grid0.coords t 1).val] ∧ win0_10.index t = ![(grid0.coords t 0).val, 0, (grid0.coords t 1).val, 0]
    ∧ win0_11.index t = ![(grid0.coords t 0).val, 0, 0, (grid0.coords t 1).val] ∧ win0_12.index t = ![(grid0.coords t 0).val, (grid0.coords t 1).val, 0]
    ∧ win0_13.index t = ![(grid0.coords t 0).val, 0, 0, (grid0.coords t 1).val] ∧ win0_14.index t = ![(grid0.coords t 0).val, 0, (grid0.coords t 1).val, 0]
    ∧ win0_15.index t = ![(grid0.coords t 0).val, 0, 0, (grid0.coords t 1).val] ∧ win0_16.index t = ![(grid0.coords t 0).val, (grid0.coords t 1).val, 0] := by
  decide +kernel

def bt (t : Fin cfg0.N) : Fin 8 := ⟨(grid0.coords t 0).val, (grid0.coords t 0).isLt⟩
def tk (t : Fin cfg0.N) (r : Fin 512) : Fin 8192 := ⟨512 * (grid0.coords t 1).val + r.val, by
  have h : (grid0.coords t 1).val < 16 := (grid0.coords t 1).isLt
  omega⟩

/-- The columns of one token. -/
def U (b : Fin 8) (l : Fin 8192) : Fin 5376 → EReal :=
  col (fun i => m ((c.tc : Thread nD τ).loc main_arg0) (ix3 b l i)) (fun i => m ((c.tc : Thread nD τ).loc main_arg1) (ix1 i)) (fun i j => m ((c.tc : Thread nD τ).loc main_arg2) (ix2 i j))

variable (t : Fin cfg0.N) (r : Fin 512)

theorem blk0 (i : Fin 1024) : (iblk m c 0 t (ix3 0 r i) : EReal) = m ((c.tc : Thread nD τ).loc main_arg0) (ix3 (bt t) (tk t r) i) := by
  have h := (idx t).1
  refine Eq.trans ?_ (congrFun (V_main_arg0 m c) _)
  blk_ext [iblk, h, tk, bt]
theorem blk1 (i : Fin 1024) : (iblk m c 1 t (ix2 0 i) : EReal) = m ((c.tc : Thread nD τ).loc main_arg1) (ix1 i) := by
  have h := (idx t).2.1
  refine Eq.trans ?_ (V34 m c i)
  blk_ext [iblk, h]
theorem blk2 (i : Fin 1024) (j : Fin 5376) : (iblk m c 2 t (ix2 i j) : EReal) = m ((c.tc : Thread nD τ).loc main_arg2) (ix2 i j) := by
  have h := (idx t).2.2.1
  refine Eq.trans ?_ (V29 m c i j)
  blk_ext [iblk, h]
theorem blk3 (d : Fin 64) : (iblk m c 3 t (ix2 d r) : EReal) = m ((c.tc : Thread nD τ).loc main_arg3) (ix1 d) := by
  have h := (idx t).2.2.2.1
  refine Eq.trans ?_ (V31 m c d r)
  blk_ext [iblk, h]
theorem blk4 (d : Fin 64) : (iblk m c 4 t (ix2 d r) : EReal) = m ((c.tc : Thread nD τ).loc main_arg4) (ix1 d) := by
  have h := (idx t).2.2.2.2.1
  refine Eq.trans ?_ (V33 m c d r)
  blk_ext [iblk, h]
theorem blk5 (k : Fin 32) : (iblk m c 5 t (ix2 k r) : EReal) = Ideal.cos (ang (tk t r) k) := by
  have h := (idx t).2.2.2.2.2.1
  refine Eq.trans ?_ (V26 m c k (tk t r))
  blk_ext [iblk, h, tk]
theorem blk6 (k : Fin 32) : (iblk m c 6 t (ix2 k r) : EReal) = Ideal.sin (ang (tk t r) k) := by
  have h := (idx t).2.2.2.2.2.2
  refine Eq.trans ?_ (V28 m c k (tk t r))
  blk_ext [iblk, h, tk]

/-- The product with a range of the weight's columns, on a block. -/
theorem pr (off n : ℕ) (hn : off + n ≤ 5376) (inb : ∀ a, (![0, off] : Fin 2 → Nat) a + (![1024, n] : Fin 2 → Nat) a ≤ S1024x5376.size a) (j : Fin n) :
    (∑ i : Fin 1024, (k0_pay3 (F := Ideal) (iblk m c 0 t) (iblk m c 1 t) (ix2 r i) : EReal)
        * (View.ld (Val := Elt Ideal) (S := S1024x5376) (e' := .bf16) (iblk m c 2 t) (Rect.unit (s := S1024x5376) (![0, off] : Fin 2 → Nat) (![1024, n] : Fin 2 → Nat) inb) : Vec Ideal (⟨2, ![1024, n]⟩ : Shape) .bf16) (ix2 i j))
      = U m c (bt t) (tk t r) ⟨off + j.val, by omega⟩ := by
  unfold U col
  refine Finset.sum_congr rfl fun i _ => ?_
  rw [p3, ldw _ off n hn, blk2]
  simp only [blk0, blk1]

theorem t7 (j : Fin 1536) : ((outsAt0 m c t).1 (ix3 0 r j) : EReal) = U m c (bt t) (tk t r) ⟨j.val, by omega⟩ := by
  unfold outsAt0
  frame_out
  refine (p4 _ _ _ r j).trans ((pr m c t r 0 1536 (by omega) _ j).trans ?_)
  simp only [Nat.zero_add]

theorem t8 (j : Fin 512) : ((outsAt0 m c t).2.1 (ix3 0 r j) : EReal) = silu (U m c (bt t) (tk t r) ⟨1536 + j.val, by omega⟩) := by
  unfold outsAt0
  frame_out
  rw [← pr m c t r 1536 512 (by omega) inb_S1024x5376_S1024x512_0_1536 j]
  generalize View.ld _ _ = w
  pointwise [k0_pay6, k0_pay5]
  simp only [zero_sub]
  rfl

theorem t9 (g : Fin 2) (d : Fin 64) (y : Fin 2048) : ((outsAt0 m c t).2.2.1 (ix4 0 g d y) : EReal) =
    k0_pay9 (F := Ideal) (k0_pay3 (iblk m c 0 t) (iblk m c 1 t)) (iblk m c 5 t) (iblk m c 6 t)
      (View.ld (iblk m c 2 t) (Rect.unit ![0, 2048] ![1024, 512] inb_S1024x5376_S1024x512_0_2048))
      (iblk m c 3 t) (ix3 ⟨g.val * 4 + y.val / 128 % 4, by omega⟩ d ⟨y.val / 512 * 128 + y.val % 128, by omega⟩) := by
  unfold outsAt0
  frame_out
  generalize k0_pay9 (F := Ideal) _ _ _ _ _ = v
  canon_tiles x h
  all_goals
    obtain ⟨p, q, d', z, rfl⟩ : ∃ (p : Fin 1) (q : Fin 1) (d' : Fin 64) (z : Fin 128), x = ix4 p q d' z := ⟨x 0, x 1, x 2, x 3, eq_ix4 x⟩
    simp only [ix4_0, ix4_1, ix4_2, ix4_3] at h0 h1 h2 h3
    open_payloads
    pointwise []
    blk_ext

theorem t9' (h : Fin 8) (d : Fin 64) :
    (k0_pay9 (F := Ideal) (k0_pay3 (iblk m c 0 t) (iblk m c 1 t)) (iblk m c 5 t) (iblk m c 6 t)
      (View.ld (iblk m c 2 t) (Rect.unit ![0, 2048] ![1024, 512] inb_S1024x5376_S1024x512_0_2048))
      (iblk m c 3 t) (ix3 h d r) : EReal)
    = qhead (U m c (bt t) (tk t r)) (fun d => m ((c.tc : Thread nD τ).loc main_arg3) (ix1 d)) (tk t r) h d * scale := by
  refine (p9 _ _ _ _ _ h d r).trans ?_
  simp only [blk3, blk5, blk6]
  simp only [pr m c t r 2048 512 (by omega)]
  rfl

theorem t10 (g : Fin 2) (d : Fin 64) : ((outsAt0 m c t).2.2.2.1 (ix4 0 g r d) : EReal) =
    khead (U m c (bt t) (tk t r)) (fun d => m ((c.tc : Thread nD τ).loc main_arg4) (ix1 d)) (tk t r) g d := by
  have e := p47 (iblk m c 4 t) (iblk m c 5 t) (iblk m c 6 t) (k0_pay3 (F := Ideal) (iblk m c 0 t) (iblk m c 1 t))
    (View.ld (iblk m c 2 t) (Rect.unit ![0, 2560] ![1024, 128] inb_S1024x5376_S1024x128_0_2560)) g d r
  simp only [blk4, blk5, blk6, pr m c t r 2560 128 (by omega)] at e
  refine Eq.trans ?_ e
  clear e
  unfold outsAt0
  frame_out
  simp only [k0_pay7, k0_pay8]
  generalize k0_pay46 (F := Ideal) _ _ = v
  canon_tiles x h
  all_goals
    obtain ⟨p, q, r', d', rfl⟩ : ∃ (p : Fin 1) (q : Fin 1) (r' : Fin 512) (d' : Fin 64), x = ix4 p q r' d' := ⟨x 0, x 1, x 2, x 3, eq_ix4 x⟩
    simp only [ix4_0, ix4_1, ix4_2, ix4_3] at h0 h1 h2 h3
    pointwise [k0_pay48, k0_pay49]
    blk_ext

theorem p51 (j : Fin 128) : (k0_pay51 (F := Ideal) a w' (ix2 j r) : EReal) = ∑ i, (a (ix2 r i) : EReal) * w' (ix2 i j) := by
  pointwise [k0_pay51]
theorem p61 (j : Fin 512) : (k0_pay61 (F := Ideal) a w (ix2 r j) : EReal) = ∑ i, (a (ix2 r i) : EReal) * w (ix2 i j) := by
  pointwise [k0_pay61]
theorem p71 (j : Fin 512) : (k0_pay71 (F := Ideal) a w (ix2 j r) : EReal) = ∑ i, (a (ix2 r i) : EReal) * w (ix2 i j) := by
  pointwise [k0_pay71]

theorem v11 (g : Fin 2) (d : Fin 80) (h : d.val < 64) :
    (k0_pay51 (F := Ideal) (k0_pay3 (iblk m c 0 t) (iblk m c 1 t)) (View.ld (iblk m c 2 t) (Rect.unit ![0, 2688] ![1024, 128] inb_S1024x5376_S1024x128_0_2688))
      (ix2 ⟨g.val * 64 + d.val, by omega⟩ r) : EReal) = vrow (U m c (bt t) (tk t r)) g d := by
  rw [vrow, dif_pos h]
  exact (p51 _ _ r _).trans (pr m c t r 2688 128 (by omega) _ _)

theorem v15 (g : Fin 4) (d : Fin 144) (h : d.val < 128) :
    (k0_pay71 (F := Ideal) (k0_pay3 (iblk m c 0 t) (iblk m c 1 t)) (View.ld (iblk m c 2 t) (Rect.unit ![0, 4352] ![1024, 512] inb_S1024x5376_S1024x512_0_4352))
      (ix2 ⟨g.val * 128 + d.val, by omega⟩ r) : EReal) = dvrow (U m c (bt t) (tk t r)) g d := by
  rw [dvrow, dif_pos h]
  exact (p71 _ _ r _).trans (pr m c t r 4352 512 (by omega) _ _)

theorem t11 (g : Fin 2) (d : Fin 80) : ((outsAt0 m c t).2.2.2.2.1 (ix4 0 g d r) : EReal) = vrow (U m c (bt t) (tk t r)) g d := by
  unfold outsAt0
  frame_out
  canon_tiles x h using View.cover_of_tiledBy _ ![1, 1, 16, 512] (by sl_kernel_rfl) _
  case piece0 | piece2 =>
    obtain ⟨p, q, d', r', rfl⟩ : ∃ (p : Fin 1) (q : Fin 1) (d' : Fin 16) (r' : Fin 512), x = ix4 p q d' r' := ⟨x 0, x 1, x 2, x 3, eq_ix4 x⟩
    simp only [ix4_0, ix4_1, ix4_2, ix4_3] at h0 h1 h2 h3
    pointwise [k0_pay53, k0_pay55]
    rw [p50, vrow, dif_neg (by omega)]
    simp only [h2, Nat.add_sub_cancel_left]
  case piece1 | piece3 =>
    obtain ⟨p, q, d', r', rfl⟩ : ∃ (p : Fin 1) (q : Fin 1) (d' : Fin 64) (r' : Fin 512), x = ix4 p q d' r' := ⟨x 0, x 1, x 2, x 3, eq_ix4 x⟩
    simp only [ix4_0, ix4_1, ix4_2, ix4_3] at h0 h1 h2 h3
    pointwise [k0_pay52, k0_pay54]
    refine Eq.trans ?_ (v11 m c t r g d (lt_of_eq_of_lt h2 d'.isLt))
    blk_ext

theorem t12 (j : Fin 512) : ((outsAt0 m c t).2.2.2.2.2.1 (ix3 0 r j) : EReal) = silu (U m c (bt t) (tk t r) ⟨2816 + j.val, by omega⟩) := by
  unfold outsAt0
  frame_out
  rw [← pr m c t r 2816 512 (by omega) inb_S1024x5376_S1024x512_0_2816 j]
  generalize View.ld _ _ = w
  pointwise [k0_pay56, k0_pay57, k0_pay58, k0_pay59]
  simp only [zero_sub]
  rfl

theorem t13 (h : Fin 4) (d : Fin 128) : ((outsAt0 m c t).2.2.2.2.2.2.1 (ix4 0 h d r) : EReal)
    = U m c (bt t) (tk t r) ⟨3328 + (h.val * 128 + d.val), by omega⟩ * scale := by
  unfold outsAt0
  frame_out
  refine (p60 _ _ h d r).trans ?_
  simp only [pr m c t r 3328 512 (by omega)]

theorem t14 (h : Fin 8) (d : Fin 64) : ((outsAt0 m c t).2.2.2.2.2.2.2.1 (ix4 0 h r d) : EReal)
    = U m c (bt t) (tk t r) ⟨3840 + (h.val * 64 + d.val), by omega⟩ := by
  refine Eq.trans ?_ ((p61 _ _ r ⟨h.val * 64 + d.val, by omega⟩).trans (pr m c t r 3840 512 (by omega) inb_S1024x5376_S1024x512_0_3840 ⟨h.val * 64 + d.val, by omega⟩))
  unfold outsAt0
  frame_out
  canon_tiles x h
  all_goals
    obtain ⟨p, q, r', d', rfl⟩ : ∃ (p : Fin 1) (q : Fin 1) (r' : Fin 512) (d' : Fin 64), x = ix4 p q r' d' := ⟨x 0, x 1, x 2, x 3, eq_ix4 x⟩
    simp only [ix4_0, ix4_1, ix4_2, ix4_3] at h0 h1 h2 h3
    pointwise [k0_pay62, k0_pay63, k0_pay64, k0_pay65, k0_pay66, k0_pay67, k0_pay68, k0_pay69, k0_pay70]
    blk_ext

theorem t15 (h : Fin 4) (d : Fin 144) : ((outsAt0 m c t).2.2.2.2.2.2.2.2.1 (ix4 0 h d r) : EReal) = dvrow (U m c (bt t) (tk t r)) h d := by
  unfold outsAt0
  frame_out
  canon_tiles x h using View.cover_of_tiledBy _ ![1, 1, 16, 512] (by sl_kernel_rfl) _
  case piece0 | piece2 | piece4 | piece6 =>
    obtain ⟨p, q, d', r', rfl⟩ : ∃ (p : Fin 1) (q : Fin 1) (d' : Fin 16) (r' : Fin 512), x = ix4 p q d' r' := ⟨x 0, x 1, x 2, x 3, eq_ix4 x⟩
    simp only [ix4_0, ix4_1, ix4_2, ix4_3] at h0 h1 h2 h3
    pointwise [k0_pay1, k0_pay77, k0_pay75, k0_pay73]
    rw [p50, dvrow, dif_neg (by omega)]
    simp only [h2, Nat.add_sub_cancel_left]
  case piece1 | piece3 | piece5 | piece7 =>
    obtain ⟨p, q, d', r', rfl⟩ : ∃ (p : Fin 1) (q : Fin 1) (d' : Fin 128) (r' : Fin 512), x = ix4 p q d' r' := ⟨x 0, x 1, x 2, x 3, eq_ix4 x⟩
    simp only [ix4_0, ix4_1, ix4_2, ix4_3] at h0 h1 h2 h3
    pointwise [k0_pay78, k0_pay76, k0_pay74, k0_pay72]
    refine Eq.trans ?_ (v15 m c t r h d (lt_of_eq_of_lt h2 d'.isLt))
    blk_ext

theorem t16 (j : Fin 512) : ((outsAt0 m c t).2.2.2.2.2.2.2.2.2 (ix3 0 r j) : EReal) = silu (U m c (bt t) (tk t r) ⟨4864 + j.val, by omega⟩) := by
  unfold outsAt0
  frame_out
  rw [← pr m c t r 4864 512 (by omega) inb_S1024x5376_S1024x512_0_4864 j]
  generalize View.ld _ _ = w
  pointwise [k0_pay2]
  simp only [zero_sub]
  rfl

end Cert.Proof.In
end
-- ==== Proof.In.Arr.lean ====
module

public import proofs.«01_k».proof.Proof.In.Body

@[expose] public section
set_option maxRecDepth 16384
noncomputable section

/-! The arrays of all blocks of the projection. -/

namespace Cert.Proof.In
open Cert.Kernel3Ideal Cert.Kernel3Ideal.Gen
open Idealize.ShloMosaic Idealize.ShloMosaic.TcCoe

variable (m : (ℓ : Loc nD τ sig) → Buf (Elt Ideal) ℓ) (c : Dev nD) (t : Fin cfg0.N) (r : Fin 512)

theorem emb7 (j : Fin 1536) : (win0_7.blk t).view.emb (ix3 0 r j) = (ix3 (bt t) (tk t r) j : S8x8192x1536.Idx) := by
  have h := (odx t).1
  blk_ext [h, tk, bt]
theorem arr7 (G : Buf (Elt Ideal) ((c.tc : Thread nD τ).loc main_v35_0))
    (hG : ∀ b l (j : Fin 1536), G (ix3 b l j) = U m c b l ⟨j.val, by omega⟩) : (dats m 0 c).arrAt 7 cfg0.N = G := by
  refine (dats m 0 c).arrAt_eq_of_covers 7 _ (by decide +kernel) fun t hf y => ?_
  blk_simp
  rw [after0_7]
  obtain ⟨p, r, j, rfl⟩ : ∃ (p : Fin 1) (r : Fin 512) (j : Fin 1536), y = ix3 p r j := ⟨y 0, y 1, y 2, eq_ix3 y⟩
  obtain rfl : p = 0 := Subsingleton.elim _ _
  refine (t7 m c t r j).trans ?_
  rw [emb7, hG]

theorem emb8 (j : Fin 512) : (win0_8.blk t).view.emb (ix3 0 r j) = (ix3 (bt t) (tk t r) j : S8x8192x512.Idx) := by
  have h := (odx t).2.1
  blk_ext [h, tk, bt]
theorem arr8 (G : Buf (Elt Ideal) ((c.tc : Thread nD τ).loc main_v35_1))
    (hG : ∀ b l (j : Fin 512), G (ix3 b l j) = silu (U m c b l ⟨1536 + j.val, by omega⟩)) : (dats m 0 c).arrAt 8 cfg0.N = G := by
  refine (dats m 0 c).arrAt_eq_of_covers 8 _ (by decide +kernel) fun t hf y => ?_
  blk_simp
  rw [after0_8]
  obtain ⟨p, r, j, rfl⟩ : ∃ (p : Fin 1) (r : Fin 512) (j : Fin 512), y = ix3 p r j := ⟨y 0, y 1, y 2, eq_ix3 y⟩
  obtain rfl : p = 0 := Subsingleton.elim _ _
  refine (t8 m c t r j).trans ?_
  rw [emb8, hG]

theorem emb12 (j : Fin 512) : (win0_12.blk t).view.emb (ix3 0 r j) = (ix3 (bt t) (tk t r) j : S8x8192x512.Idx) := by
  have h := (odx t).2.2.2.2.2.1
  blk_ext [h, tk, bt]
theorem arr12 (G : Buf (Elt Ideal) ((c.tc : Thread nD τ).loc main_v35_5))
    (hG : ∀ b l (j : Fin 512), G (ix3 b l j) = silu (U m c b l ⟨2816 + j.val, by omega⟩)) : (dats m 0 c).arrAt 12 cfg0.N = G := by
  refine (dats m 0 c).arrAt_eq_of_covers 12 _ (by decide +kernel) fun t hf y => ?_
  blk_simp
  rw [after0_12]
  obtain ⟨p, r, j, rfl⟩ : ∃ (p : Fin 1) (r : Fin 512) (j : Fin 512), y = ix3 p r j := ⟨y 0, y 1, y 2, eq_ix3 y⟩
  obtain rfl : p = 0 := Subsingleton.elim _ _
  refine (t12 m c t r j).trans ?_
  rw [emb12, hG]

theorem emb16 (j : Fin 512) : (win0_16.blk t).view.emb (ix3 0 r j) = (ix3 (bt t) (tk t r) j : S8x8192x512.Idx) := by
  have h := (odx t).2.2.2.2.2.2.2.2.2
  blk_ext [h, tk, bt]
theorem arr16 (G : Buf (Elt Ideal) ((c.tc : Thread nD τ).loc main_v35_9))
    (hG : ∀ b l (j : Fin 512), G (ix3 b l j) = silu (U m c b l ⟨4864 + j.val, by omega⟩)) : (dats m 0 c).arrAt 16 cfg0.N = G := by
  refine (dats m 0 c).arrAt_eq_of_covers 16 _ (by decide +kernel) fun t hf y => ?_
  blk_simp
  rw [after0_16]
  obtain ⟨p, r, j, rfl⟩ : ∃ (p : Fin 1) (r : Fin 512) (j : Fin 512), y = ix3 p r j := ⟨y 0, y 1, y 2, eq_ix3 y⟩
  obtain rfl : p = 0 := Subsingleton.elim _ _
  refine (t16 m c t r j).trans ?_
  rw [emb16, hG]

/-- A block's columns of the queries are its tokens' in the call's order: four heads of 128 tokens after one another. -/
def qc (y : Fin 2048) : Fin 32768 := ⟨2048 * (grid0.coords t 1).val + y.val, by
  have h : (grid0.coords t 1).val < 16 := (grid0.coords t 1).isLt
  omega⟩
theorem emb9 (g : Fin 2) (d : Fin 64) (x : Fin 2048) : (win0_9.blk t).view.emb (ix4 0 g d x) = (ix4 (bt t) g d (qc t x) : S8x2x64x32768.Idx) := by
  have h := (odx t).2.2.1
  blk_ext [h, qc, bt]
theorem arr9 (G : Buf (Elt Ideal) ((c.tc : Thread nD τ).loc main_v35_2))
    (hG : ∀ b (g : Fin 2) d (x : Fin 32768), G (ix4 b g d x) = qhead (U m c b ⟨x.val / 512 * 128 + x.val % 128, by omega⟩) (fun d => m ((c.tc : Thread nD τ).loc main_arg3) (ix1 d))
      ⟨x.val / 512 * 128 + x.val % 128, by omega⟩ ⟨g.val * 4 + x.val / 128 % 4, by omega⟩ d * scale) : (dats m 0 c).arrAt 9 cfg0.N = G := by
  refine (dats m 0 c).arrAt_eq_of_covers 9 _ (by decide +kernel) fun t hf y => ?_
  blk_simp
  rw [after0_9]
  obtain ⟨p, g, d, x, rfl⟩ : ∃ (p : Fin 1) (g : Fin 2) (d : Fin 64) (x : Fin 2048), y = ix4 p g d x := ⟨y 0, y 1, y 2, y 3, eq_ix4 y⟩
  obtain rfl : p = 0 := Subsingleton.elim _ _
  refine ((t9 m c t g d x).trans (t9' m c t _ _ _)).trans ?_
  rw [emb9, hG]
  have e : tk t ⟨x.val / 512 * 128 + x.val % 128, by omega⟩ = ⟨(qc t x).val / 512 * 128 + (qc t x).val % 128, by omega⟩ := Fin.ext (by
    simp only [tk, qc]
    omega)
  rw [e]
  congr 2
  refine Fin.ext ?_
  simp only [qc]
  omega

theorem emb10 (g : Fin 2) (d : Fin 64) : (win0_10.blk t).view.emb (ix4 0 g r d) = (ix4 (bt t) g (tk t r) d : S8x2x8192x64.Idx) := by
  have h := (odx t).2.2.2.1
  blk_ext [h, tk, bt]
theorem arr10 (G : Buf (Elt Ideal) ((c.tc : Thread nD τ).loc main_v35_3))
    (hG : ∀ b g l d, G (ix4 b g l d) = khead (U m c b l) (fun d => m ((c.tc : Thread nD τ).loc main_arg4) (ix1 d)) l g d) : (dats m 0 c).arrAt 10 cfg0.N = G := by
  refine (dats m 0 c).arrAt_eq_of_covers 10 _ (by decide +kernel) fun t hf y => ?_
  blk_simp
  rw [after0_10]
  obtain ⟨p, g, r, d, rfl⟩ : ∃ (p : Fin 1) (g : Fin 2) (r : Fin 512) (d : Fin 64), y = ix4 p g r d := ⟨y 0, y 1, y 2, y 3, eq_ix4 y⟩
  obtain rfl : p = 0 := Subsingleton.elim _ _
  refine (t10 m c t r g d).trans ?_
  rw [emb10, hG]

theorem emb11 (g : Fin 2) (d : Fin 80) : (win0_11.blk t).view.emb (ix4 0 g d r) = (ix4 (bt t) g d (tk t r) : S8x2x80x8192.Idx) := by
  have h := (odx t).2.2.2.2.1
  blk_ext [h, tk, bt]
theorem arr11 (G : Buf (Elt Ideal) ((c.tc : Thread nD τ).loc main_v35_4))
    (hG : ∀ b g d l, G (ix4 b g d l) = vrow (U m c b l) g d) : (dats m 0 c).arrAt 11 cfg0.N = G := by
  refine (dats m 0 c).arrAt_eq_of_covers 11 _ (by decide +kernel) fun t hf y => ?_
  blk_simp
  rw [after0_11]
  obtain ⟨p, g, d, r, rfl⟩ : ∃ (p : Fin 1) (g : Fin 2) (d : Fin 80) (r : Fin 512), y = ix4 p g d r := ⟨y 0, y 1, y 2, y 3, eq_ix4 y⟩
  obtain rfl : p = 0 := Subsingleton.elim _ _
  refine (t11 m c t r g d).trans ?_
  rw [emb11, hG]

theorem emb13 (h : Fin 4) (d : Fin 128) : (win0_13.blk t).view.emb (ix4 0 h d r) = (ix4 (bt t) h d (tk t r) : S8x4x128x8192.Idx) := by
  have e := (odx t).2.2.2.2.2.2.1
  blk_ext [e, tk, bt]
theorem arr13 (G : Buf (Elt Ideal) ((c.tc : Thread nD τ).loc main_v35_6))
    (hG : ∀ b (h : Fin 4) (d : Fin 128) l, G (ix4 b h d l) = U m c b l ⟨3328 + (h.val * 128 + d.val), by omega⟩ * scale) : (dats m 0 c).arrAt 13 cfg0.N = G := by
  refine (dats m 0 c).arrAt_eq_of_covers 13 _ (by decide +kernel) fun t hf y => ?_
  blk_simp
  rw [after0_13]
  obtain ⟨p, h, d, r, rfl⟩ : ∃ (p : Fin 1) (h : Fin 4) (d : Fin 128) (r : Fin 512), y = ix4 p h d r := ⟨y 0, y 1, y 2, y 3, eq_ix4 y⟩
  obtain rfl : p = 0 := Subsingleton.elim _ _
  refine (t13 m c t r h d).trans ?_
  rw [emb13, hG]

theorem emb14 (h : Fin 8) (d : Fin 64) : (win0_14.blk t).view.emb (ix4 0 h r d) = (ix4 (bt t) h (tk t r) d : S8x8x8192x64.Idx) := by
  have h := (odx t).2.2.2.2.2.2.2.1
  blk_ext [h, tk, bt]
theorem arr14 (G : Buf (Elt Ideal) ((c.tc : Thread nD τ).loc main_v35_7))
    (hG : ∀ b (h : Fin 8) l (d : Fin 64), G (ix4 b h l d) = U m c b l ⟨3840 + (h.val * 64 + d.val), by omega⟩) : (dats m 0 c).arrAt 14 cfg0.N = G := by
  refine (dats m 0 c).arrAt_eq_of_covers 14 _ (by decide +kernel) fun t hf y => ?_
  blk_simp
  rw [after0_14]
  obtain ⟨p, h, r, d, rfl⟩ : ∃ (p : Fin 1) (h : Fin 8) (r : Fin 512) (d : Fin 64), y = ix4 p h r d := ⟨y 0, y 1, y 2, y 3, eq_ix4 y⟩
  obtain rfl : p = 0 := Subsingleton.elim _ _
  refine (t14 m c t r h d).trans ?_
  rw [emb14, hG]

theorem emb15 (h : Fin 4) (d : Fin 144) : (win0_15.blk t).view.emb (ix4 0 h d r) = (ix4 (bt t) h d (tk t r) : S8x4x144x8192.Idx) := by
  have h := (odx t).2.2.2.2.2.2.2.2.1
  blk_ext [h, tk, bt]
theorem arr15 (G : Buf (Elt Ideal) ((c.tc : Thread nD τ).loc main_v35_8))
    (hG : ∀ b h d l, G (ix4 b h d l) = dvrow (U m c b l) h d) : (dats m 0 c).arrAt 15 cfg0.N = G := by
  refine (dats m 0 c).arrAt_eq_of_covers 15 _ (by decide +kernel) fun t hf y => ?_
  blk_simp
  rw [after0_15]
  obtain ⟨p, h, d, r, rfl⟩ : ∃ (p : Fin 1) (h : Fin 4) (d : Fin 144) (r : Fin 512), y = ix4 p h d r := ⟨y 0, y 1, y 2, y 3, eq_ix4 y⟩
  obtain rfl : p = 0 := Subsingleton.elim _ _
  refine (t15 m c t r h d).trans ?_
  rw [emb15, hG]

end Cert.Proof.In
end
-- ==== Proof.In.Ref.lean ====
module

public import proofs.«01_k».proof.Proof.In.Row
public import proofs.«01_k».proof.Proof.Gen.Reference3Ideal.Run
public import Idealize.ShloMosaic.Lib.Pointwise

@[expose] public section
set_option maxRecDepth 16384
noncomputable section

/-! The reference of the projection, read at an index. -/

namespace Cert.Proof.In.Ref
open Cert.Reference3Ideal Cert.Reference3Ideal.Gen Cert.Reference3Ideal.Value
open Idealize.ShloMosaic Idealize.ShloMosaic.TcCoe

variable (V0 : Valuation τ sig (Elt Ideal))

theorem u_at (b : Fin 8) (l : Fin 8192) (j : Fin 5376) : (res_main_v40 V0 (ix3 b l j) : EReal)
    = col (fun i => V0 (Proc.devRef .tc main_arg0) (ix3 b l i)) (fun i => V0 (Proc.devRef .tc main_arg1) (ix1 i)) (fun i j => V0 (Proc.devRef .tc main_arg2) (ix2 i j)) j := by
  unfold res_main_v40
  pointwise
  rfl

theorem ang_at (l : Fin 8192) (k : Fin 32) : (res_main_v24 V0 (ix2 l k) : EReal) = ang l k := by
  unfold res_main_v24
  pointwise [res_main_v13]
  rfl

theorem q_at (b : Fin 8) (l : Fin 8192) (h : Fin 8) (d : Fin 64) : (res_main_v66 V0 (ix4 b l h d) : EReal)
    = hnrm (fun d => res_main_v40 V0 (ix3 b l ⟨2048 + (h.val * 64 + d.val), by omega⟩)) (fun d => V0 (Proc.devRef .tc main_arg3) (ix1 d)) d := by
  unfold res_main_v66 res_main_v53
  pointwise
  rfl

theorem k_at (b : Fin 8) (l : Fin 8192) (h : Fin 2) (d : Fin 64) : (res_main_v97 V0 (ix4 b l h d) : EReal)
    = hnrm (fun d => res_main_v40 V0 (ix3 b l ⟨2560 + (h.val * 64 + d.val), by omega⟩)) (fun d => V0 (Proc.devRef .tc main_arg4) (ix1 d)) d := by
  unfold res_main_v97 res_main_v84
  pointwise
  rfl

open Idealize.SL.Sem
variable (m : (ℓ : Loc nD τ sig) → Buf (Elt Ideal) ℓ) (ρ : Dev nD → PrngReg)

/-- The columns of one token. -/
def U (c : Dev nD) (b : Fin 8) (l : Fin 8192) : Fin 5376 → EReal :=
  col (fun i => m ((c.tc : Thread nD τ).loc main_arg0) (ix3 b l i)) (fun i => m ((c.tc : Thread nD τ).loc main_arg1) (ix1 i)) (fun i j => m ((c.tc : Thread nD τ).loc main_arg2) (ix2 i j))

theorem U_at (c : Dev nD) (b : Fin 8) (l : Fin 8192) (j : Fin 5376) : (res_main_v40 (StableHlo.launchContents m c) (ix3 b l j) : EReal) = U m c b l j := u_at _ b l j

set_option maxHeartbeats 2000000 in
theorem vals : θ_run (defs (F := Ideal)) (onTc (τ := τ) (main (F := Ideal))) ⟨m, fun _ => 0, ρ⟩ fun r => ∀ c : Dev nD,
    (∀ b l (j : Fin 1536), r.2.mem ((c.tc : Thread nD τ).loc main_v41) (ix3 b l j) = U m c b l ⟨j.val, by omega⟩)
    ∧ (∀ b l (j : Fin 512), r.2.mem ((c.tc : Thread nD τ).loc main_v122) (ix3 b l j) = silu (U m c b l ⟨1536 + j.val, by omega⟩))
    ∧ (∀ b (g : Fin 2) d (x : Fin 32768), r.2.mem ((c.tc : Thread nD τ).loc main_v124) (ix4 b g d x)
      = qhead (U m c b ⟨x.val / 512 * 128 + x.val % 128, by omega⟩) (fun d => m ((c.tc : Thread nD τ).loc main_arg3) (ix1 d))
        ⟨x.val / 512 * 128 + x.val % 128, by omega⟩ ⟨g.val * 4 + x.val / 128 % 4, by omega⟩ d * scale)
    ∧ (∀ b g l d, r.2.mem ((c.tc : Thread nD τ).loc main_v126) (ix4 b g l d) = khead (U m c b l) (fun d => m ((c.tc : Thread nD τ).loc main_arg4) (ix1 d)) l g d)
    ∧ (∀ b g d l, r.2.mem ((c.tc : Thread nD τ).loc main_v131) (ix4 b g d l) = vrow (U m c b l) g d)
    ∧ (∀ b l (j : Fin 512), r.2.mem ((c.tc : Thread nD τ).loc main_v133) (ix3 b l j) = silu (U m c b l ⟨2816 + j.val, by omega⟩))
    ∧ (∀ b (h : Fin 4) (d : Fin 128) l, r.2.mem ((c.tc : Thread nD τ).loc main_v135) (ix4 b h d l) = U m c b l ⟨3328 + (h.val * 128 + d.val), by omega⟩ * scale)
    ∧ (∀ b (h : Fin 8) l (d : Fin 64), r.2.mem ((c.tc : Thread nD τ).loc main_v137) (ix4 b h l d) = U m c b l ⟨3840 + (h.val * 64 + d.val), by omega⟩)
    ∧ (∀ b h d l, r.2.mem ((c.tc : Thread nD τ).loc main_v142) (ix4 b h d l) = dvrow (U m c b l) h d)
    ∧ (∀ b l (j : Fin 512), r.2.mem ((c.tc : Thread nD τ).loc main_v144) (ix3 b l j) = silu (U m c b l ⟨4864 + j.val, by omega⟩))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  refine (θ_run defs _ _).mono (fun r hr c => ?_) (run m ρ)
  obtain ⟨h0, h1, h2, h3, h4, h5, h6, h7, h8, h9, ha⟩ := hr c
  refine ⟨fun b l j => (congrFun h0 _).trans ?_, fun b l j => (congrFun h1 _).trans ?_, fun b g d x => (congrFun h2 _).trans ?_,
    fun b g l d => (congrFun h3 _).trans ?_, fun b g d l => (congrFun h4 _).trans ?_, fun b l j => (congrFun h5 _).trans ?_,
    fun b h d l => (congrFun h6 _).trans ?_, fun b h l d => (congrFun h7 _).trans ?_, fun b h d l => (congrFun h8 _).trans ?_,
    fun b l j => (congrFun h9 _).trans ?_, ha⟩
  all_goals clear h0 h1 h2 h3 h4 h5 h6 h7 h8 h9 ha hr
  · pointwise
    exact U_at m c b l _
  · pointwise [res_main_v42]
    simp only [U_at]
    rfl
  · pointwise [res_main_v52, res_main_v67, res_main_v68, res_main_v69, res_main_v70, res_main_v25, res_main_v26]
    simp only [q_at, ang_at, U_at]
    rfl
  · pointwise [res_main_v98, res_main_v99, res_main_v100, res_main_v101, res_main_v25, res_main_v26]
    simp only [k_at, ang_at, U_at]
    rfl
  · pointwise
    simp only [U_at]
    rfl
  · pointwise [res_main_v46]
    simp only [U_at]
    rfl
  · pointwise [res_main_v52]
    simp only [U_at]
    rfl
  · pointwise
    exact U_at m c b l _
  · pointwise
    simp only [U_at]
    rfl
  · pointwise [res_main_v50]
    simp only [U_at]
    rfl

end Cert.Proof.In.Ref
end
-- ==== Proof.In.Claim.lean ====
module

public import proofs.«01_k».proof.Defs
public import proofs.«01_k».proof.Proof.In.Arr
public import proofs.«01_k».proof.Proof.In.Ref
public import Idealize.ShloMosaic.Adequacy
public import Idealize.ShloMosaic.Init

@[expose] public section
set_option maxRecDepth 16384
noncomputable section

/-! The claims on the projection's values. -/

namespace Cert.Proof.In
open Idealize.ShloMosaic Idealize.SL.Sem

/-- The kernel's one rewritten constant, 1/(8 ln 2), is its rounded word over the machine's floats. -/
theorem preserves : Cert.preserves_Kernel3_Kernel3Ideal :=
  IdealRules.named_const.statement Cert.Kernel3Ideal.κ "scale_log2e" .f32 0x3E38AA3B#32 (((8 * (Real.log 2))⁻¹ : ℝ) : EReal) rfl

/-- The reference runs, keeps its arguments, and has no counters. -/
theorem frame_reference : Cert.quiescent_Reference3Ideal := fun m ρ _ =>
  (θ_run Cert.Reference3Ideal.defs _ _).mono
    (fun r h => ⟨fun c => (h c).2.2.2.2.2.2.2.2.2.2, sem_eq_zero_of_no_sems (by decide) r.2⟩)
    (Cert.Reference3Ideal.Value.run (F := Ideal) m ρ)

/-- Call and reference leave the same ten arrays. -/
theorem algebraic : Cert.algebraic_Kernel3Ideal_Reference3Ideal := by
  intro m ρ m' ρ' _ hagree
  refine ⟨_, _, _, _, _, _, _, _, _, _, (θ_run Cert.Kernel3Ideal.defs _ _).mono (fun _ h => h) (Cert.Kernel3Ideal.Value.run_blocks (F := Ideal) m ρ),
    (θ_run Cert.Reference3Ideal.defs _ _).mono (fun r hr c => ?_) (Ref.vals m' ρ')⟩
  obtain ⟨a0, a1, a2, a3, a4⟩ := hagree c
  have hU : ∀ b l, Ref.U m' c b l = U m c b l := fun b l => by
    unfold Ref.U U
    rw [a0, a1, a2]
  obtain ⟨h0, h1, h2, h3, h4, h5, h6, h7, h8, h9, ha⟩ := hr c
  simp only [hU, a3, a4] at h0 h1 h2 h3 h4 h5 h6 h7 h8 h9
  exact ⟨(arr7 m c _ h0).symm, (arr8 m c _ h1).symm, (arr9 m c _ h2).symm, (arr10 m c _ h3).symm, (arr11 m c _ h4).symm,
    (arr12 m c _ h5).symm, (arr13 m c _ h6).symm, (arr14 m c _ h7).symm, (arr15 m c _ h8).symm, (arr16 m c _ h9).symm, ha⟩

end Cert.Proof.In
end
-- ==== Proof.D.Run.lean ====
module

public import proofs.«01_k».proof.Proof.D.Body
public import proofs.«01_k».proof.Proof.Gen.Kernel4.Frame
public import Idealize.ShloMosaic.Lib.Claim

@[expose] public section

noncomputable section

namespace Cert.Proof.Kernel4

open Cert.Kernel4 Cert.Kernel4.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligation)

variable {F : FTy → Type} [FloatOps F]

local notation "𝕄" => MT nD τ sig Unit (Elt F) ℕ (UR sig nD τ) ℕ

theorem owns_pt (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  have hs : M.view.set = Finset.univ := by
    obtain ⟨b, rfl, rfl, rfl, h⟩ := h
    cases h
    rw [Memref.view_whole, View.set_whole]
  unfold owns pt
  rw [hs]

/-- The body on whole buffers: the inputs stay as they are, the two results are written, the
    scratch ends at some contents. -/
theorem sound_kernel (c : Dev nD) (i : grid0.Coords) (arg2 : Memref sig .tc .vmem S1x1x128x8192 .bf16) (harg2 : arg2.IsWhole) (arg3 : Memref sig .tc .vmem S1x1x8192x64 .bf16) (harg3 : arg3.IsWhole) (arg4 : Memref sig .tc .vmem S1x1x8192x64 .bf16) (harg4 : arg4.IsWhole) (arg5 : Memref sig .tc .vmem S1x1x144x8192 .bf16) (harg5 : arg5.IsWhole) (arg6 : Memref sig .tc .vmem S1x5x256x256 .f32) (harg6 : arg6.IsWhole) (arg7 : Memref sig .tc .vmem S4x64 .f32) (harg7 : arg7.IsWhole) (arg8 : Memref sig .tc .vmem S128x256 .f32) (harg8 : arg8.IsWhole) (arg9 : Memref sig .tc .vmem S1x8192x128 .bf16) (harg9 : arg9.IsWhole) (arg10 : Memref sig .tc .vmem S1x8192x128 .bf16) (harg10 : arg10.IsWhole) (arg11 : Memref sig .tc .vmem S1x1x512 .f32) (harg11 : arg11.IsWhole) (arg12 : Memref sig .tc .vmem S1x512 .f32) (harg12 : arg12.IsWhole) (arg13 : Memref sig .tc .vmem S144x512 .f32) (harg13 : arg13.IsWhole) (arg14 : Memref sig .tc .vmem S144x512 .f32) (harg14 : arg14.IsWhole) (arg15 : Memref sig .tc .vmem S512x512 .f32) (harg15 : arg15.IsWhole)
    (x2 : Vec F S1x1x128x8192 .bf16) (x3 : Vec F S1x1x8192x64 .bf16) (x4 : Vec F S1x1x8192x64 .bf16) (x5 : Vec F S1x1x144x8192 .bf16) (x6 : Vec F S1x5x256x256 .f32) (x7 : Vec F S4x64 .f32) (x8 : Vec F S128x256 .f32) (x9 : Vec F S1x8192x128 .bf16) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
        ∗ (∃ d, owns (c : Thread nD τ) arg10 fullShare d) ∗ (∃ d, owns (c : Thread nD τ) arg11 fullShare d)
        ∗ (∃ f, pt c arg12 f) ∗ (∃ f, pt c arg13 f) ∗ (∃ f, pt c arg14 f) ∗ (∃ f, pt c arg15 f)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ (∃ d, owns (c : Thread nD τ) arg10 fullShare d) ∗ (∃ d, owns (c : Thread nD τ) arg11 fullShare d)
            ∗ (∃ f, pt c arg12 f) ∗ (∃ f, pt c arg13 f) ∗ (∃ f, pt c arg14 f) ∗ (∃ f, pt c arg15 f)) -∗ K ⟨⟩))
      ⊢ wp frame (wpE (defs₀ (F := F)) Variants.none (c : Thread nD τ) none) Set.univ (cc0_diff_attn (F := F) i arg2 harg2 arg3 harg3 arg4 harg4 arg5 harg5 arg6 harg6 arg7 harg7 arg8 harg8 arg9 harg9 arg10 harg10 arg11 harg11 arg12 harg12 arg13 harg13 arg14 harg14 arg15 harg15) K := by
  rw [owns_pt c arg2 harg2, owns_pt c arg3 harg3, owns_pt c arg4 harg4, owns_pt c arg5 harg5, owns_pt c arg6 harg6, owns_pt c arg7 harg7, owns_pt c arg8 harg8, owns_pt c arg9 harg9]
  simp only [owns_pt c arg10 harg10, owns_pt c arg11 harg11]
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, H12⟩, ⟨%f13, H13⟩, ⟨%f14, H14⟩, ⟨%f15, H15⟩, Hk⟩
  subst hf2 hf3 hf4 hf5 hf6 hf7 hf8 hf9
  have w := (body c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15).2
  generalize (body c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15).1 = W at w
  iapply (wp_wand_r _ _ _)
  isplitl [H2 H3 H4 H5 H6 H7 H8 H9 H10 H11 H12 H13 H14 H15]
  · iapply w
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  iintro %u ⟨H2, H3, H4, H5, H6, H7, H8, H9, H10, H11, H12, H13, H14, H15⟩
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; iexists W.1; isplitr; · ipureintro; rfl
    iexact H10
  isplitl [H11]
  · iexists _; iexists W.2.1; isplitr; · ipureintro; rfl
    iexact H11
  isplitl [H12]; · iexists _; iexact H12
  isplitl [H13]; · iexists _; iexact H13
  isplitl [H14]; · iexists _; iexact H14
  iexists _; iexact H15

variable (m : (ℓ : Loc nD τ sig) → Buf (Elt F) ℓ) (ρ : Dev nD → PrngReg)

/-- The launch's data: the inputs' buffers at their blocks, the two results' not named. Windows 1 and 2 read one array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => fun _ => Classical.arbitrary _
    | ⟨9, _⟩ => fun _ => Classical.arbitrary _
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body is given at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ X, owns (c : Thread nD τ) (st0_8 t) fullShare X)
    ∗ (∃ X, owns (c : Thread nD τ) (st0_9 t) fullShare X))

/-- and what it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ X, owns (c : Thread nD τ) (st0_8 t) fullShare X)
    ∗ (∃ X, owns (c : Thread nD τ) (st0_9 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl,
    after0_0, after0_1, after0_2, after0_3, after0_4, after0_5, after0_6, after0_7]
  unfold Pipeline.ΦA
  rw [scopedRest0_eq]
  iintro ⟨⟨⟨S12, S13, S14, S15⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [S12]; · iexact S12
  isplitl [S13]; · iexact S13
  isplitl [S14]; · iexact S14
  isplitl [S15]; · iexact S15
  iintro ⟨H0, H1, H2, H3, H4, H5, H6, H7, H8, H9, S12, S13, S14, S15⟩
  isplitl [S12 S13 S14 S15 Hr]
  · isplitl [S12 S13 S14 S15]
    · isplitl [S12]; · iexact S12
      isplitl [S13]; · iexact S13
      isplitl [S14]; · iexact S14
      iexact S15
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

/-- The windows whose contents the claim does not name: the two results'. -/
def fgt (w : Fin cfg0.W) : Bool := match w with
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- Every run ends with the input arrays as at its start and every counter at zero. -/
theorem run_quiescent : θ_run defs (onTc (τ := τ) (main (F := F))) (s₀ m ρ) (fun r => (RDat.FramePost (cfgs 0) (fun c => (dats m 0 c).toRForget fgt) (V m)) r ∧ r.2.sem = fun _ => 0) :=
  Pipeline.θ_run_frame_forget_shared (Q' := _) cfgs (dats m) (0 : Fin 1) launch₀0 defs₀ Variants.none fgt m ρ main
    (hbody := fun c => (body_obligation m c).loose) (hq := fun _ _ _ => rfl)
    (howed := fun _ _ => rfl) (V := V m) (hmain := hmain m Variants.none) (hA := A_eq m) (hΦ := fun _ _ => rfl)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h' => ⟨fun c => (fun h => ⟨(Eq.mp (congrFun (RDat.ArrAt_in ((dats m 0 c).toRForget fgt) 0 rfl _) _) ((h c).1 0)).trans ((A_eq m c 0).trans (V_main_arg0 m c)),
      (Eq.mp (congrFun (RDat.ArrAt_in ((dats m 0 c).toRForget fgt) 2 rfl _) _) ((h c).1 2)).trans ((A_eq m c 2).trans (V_main_arg1 m c)),
      (Eq.mp (congrFun (RDat.ArrAt_in ((dats m 0 c).toRForget fgt) 3 rfl _) _) ((h c).1 3)).trans ((A_eq m c 3).trans (V_main_arg2 m c)),
      (Eq.mp (congrFun (RDat.ArrAt_in ((dats m 0 c).toRForget fgt) 4 rfl _) _) ((h c).1 4)).trans ((A_eq m c 4).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      (Eq.mp (congrFun (RDat.ArrAt_in ((dats m 0 c).toRForget fgt) 7 rfl _) _) ((h c).1 7)).trans ((A_eq m c 7).trans (V_main_arg9 m c))⟩) h'.1, h'.2⟩) (run_quiescent m ρ)

end Cert.Proof.Kernel4

end
-- ==== Proof.DI.Trip.lean ====
module

public import proofs.«01_k».proof.Proof.Gen.Kernel4Ideal.Frame
public import proofs.«01_k».proof.Proof.Gen.Kernel4Ideal.Skeleton
public import proofs.«01_k».proof.Proof.Gen.Kernel4Ideal.Loops
public import Idealize.ShloMosaic.Lib.Tactic

@[expose] public section

noncomputable section

namespace Cert.Proof.Kernel4Ideal

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords)
  (arg2 : Memref sig .tc .vmem S1x1x128x8192 .bf16) (harg2 : arg2.IsWhole)
  (arg3 : Memref sig .tc .vmem S1x1x8192x64 .bf16) (harg3 : arg3.IsWhole)
  (arg4 : Memref sig .tc .vmem S1x1x8192x64 .bf16) (harg4 : arg4.IsWhole)
  (arg5 : Memref sig .tc .vmem S1x1x144x8192 .bf16) (harg5 : arg5.IsWhole)
  (arg6 : Memref sig .tc .vmem S1x5x256x256 .f32) (harg6 : arg6.IsWhole)
  (arg7 : Memref sig .tc .vmem S4x64 .f32) (harg7 : arg7.IsWhole)
  (arg8 : Memref sig .tc .vmem S128x256 .f32) (harg8 : arg8.IsWhole)
  (arg9 : Memref sig .tc .vmem S1x8192x128 .bf16) (harg9 : arg9.IsWhole)
  (arg10 : Memref sig .tc .vmem S1x8192x128 .bf16) (harg10 : arg10.IsWhole)
  (arg11 : Memref sig .tc .vmem S1x1x512 .f32) (harg11 : arg11.IsWhole)
  (arg12 : Memref sig .tc .vmem S1x512 .f32) (harg12 : arg12.IsWhole)
  (arg13 : Memref sig .tc .vmem S144x512 .f32) (harg13 : arg13.IsWhole)
  (arg14 : Memref sig .tc .vmem S144x512 .f32) (harg14 : arg14.IsWhole)
  (arg15 : Memref sig .tc .vmem S512x512 .f32) (harg15 : arg15.IsWhole)
  (v25 : FVec F S512x512 .f32)

/-- The tile whose rows trip `k` writes: the one before it. -/
theorem off4_eq (k : Fin k0_t1_loop.trips) : k0_off4 k = ![0, 256 * (k.val - 1), 0] := by
  revert k; decide +kernel

/-- The same, as the executor reads it. -/
instance closed_off4 (k : Fin k0_t1_loop.trips) : ClosedOff (k0_off4 k) := ⟨![0, 256 * (k.val - 1), 0], off4_eq k⟩

/-- A memref's buffer on core `c`, and it held whole at `f`. -/
abbrev Bf {sp : Space} {S : Shape} {e : EltTy} (M : Memref sig .tc sp S e) : Type := Buf (Elt F) (M.view.loc (c : Thread nD τ))
abbrev pt {sp : Space} {S : Shape} {e : EltTy} (M : Memref sig .tc sp S e) (f : Bf (F := F) c M) : sProp 𝕄 :=
  M.view.loc (c : Thread nD τ) ↦{fullShare} f

/-- The contents of the output, the jump and the four scratch buffers. -/
abbrev St : Type := Bf (F := F) c arg10 × Bf (F := F) c arg11 × Bf (F := F) c arg12 × Bf (F := F) c arg13 × Bf (F := F) c arg14 × Bf (F := F) c arg15

/-- The eight inputs and the state held. -/
abbrev held (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (W : St (F := F) c arg10 arg11 arg12 arg13 arg14 arg15) : sProp 𝕄 :=
  iprop(pt c arg2 f2 ∗ pt c arg3 f3 ∗ pt c arg4 f4 ∗ pt c arg5 f5 ∗ pt c arg6 f6 ∗ pt c arg7 f7 ∗ pt c arg8 f8 ∗ pt c arg9 f9 ∗ pt c arg10 W.1 ∗ pt c arg11 W.2.1 ∗ pt c arg12 W.2.2.1 ∗ pt c arg13 W.2.2.2.1 ∗ pt c arg14 W.2.2.2.2.1 ∗ pt c arg15 W.2.2.2.2.2)

/-- One trip, from any contents: what it leaves in the output, the jump and the four scratch buffers, with its run. -/
def trip (k : Fin k0_t1_loop.trips) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) :
    { W : St (F := F) c arg10 arg11 arg12 arg13 arg14 arg15 //
      held c arg2 arg3 arg4 arg5 arg6 arg7 arg8 arg9 arg10 arg11 arg12 arg13 arg14 arg15 f2 f3 f4 f5 f6 f7 f8 f9 (f10, f11, f12, f13, f14, f15)
      ⊢ wp frame (wpE (defs₀ (F := F)) Variants.none (c : Thread nD τ) none) Set.univ
        (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 v25 k ())
        (fun _ => held c arg2 arg3 arg4 arg5 arg6 arg7 arg8 arg9 arg10 arg11 arg12 arg13 arg14 arg15 f2 f3 f4 f5 f6 f7 f8 f9 W) } := by
  refine ⟨⟨?_, ?_, ?_, ?_, ?_, ?_⟩, ?run⟩
  case run =>
    dsimp only
    unfold k0_t1_body
    iintro ⟨H2, H3, H4, H5, H6, H7, H8, H9, H10, H11, H12, H13, H14, H15⟩
    sl_exec_parts
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

end Cert.Proof.Kernel4Ideal

end
-- ==== Proof.DI.Body.lean ====
module

public import proofs.«01_k».proof.Proof.DI.Trip

@[expose] public section

noncomputable section

namespace Cert.Proof.Kernel4Ideal

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords)
  (arg2 : Memref sig .tc .vmem S1x1x128x8192 .bf16) (harg2 : arg2.IsWhole)
  (arg3 : Memref sig .tc .vmem S1x1x8192x64 .bf16) (harg3 : arg3.IsWhole)
  (arg4 : Memref sig .tc .vmem S1x1x8192x64 .bf16) (harg4 : arg4.IsWhole)
  (arg5 : Memref sig .tc .vmem S1x1x144x8192 .bf16) (harg5 : arg5.IsWhole)
  (arg6 : Memref sig .tc .vmem S1x5x256x256 .f32) (harg6 : arg6.IsWhole)
  (arg7 : Memref sig .tc .vmem S4x64 .f32) (harg7 : arg7.IsWhole)
  (arg8 : Memref sig .tc .vmem S128x256 .f32) (harg8 : arg8.IsWhole)
  (arg9 : Memref sig .tc .vmem S1x8192x128 .bf16) (harg9 : arg9.IsWhole)
  (arg10 : Memref sig .tc .vmem S1x8192x128 .bf16) (harg10 : arg10.IsWhole)
  (arg11 : Memref sig .tc .vmem S1x1x512 .f32) (harg11 : arg11.IsWhole)
  (arg12 : Memref sig .tc .vmem S1x512 .f32) (harg12 : arg12.IsWhole)
  (arg13 : Memref sig .tc .vmem S144x512 .f32) (harg13 : arg13.IsWhole)
  (arg14 : Memref sig .tc .vmem S144x512 .f32) (harg14 : arg14.IsWhole)
  (arg15 : Memref sig .tc .vmem S512x512 .f32) (harg15 : arg15.IsWhole)

/-- The contents before trip `k`, from those at the loop's entry. -/
def st (v25 : FVec F S512x512 .f32) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (z : St (F := F) c arg10 arg11 arg12 arg13 arg14 arg15) : ℕ → St (F := F) c arg10 arg11 arg12 arg13 arg14 arg15
  | 0 => z
  | k + 1 =>
    if h : k < k0_t1_loop.trips then
      (trip c i arg2 harg2 arg3 harg3 arg4 harg4 arg5 harg5 arg6 harg6 arg7 harg7 arg8 harg8 arg9 harg9 arg10 harg10 arg11 harg11 arg12 harg12 arg13 harg13 arg14 harg14 arg15 harg15 v25 ⟨k, h⟩ f2 f3 f4 f5 f6 f7 f8 f9 (st v25 f2 f3 f4 f5 f6 f7 f8 f9 z k).1 (st v25 f2 f3 f4 f5 f6 f7 f8 f9 z k).2.1 (st v25 f2 f3 f4 f5 f6 f7 f8 f9 z k).2.2.1 (st v25 f2 f3 f4 f5 f6 f7 f8 f9 z k).2.2.2.1 (st v25 f2 f3 f4 f5 f6 f7 f8 f9 z k).2.2.2.2.1 (st v25 f2 f3 f4 f5 f6 f7 f8 f9 z k).2.2.2.2.2).1
    else (st v25 f2 f3 f4 f5 f6 f7 f8 f9 z k)

theorem st_zero (v25 : FVec F S512x512 .f32) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (z : St (F := F) c arg10 arg11 arg12 arg13 arg14 arg15) : st c i arg2 harg2 arg3 harg3 arg4 harg4 arg5 harg5 arg6 harg6 arg7 harg7 arg8 harg8 arg9 harg9 arg10 harg10 arg11 harg11 arg12 harg12 arg13 harg13 arg14 harg14 arg15 harg15 v25 f2 f3 f4 f5 f6 f7 f8 f9 z 0 = z := rfl
theorem st_succ (v25 : FVec F S512x512 .f32) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (z : St (F := F) c arg10 arg11 arg12 arg13 arg14 arg15) (k : Fin k0_t1_loop.trips) :
    st c i arg2 harg2 arg3 harg3 arg4 harg4 arg5 harg5 arg6 harg6 arg7 harg7 arg8 harg8 arg9 harg9 arg10 harg10 arg11 harg11 arg12 harg12 arg13 harg13 arg14 harg14 arg15 harg15 v25 f2 f3 f4 f5 f6 f7 f8 f9 z (k.val + 1) = (trip c i arg2 harg2 arg3 harg3 arg4 harg4 arg5 harg5 arg6 harg6 arg7 harg7 arg8 harg8 arg9 harg9 arg10 harg10 arg11 harg11 arg12 harg12 arg13 harg13 arg14 harg14 arg15 harg15 v25 k f2 f3 f4 f5 f6 f7 f8 f9 (st c i arg2 harg2 arg3 harg3 arg4 harg4 arg5 harg5 arg6 harg6 arg7 harg7 arg8 harg8 arg9 harg9 arg10 harg10 arg11 harg11 arg12 harg12 arg13 harg13 arg14 harg14 arg15 harg15 v25 f2 f3 f4 f5 f6 f7 f8 f9 z k.val).1 (st c i arg2 harg2 arg3 harg3 arg4 harg4 arg5 harg5 arg6 harg6 arg7 harg7 arg8 harg8 arg9 harg9 arg10 harg10 arg11 harg11 arg12 harg12 arg13 harg13 arg14 harg14 arg15 harg15 v25 f2 f3 f4 f5 f6 f7 f8 f9 z k.val).2.1 (st c i arg2 harg2 arg3 harg3 arg4 harg4 arg5 harg5 arg6 harg6 arg7 harg7 arg8 harg8 arg9 harg9 arg10 harg10 arg11 harg11 arg12 harg12 arg13 harg13 arg14 harg14 arg15 harg15 v25 f2 f3 f4 f5 f6 f7 f8 f9 z k.val).2.2.1 (st c i arg2 harg2 arg3 harg3 arg4 harg4 arg5 harg5 arg6 harg6 arg7 harg7 arg8 harg8 arg9 harg9 arg10 harg10 arg11 harg11 arg12 harg12 arg13 harg13 arg14 harg14 arg15 harg15 v25 f2 f3 f4 f5 f6 f7 f8 f9 z k.val).2.2.2.1 (st c i arg2 harg2 arg3 harg3 arg4 harg4 arg5 harg5 arg6 harg6 arg7 harg7 arg8 harg8 arg9 harg9 arg10 harg10 arg11 harg11 arg12 harg12 arg13 harg13 arg14 harg14 arg15 harg15 v25 f2 f3 f4 f5 f6 f7 f8 f9 z k.val).2.2.2.2.1 (st c i arg2 harg2 arg3 harg3 arg4 harg4 arg5 harg5 arg6 harg6 arg7 harg7 arg8 harg8 arg9 harg9 arg10 harg10 arg11 harg11 arg12 harg12 arg13 harg13 arg14 harg14 arg15 harg15 v25 f2 f3 f4 f5 f6 f7 f8 f9 z k.val).2.2.2.2.2).1 :=
  dif_pos k.isLt

/-- The loop's invariant: everything held, at the contents before trip `k`. -/
def inv (v25 : FVec F S512x512 .f32) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (z : St (F := F) c arg10 arg11 arg12 arg13 arg14 arg15) (k : ℕ) (_ : Unit) : sProp 𝕄 :=
  held c arg2 arg3 arg4 arg5 arg6 arg7 arg8 arg9 arg10 arg11 arg12 arg13 arg14 arg15 f2 f3 f4 f5 f6 f7 f8 f9 (st c i arg2 harg2 arg3 harg3 arg4 harg4 arg5 harg5 arg6 harg6 arg7 harg7 arg8 harg8 arg9 harg9 arg10 harg10 arg11 harg11 arg12 harg12 arg13 harg13 arg14 harg14 arg15 harg15 v25 f2 f3 f4 f5 f6 f7 f8 f9 z k)

theorem step (v25 : FVec F S512x512 .f32) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (z : St (F := F) c arg10 arg11 arg12 arg13 arg14 arg15) (k : Fin k0_t1_loop.trips) (a : Unit) :
    inv c i arg2 harg2 arg3 harg3 arg4 harg4 arg5 harg5 arg6 harg6 arg7 harg7 arg8 harg8 arg9 harg9 arg10 harg10 arg11 harg11 arg12 harg12 arg13 harg13 arg14 harg14 arg15 harg15 v25 f2 f3 f4 f5 f6 f7 f8 f9 z k a
      ⊢ wp frame (wpE (defs₀ (F := F)) Variants.none (c : Thread nD τ) none) Set.univ
        (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 v25 k a) (inv c i arg2 harg2 arg3 harg3 arg4 harg4 arg5 harg5 arg6 harg6 arg7 harg7 arg8 harg8 arg9 harg9 arg10 harg10 arg11 harg11 arg12 harg12 arg13 harg13 arg14 harg14 arg15 harg15 v25 f2 f3 f4 f5 f6 f7 f8 f9 z (k.val + 1)) := by
  have e : inv c i arg2 harg2 arg3 harg3 arg4 harg4 arg5 harg5 arg6 harg6 arg7 harg7 arg8 harg8 arg9 harg9 arg10 harg10 arg11 harg11 arg12 harg12 arg13 harg13 arg14 harg14 arg15 harg15 v25 f2 f3 f4 f5 f6 f7 f8 f9 z (k.val + 1)
      = fun _ => held c arg2 arg3 arg4 arg5 arg6 arg7 arg8 arg9 arg10 arg11 arg12 arg13 arg14 arg15 f2 f3 f4 f5 f6 f7 f8 f9 (trip c i arg2 harg2 arg3 harg3 arg4 harg4 arg5 harg5 arg6 harg6 arg7 harg7 arg8 harg8 arg9 harg9 arg10 harg10 arg11 harg11 arg12 harg12 arg13 harg13 arg14 harg14 arg15 harg15 v25 k f2 f3 f4 f5 f6 f7 f8 f9 (st c i arg2 harg2 arg3 harg3 arg4 harg4 arg5 harg5 arg6 harg6 arg7 harg7 arg8 harg8 arg9 harg9 arg10 harg10 arg11 harg11 arg12 harg12 arg13 harg13 arg14 harg14 arg15 harg15 v25 f2 f3 f4 f5 f6 f7 f8 f9 z k.val).1 (st c i arg2 harg2 arg3 harg3 arg4 harg4 arg5 harg5 arg6 harg6 arg7 harg7 arg8 harg8 arg9 harg9 arg10 harg10 arg11 harg11 arg12 harg12 arg13 harg13 arg14 harg14 arg15 harg15 v25 f2 f3 f4 f5 f6 f7 f8 f9 z k.val).2.1 (st c i arg2 harg2 arg3 harg3 arg4 harg4 arg5 harg5 arg6 harg6 arg7 harg7 arg8 harg8 arg9 harg9 arg10 harg10 arg11 harg11 arg12 harg12 arg13 harg13 arg14 harg14 arg15 harg15 v25 f2 f3 f4 f5 f6 f7 f8 f9 z k.val).2.2.1 (st c i arg2 harg2 arg3 harg3 arg4 harg4 arg5 harg5 arg6 harg6 arg7 harg7 arg8 harg8 arg9 harg9 arg10 harg10 arg11 harg11 arg12 harg12 arg13 harg13 arg14 harg14 arg15 harg15 v25 f2 f3 f4 f5 f6 f7 f8 f9 z k.val).2.2.2.1 (st c i arg2 harg2 arg3 harg3 arg4 harg4 arg5 harg5 arg6 harg6 arg7 harg7 arg8 harg8 arg9 harg9 arg10 harg10 arg11 harg11 arg12 harg12 arg13 harg13 arg14 harg14 arg15 harg15 v25 f2 f3 f4 f5 f6 f7 f8 f9 z k.val).2.2.2.2.1 (st c i arg2 harg2 arg3 harg3 arg4 harg4 arg5 harg5 arg6 harg6 arg7 harg7 arg8 harg8 arg9 harg9 arg10 harg10 arg11 harg11 arg12 harg12 arg13 harg13 arg14 harg14 arg15 harg15 v25 f2 f3 f4 f5 f6 f7 f8 f9 z k.val).2.2.2.2.2).1 :=
    funext fun _ => congrArg (held c arg2 arg3 arg4 arg5 arg6 arg7 arg8 arg9 arg10 arg11 arg12 arg13 arg14 arg15 f2 f3 f4 f5 f6 f7 f8 f9) (st_succ c i arg2 harg2 arg3 harg3 arg4 harg4 arg5 harg5 arg6 harg6 arg7 harg7 arg8 harg8 arg9 harg9 arg10 harg10 arg11 harg11 arg12 harg12 arg13 harg13 arg14 harg14 arg15 harg15 v25 f2 f3 f4 f5 f6 f7 f8 f9 z k)
  rw [e]
  exact (trip c i arg2 harg2 arg3 harg3 arg4 harg4 arg5 harg5 arg6 harg6 arg7 harg7 arg8 harg8 arg9 harg9 arg10 harg10 arg11 harg11 arg12 harg12 arg13 harg13 arg14 harg14 arg15 harg15 v25 k f2 f3 f4 f5 f6 f7 f8 f9 (st c i arg2 harg2 arg3 harg3 arg4 harg4 arg5 harg5 arg6 harg6 arg7 harg7 arg8 harg8 arg9 harg9 arg10 harg10 arg11 harg11 arg12 harg12 arg13 harg13 arg14 harg14 arg15 harg15 v25 f2 f3 f4 f5 f6 f7 f8 f9 z k.val).1 (st c i arg2 harg2 arg3 harg3 arg4 harg4 arg5 harg5 arg6 harg6 arg7 harg7 arg8 harg8 arg9 harg9 arg10 harg10 arg11 harg11 arg12 harg12 arg13 harg13 arg14 harg14 arg15 harg15 v25 f2 f3 f4 f5 f6 f7 f8 f9 z k.val).2.1 (st c i arg2 harg2 arg3 harg3 arg4 harg4 arg5 harg5 arg6 harg6 arg7 harg7 arg8 harg8 arg9 harg9 arg10 harg10 arg11 harg11 arg12 harg12 arg13 harg13 arg14 harg14 arg15 harg15 v25 f2 f3 f4 f5 f6 f7 f8 f9 z k.val).2.2.1 (st c i arg2 harg2 arg3 harg3 arg4 harg4 arg5 harg5 arg6 harg6 arg7 harg7 arg8 harg8 arg9 harg9 arg10 harg10 arg11 harg11 arg12 harg12 arg13 harg13 arg14 harg14 arg15 harg15 v25 f2 f3 f4 f5 f6 f7 f8 f9 z k.val).2.2.2.1 (st c i arg2 harg2 arg3 harg3 arg4 harg4 arg5 harg5 arg6 harg6 arg7 harg7 arg8 harg8 arg9 harg9 arg10 harg10 arg11 harg11 arg12 harg12 arg13 harg13 arg14 harg14 arg15 harg15 v25 f2 f3 f4 f5 f6 f7 f8 f9 z k.val).2.2.2.2.1 (st c i arg2 harg2 arg3 harg3 arg4 harg4 arg5 harg5 arg6 harg6 arg7 harg7 arg8 harg8 arg9 harg9 arg10 harg10 arg11 harg11 arg12 harg12 arg13 harg13 arg14 harg14 arg15 harg15 v25 f2 f3 f4 f5 f6 f7 f8 f9 z k.val).2.2.2.2.2).2

set_option maxRecDepth 65536 in
/-- The whole body, from any contents. -/
def body (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) :
    { W : St (F := F) c arg10 arg11 arg12 arg13 arg14 arg15 //
      held c arg2 arg3 arg4 arg5 arg6 arg7 arg8 arg9 arg10 arg11 arg12 arg13 arg14 arg15 f2 f3 f4 f5 f6 f7 f8 f9 (f10, f11, f12, f13, f14, f15)
      ⊢ wp frame (wpE (defs₀ (F := F)) Variants.none (c : Thread nD τ) none) Set.univ
        (cc0_diff_attn (F := F) i arg2 harg2 arg3 harg3 arg4 harg4 arg5 harg5 arg6 harg6 arg7 harg7 arg8 harg8 arg9 harg9 arg10 harg10 arg11 harg11 arg12 harg12 arg13 harg13 arg14 harg14 arg15 harg15)
        (fun _ => held c arg2 arg3 arg4 arg5 arg6 arg7 arg8 arg9 arg10 arg11 arg12 arg13 arg14 arg15 f2 f3 f4 f5 f6 f7 f8 f9 W) } := by
  refine ⟨⟨?_, ?_, ?_, ?_, ?_, ?_⟩, ?run⟩
  case run =>
    dsimp only
    iintro ⟨H2, H3, H4, H5, H6, H7, H8, H9, H10, H11, H12, H13, H14, H15⟩
    unfold cc0_diff_attn
    sl_exec_parts
    sl_for (inv c i arg2 harg2 arg3 harg3 arg4 harg4 arg5 harg5 arg6 harg6 arg7 harg7 arg8 harg8 arg9 harg9 arg10 harg10 arg11 harg11 arg12 harg12 arg13 harg13 arg14 harg14 arg15 harg15 _ f2 f3 f4 f5 f6 f7 f8 f9 ⟨f10, arg11.view.writes (Elt F) arg11.view.junk body.sl.H11_1,
      arg12.view.writes (Elt F) arg12.view.junk (body.sl.H12_1 c arg2 arg3 arg4 arg6 f2 f3 f4 f6),
      arg13.view.writes (Elt F) arg13.view.junk body.sl.H13_1, arg14.view.writes (Elt F) arg14.view.junk body.sl.H14_1,
      arg15.view.writes (Elt F) arg15.view.junk (body.sl.H15_1 c arg2 arg3 arg4 arg6 f2 f3 f4 f6)⟩) $$ [H2 H3 H4 H5 H6 H7 H8 H9 H10 H11 H12 H13 H14 H15]
    · intro k a; exact step c i arg2 harg2 arg3 harg3 arg4 harg4 arg5 harg5 arg6 harg6 arg7 harg7 arg8 harg8 arg9 harg9 arg10 harg10 arg11 harg11 arg12 harg12 arg13 harg13 arg14 harg14 arg15 harg15 _ f2 f3 f4 f5 f6 f7 f8 f9 _ k a
    · unfold inv; rw [st_zero]; unfold held
      dsimp only
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    iintro %acc HI
    unfold inv held
    icases HI with ⟨H2, H3, H4, H5, H6, H7, H8, H9, H10, H11, H12, H13, H14, H15⟩
    sl_exec_parts
    sl_step
    dsimp only
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

end Cert.Proof.Kernel4Ideal

end
-- ==== Proof.DI.State.lean ====
module

public import proofs.«01_k».proof.Proof.DI.Trip
public import Idealize.ShloMosaic.Lib.VecWindow

@[expose] public section

noncomputable section

namespace Cert.Proof.Kernel4Ideal

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

theorem trips_eq : k0_t1_loop.trips = 32 := by decide +kernel

/-- The query columns trip `k` loads for its own scores, and those it loads for the next tile's. -/
theorem off2_eq (k : Fin k0_t1_loop.trips) : k0_off2 k = ![0, 0, 0, 256 * k.val] := by
  revert k; decide +kernel
theorem off5_eq (k : Fin k0_t1_loop.trips) : k0_off5 k = ![0, 0, 0, 256 * min (k.val + 1) 31] := by
  revert k; decide +kernel

/-- The bias tile trip `k` loads for rows `n` of the keys, and the one it loads for the next query tile. -/
theorem off3_fin (k : Fin k0_t1_loop.trips) (n : Fin 32) : k0_off3 k (BitVec.ofNat 32 n.val) = ![0, min 4 (n.val + 2 - k.val), 0, 0] := by
  revert k n; decide +kernel
theorem off3_eq (k : Fin k0_t1_loop.trips) (n : ℕ) : k0_off3 k (BitVec.ofNat 32 (n % 32)) = ![0, min 4 (n % 32 + 2 - k.val), 0, 0] :=
  off3_fin k ⟨n % 32, Nat.mod_lt _ (by decide)⟩
theorem off6_eq (k : Fin k0_t1_loop.trips) (n : Fin 2) : k0_off6 k (BitVec.ofNat 32 n.val) = ![0, min 4 (n.val + 2 - min (k.val + 1) 31), 0, 0] := by
  revert k n; decide +kernel

theorem off3_inb (k : Fin k0_t1_loop.trips) (n : ℕ) : ∀ a, k0_off3 k (BitVec.ofNat 32 (n % 32)) a + S1x1x256x256.size a ≤ S1x5x256x256.size a := fun a => by
  rw [off3_eq]; fin_cases a <;> simp [Shape.size] <;> omega

/-- The columns of query tile `t`, the rows of key chunk `d`, the columns of value chunk `d`, the gates' rows of tile `t`,
    the bias tile of query tile `t` and key tile `n`. -/
def qt (x2 : Vec F S1x1x128x8192 .bf16) (t : ℕ) : Vec F S1x1x128x256 .bf16 :=
  View.ld x2 (Rect.unit (s := S1x1x128x8192) ![0, 0, 0, 256 * (t % 32)] S1x1x128x256.size
    (fun a => by fin_cases a <;> simp [Shape.size] <;> omega))
def kc (x3 : Vec F S1x1x8192x64 .bf16) (d : ℕ) : Vec F S1x1x512x64 .bf16 :=
  View.ld x3 (Rect.unit (s := S1x1x8192x64) ![0, 0, 512 * (d % 16), 0] S1x1x512x64.size
    (fun a => by fin_cases a <;> simp [Shape.size] <;> omega))
def vc (x5 : Vec F S1x1x144x8192 .bf16) (d : ℕ) : Vec F S1x1x144x512 .bf16 :=
  View.ld x5 (Rect.unit (s := S1x1x144x8192) ![0, 0, 0, 512 * (d % 16)] S1x1x144x512.size
    (fun a => by fin_cases a <;> simp [Shape.size] <;> omega))
def sgt (x9 : Vec F S1x8192x128 .bf16) (t : ℕ) : Vec F S1x256x128 .bf16 :=
  View.ld x9 (Rect.unit (s := S1x8192x128) ![0, 256 * (t % 32), 0] S1x256x128.size
    (fun a => by fin_cases a <;> simp [Shape.size] <;> omega))
def bt (x6 : Vec F S1x5x256x256 .f32) (t n : ℕ) : Vec F S1x1x256x256 .f32 :=
  View.ld x6 (Rect.unit (s := S1x5x256x256) ![0, min 4 (n + 2 - t), 0, 0] S1x1x256x256.size
    (fun a => by fin_cases a <;> simp [Shape.size] <;> omega))

/-- The offset, the accumulator and the largest rise after `d` chunks of scores `S`. -/
def mS (S : ℕ → FVec F S512x512 .f32) (m0 : Vec F S1x512 .f32) : ℕ → Vec F S1x512 .f32
  | 0 => m0
  | d + 1 => k0_pay14 (k0_pay13 (S d) (mS S m0 d))
def aS (S : ℕ → FVec F S512x512 .f32) (m0 : Vec F S1x512 .f32) (x5 : Vec F S1x1x144x8192 .bf16) (a0 : Vec F S144x512 .f32) :
    ℕ → Vec F S144x512 .f32
  | 0 => a0
  | d + 1 => k0_pay11 (S d) (mS S m0 d) (aS S m0 x5 a0 d) (vc x5 d)
def jS (S : ℕ → FVec F S512x512 .f32) (m0 : Vec F S1x512 .f32) (j0 : Vec F S1x1x512 .f32) : ℕ → Vec F S1x1x512 .f32
  | 0 => j0
  | d + 1 => k0_pay12 (S d) (mS S m0 d) (jS S m0 j0 d)

theorem mS_succ (S : ℕ → FVec F S512x512 .f32) (m0 : Vec F S1x512 .f32) (d : ℕ) : mS S m0 (d + 1) = k0_pay14 (k0_pay13 (S d) (mS S m0 d)) := rfl
theorem aS_succ (S : ℕ → FVec F S512x512 .f32) (m0 : Vec F S1x512 .f32) (x5 : Vec F S1x1x144x8192 .bf16) (a0 : Vec F S144x512 .f32) (d : ℕ) :
    aS S m0 x5 a0 (d + 1) = k0_pay11 (S d) (mS S m0 d) (aS S m0 x5 a0 d) (vc x5 d) := rfl
theorem jS_succ (S : ℕ → FVec F S512x512 .f32) (m0 : Vec F S1x512 .f32) (j0 : Vec F S1x1x512 .f32) (d : ℕ) :
    jS S m0 j0 (d + 1) = k0_pay12 (S d) (mS S m0 d) (jS S m0 j0 d) := rfl

/-- The scores of tile `t`, chunk by chunk, as trip `t` meets them; its accumulator at its end; the largest rise after `t` tiles. -/
def tS (x2 : Vec F S1x1x128x8192 .bf16) (x3 x4 : Vec F S1x1x8192x64 .bf16) (x6 : Vec F S1x5x256x256 .f32) (t d : ℕ) : FVec F S512x512 .f32 :=
  k0_pay168 (qt x2 t) (bt x6 t (2 * d)) (bt x6 t (2 * d + 1)) (kc x3 d) (kc x4 d)
def tM (x2 : Vec F S1x1x128x8192 .bf16) (x3 x4 : Vec F S1x1x8192x64 .bf16) (x6 : Vec F S1x5x256x256 .f32) (t : ℕ) : Vec F S1x512 .f32 :=
  k0_pay170 (tS x2 x3 x4 x6 t 0)
def tA (x2 : Vec F S1x1x128x8192 .bf16) (x3 x4 : Vec F S1x1x8192x64 .bf16) (x5 : Vec F S1x1x144x8192 .bf16) (x6 : Vec F S1x5x256x256 .f32) (t : ℕ) : Vec F S144x512 .f32 :=
  aS (tS x2 x3 x4 x6 t) (tM x2 x3 x4 x6 t) x5 k0_pay171 16
def tJ (x2 : Vec F S1x1x128x8192 .bf16) (x3 x4 : Vec F S1x1x8192x64 .bf16) (x6 : Vec F S1x5x256x256 .f32) : ℕ → Vec F S1x1x512 .f32
  | 0 => k0_pay173
  | t + 1 => jS (tS x2 x3 x4 x6 t) (tM x2 x3 x4 x6 t) (tJ x2 x3 x4 x6 t) 16

/-- An accumulator turned into rows. -/
def fin (a : Vec F S144x512 .f32) (x7 : Vec F S4x64 .f32) (x8 : Vec F S128x256 .f32) (s : Vec F S1x256x128 .bf16) : FVec F S1x256x128 .bf16 :=
  k0_pay1 a (k0_pay176 s) (k0_pay177 x7) (k0_pay178 x7) x8

/-- The rows of tile `t` of the output block. -/
def tO (x2 : Vec F S1x1x128x8192 .bf16) (x3 x4 : Vec F S1x1x8192x64 .bf16) (x5 : Vec F S1x1x144x8192 .bf16) (x6 : Vec F S1x5x256x256 .f32)
    (x7 : Vec F S4x64 .f32) (x8 : Vec F S128x256 .f32) (x9 : Vec F S1x8192x128 .bf16) (t : ℕ) : FVec F S1x256x128 .bf16 :=
  fin (tA x2 x3 x4 x5 x6 t) x7 x8 (sgt x9 t)

end Cert.Proof.Kernel4Ideal

end
-- ==== Proof.DI.Steps.lean ====
module

public import proofs.«01_k».proof.Proof.DI.State

@[expose] public section

noncomputable section

namespace Cert.Proof.Kernel4Ideal

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords)
  (arg2 : Memref sig .tc .vmem S1x1x128x8192 .bf16) (harg2 : arg2.IsWhole)
  (arg3 : Memref sig .tc .vmem S1x1x8192x64 .bf16) (harg3 : arg3.IsWhole)
  (arg4 : Memref sig .tc .vmem S1x1x8192x64 .bf16) (harg4 : arg4.IsWhole)
  (arg5 : Memref sig .tc .vmem S1x1x144x8192 .bf16) (harg5 : arg5.IsWhole)
  (arg6 : Memref sig .tc .vmem S1x5x256x256 .f32) (harg6 : arg6.IsWhole)
  (arg7 : Memref sig .tc .vmem S4x64 .f32) (harg7 : arg7.IsWhole)
  (arg8 : Memref sig .tc .vmem S128x256 .f32) (harg8 : arg8.IsWhole)
  (arg9 : Memref sig .tc .vmem S1x8192x128 .bf16) (harg9 : arg9.IsWhole)
  (arg10 : Memref sig .tc .vmem S1x8192x128 .bf16) (harg10 : arg10.IsWhole)
  (arg11 : Memref sig .tc .vmem S1x1x512 .f32) (harg11 : arg11.IsWhole)
  (arg12 : Memref sig .tc .vmem S1x512 .f32) (harg12 : arg12.IsWhole)
  (arg13 : Memref sig .tc .vmem S144x512 .f32) (harg13 : arg13.IsWhole)
  (arg14 : Memref sig .tc .vmem S144x512 .f32) (harg14 : arg14.IsWhole)
  (arg15 : Memref sig .tc .vmem S512x512 .f32) (harg15 : arg15.IsWhole)

/-- What the loads of the whole scratch buffers read. -/
def g11 (f11 : Bf (F := F) c arg11) : Vec F S1x1x512 .f32 := arg11.view.readAt (Elt F) (Rect.unit (s := S1x1x512) ![0, 0, 0] S1x1x512.size inb_S1x1x512_S1x1x512_0_0_0).toLoadRect f11
def g12 (f12 : Bf (F := F) c arg12) : Vec F S1x512 .f32 := arg12.view.readAt (Elt F) (Rect.unit (s := S1x512) ![0, 0] S1x512.size inb_S1x512_S1x512_0_0).toLoadRect f12
def g13 (f13 : Bf (F := F) c arg13) : Vec F S144x512 .f32 := arg13.view.readAt (Elt F) (Rect.unit (s := S144x512) ![0, 0] S144x512.size inb_S144x512_S144x512_0_0).toLoadRect f13
def g15 (f15 : Bf (F := F) c arg15) : Vec F S512x512 .f32 := arg15.view.readAt (Elt F) (Rect.unit (s := S512x512) ![0, 0] S512x512.size inb_S512x512_S512x512_0_0).toLoadRect f15

/-- The scores trip `k` meets: those it finds, then its own tile's against each later chunk. -/
def S₀ (k : Fin k0_t1_loop.trips) (f2 : Bf (F := F) c arg2) (f3 : Bf (F := F) c arg3) (f4 : Bf (F := F) c arg4) (f6 : Bf (F := F) c arg6) (f15 : Bf (F := F) c arg15) : ℕ → FVec F S512x512 .f32
  | 0 => g15 c arg15 f15
  | d + 1 => k0_pay168 (View.ld (arg2.view.read (Elt F) f2) (Rect.unit (s := S1x1x128x8192) (k0_off2 k) S1x1x128x256.size (facts₀.k0_off2_inb k)))
      (View.ld (arg6.view.read (Elt F) f6) (Rect.unit (s := S1x5x256x256) (k0_off3 k (BitVec.ofNat 32 ((2 * (d + 1)) % 32))) S1x1x256x256.size (off3_inb k _)))
      (View.ld (arg6.view.read (Elt F) f6) (Rect.unit (s := S1x5x256x256) (k0_off3 k (BitVec.ofNat 32 ((2 * (d + 1) + 1) % 32))) S1x1x256x256.size (off3_inb k _)))
      (kc (arg3.view.read (Elt F) f3) (d + 1)) (kc (arg4.view.read (Elt F) f4) (d + 1))

variable (k : Fin k0_t1_loop.trips) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15)

theorem hm1 : trip.sl.v260 c arg12 arg15 f12 f15 = mS (S₀ c arg2 arg3 arg4 arg6 arg15 k f2 f3 f4 f6 f15) (g12 c arg12 f12) 1 := by
  unfold trip.sl.v260; refine (View.readCov_full _ _ _ _ _).trans ?_
  rfl
theorem hj1 : trip.sl.v287 c arg11 arg12 arg15 f11 f12 f15 = jS (S₀ c arg2 arg3 arg4 arg6 arg15 k f2 f3 f4 f6 f15) (g12 c arg12 f12) (g11 c arg11 f11) 1 := by
  unfold trip.sl.v287; refine (View.readCov_full _ _ _ _ _).trans ?_
  rfl
theorem ha1 : trip.sl.v273 c arg5 arg12 arg13 arg15 f5 f12 f13 f15 = aS (S₀ c arg2 arg3 arg4 arg6 arg15 k f2 f3 f4 f6 f15) (g12 c arg12 f12) (arg5.view.read (Elt F) f5) (g13 c arg13 f13) 1 := by
  unfold trip.sl.v273; refine (View.readCov_full _ _ _ _ _).trans ?_
  rfl
theorem hm2 : trip.sl.v329 c arg2 arg3 arg4 arg6 arg12 arg15 k f2 f3 f4 f6 f12 f15 = mS (S₀ c arg2 arg3 arg4 arg6 arg15 k f2 f3 f4 f6 f15) (g12 c arg12 f12) 2 := by
  unfold trip.sl.v329; refine (View.readCov_full _ _ _ _ _).trans ?_
  rw [mS_succ _ _ 1, ← hm1]; rfl
theorem hj2 : trip.sl.v356 c arg2 arg3 arg4 arg6 arg11 arg12 arg15 k f2 f3 f4 f6 f11 f12 f15 = jS (S₀ c arg2 arg3 arg4 arg6 arg15 k f2 f3 f4 f6 f15) (g12 c arg12 f12) (g11 c arg11 f11) 2 := by
  unfold trip.sl.v356; refine (View.readCov_full _ _ _ _ _).trans ?_
  rw [jS_succ _ _ _ 1, ← hm1, ← hj1]; rfl
theorem ha2 : trip.sl.v342 c arg2 arg3 arg4 arg5 arg6 arg12 arg13 arg15 k f2 f3 f4 f5 f6 f12 f13 f15 = aS (S₀ c arg2 arg3 arg4 arg6 arg15 k f2 f3 f4 f6 f15) (g12 c arg12 f12) (arg5.view.read (Elt F) f5) (g13 c arg13 f13) 2 := by
  unfold trip.sl.v342; refine (View.readCov_full _ _ _ _ _).trans ?_
  rw [aS_succ _ _ _ _ 1, ← hm1, ← ha1]; rfl
theorem hm3 : trip.sl.v398 c arg2 arg3 arg4 arg6 arg12 arg15 k f2 f3 f4 f6 f12 f15 = mS (S₀ c arg2 arg3 arg4 arg6 arg15 k f2 f3 f4 f6 f15) (g12 c arg12 f12) 3 := by
  unfold trip.sl.v398; refine (View.readCov_full _ _ _ _ _).trans ?_
  rw [mS_succ _ _ 2, ← hm2]; rfl
theorem hj3 : trip.sl.v425 c arg2 arg3 arg4 arg6 arg11 arg12 arg15 k f2 f3 f4 f6 f11 f12 f15 = jS (S₀ c arg2 arg3 arg4 arg6 arg15 k f2 f3 f4 f6 f15) (g12 c arg12 f12) (g11 c arg11 f11) 3 := by
  unfold trip.sl.v425; refine (View.readCov_full _ _ _ _ _).trans ?_
  rw [jS_succ _ _ _ 2, ← hm2, ← hj2]; rfl
theorem ha3 : trip.sl.v411 c arg2 arg3 arg4 arg5 arg6 arg12 arg13 arg15 k f2 f3 f4 f5 f6 f12 f13 f15 = aS (S₀ c arg2 arg3 arg4 arg6 arg15 k f2 f3 f4 f6 f15) (g12 c arg12 f12) (arg5.view.read (Elt F) f5) (g13 c arg13 f13) 3 := by
  unfold trip.sl.v411; refine (View.readCov_full _ _ _ _ _).trans ?_
  rw [aS_succ _ _ _ _ 2, ← hm2, ← ha2]; rfl
theorem hm4 : trip.sl.v467 c arg2 arg3 arg4 arg6 arg12 arg15 k f2 f3 f4 f6 f12 f15 = mS (S₀ c arg2 arg3 arg4 arg6 arg15 k f2 f3 f4 f6 f15) (g12 c arg12 f12) 4 := by
  unfold trip.sl.v467; refine (View.readCov_full _ _ _ _ _).trans ?_
  rw [mS_succ _ _ 3, ← hm3]; rfl
theorem hj4 : trip.sl.v494 c arg2 arg3 arg4 arg6 arg11 arg12 arg15 k f2 f3 f4 f6 f11 f12 f15 = jS (S₀ c arg2 arg3 arg4 arg6 arg15 k f2 f3 f4 f6 f15) (g12 c arg12 f12) (g11 c arg11 f11) 4 := by
  unfold trip.sl.v494; refine (View.readCov_full _ _ _ _ _).trans ?_
  rw [jS_succ _ _ _ 3, ← hm3, ← hj3]; rfl
theorem ha4 : trip.sl.v480 c arg2 arg3 arg4 arg5 arg6 arg12 arg13 arg15 k f2 f3 f4 f5 f6 f12 f13 f15 = aS (S₀ c arg2 arg3 arg4 arg6 arg15 k f2 f3 f4 f6 f15) (g12 c arg12 f12) (arg5.view.read (Elt F) f5) (g13 c arg13 f13) 4 := by
  unfold trip.sl.v480; refine (View.readCov_full _ _ _ _ _).trans ?_
  rw [aS_succ _ _ _ _ 3, ← hm3, ← ha3]; rfl
theorem hm5 : trip.sl.v536 c arg2 arg3 arg4 arg6 arg12 arg15 k f2 f3 f4 f6 f12 f15 = mS (S₀ c arg2 arg3 arg4 arg6 arg15 k f2 f3 f4 f6 f15) (g12 c arg12 f12) 5 := by
  unfold trip.sl.v536; refine (View.readCov_full _ _ _ _ _).trans ?_
  rw [mS_succ _ _ 4, ← hm4]; rfl
theorem hj5 : trip.sl.v563 c arg2 arg3 arg4 arg6 arg11 arg12 arg15 k f2 f3 f4 f6 f11 f12 f15 = jS (S₀ c arg2 arg3 arg4 arg6 arg15 k f2 f3 f4 f6 f15) (g12 c arg12 f12) (g11 c arg11 f11) 5 := by
  unfold trip.sl.v563; refine (View.readCov_full _ _ _ _ _).trans ?_
  rw [jS_succ _ _ _ 4, ← hm4, ← hj4]; rfl
theorem ha5 : trip.sl.v549 c arg2 arg3 arg4 arg5 arg6 arg12 arg13 arg15 k f2 f3 f4 f5 f6 f12 f13 f15 = aS (S₀ c arg2 arg3 arg4 arg6 arg15 k f2 f3 f4 f6 f15) (g12 c arg12 f12) (arg5.view.read (Elt F) f5) (g13 c arg13 f13) 5 := by
  unfold trip.sl.v549; refine (View.readCov_full _ _ _ _ _).trans ?_
  rw [aS_succ _ _ _ _ 4, ← hm4, ← ha4]; rfl
theorem hm6 : trip.sl.v605 c arg2 arg3 arg4 arg6 arg12 arg15 k f2 f3 f4 f6 f12 f15 = mS (S₀ c arg2 arg3 arg4 arg6 arg15 k f2 f3 f4 f6 f15) (g12 c arg12 f12) 6 := by
  unfold trip.sl.v605; refine (View.readCov_full _ _ _ _ _).trans ?_
  rw [mS_succ _ _ 5, ← hm5]; rfl
theorem hj6 : trip.sl.v632 c arg2 arg3 arg4 arg6 arg11 arg12 arg15 k f2 f3 f4 f6 f11 f12 f15 = jS (S₀ c arg2 arg3 arg4 arg6 arg15 k f2 f3 f4 f6 f15) (g12 c arg12 f12) (g11 c arg11 f11) 6 := by
  unfold trip.sl.v632; refine (View.readCov_full _ _ _ _ _).trans ?_
  rw [jS_succ _ _ _ 5, ← hm5, ← hj5]; rfl
theorem ha6 : trip.sl.v618 c arg2 arg3 arg4 arg5 arg6 arg12 arg13 arg15 k f2 f3 f4 f5 f6 f12 f13 f15 = aS (S₀ c arg2 arg3 arg4 arg6 arg15 k f2 f3 f4 f6 f15) (g12 c arg12 f12) (arg5.view.read (Elt F) f5) (g13 c arg13 f13) 6 := by
  unfold trip.sl.v618; refine (View.readCov_full _ _ _ _ _).trans ?_
  rw [aS_succ _ _ _ _ 5, ← hm5, ← ha5]; rfl
theorem hm7 : trip.sl.v674 c arg2 arg3 arg4 arg6 arg12 arg15 k f2 f3 f4 f6 f12 f15 = mS (S₀ c arg2 arg3 arg4 arg6 arg15 k f2 f3 f4 f6 f15) (g12 c arg12 f12) 7 := by
  unfold trip.sl.v674; refine (View.readCov_full _ _ _ _ _).trans ?_
  rw [mS_succ _ _ 6, ← hm6]; rfl
theorem hj7 : trip.sl.v701 c arg2 arg3 arg4 arg6 arg11 arg12 arg15 k f2 f3 f4 f6 f11 f12 f15 = jS (S₀ c arg2 arg3 arg4 arg6 arg15 k f2 f3 f4 f6 f15) (g12 c arg12 f12) (g11 c arg11 f11) 7 := by
  unfold trip.sl.v701; refine (View.readCov_full _ _ _ _ _).trans ?_
  rw [jS_succ _ _ _ 6, ← hm6, ← hj6]; rfl
theorem ha7 : trip.sl.v687 c arg2 arg3 arg4 arg5 arg6 arg12 arg13 arg15 k f2 f3 f4 f5 f6 f12 f13 f15 = aS (S₀ c arg2 arg3 arg4 arg6 arg15 k f2 f3 f4 f6 f15) (g12 c arg12 f12) (arg5.view.read (Elt F) f5) (g13 c arg13 f13) 7 := by
  unfold trip.sl.v687; refine (View.readCov_full _ _ _ _ _).trans ?_
  rw [aS_succ _ _ _ _ 6, ← hm6, ← ha6]; rfl
theorem hm8 : trip.sl.v743 c arg2 arg3 arg4 arg6 arg12 arg15 k f2 f3 f4 f6 f12 f15 = mS (S₀ c arg2 arg3 arg4 arg6 arg15 k f2 f3 f4 f6 f15) (g12 c arg12 f12) 8 := by
  unfold trip.sl.v743; refine (View.readCov_full _ _ _ _ _).trans ?_
  rw [mS_succ _ _ 7, ← hm7]; rfl
theorem hj8 : trip.sl.v770 c arg2 arg3 arg4 arg6 arg11 arg12 arg15 k f2 f3 f4 f6 f11 f12 f15 = jS (S₀ c arg2 arg3 arg4 arg6 arg15 k f2 f3 f4 f6 f15) (g12 c arg12 f12) (g11 c arg11 f11) 8 := by
  unfold trip.sl.v770; refine (View.readCov_full _ _ _ _ _).trans ?_
  rw [jS_succ _ _ _ 7, ← hm7, ← hj7]; rfl
theorem ha8 : trip.sl.v756 c arg2 arg3 arg4 arg5 arg6 arg12 arg13 arg15 k f2 f3 f4 f5 f6 f12 f13 f15 = aS (S₀ c arg2 arg3 arg4 arg6 arg15 k f2 f3 f4 f6 f15) (g12 c arg12 f12) (arg5.view.read (Elt F) f5) (g13 c arg13 f13) 8 := by
  unfold trip.sl.v756; refine (View.readCov_full _ _ _ _ _).trans ?_
  rw [aS_succ _ _ _ _ 7, ← hm7, ← ha7]; rfl
theorem hm9 : trip.sl.v812 c arg2 arg3 arg4 arg6 arg12 arg15 k f2 f3 f4 f6 f12 f15 = mS (S₀ c arg2 arg3 arg4 arg6 arg15 k f2 f3 f4 f6 f15) (g12 c arg12 f12) 9 := by
  unfold trip.sl.v812; refine (View.readCov_full _ _ _ _ _).trans ?_
  rw [mS_succ _ _ 8, ← hm8]; rfl
theorem hj9 : trip.sl.v839 c arg2 arg3 arg4 arg6 arg11 arg12 arg15 k f2 f3 f4 f6 f11 f12 f15 = jS (S₀ c arg2 arg3 arg4 arg6 arg15 k f2 f3 f4 f6 f15) (g12 c arg12 f12) (g11 c arg11 f11) 9 := by
  unfold trip.sl.v839; refine (View.readCov_full _ _ _ _ _).trans ?_
  rw [jS_succ _ _ _ 8, ← hm8, ← hj8]; rfl
theorem ha9 : trip.sl.v825 c arg2 arg3 arg4 arg5 arg6 arg12 arg13 arg15 k f2 f3 f4 f5 f6 f12 f13 f15 = aS (S₀ c arg2 arg3 arg4 arg6 arg15 k f2 f3 f4 f6 f15) (g12 c arg12 f12) (arg5.view.read (Elt F) f5) (g13 c arg13 f13) 9 := by
  unfold trip.sl.v825; refine (View.readCov_full _ _ _ _ _).trans ?_
  rw [aS_succ _ _ _ _ 8, ← hm8, ← ha8]; rfl
theorem hm10 : trip.sl.v881 c arg2 arg3 arg4 arg6 arg12 arg15 k f2 f3 f4 f6 f12 f15 = mS (S₀ c arg2 arg3 arg4 arg6 arg15 k f2 f3 f4 f6 f15) (g12 c arg12 f12) 10 := by
  unfold trip.sl.v881; refine (View.readCov_full _ _ _ _ _).trans ?_
  rw [mS_succ _ _ 9, ← hm9]; rfl
theorem hj10 : trip.sl.v908 c arg2 arg3 arg4 arg6 arg11 arg12 arg15 k f2 f3 f4 f6 f11 f12 f15 = jS (S₀ c arg2 arg3 arg4 arg6 arg15 k f2 f3 f4 f6 f15) (g12 c arg12 f12) (g11 c arg11 f11) 10 := by
  unfold trip.sl.v908; refine (View.readCov_full _ _ _ _ _).trans ?_
  rw [jS_succ _ _ _ 9, ← hm9, ← hj9]; rfl
theorem ha10 : trip.sl.v894 c arg2 arg3 arg4 arg5 arg6 arg12 arg13 arg15 k f2 f3 f4 f5 f6 f12 f13 f15 = aS (S₀ c arg2 arg3 arg4 arg6 arg15 k f2 f3 f4 f6 f15) (g12 c arg12 f12) (arg5.view.read (Elt F) f5) (g13 c arg13 f13) 10 := by
  unfold trip.sl.v894; refine (View.readCov_full _ _ _ _ _).trans ?_
  rw [aS_succ _ _ _ _ 9, ← hm9, ← ha9]; rfl
theorem hm11 : trip.sl.v950 c arg2 arg3 arg4 arg6 arg12 arg15 k f2 f3 f4 f6 f12 f15 = mS (S₀ c arg2 arg3 arg4 arg6 arg15 k f2 f3 f4 f6 f15) (g12 c arg12 f12) 11 := by
  unfold trip.sl.v950; refine (View.readCov_full _ _ _ _ _).trans ?_
  rw [mS_succ _ _ 10, ← hm10]; rfl
theorem hj11 : trip.sl.v977 c arg2 arg3 arg4 arg6 arg11 arg12 arg15 k f2 f3 f4 f6 f11 f12 f15 = jS (S₀ c arg2 arg3 arg4 arg6 arg15 k f2 f3 f4 f6 f15) (g12 c arg12 f12) (g11 c arg11 f11) 11 := by
  unfold trip.sl.v977; refine (View.readCov_full _ _ _ _ _).trans ?_
  rw [jS_succ _ _ _ 10, ← hm10, ← hj10]; rfl
theorem ha11 : trip.sl.v963 c arg2 arg3 arg4 arg5 arg6 arg12 arg13 arg15 k f2 f3 f4 f5 f6 f12 f13 f15 = aS (S₀ c arg2 arg3 arg4 arg6 arg15 k f2 f3 f4 f6 f15) (g12 c arg12 f12) (arg5.view.read (Elt F) f5) (g13 c arg13 f13) 11 := by
  unfold trip.sl.v963; refine (View.readCov_full _ _ _ _ _).trans ?_
  rw [aS_succ _ _ _ _ 10, ← hm10, ← ha10]; rfl
theorem hm12 : trip.sl.v1019 c arg2 arg3 arg4 arg6 arg12 arg15 k f2 f3 f4 f6 f12 f15 = mS (S₀ c arg2 arg3 arg4 arg6 arg15 k f2 f3 f4 f6 f15) (g12 c arg12 f12) 12 := by
  unfold trip.sl.v1019; refine (View.readCov_full _ _ _ _ _).trans ?_
  rw [mS_succ _ _ 11, ← hm11]; rfl
theorem hj12 : trip.sl.v1046 c arg2 arg3 arg4 arg6 arg11 arg12 arg15 k f2 f3 f4 f6 f11 f12 f15 = jS (S₀ c arg2 arg3 arg4 arg6 arg15 k f2 f3 f4 f6 f15) (g12 c arg12 f12) (g11 c arg11 f11) 12 := by
  unfold trip.sl.v1046; refine (View.readCov_full _ _ _ _ _).trans ?_
  rw [jS_succ _ _ _ 11, ← hm11, ← hj11]; rfl
theorem ha12 : trip.sl.v1032 c arg2 arg3 arg4 arg5 arg6 arg12 arg13 arg15 k f2 f3 f4 f5 f6 f12 f13 f15 = aS (S₀ c arg2 arg3 arg4 arg6 arg15 k f2 f3 f4 f6 f15) (g12 c arg12 f12) (arg5.view.read (Elt F) f5) (g13 c arg13 f13) 12 := by
  unfold trip.sl.v1032; refine (View.readCov_full _ _ _ _ _).trans ?_
  rw [aS_succ _ _ _ _ 11, ← hm11, ← ha11]; rfl
theorem hm13 : trip.sl.v1088 c arg2 arg3 arg4 arg6 arg12 arg15 k f2 f3 f4 f6 f12 f15 = mS (S₀ c arg2 arg3 arg4 arg6 arg15 k f2 f3 f4 f6 f15) (g12 c arg12 f12) 13 := by
  unfold trip.sl.v1088; refine (View.readCov_full _ _ _ _ _).trans ?_
  rw [mS_succ _ _ 12, ← hm12]; rfl
theorem hj13 : trip.sl.v1115 c arg2 arg3 arg4 arg6 arg11 arg12 arg15 k f2 f3 f4 f6 f11 f12 f15 = jS (S₀ c arg2 arg3 arg4 arg6 arg15 k f2 f3 f4 f6 f15) (g12 c arg12 f12) (g11 c arg11 f11) 13 := by
  unfold trip.sl.v1115; refine (View.readCov_full _ _ _ _ _).trans ?_
  rw [jS_succ _ _ _ 12, ← hm12, ← hj12]; rfl
theorem ha13 : trip.sl.v1101 c arg2 arg3 arg4 arg5 arg6 arg12 arg13 arg15 k f2 f3 f4 f5 f6 f12 f13 f15 = aS (S₀ c arg2 arg3 arg4 arg6 arg15 k f2 f3 f4 f6 f15) (g12 c arg12 f12) (arg5.view.read (Elt F) f5) (g13 c arg13 f13) 13 := by
  unfold trip.sl.v1101; refine (View.readCov_full _ _ _ _ _).trans ?_
  rw [aS_succ _ _ _ _ 12, ← hm12, ← ha12]; rfl
theorem hm14 : trip.sl.v1157 c arg2 arg3 arg4 arg6 arg12 arg15 k f2 f3 f4 f6 f12 f15 = mS (S₀ c arg2 arg3 arg4 arg6 arg15 k f2 f3 f4 f6 f15) (g12 c arg12 f12) 14 := by
  unfold trip.sl.v1157; refine (View.readCov_full _ _ _ _ _).trans ?_
  rw [mS_succ _ _ 13, ← hm13]; rfl
theorem hj14 : trip.sl.v1184 c arg2 arg3 arg4 arg6 arg11 arg12 arg15 k f2 f3 f4 f6 f11 f12 f15 = jS (S₀ c arg2 arg3 arg4 arg6 arg15 k f2 f3 f4 f6 f15) (g12 c arg12 f12) (g11 c arg11 f11) 14 := by
  unfold trip.sl.v1184; refine (View.readCov_full _ _ _ _ _).trans ?_
  rw [jS_succ _ _ _ 13, ← hm13, ← hj13]; rfl
theorem ha14 : trip.sl.v1170 c arg2 arg3 arg4 arg5 arg6 arg12 arg13 arg15 k f2 f3 f4 f5 f6 f12 f13 f15 = aS (S₀ c arg2 arg3 arg4 arg6 arg15 k f2 f3 f4 f6 f15) (g12 c arg12 f12) (arg5.view.read (Elt F) f5) (g13 c arg13 f13) 14 := by
  unfold trip.sl.v1170; refine (View.readCov_full _ _ _ _ _).trans ?_
  rw [aS_succ _ _ _ _ 13, ← hm13, ← ha13]; rfl
theorem hm15 : trip.sl.v1228 c arg2 arg3 arg4 arg6 arg12 arg15 k f2 f3 f4 f6 f12 f15 = mS (S₀ c arg2 arg3 arg4 arg6 arg15 k f2 f3 f4 f6 f15) (g12 c arg12 f12) 15 := by
  unfold trip.sl.v1228; refine (View.readCov_full _ _ _ _ _).trans ?_
  rw [mS_succ _ _ 14, ← hm14]; rfl
theorem hj15 : trip.sl.v1255 c arg2 arg3 arg4 arg6 arg11 arg12 arg15 k f2 f3 f4 f6 f11 f12 f15 = jS (S₀ c arg2 arg3 arg4 arg6 arg15 k f2 f3 f4 f6 f15) (g12 c arg12 f12) (g11 c arg11 f11) 15 := by
  unfold trip.sl.v1255; refine (View.readCov_full _ _ _ _ _).trans ?_
  rw [jS_succ _ _ _ 14, ← hm14, ← hj14]; rfl
theorem ha15 : trip.sl.v1241 c arg2 arg3 arg4 arg5 arg6 arg12 arg13 arg15 k f2 f3 f4 f5 f6 f12 f13 f15 = aS (S₀ c arg2 arg3 arg4 arg6 arg15 k f2 f3 f4 f6 f15) (g12 c arg12 f12) (arg5.view.read (Elt F) f5) (g13 c arg13 f13) 15 := by
  unfold trip.sl.v1241; refine (View.readCov_full _ _ _ _ _).trans ?_
  rw [aS_succ _ _ _ _ 14, ← hm14, ← ha14]; rfl
theorem ha16 : trip.sl.v1269 c arg2 arg3 arg4 arg5 arg6 arg12 arg13 arg15 k f2 f3 f4 f5 f6 f12 f13 f15 = aS (S₀ c arg2 arg3 arg4 arg6 arg15 k f2 f3 f4 f6 f15) (g12 c arg12 f12) (arg5.view.read (Elt F) f5) (g13 c arg13 f13) 16 := by
  unfold trip.sl.v1269; refine (View.readCov_full _ _ _ _ _).trans ?_
  rw [aS_succ _ _ _ _ 15, ← hm15, ← ha15]; rfl

end Cert.Proof.Kernel4Ideal

end
-- ==== Proof.DI.Vals.lean ====
module

public import proofs.«01_k».proof.Proof.DI.Body
public import proofs.«01_k».proof.Proof.DI.Steps

@[expose] public section

noncomputable section

namespace Cert.Proof.Kernel4Ideal

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords)
  (arg2 : Memref sig .tc .vmem S1x1x128x8192 .bf16) (harg2 : arg2.IsWhole)
  (arg3 : Memref sig .tc .vmem S1x1x8192x64 .bf16) (harg3 : arg3.IsWhole)
  (arg4 : Memref sig .tc .vmem S1x1x8192x64 .bf16) (harg4 : arg4.IsWhole)
  (arg5 : Memref sig .tc .vmem S1x1x144x8192 .bf16) (harg5 : arg5.IsWhole)
  (arg6 : Memref sig .tc .vmem S1x5x256x256 .f32) (harg6 : arg6.IsWhole)
  (arg7 : Memref sig .tc .vmem S4x64 .f32) (harg7 : arg7.IsWhole)
  (arg8 : Memref sig .tc .vmem S128x256 .f32) (harg8 : arg8.IsWhole)
  (arg9 : Memref sig .tc .vmem S1x8192x128 .bf16) (harg9 : arg9.IsWhole)
  (arg10 : Memref sig .tc .vmem S1x8192x128 .bf16) (harg10 : arg10.IsWhole)
  (arg11 : Memref sig .tc .vmem S1x1x512 .f32) (harg11 : arg11.IsWhole)
  (arg12 : Memref sig .tc .vmem S1x512 .f32) (harg12 : arg12.IsWhole)
  (arg13 : Memref sig .tc .vmem S144x512 .f32) (harg13 : arg13.IsWhole)
  (arg14 : Memref sig .tc .vmem S144x512 .f32) (harg14 : arg14.IsWhole)
  (arg15 : Memref sig .tc .vmem S512x512 .f32) (harg15 : arg15.IsWhole)
  (v25 : FVec F S512x512 .f32)

/-- What the loads of further whole buffers read. -/
def g7 (f7 : Bf (F := F) c arg7) : Vec F S4x64 .f32 := arg7.view.readAt (Elt F) (Rect.unit (s := S4x64) ![0, 0] S4x64.size inb_S4x64_S4x64_0_0).toLoadRect f7
def g8 (f8 : Bf (F := F) c arg8) : Vec F S128x256 .f32 := arg8.view.readAt (Elt F) (Rect.unit (s := S128x256) ![0, 0] S128x256.size inb_S128x256_S128x256_0_0).toLoadRect f8
def g14 (f14 : Bf (F := F) c arg14) : Vec F S144x512 .f32 := arg14.view.readAt (Elt F) (Rect.unit (s := S144x512) ![0, 0] S144x512.size inb_S144x512_S144x512_0_0).toLoadRect f14

theorem off6_inb (k : Fin k0_t1_loop.trips) (n : Fin 2) : ∀ a, k0_off6 k (BitVec.ofNat 32 n.val) a + S1x1x256x256.size a ≤ S1x5x256x256.size a := fun a => by
  rw [off6_eq]; fin_cases a <;> simp [Shape.size] <;> omega

variable (k : Fin k0_t1_loop.trips) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15)

theorem e10 : (trip c i arg2 harg2 arg3 harg3 arg4 harg4 arg5 harg5 arg6 harg6 arg7 harg7 arg8 harg8 arg9 harg9 arg10 harg10 arg11 harg11 arg12 harg12 arg13 harg13 arg14 harg14 arg15 harg15 v25 k f2 f3 f4 f5 f6 f7 f8 f9 f10 f11 f12 f13 f14 f15).1.1 = arg10.view.writes (Elt F) f10 (trip.sl.H10_1 c arg7 arg8 arg9 arg14 k f7 f8 f9 f14) := by dsimp only [trip]
theorem e11 : (trip c i arg2 harg2 arg3 harg3 arg4 harg4 arg5 harg5 arg6 harg6 arg7 harg7 arg8 harg8 arg9 harg9 arg10 harg10 arg11 harg11 arg12 harg12 arg13 harg13 arg14 harg14 arg15 harg15 v25 k f2 f3 f4 f5 f6 f7 f8 f9 f10 f11 f12 f13 f14 f15).1.2.1 = arg11.view.writes (Elt F) f11 (⟨Rect.unit (s := S1x1x512) ![0, 0, 0] S1x1x512.size inb_S1x1x512_S1x1x512_0_0_0,
    trip.sl.v1261 c arg2 arg3 arg4 arg6 arg11 arg12 arg15 k f2 f3 f4 f6 f11 f12 f15⟩ :: trip.sl.H11_15 c arg2 arg3 arg4 arg6 arg11 arg12 arg15 k f2 f3 f4 f6 f11 f12 f15) := by dsimp only [trip]
theorem e12 : (trip c i arg2 harg2 arg3 harg3 arg4 harg4 arg5 harg5 arg6 harg6 arg7 harg7 arg8 harg8 arg9 harg9 arg10 harg10 arg11 harg11 arg12 harg12 arg13 harg13 arg14 harg14 arg15 harg15 v25 k f2 f3 f4 f5 f6 f7 f8 f9 f10 f11 f12 f13 f14 f15).1.2.2.1 = arg12.view.writes (Elt F) f12 (⟨Rect.unit (s := S1x512) ![0, 0] S1x512.size inb_S1x512_S1x512_0_0, k0_pay175 (trip.sl.r_66 c arg2 arg3 arg4 arg6 k f2 f3 f4 f6)⟩ ::
    ⟨Rect.unit (s := S1x512) ![0, 0] S1x512.size inb_S1x512_S1x512_0_0, trip.sl.v1265 c arg2 arg3 arg4 arg6 arg12 arg15 k f2 f3 f4 f6 f12 f15⟩ :: trip.sl.H12_15 c arg2 arg3 arg4 arg6 arg12 arg15 k f2 f3 f4 f6 f12 f15) := by dsimp only [trip]
theorem e13 : (trip c i arg2 harg2 arg3 harg3 arg4 harg4 arg5 harg5 arg6 harg6 arg7 harg7 arg8 harg8 arg9 harg9 arg10 harg10 arg11 harg11 arg12 harg12 arg13 harg13 arg14 harg14 arg15 harg15 v25 k f2 f3 f4 f5 f6 f7 f8 f9 f10 f11 f12 f13 f14 f15).1.2.2.2.1 = arg13.view.writes (Elt F) f13 (⟨Rect.unit (s := S144x512) ![0, 0] S144x512.size inb_S144x512_S144x512_0_0, k0_pay174⟩ :: trip.sl.H13_16 c arg2 arg3 arg4 arg5 arg6 arg12 arg13 arg15 k f2 f3 f4 f5 f6 f12 f13 f15) := by dsimp only [trip]
theorem e14 : (trip c i arg2 harg2 arg3 harg3 arg4 harg4 arg5 harg5 arg6 harg6 arg7 harg7 arg8 harg8 arg9 harg9 arg10 harg10 arg11 harg11 arg12 harg12 arg13 harg13 arg14 harg14 arg15 harg15 v25 k f2 f3 f4 f5 f6 f7 f8 f9 f10 f11 f12 f13 f14 f15).1.2.2.2.2.1 = arg14.view.writes (Elt F) f14 [⟨Rect.unit (s := S144x512) ![0, 0] S144x512.size inb_S144x512_S144x512_0_0, trip.sl.v1272 c arg2 arg3 arg4 arg5 arg6 arg12 arg13 arg15 k f2 f3 f4 f5 f6 f12 f13 f15⟩] := by dsimp only [trip]
theorem e15 : (trip c i arg2 harg2 arg3 harg3 arg4 harg4 arg5 harg5 arg6 harg6 arg7 harg7 arg8 harg8 arg9 harg9 arg10 harg10 arg11 harg11 arg12 harg12 arg13 harg13 arg14 harg14 arg15 harg15 v25 k f2 f3 f4 f5 f6 f7 f8 f9 f10 f11 f12 f13 f14 f15).1.2.2.2.2.2 = arg15.view.writes (Elt F) f15 [⟨Rect.unit (s := S512x512) ![0, 0] S512x512.size inb_S512x512_S512x512_0_0, trip.sl.v1268 c arg2 arg3 arg4 arg6 k f2 f3 f4 f6⟩] := by dsimp only [trip]

theorem w10 : (trip c i arg2 harg2 arg3 harg3 arg4 harg4 arg5 harg5 arg6 harg6 arg7 harg7 arg8 harg8 arg9 harg9 arg10 harg10 arg11 harg11 arg12 harg12 arg13 harg13 arg14 harg14 arg15 harg15 v25 k f2 f3 f4 f5 f6 f7 f8 f9 f10 f11 f12 f13 f14 f15).1.1 = arg10.view.writes (Elt F) f10 [⟨Rect.unit (s := S1x8192x128) (k0_off4 k) S1x256x128.size (facts₀.k0_off4_inb k),
    fin (g14 c arg14 f14) (g7 c arg7 f7) (g8 c arg8 f8) (View.ld (arg9.view.read (Elt F) f9) (Rect.unit (s := S1x8192x128) (k0_off4 k) S1x256x128.size (facts₀.k0_off4_inb k)))⟩] := by
  rw [e10]; rfl

theorem w11 : arg11.view.read (Elt F) (trip c i arg2 harg2 arg3 harg3 arg4 harg4 arg5 harg5 arg6 harg6 arg7 harg7 arg8 harg8 arg9 harg9 arg10 harg10 arg11 harg11 arg12 harg12 arg13 harg13 arg14 harg14 arg15 harg15 v25 k f2 f3 f4 f5 f6 f7 f8 f9 f10 f11 f12 f13 f14 f15).1.2.1 = jS (S₀ c arg2 arg3 arg4 arg6 arg15 k f2 f3 f4 f6 f15) (g12 c arg12 f12) (g11 c arg11 f11) 16 := by
  rw [e11]; refine (View.read_writes_full _ _ _ _ _).trans ?_
  rw [jS_succ _ _ _ 15, ← hm15, ← hj15]; rfl

theorem w12 : arg12.view.read (Elt F) (trip c i arg2 harg2 arg3 harg3 arg4 harg4 arg5 harg5 arg6 harg6 arg7 harg7 arg8 harg8 arg9 harg9 arg10 harg10 arg11 harg11 arg12 harg12 arg13 harg13 arg14 harg14 arg15 harg15 v25 k f2 f3 f4 f5 f6 f7 f8 f9 f10 f11 f12 f13 f14 f15).1.2.2.1 = k0_pay170 (k0_pay168 (View.ld (arg2.view.read (Elt F) f2) (Rect.unit (s := S1x1x128x8192) (k0_off5 k) S1x1x128x256.size (facts₀.k0_off5_inb k))) (View.ld (arg6.view.read (Elt F) f6) (Rect.unit (s := S1x5x256x256) (k0_off6 k 0#32) S1x1x256x256.size (off6_inb k 0))) (View.ld (arg6.view.read (Elt F) f6) (Rect.unit (s := S1x5x256x256) (k0_off6 k 1#32) S1x1x256x256.size (off6_inb k 1))) (kc (arg3.view.read (Elt F) f3) 0) (kc (arg4.view.read (Elt F) f4) 0)) := by
  rw [e12]; refine (View.read_writes_full _ _ _ _ _).trans ?_; rfl

theorem w13 : arg13.view.read (Elt F) (trip c i arg2 harg2 arg3 harg3 arg4 harg4 arg5 harg5 arg6 harg6 arg7 harg7 arg8 harg8 arg9 harg9 arg10 harg10 arg11 harg11 arg12 harg12 arg13 harg13 arg14 harg14 arg15 harg15 v25 k f2 f3 f4 f5 f6 f7 f8 f9 f10 f11 f12 f13 f14 f15).1.2.2.2.1 = k0_pay171 := by
  rw [e13]; refine (View.read_writes_full _ _ _ _ _).trans ?_; rfl

theorem w14 : arg14.view.read (Elt F) (trip c i arg2 harg2 arg3 harg3 arg4 harg4 arg5 harg5 arg6 harg6 arg7 harg7 arg8 harg8 arg9 harg9 arg10 harg10 arg11 harg11 arg12 harg12 arg13 harg13 arg14 harg14 arg15 harg15 v25 k f2 f3 f4 f5 f6 f7 f8 f9 f10 f11 f12 f13 f14 f15).1.2.2.2.2.1 = k0_pay167 (aS (S₀ c arg2 arg3 arg4 arg6 arg15 k f2 f3 f4 f6 f15) (g12 c arg12 f12) (arg5.view.read (Elt F) f5) (g13 c arg13 f13) 16) := by
  rw [e14]; refine (View.read_writes_full _ _ _ _ _).trans ?_
  rw [← ha16]; rfl

theorem w15 : arg15.view.read (Elt F) (trip c i arg2 harg2 arg3 harg3 arg4 harg4 arg5 harg5 arg6 harg6 arg7 harg7 arg8 harg8 arg9 harg9 arg10 harg10 arg11 harg11 arg12 harg12 arg13 harg13 arg14 harg14 arg15 harg15 v25 k f2 f3 f4 f5 f6 f7 f8 f9 f10 f11 f12 f13 f14 f15).1.2.2.2.2.2 = k0_pay169 (k0_pay168 (View.ld (arg2.view.read (Elt F) f2) (Rect.unit (s := S1x1x128x8192) (k0_off5 k) S1x1x128x256.size (facts₀.k0_off5_inb k))) (View.ld (arg6.view.read (Elt F) f6) (Rect.unit (s := S1x5x256x256) (k0_off6 k 0#32) S1x1x256x256.size (off6_inb k 0))) (View.ld (arg6.view.read (Elt F) f6) (Rect.unit (s := S1x5x256x256) (k0_off6 k 1#32) S1x1x256x256.size (off6_inb k 1))) (kc (arg3.view.read (Elt F) f3) 0) (kc (arg4.view.read (Elt F) f4) 0)) := by
  rw [e15]; refine (View.read_writes_full _ _ _ _ _).trans ?_; rfl

end Cert.Proof.Kernel4Ideal

end
-- ==== Proof.DI.Inv.lean ====
module

public import proofs.«01_k».proof.Proof.DI.Vals
public import Idealize.ShloMosaic.Lib.Pipeline.Value

@[expose] public section

noncomputable section

namespace Cert.Proof.Kernel4Ideal

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords)
  (arg2 : Memref sig .tc .vmem S1x1x128x8192 .bf16) (harg2 : arg2.IsWhole)
  (arg3 : Memref sig .tc .vmem S1x1x8192x64 .bf16) (harg3 : arg3.IsWhole)
  (arg4 : Memref sig .tc .vmem S1x1x8192x64 .bf16) (harg4 : arg4.IsWhole)
  (arg5 : Memref sig .tc .vmem S1x1x144x8192 .bf16) (harg5 : arg5.IsWhole)
  (arg6 : Memref sig .tc .vmem S1x5x256x256 .f32) (harg6 : arg6.IsWhole)
  (arg7 : Memref sig .tc .vmem S4x64 .f32) (harg7 : arg7.IsWhole)
  (arg8 : Memref sig .tc .vmem S128x256 .f32) (harg8 : arg8.IsWhole)
  (arg9 : Memref sig .tc .vmem S1x8192x128 .bf16) (harg9 : arg9.IsWhole)
  (arg10 : Memref sig .tc .vmem S1x8192x128 .bf16) (harg10 : arg10.IsWhole)
  (arg11 : Memref sig .tc .vmem S1x1x512 .f32) (harg11 : arg11.IsWhole)
  (arg12 : Memref sig .tc .vmem S1x512 .f32) (harg12 : arg12.IsWhole)
  (arg13 : Memref sig .tc .vmem S144x512 .f32) (harg13 : arg13.IsWhole)
  (arg14 : Memref sig .tc .vmem S144x512 .f32) (harg14 : arg14.IsWhole)
  (arg15 : Memref sig .tc .vmem S512x512 .f32) (harg15 : arg15.IsWhole)
  (v25 : FVec F S512x512 .f32)

theorem sgt_apply (x : Vec F S1x8192x128 .bf16) (t : ℕ) (ht : t < 32) (z : S1x256x128.Idx) (y : S1x8192x128.Idx)
    (hy : ∀ a, (y a).val = (![0, 256 * t, 0] : Fin 3 → ℕ) a + (z a).val) : sgt x t z = x y := by
  unfold sgt
  refine congrArg x (funext fun a => Fin.ext ?_)
  rw [hy a]
  show (![0, 256 * (t % 32), 0] : Fin 3 → ℕ) a + 1 * (z a).val = _
  rw [Nat.mod_eq_of_lt ht, Nat.one_mul]

theorem rd_mem (v : View sig .tc .vmem S1x8192x128 .bf16) (f : v.ty.Contents (Elt F)) (off : Fin 3 → ℕ) (inb) (o : ℕ) (heq : off = ![0, 256 * o, 0])
    (p : FVec F S1x256x128 .bf16) (y : S1x8192x128.Idx) (z : S1x256x128.Idx) (hy : ∀ a, (y a).val = (![0, 256 * o, 0] : Fin 3 → ℕ) a + (z a).val) :
    v.read (Elt F) (v.writes (Elt F) f [⟨Rect.unit (s := S1x8192x128) off S1x256x128.size inb, p⟩]) y = p z :=
  View.read_writes_cons_unit_of_mem v f inb p [] y z heq hy

theorem rd_not_mem (v : View sig .tc .vmem S1x8192x128 .bf16) (f : v.ty.Contents (Elt F)) (off : Fin 3 → ℕ) (inb) (o : ℕ) (heq : off = ![0, 256 * o, 0])
    (p : FVec F S1x256x128 .bf16) (y : S1x8192x128.Idx) (hy : (y 1).val < 256 * o ∨ 256 * o + 256 ≤ (y 1).val) :
    v.read (Elt F) (v.writes (Elt F) f [⟨Rect.unit (s := S1x8192x128) off S1x256x128.size inb, p⟩]) y = v.read (Elt F) f y :=
  View.read_writes_cons_unit_of_not_mem v f inb p [] y heq 1 hy

/-- The rows of tile `t` after a write of tile `o`'s. -/
theorem sgt_writes (v : View sig .tc .vmem S1x8192x128 .bf16) (f : v.ty.Contents (Elt F)) (off : Fin 3 → ℕ) (inb) (o : ℕ) (heq : off = ![0, 256 * o, 0])
    (p : FVec F S1x256x128 .bf16) (t : ℕ) (ht : t < 32) :
    sgt (v.read (Elt F) (v.writes (Elt F) f [⟨Rect.unit (s := S1x8192x128) off S1x256x128.size inb, p⟩])) t
      = if t = o then p else sgt (v.read (Elt F) f) t := by
  funext z
  have z0 : (z 0).val < 1 := (z 0).isLt
  have z1 : (z 1).val < 256 := (z 1).isLt
  have z2 : (z 2).val < 128 := (z 2).isLt
  obtain ⟨y, hy⟩ : ∃ y : S1x8192x128.Idx, ∀ a, (y a).val = (![0, 256 * t, 0] : Fin 3 → ℕ) a + (z a).val :=
    ⟨fun a => ⟨(![0, 256 * t, 0] : Fin 3 → ℕ) a + (z a).val, by
      fin_cases a
      · show 0 + (z 0).val < 1; omega
      · show 256 * t + (z 1).val < 8192; omega
      · show 0 + (z 2).val < 128; omega⟩, fun _ => rfl⟩
  rw [sgt_apply _ t ht z y hy]
  by_cases h : t = o
  · rw [if_pos h]; rw [h] at hy
    exact rd_mem v f off inb o heq p y z hy
  · have e : (y 1).val = 256 * t + (z 1).val := hy 1
    rw [if_neg h, sgt_apply _ t ht z y hy]
    exact rd_not_mem v f off inb o heq p y (by omega)

/-- The accumulator that trip `k` turns into rows: the tile's before it. -/
def dn (x2 : Vec F S1x1x128x8192 .bf16) (x3 x4 : Vec F S1x1x8192x64 .bf16) (x5 : Vec F S1x1x144x8192 .bf16) (x6 : Vec F S1x5x256x256 .f32) : ℕ → Vec F S144x512 .f32
  | 0 => k0_pay172
  | k + 1 => k0_pay167 (tA x2 x3 x4 x5 x6 k)

/-- What is in the buffers before trip `k`. -/
structure Good (x2 : Vec F S1x1x128x8192 .bf16) (x3 x4 : Vec F S1x1x8192x64 .bf16) (x5 : Vec F S1x1x144x8192 .bf16) (x6 : Vec F S1x5x256x256 .f32) (x7 : Vec F S4x64 .f32) (x8 : Vec F S128x256 .f32) (x9 : Vec F S1x8192x128 .bf16)
    (k : ℕ) (W : St (F := F) c arg10 arg11 arg12 arg13 arg14 arg15) : Prop where
  r10 : ∀ t, t + 1 < k → t < 32 → sgt (arg10.view.read (Elt F) W.1) t = tO x2 x3 x4 x5 x6 x7 x8 x9 t
  r11 : arg11.view.read (Elt F) W.2.1 = tJ x2 x3 x4 x6 k
  r12 : arg12.view.read (Elt F) W.2.2.1 = tM x2 x3 x4 x6 (min k 31)
  r13 : arg13.view.read (Elt F) W.2.2.2.1 = k0_pay171
  r14 : arg14.view.read (Elt F) W.2.2.2.2.1 = dn x2 x3 x4 x5 x6 k
  r15 : arg15.view.read (Elt F) W.2.2.2.2.2 = tS x2 x3 x4 x6 (min k 31) 0

variable (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9)

theorem ld_unit_congr (S : Shape) (e : EltTy) (x : Vec F S e) (off off' size : Fin S.rank → ℕ) (inb) (inb') (h : off = off') :
    View.ld x (Rect.unit off size inb) = View.ld x (Rect.unit off' size inb') := by
  subst h; rfl

theorem ld_off2 (x2 : Vec F S1x1x128x8192 .bf16) (k : Fin k0_t1_loop.trips) :
    View.ld x2 (Rect.unit (s := S1x1x128x8192) (k0_off2 k) S1x1x128x256.size (facts₀.k0_off2_inb k)) = qt x2 k.val :=
  ld_unit_congr _ _ x2 _ _ _ _ _ (by rw [off2_eq, Nat.mod_eq_of_lt (Nat.lt_of_lt_of_eq k.isLt trips_eq)])

theorem ld_off5 (x2 : Vec F S1x1x128x8192 .bf16) (k : Fin k0_t1_loop.trips) :
    View.ld x2 (Rect.unit (s := S1x1x128x8192) (k0_off5 k) S1x1x128x256.size (facts₀.k0_off5_inb k)) = qt x2 (min (k.val + 1) 31) :=
  ld_unit_congr _ _ x2 _ _ _ _ _ (by rw [off5_eq, Nat.mod_eq_of_lt (show min (k.val + 1) 31 < 32 by omega)])

theorem ld_off4 (x9 : Vec F S1x8192x128 .bf16) (k : Fin k0_t1_loop.trips) :
    View.ld x9 (Rect.unit (s := S1x8192x128) (k0_off4 k) S1x256x128.size (facts₀.k0_off4_inb k)) = sgt x9 (k.val - 1) :=
  ld_unit_congr _ _ x9 _ _ _ _ _ (by rw [off4_eq, Nat.mod_eq_of_lt (show k.val - 1 < 32 by have : k.val < 32 := Nat.lt_of_lt_of_eq k.isLt trips_eq; omega)])

theorem ld_off3 (x6 : Vec F S1x5x256x256 .f32) (k : Fin k0_t1_loop.trips) (n : ℕ) (hn : n < 32) :
    View.ld x6 (Rect.unit (s := S1x5x256x256) (k0_off3 k (BitVec.ofNat 32 (n % 32))) S1x1x256x256.size (off3_inb k n)) = bt x6 k.val n :=
  ld_unit_congr _ _ x6 _ _ _ _ _ (by rw [off3_eq, Nat.mod_eq_of_lt hn])

theorem ld_off6 (x6 : Vec F S1x5x256x256 .f32) (k : Fin k0_t1_loop.trips) (n : Fin 2) :
    View.ld x6 (Rect.unit (s := S1x5x256x256) (k0_off6 k (BitVec.ofNat 32 n.val)) S1x1x256x256.size (off6_inb k n)) = bt x6 (min (k.val + 1) 31) n.val :=
  ld_unit_congr _ _ x6 _ _ _ _ _ (off6_eq k n)

theorem pay168_congr (q q' : Vec F S1x1x128x256 .bf16) (a a' b b' : Vec F S1x1x256x256 .f32) (x y : Vec F S1x1x512x64 .bf16) (hq : q = q') (ha : a = a')
    (hb : b = b') : k0_pay168 q a b x y = k0_pay168 q' a' b' x y := by
  subst hq ha hb; rfl

theorem S₀_eq (k : Fin k0_t1_loop.trips) (f15 : Bf (F := F) c arg15) (h : arg15.view.read (Elt F) f15 = tS (arg2.view.read (Elt F) f2) (arg3.view.read (Elt F) f3) (arg4.view.read (Elt F) f4) (arg6.view.read (Elt F) f6) (min k.val 31) 0) (d : ℕ) (hd : d < 16) :
    (S₀ c arg2 arg3 arg4 arg6 arg15 k f2 f3 f4 f6 f15) d = tS (arg2.view.read (Elt F) f2) (arg3.view.read (Elt F) f3) (arg4.view.read (Elt F) f4) (arg6.view.read (Elt F) f6) k.val d := by
  have hk : k.val < 32 := Nat.lt_of_lt_of_eq k.isLt trips_eq
  match d with
  | 0 => unfold S₀ g15; rw [View.readAt_full, h, Nat.min_eq_left (by omega)]
  | d + 1 => exact pay168_congr _ _ _ _ _ _ _ _ (ld_off2 _ k) (ld_off3 _ k (2 * (d + 1)) (by omega)) (ld_off3 _ k (2 * (d + 1) + 1) (by omega))

/-- The offset, the accumulator and the rise read the scores of the chunks before. -/
theorem mS_congr (S S' : ℕ → FVec F S512x512 .f32) (m0 : Vec F S1x512 .f32) (n : ℕ) (h : ∀ d, d < n → S d = S' d) : mS S m0 n = mS S' m0 n := by
  induction n with
  | zero => rfl
  | succ n ih => rw [mS_succ, mS_succ, ih fun d hd => h d (by omega), h n (by omega)]
theorem aS_congr (S S' : ℕ → FVec F S512x512 .f32) (m0 : Vec F S1x512 .f32) (x5 : Vec F S1x1x144x8192 .bf16) (a0 : Vec F S144x512 .f32) (n : ℕ) (h : ∀ d, d < n → S d = S' d) :
    aS S m0 x5 a0 n = aS S' m0 x5 a0 n := by
  induction n with
  | zero => rfl
  | succ n ih => rw [aS_succ, aS_succ, ih fun d hd => h d (by omega), h n (by omega), mS_congr S S' m0 n fun d hd => h d (by omega)]
theorem jS_congr (S S' : ℕ → FVec F S512x512 .f32) (m0 : Vec F S1x512 .f32) (j0 : Vec F S1x1x512 .f32) (n : ℕ) (h : ∀ d, d < n → S d = S' d) :
    jS S m0 j0 n = jS S' m0 j0 n := by
  induction n with
  | zero => rfl
  | succ n ih => rw [jS_succ, jS_succ, ih fun d hd => h d (by omega), h n (by omega), mS_congr S S' m0 n fun d hd => h d (by omega)]

theorem pay167_eq (v : Vec F S144x512 .f32) : k0_pay167 v = v := shapeCast_self _ _
theorem dn_succ (x2 : Vec F S1x1x128x8192 .bf16) (x3 x4 : Vec F S1x1x8192x64 .bf16) (x5 : Vec F S1x1x144x8192 .bf16) (x6 : Vec F S1x5x256x256 .f32) (k : ℕ) : dn x2 x3 x4 x5 x6 (k + 1) = tA x2 x3 x4 x5 x6 k := pay167_eq _
theorem pay169_eq (v : FVec F S512x512 .f32) : k0_pay169 v = v := shapeCast_self _ _

theorem nxt_eq (k : Fin k0_t1_loop.trips) : (k0_pay168 (View.ld (arg2.view.read (Elt F) f2) (Rect.unit (s := S1x1x128x8192) (k0_off5 k) S1x1x128x256.size (facts₀.k0_off5_inb k))) (View.ld (arg6.view.read (Elt F) f6) (Rect.unit (s := S1x5x256x256) (k0_off6 k 0#32) S1x1x256x256.size (off6_inb k 0))) (View.ld (arg6.view.read (Elt F) f6) (Rect.unit (s := S1x5x256x256) (k0_off6 k 1#32) S1x1x256x256.size (off6_inb k 1))) (kc (arg3.view.read (Elt F) f3) 0) (kc (arg4.view.read (Elt F) f4) 0)) = tS (arg2.view.read (Elt F) f2) (arg3.view.read (Elt F) f3) (arg4.view.read (Elt F) f4) (arg6.view.read (Elt F) f6) (min (k.val + 1) 31) 0 := by
  have b0 := ld_off6 (arg6.view.read (Elt F) f6) k 0
  have b1 := ld_off6 (arg6.view.read (Elt F) f6) k 1
  exact pay168_congr _ _ _ _ _ _ _ _ (ld_off5 _ k) b0 b1

theorem good_step (k : Fin k0_t1_loop.trips) (W : St (F := F) c arg10 arg11 arg12 arg13 arg14 arg15)
    (h : Good c arg10 arg11 arg12 arg13 arg14 arg15 (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) k.val W) :
    Good c arg10 arg11 arg12 arg13 arg14 arg15 (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (k.val + 1) (trip c i arg2 harg2 arg3 harg3 arg4 harg4 arg5 harg5 arg6 harg6 arg7 harg7 arg8 harg8 arg9 harg9 arg10 harg10 arg11 harg11 arg12 harg12 arg13 harg13 arg14 harg14 arg15 harg15 v25 k f2 f3 f4 f5 f6 f7 f8 f9 W.1 W.2.1 W.2.2.1 W.2.2.2.1 W.2.2.2.2.1 W.2.2.2.2.2).1 := by
  have hk : k.val < 32 := Nat.lt_of_lt_of_eq k.isLt trips_eq
  have hS := S₀_eq c arg2 arg3 arg4 arg6 arg15 f2 f3 f4 f6 k W.2.2.2.2.2 h.r15
  have h12 : g12 c arg12 W.2.2.1 = tM (arg2.view.read (Elt F) f2) (arg3.view.read (Elt F) f3) (arg4.view.read (Elt F) f4) (arg6.view.read (Elt F) f6) k.val := by
    unfold g12; rw [View.readAt_full, h.r12, Nat.min_eq_left (by omega)]
  have h13 : g13 c arg13 W.2.2.2.1 = k0_pay171 := by unfold g13; rw [View.readAt_full, h.r13]
  have h11 : g11 c arg11 W.2.1 = tJ (arg2.view.read (Elt F) f2) (arg3.view.read (Elt F) f3) (arg4.view.read (Elt F) f4) (arg6.view.read (Elt F) f6) k.val := by unfold g11; rw [View.readAt_full, h.r11]
  have h14 : g14 c arg14 W.2.2.2.2.1 = dn (arg2.view.read (Elt F) f2) (arg3.view.read (Elt F) f3) (arg4.view.read (Elt F) f4) (arg5.view.read (Elt F) f5) (arg6.view.read (Elt F) f6) k.val := by unfold g14; rw [View.readAt_full, h.r14]
  have h7 : g7 c arg7 f7 = (arg7.view.read (Elt F) f7) := by unfold g7; rw [View.readAt_full]
  have h8 : g8 c arg8 f8 = (arg8.view.read (Elt F) f8) := by unfold g8; rw [View.readAt_full]
  refine ⟨fun t ht ht' => ?_, ?_, ?_, ?_, ?_, ?_⟩
  · rw [w10, sgt_writes arg10.view _ (k0_off4 k) _ (k.val - 1) (off4_eq k) _ t ht', ld_off4, h14, h7, h8]
    by_cases e : t = k.val - 1
    · rw [if_pos e]
      obtain ⟨j, hj⟩ : ∃ j, k.val = j + 1 := ⟨k.val - 1, by omega⟩
      rw [hj] at e ⊢; rw [show t = j from by omega, show j + 1 - 1 = j from rfl]; rw [dn_succ]; rfl
    · rw [if_neg e]; exact h.r10 t (by omega) ht'
  · rw [w11, jS_congr _ _ _ _ 16 hS, h12, h11]; rfl
  · rw [w12, nxt_eq]; rfl
  · rw [w13]
  · rw [w14, aS_congr _ _ _ _ _ 16 hS, h12, h13]; rfl
  · rw [w15, nxt_eq, pay169_eq]

theorem good_st (z : St (F := F) c arg10 arg11 arg12 arg13 arg14 arg15)
    (h : Good c arg10 arg11 arg12 arg13 arg14 arg15 (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) 0 z) (k : ℕ) (hk : k ≤ 32) :
    Good c arg10 arg11 arg12 arg13 arg14 arg15 (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) k (st c i arg2 harg2 arg3 harg3 arg4 harg4 arg5 harg5 arg6 harg6 arg7 harg7 arg8 harg8 arg9 harg9 arg10 harg10 arg11 harg11 arg12 harg12 arg13 harg13 arg14 harg14 arg15 harg15 v25 f2 f3 f4 f5 f6 f7 f8 f9 z k) := by
  induction k with
  | zero => exact h
  | succ k ih =>
    have hk' : k < k0_t1_loop.trips := Nat.lt_of_lt_of_eq hk trips_eq.symm
    have e := st_succ c i arg2 harg2 arg3 harg3 arg4 harg4 arg5 harg5 arg6 harg6 arg7 harg7 arg8 harg8 arg9 harg9 arg10 harg10 arg11 harg11 arg12 harg12 arg13 harg13 arg14 harg14 arg15 harg15 v25 f2 f3 f4 f5 f6 f7 f8 f9 z ⟨k, hk'⟩
    rw [show k + 1 = (⟨k, hk'⟩ : Fin k0_t1_loop.trips).val + 1 from rfl, e]
    exact good_step c i arg2 harg2 arg3 harg3 arg4 harg4 arg5 harg5 arg6 harg6 arg7 harg7 arg8 harg8 arg9 harg9 arg10 harg10 arg11 harg11 arg12 harg12 arg13 harg13 arg14 harg14 arg15 harg15 v25 f2 f3 f4 f5 f6 f7 f8 f9 ⟨k, hk'⟩ _ (ih (by omega))

variable (f10 : Bf (F := F) c arg10)

/-- The contents at the loop's entry. -/
def z₀ : St (F := F) c arg10 arg11 arg12 arg13 arg14 arg15 :=
  (f10, arg11.view.writes (Elt F) arg11.view.junk body.sl.H11_1,
    arg12.view.writes (Elt F) arg12.view.junk (body.sl.H12_1 c arg2 arg3 arg4 arg6 f2 f3 f4 f6),
    arg13.view.writes (Elt F) arg13.view.junk body.sl.H13_1, arg14.view.writes (Elt F) arg14.view.junk body.sl.H14_1,
    arg15.view.writes (Elt F) arg15.view.junk (body.sl.H15_1 c arg2 arg3 arg4 arg6 f2 f3 f4 f6))

end Cert.Proof.Kernel4Ideal

end
-- ==== Proof.DI.Out.lean ====
module

public import proofs.«01_k».proof.Proof.DI.Inv

@[expose] public section

noncomputable section

namespace Cert.Proof.Kernel4Ideal

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords)
  (arg2 : Memref sig .tc .vmem S1x1x128x8192 .bf16) (harg2 : arg2.IsWhole)
  (arg3 : Memref sig .tc .vmem S1x1x8192x64 .bf16) (harg3 : arg3.IsWhole)
  (arg4 : Memref sig .tc .vmem S1x1x8192x64 .bf16) (harg4 : arg4.IsWhole)
  (arg5 : Memref sig .tc .vmem S1x1x144x8192 .bf16) (harg5 : arg5.IsWhole)
  (arg6 : Memref sig .tc .vmem S1x5x256x256 .f32) (harg6 : arg6.IsWhole)
  (arg7 : Memref sig .tc .vmem S4x64 .f32) (harg7 : arg7.IsWhole)
  (arg8 : Memref sig .tc .vmem S128x256 .f32) (harg8 : arg8.IsWhole)
  (arg9 : Memref sig .tc .vmem S1x8192x128 .bf16) (harg9 : arg9.IsWhole)
  (arg10 : Memref sig .tc .vmem S1x8192x128 .bf16) (harg10 : arg10.IsWhole)
  (arg11 : Memref sig .tc .vmem S1x1x512 .f32) (harg11 : arg11.IsWhole)
  (arg12 : Memref sig .tc .vmem S1x512 .f32) (harg12 : arg12.IsWhole)
  (arg13 : Memref sig .tc .vmem S144x512 .f32) (harg13 : arg13.IsWhole)
  (arg14 : Memref sig .tc .vmem S144x512 .f32) (harg14 : arg14.IsWhole)
  (arg15 : Memref sig .tc .vmem S512x512 .f32) (harg15 : arg15.IsWhole)

variable (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15)

theorem v25_eq : body.sl.v25 c arg2 arg3 arg4 arg6 f2 f3 f4 f6 = tS (arg2.view.read (Elt F) f2) (arg3.view.read (Elt F) f3) (arg4.view.read (Elt F) f4) (arg6.view.read (Elt F) f6) 0 0 := rfl

theorem good_z₀ : Good c arg10 arg11 arg12 arg13 arg14 arg15 (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) 0 (z₀ c arg2 arg3 arg4 arg6 arg10 arg11 arg12 arg13 arg14 arg15 f2 f3 f4 f6 f10) := by
  unfold z₀ body.sl.H11_1 body.sl.H12_1 body.sl.H13_1 body.sl.H14_1 body.sl.H15_1
  rw [v25_eq]
  refine ⟨fun t ht => absurd ht (by omega), ?_, ?_, ?_, ?_, ?_⟩ <;> dsimp only
  · exact View.read_writes_full _ _ _ _ _
  · exact View.read_writes_full _ _ _ _ _
  · exact View.read_writes_full _ _ _ _ _
  · exact View.read_writes_full _ _ _ _ _
  · exact (View.read_writes_full _ _ _ _ _).trans (pay169_eq _)

theorem nT_eq : Scf.trips k0_t1_loop.lb k0_t1_loop.ub k0_t1_loop.st = 32 := trips_eq

/-- The state at the loop's exit. -/
def sT : St (F := F) c arg10 arg11 arg12 arg13 arg14 arg15 :=
  st c i arg2 harg2 arg3 harg3 arg4 harg4 arg5 harg5 arg6 harg6 arg7 harg7 arg8 harg8 arg9 harg9 arg10 harg10 arg11 harg11 arg12 harg12 arg13 harg13 arg14 harg14 arg15 harg15 (body.sl.v25 c arg2 arg3 arg4 arg6 f2 f3 f4 f6) f2 f3 f4 f5 f6 f7 f8 f9 (z₀ c arg2 arg3 arg4 arg6 arg10 arg11 arg12 arg13 arg14 arg15 f2 f3 f4 f6 f10) (Scf.trips k0_t1_loop.lb k0_t1_loop.ub k0_t1_loop.st)

theorem v47_eq : body.sl.v47 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 = g14 c arg14 (sT c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).2.2.2.2.1 := by
  unfold body.sl.v47 g14 sT z₀; rfl

theorem r_eq : body.sl.r c arg9 f9 = k0_pay176 (sgt (arg9.view.read (Elt F) f9) 31) := by
  unfold body.sl.r; rfl

theorem v99_eq : body.sl.v99 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 = fin (g14 c arg14 (sT c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).2.2.2.2.1) (g7 c arg7 f7) (g8 c arg8 f8) (sgt (arg9.view.read (Elt F) f9) 31) := by
  try unfold body.sl.v99
  try unfold body.sl.v98
  try unfold body.sl.v96
  try unfold body.sl.v95
  try unfold body.sl.v94
  try unfold body.sl.v93
  try unfold body.sl.v92
  try unfold body.sl.v91
  try unfold body.sl.v90
  try unfold body.sl.v89
  try unfold body.sl.v88
  try unfold body.sl.v87
  try unfold body.sl.v86
  try unfold body.sl.v85
  try unfold body.sl.v84
  try unfold body.sl.v83
  try unfold body.sl.v82
  try unfold body.sl.v81
  try unfold body.sl.v80
  try unfold body.sl.v79
  try unfold body.sl.v78
  try unfold body.sl.v77
  try unfold body.sl.v76
  try unfold body.sl.v75
  try unfold body.sl.v74
  try unfold body.sl.v73
  try unfold body.sl.v72
  try unfold body.sl.v71
  try unfold body.sl.v70
  try unfold body.sl.v69
  try unfold body.sl.v68
  try unfold body.sl.v67
  try unfold body.sl.v66
  try unfold body.sl.v65
  try unfold body.sl.v64
  try unfold body.sl.v63
  try unfold body.sl.v62
  try unfold body.sl.v61
  try unfold body.sl.v60
  try unfold body.sl.v59
  try unfold body.sl.v58
  try unfold body.sl.v57
  try unfold body.sl.v56
  try unfold body.sl.v55
  try unfold body.sl.v54
  try unfold body.sl.v53
  try unfold body.sl.v52
  try unfold body.sl.v51
  try unfold body.sl.v50
  try unfold body.sl.v49
  try unfold body.sl.v48
  rw [v47_eq, r_eq]
  generalize g14 c arg14 (sT c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).2.2.2.2.1 = a
  generalize sgt (arg9.view.read (Elt F) f9) 31 = b
  try unfold body.sl.r_2
  try unfold body.sl.r_1
  try unfold body.sl.r
  try unfold body.sl.cst_49
  try unfold body.sl.cst_50
  try unfold body.sl.cst_51
  try unfold body.sl.cst_52
  try unfold body.sl.cst_53
  try unfold body.sl.cst_54
  try unfold body.sl.cst_55
  try unfold body.sl.cst_56
  unfold fin k0_pay1 g7 g8
  rfl

theorem body_eq : (body c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15).1 = (arg10.view.writes (Elt F) (sT c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).1
    [⟨Rect.unit (s := S1x8192x128) ![0, 7936, 0] S1x256x128.size inb_S1x8192x128_S1x256x128_0_7936_0, body.sl.v99 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10⟩],
    (sT c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).2) := by
  unfold body sT z₀
  dsimp only

theorem pr1 {α β : Type} (a : α) (b : β) : (a, b).1 = a := rfl

theorem b10 : (body c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15).1.1 = arg10.view.writes (Elt F) (sT c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).1
    [⟨Rect.unit (s := S1x8192x128) ![0, 7936, 0] S1x256x128.size inb_S1x8192x128_S1x256x128_0_7936_0, body.sl.v99 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10⟩] :=
  (congrArg (fun W => W.1) (body_eq c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15)).trans (pr1 _ _)

theorem b11 : (body c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15).1.2.1 = (sT c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).2.1 :=
  congrArg (fun W => W.2.1) (body_eq c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15)

theorem good_sT : Good c arg10 arg11 arg12 arg13 arg14 arg15 (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) 32 (sT c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10) := by
  unfold sT
  rw [nT_eq]
  exact good_st c i arg2 harg2 arg3 harg3 arg4 harg4 arg5 harg5 arg6 harg6 arg7 harg7 arg8 harg8 arg9 harg9 arg10 harg10 arg11 harg11 arg12 harg12 arg13 harg13 arg14 harg14 arg15 harg15 _ f2 f3 f4 f5 f6 f7 f8 f9 _ (good_z₀ c arg2 arg3 arg4 arg5 arg6 arg7 arg8 arg9 arg10 arg11 arg12 arg13 arg14 arg15 f2 f3 f4 f5 f6 f7 f8 f9 f10) 32 le_rfl

/-- The output block the body leaves: its rows tile by tile. -/
def oBlk (x2 : Vec F S1x1x128x8192 .bf16) (x3 x4 : Vec F S1x1x8192x64 .bf16) (x5 : Vec F S1x1x144x8192 .bf16) (x6 : Vec F S1x5x256x256 .f32) (x7 : Vec F S4x64 .f32) (x8 : Vec F S128x256 .f32) (x9 : Vec F S1x8192x128 .bf16) :
    Vec F S1x8192x128 .bf16 := fun y =>
  tO x2 x3 x4 x5 x6 x7 x8 x9 ((y 1).val / 256) (fun a => ⟨(![0, (y 1).val % 256, (y 2).val] : Fin 3 → ℕ) a, by
    have := (y 2).isLt; fin_cases a <;> simp [Shape.size] at this ⊢ <;> omega⟩)

theorem body_out : arg10.view.read (Elt F) (body c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15).1.1 = oBlk (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) := by
  have g := good_sT c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10
  funext y
  have h1 : (y 1).val < 8192 := (y 1).isLt
  have h0 : (y 0).val < 1 := (y 0).isLt
  unfold oBlk
  rw [← sgt_apply (arg10.view.read (Elt F) _) ((y 1).val / 256) (by omega)
    (fun a => ⟨(![0, (y 1).val % 256, (y 2).val] : Fin 3 → ℕ) a, by
      have := (y 2).isLt; fin_cases a <;> simp [Shape.size] at this ⊢ <;> omega⟩) y (by
      intro a; fin_cases a <;> simp <;> omega)]
  refine congrFun ?_ _
  rw [b10, v99_eq, sgt_writes arg10.view _ _ _ 31 rfl _ _ (by omega)]
  by_cases e : (y 1).val / 256 = 31
  · rw [if_pos e, e]; unfold g14 g7 g8; rw [View.readAt_full, View.readAt_full, View.readAt_full, g.r14, dn_succ]; rfl
  · rw [if_neg e]; exact g.r10 _ (by omega) (by omega)

theorem body_jump : arg11.view.read (Elt F) (body c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15).1.2.1 = tJ (arg2.view.read (Elt F) f2) (arg3.view.read (Elt F) f3) (arg4.view.read (Elt F) f4) (arg6.view.read (Elt F) f6) 32 := by
  rw [b11]; exact (good_sT c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).r11

end Cert.Proof.Kernel4Ideal

end
-- ==== Proof.DI.Run.lean ====
module

public import proofs.«01_k».proof.Proof.DI.Out
public import proofs.«01_k».proof.Proof.Gen.Kernel4Ideal.Frame
public import Idealize.ShloMosaic.Lib.Claim

@[expose] public section

noncomputable section

namespace Cert.Proof.Kernel4Ideal

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligation)

variable {F : FTy → Type} [FloatOps F] [Named F]

local notation "𝕄" => MT nD τ sig Unit (Elt F) ℕ (UR sig nD τ) ℕ

theorem owns_pt (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  have hs : M.view.set = Finset.univ := by
    obtain ⟨b, rfl, rfl, rfl, h⟩ := h
    cases h
    rw [Memref.view_whole, View.set_whole]
  unfold owns pt
  rw [hs]

/-- The body on whole buffers: the inputs stay as they are, the two results are their blocks, the
    scratch ends at some contents. -/
theorem sound_kernel (c : Dev nD) (i : grid0.Coords) (arg2 : Memref sig .tc .vmem S1x1x128x8192 .bf16) (harg2 : arg2.IsWhole) (arg3 : Memref sig .tc .vmem S1x1x8192x64 .bf16) (harg3 : arg3.IsWhole) (arg4 : Memref sig .tc .vmem S1x1x8192x64 .bf16) (harg4 : arg4.IsWhole) (arg5 : Memref sig .tc .vmem S1x1x144x8192 .bf16) (harg5 : arg5.IsWhole) (arg6 : Memref sig .tc .vmem S1x5x256x256 .f32) (harg6 : arg6.IsWhole) (arg7 : Memref sig .tc .vmem S4x64 .f32) (harg7 : arg7.IsWhole) (arg8 : Memref sig .tc .vmem S128x256 .f32) (harg8 : arg8.IsWhole) (arg9 : Memref sig .tc .vmem S1x8192x128 .bf16) (harg9 : arg9.IsWhole) (arg10 : Memref sig .tc .vmem S1x8192x128 .bf16) (harg10 : arg10.IsWhole) (arg11 : Memref sig .tc .vmem S1x1x512 .f32) (harg11 : arg11.IsWhole) (arg12 : Memref sig .tc .vmem S1x512 .f32) (harg12 : arg12.IsWhole) (arg13 : Memref sig .tc .vmem S144x512 .f32) (harg13 : arg13.IsWhole) (arg14 : Memref sig .tc .vmem S144x512 .f32) (harg14 : arg14.IsWhole) (arg15 : Memref sig .tc .vmem S512x512 .f32) (harg15 : arg15.IsWhole)
    (x2 : Vec F S1x1x128x8192 .bf16) (x3 : Vec F S1x1x8192x64 .bf16) (x4 : Vec F S1x1x8192x64 .bf16) (x5 : Vec F S1x1x144x8192 .bf16) (x6 : Vec F S1x5x256x256 .f32) (x7 : Vec F S4x64 .f32) (x8 : Vec F S128x256 .f32) (x9 : Vec F S1x8192x128 .bf16) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
        ∗ (∃ d, owns (c : Thread nD τ) arg10 fullShare d) ∗ (∃ d, owns (c : Thread nD τ) arg11 fullShare d)
        ∗ (∃ f, pt c arg12 f) ∗ (∃ f, pt c arg13 f) ∗ (∃ f, pt c arg14 f) ∗ (∃ f, pt c arg15 f)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ owns (c : Thread nD τ) arg10 fullShare (oBlk x2 x3 x4 x5 x6 x7 x8 x9) ∗ owns (c : Thread nD τ) arg11 fullShare (tJ x2 x3 x4 x6 32)
            ∗ (∃ f, pt c arg12 f) ∗ (∃ f, pt c arg13 f) ∗ (∃ f, pt c arg14 f) ∗ (∃ f, pt c arg15 f)) -∗ K ⟨⟩))
      ⊢ wp frame (wpE (defs₀ (F := F)) Variants.none (c : Thread nD τ) none) Set.univ (cc0_diff_attn (F := F) i arg2 harg2 arg3 harg3 arg4 harg4 arg5 harg5 arg6 harg6 arg7 harg7 arg8 harg8 arg9 harg9 arg10 harg10 arg11 harg11 arg12 harg12 arg13 harg13 arg14 harg14 arg15 harg15) K := by
  rw [owns_pt c arg2 harg2, owns_pt c arg3 harg3, owns_pt c arg4 harg4, owns_pt c arg5 harg5, owns_pt c arg6 harg6, owns_pt c arg7 harg7, owns_pt c arg8 harg8, owns_pt c arg9 harg9]
  simp only [owns_pt c arg10 harg10, owns_pt c arg11 harg11]
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, H12⟩, ⟨%f13, H13⟩, ⟨%f14, H14⟩, ⟨%f15, H15⟩, Hk⟩
  subst hf2 hf3 hf4 hf5 hf6 hf7 hf8 hf9
  have b10 := body_out c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15
  have b11 := body_jump c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15
  have w := (body c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15).2
  generalize (body c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15).1 = W at b10 b11 w
  iapply (wp_wand_r _ _ _)
  isplitl [H2 H3 H4 H5 H6 H7 H8 H9 H10 H11 H12 H13 H14 H15]
  · iapply w
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  iintro %u ⟨H2, H3, H4, H5, H6, H7, H8, H9, H10, H11, H12, H13, H14, H15⟩
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists W.1; isplitr; · ipureintro; exact b10
    iexact H10
  isplitl [H11]
  · iexists W.2.1; isplitr; · ipureintro; exact b11
    iexact H11
  isplitl [H12]; · iexists _; iexact H12
  isplitl [H13]; · iexists _; iexact H13
  isplitl [H14]; · iexists _; iexact H14
  iexists _; iexact H15

variable (m : (ℓ : Loc nD τ sig) → Buf (Elt F) ℓ) (ρ : Dev nD → PrngReg)

/-- The launch's data: the inputs' buffers at their blocks, the two results' at the body's values. Windows 1 and 2 read one array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => oBlk (iblk m c 0 t) (iblk m c 1 t) (iblk m c 2 t) (iblk m c 3 t) (iblk m c 4 t) (iblk m c 5 t) (iblk m c 6 t) (iblk m c 7 t)
    | ⟨9, _⟩ => tJ (iblk m c 0 t) (iblk m c 1 t) (iblk m c 2 t) (iblk m c 4 t) 32
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = oBlk (iblk m c 0 t) (iblk m c 1 t) (iblk m c 2 t) (iblk m c 3 t) (iblk m c 4 t) (iblk m c 5 t) (iblk m c 6 t) (iblk m c 7 t) := by dsimp only [dats]
theorem after0_9 (c : Dev nD) (t : Fin cfg0.N) : (dats m 0 c).after 9 t = tJ (iblk m c 0 t) (iblk m c 1 t) (iblk m c 2 t) (iblk m c 4 t) 32 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body is given at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl,
    after0_0, after0_1, after0_2, after0_3, after0_4, after0_5, after0_6, after0_7, after0_8, after0_9]
  unfold Pipeline.ΦA
  rw [scopedRest0_eq]
  iintro ⟨⟨⟨S12, S13, S14, S15⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [S12]; · iexact S12
  isplitl [S13]; · iexact S13
  isplitl [S14]; · iexact S14
  isplitl [S15]; · iexact S15
  iintro ⟨H0, H1, H2, H3, H4, H5, H6, H7, H8, H9, S12, S13, S14, S15⟩
  isplitl [S12 S13 S14 S15 Hr]
  · isplitl [S12 S13 S14 S15]
    · isplitl [S12]; · iexact S12
      isplitl [S13]; · iexact S13
      isplitl [S14]; · iexact S14
      iexact S15
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run ends with the arrays as the launch's data say and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_quiescent m ρ))

end Cert.Proof.Kernel4Ideal

end
-- ==== Proof.Dv.Step.lean ====
module

public import proofs.«01_k».proof.Proof.DI.State
public import proofs.«01_k».proof.Proof.Val.Real
public import Idealize.ShloMosaic.Lib.Pointwise

@[expose] public section
set_option maxRecDepth 16384
noncomputable section

/-! One chunk of keys, read at one column: a query with one of the two halves. -/

namespace Cert.Proof.Dv
open Cert.Proof.Val Cert.Proof.Kernel4Ideal Cert.Kernel4Ideal Cert.Kernel4Ideal.Gen
open Idealize.ShloMosaic

variable (S : FVec Ideal S512x512 .f32) (m : FVec Ideal S1x512 .f32) (j : Fin 512) (s : Fin 512 → ℝ) (μ : ℝ)

theorem pay168_lo (q : FVec Ideal S1x1x128x256 .bf16) (b0 b1 : FVec Ideal S1x1x256x256 .f32) (k0 k1 : FVec Ideal S1x1x512x64 .bf16) (x : Fin 512)
    (h : j.val < 256) : (k0_pay168 (F := Ideal) q b0 b1 k0 k1 (ix2 x j) : EReal)
      = (∑ e : Fin 64, (k0 (ix4 0 0 x e) : EReal) * q (ix4 0 0 ⟨e.val, by omega⟩ ⟨j.val, h⟩))
        + (if hx : x.val < 256 then b0 (ix4 0 0 ⟨x.val, hx⟩ ⟨j.val, h⟩) else b1 (ix4 0 0 ⟨x.val - 256, by omega⟩ ⟨j.val, h⟩) : EReal) := by
  pointwise [k0_pay168]
  rw [dif_pos h]
theorem pay168_hi (q : FVec Ideal S1x1x128x256 .bf16) (b0 b1 : FVec Ideal S1x1x256x256 .f32) (k0 k1 : FVec Ideal S1x1x512x64 .bf16) (x : Fin 512)
    (h : ¬ j.val < 256) : (k0_pay168 (F := Ideal) q b0 b1 k0 k1 (ix2 x j) : EReal)
      = (∑ e : Fin 64, (k1 (ix4 0 0 x e) : EReal) * q (ix4 0 0 ⟨64 + e.val, by omega⟩ ⟨j.val - 256, by omega⟩))
        + (if hx : x.val < 256 then b0 (ix4 0 0 ⟨x.val, hx⟩ ⟨j.val - 256, by omega⟩) else b1 (ix4 0 0 ⟨x.val - 256, by omega⟩ ⟨j.val - 256, by omega⟩) : EReal) := by
  pointwise [k0_pay168]
  rw [dif_neg h]

theorem pay9_at (hS : ∀ x, S (ix2 x j) = (s x : EReal)) (hm : m (ix2 0 j) = (μ : EReal)) :
    ∃ u : ℝ, k0_pay9 (F := Ideal) S m (ix2 0 j) = (u : EReal) := by
  pointwise [k0_pay9, k0_pay8]
  have e : ∀ x, (FloatOps.exp2 (F := Ideal) (φ := .bf16) (S (ix2 x j) - m (ix2 0 j)) : EReal) = (((2 : ℝ) ^ (s x - μ) : ℝ) : EReal) := fun x => by
    rw [hS, hm, ← EReal.coe_sub]; rfl
  obtain ⟨i, hi⟩ := fold_max_coe _ bot_bf16 fun x => (2 : ℝ) ^ (s x - μ)
  have h := (congrArg (fun f => Finset.fold max (Ideal.ofBits .bf16 0xFF80#16) f Finset.univ) (funext e)).trans hi
  refine ⟨Real.log ((2 : ℝ) ^ (s i - μ)) * (Real.log 2)⁻¹, ?_⟩
  rw [EReal.coe_mul, ← log_coe (by positivity)]
  exact congrArg₂ (· * ·) (congrArg Ideal.log h) rfl

theorem pay170_at (hS : ∀ x, S (ix2 x j) = (s x : EReal)) : ∃ μ : ℝ, k0_pay170 (F := Ideal) S (ix2 0 j) = (μ : EReal) := by
  pointwise [k0_pay170]
  obtain ⟨i, hi⟩ := fold_max_coe _ bot_f32 s
  exact ⟨_, (congrArg (fun f => Finset.fold max _ f Finset.univ) (funext hS)).trans hi⟩

theorem pay10_at (hS : ∀ x, S (ix2 x j) = (s x : EReal)) (hm : m (ix2 0 j) = (μ : EReal)) :
    ∃ u : ℝ, k0_pay10 (F := Ideal) S m (ix2 0 j) = (u : EReal) := by
  obtain ⟨u, hu⟩ := pay9_at S m j s μ hS hm
  refine ⟨max u 0, ?_⟩
  pointwise [k0_pay10]
  rw [hu, ← EReal.coe_zero]
  exact (EReal.coe_strictMono.monotone.map_max).symm

theorem pay13_at (u : ℝ) (hm : m (ix2 0 j) = (μ : EReal)) (hu : k0_pay10 (F := Ideal) S m (ix2 0 j) = (u : EReal)) :
    k0_pay14 (F := Ideal) (k0_pay13 (F := Ideal) S m) (ix2 0 j) = ((μ + u : ℝ) : EReal) := by
  pointwise [k0_pay14, k0_pay13]
  rw [hm, hu, EReal.coe_add]

theorem pay11_at (a : FVec Ideal S144x512 .f32) (v : FVec Ideal S1x1x144x512 .bf16) (i : Fin 144) (α u : ℝ) (w : Fin 512 → ℝ)
    (hS : ∀ x, S (ix2 x j) = (s x : EReal)) (hm : m (ix2 0 j) = (μ : EReal)) (hu : k0_pay10 (F := Ideal) S m (ix2 0 j) = (u : EReal))
    (ha : a (ix2 i j) = (α : EReal)) (hv : ∀ x, v (ix4 0 0 i x) = (w x : EReal)) :
    k0_pay11 (F := Ideal) S m a v (ix2 i j)
      = (((α + ∑ x, w x * (2 : ℝ) ^ (s x - μ)) * (2 : ℝ) ^ (-u) : ℝ) : EReal) := by
  pointwise [k0_pay11, k0_pay8]
  rw [EReal.coe_mul, EReal.coe_add, ← coe_sum]
  refine congrArg₂ (· * ·) (congrArg₂ (· + ·) ha (Finset.sum_congr rfl fun x _ => ?_)) ?_
  · rw [hv, hS, hm, ← EReal.coe_sub, EReal.coe_mul]
    rfl
  · rw [hu, ← EReal.coe_zero, ← EReal.coe_sub, zero_sub]
    rfl

/-- The weight of the second map. -/
def lam (l : FVec Ideal S4x64 .f32) : EReal :=
  Ideal.exp (∑ x : Fin 64, (l (ix2 0 x) : EReal) * l (ix2 1 x)) - Ideal.exp (∑ x : Fin 64, (l (ix2 2 x) : EReal) * l (ix2 3 x)) + Ideal.ofBits .f32 0x3E4CCCCD#32

/-- A head's result, normed over its columns, times its gain. -/
def nrm (o : Fin 128 → EReal) (e : Fin 128) (g : EReal) : EReal :=
  o e * Ideal.rsqrt (Ideal.div (∑ x, o x * o x) (Ideal.ofBits .f32 0x43000000#32) + Ideal.ofBits .f32 0x358637BD#32) * g * Ideal.ofBits .f32 0x3F4CCCCD#32

theorem fin_at (a : FVec Ideal S144x512 .f32) (l : FVec Ideal S4x64 .f32) (h : FVec Ideal S128x256 .f32) (s : FVec Ideal S1x256x128 .bf16)
    (i : Fin 256) (e : Fin 128) : (fin (F := Ideal) a l h s (ix3 0 i e) : EReal)
      = nrm (fun e => (a (ix2 ⟨e.val, by omega⟩ ⟨i.val, by omega⟩) : EReal) * Ideal.div 1 (a (ix2 128 ⟨i.val, by omega⟩))
          - lam l * ((a (ix2 ⟨e.val, by omega⟩ ⟨256 + i.val, by omega⟩) : EReal) * Ideal.div 1 (a (ix2 128 ⟨256 + i.val, by omega⟩)))) e (h (ix2 e i))
        * s (ix3 0 i e) := by
  unfold nrm lam fin
  pointwise [k0_pay1, k0_pay176, k0_pay177, k0_pay178]

end Cert.Proof.Dv
end
-- ==== Proof.Dv.Tile.lean ====
module

public import proofs.«01_k».proof.Proof.Dv.Step
public import proofs.«01_k».proof.Proof.Val.Tile

@[expose] public section
set_option maxRecDepth 16384
noncomputable section

/-! A tile of queries against all the keys: its rows of the output block. -/

namespace Cert.Proof.Dv
open Cert.Proof.Val (coe_sum shift_div div_coe krow kc_at sum_chunks)
open Cert.Proof.Kernel4Ideal Cert.Kernel4Ideal Cert.Kernel4Ideal.Gen
open Idealize.ShloMosaic

/-- The query of column `j` of tile `t`, and the half a column belongs to. -/
def qcol (t : ℕ) (j : Fin 512) : Fin 8192 := ⟨256 * (t % 32) + j.val % 256, by omega⟩
def hf (j : Fin 512) : Fin 2 := ⟨j.val / 256, by omega⟩

theorem qt_at (x2 : FVec Ideal S1x1x128x8192 .bf16) (t : ℕ) (e : Fin 128) (x : Fin 256) :
    qt (F := Ideal) x2 t (ix4 0 0 e x) = x2 (ix4 0 0 e ⟨256 * (t % 32) + x.val, by omega⟩) := by
  unfold qt
  refine congrArg x2 (funext fun a => Fin.ext ?_)
  fin_cases a <;> simp [Rect.unit, Rect.emb] <;> rfl
theorem vc_at (x5 : FVec Ideal S1x1x144x8192 .bf16) (d : ℕ) (i : Fin 144) (x : Fin 512) :
    vc (F := Ideal) x5 d (ix4 0 0 i x) = x5 (ix4 0 0 i (krow d x)) := by
  unfold vc
  refine congrArg x5 (funext fun a => Fin.ext ?_)
  fin_cases a <;> simp [krow, Rect.unit, Rect.emb] <;> rfl
theorem sgt_at (x9 : FVec Ideal S1x8192x128 .bf16) (t : ℕ) (i : Fin 256) (x : Fin 128) :
    sgt (F := Ideal) x9 t (ix3 0 i x) = x9 (ix3 0 ⟨256 * (t % 32) + i.val, by omega⟩ x) := by
  unfold sgt
  refine congrArg x9 (funext fun a => Fin.ext ?_)
  fin_cases a <;> simp [Rect.unit, Rect.emb] <;> rfl
theorem bt_at (x6 : FVec Ideal S1x5x256x256 .f32) (t n : ℕ) (i j : Fin 256) :
    bt (F := Ideal) x6 t n (ix4 0 0 i j) = x6 (ix4 0 ⟨min 4 (n + 2 - t), by omega⟩ i j) := by
  unfold bt
  refine congrArg x6 (funext fun a => Fin.ext ?_)
  fin_cases a <;> simp [Rect.unit, Rect.emb] <;> rfl

variable (x2 : FVec Ideal S1x1x128x8192 .bf16) (x3 x4 : FVec Ideal S1x1x8192x64 .bf16) (x5 : FVec Ideal S1x1x144x8192 .bf16)
  (x6 : FVec Ideal S1x5x256x256 .f32) (x7 : FVec Ideal S4x64 .f32) (x8 : FVec Ideal S128x256 .f32) (x9 : FVec Ideal S1x8192x128 .bf16)
  (Q : Fin 128 → Fin 8192 → ℝ) (K : Fin 2 → Fin 8192 → Fin 64 → ℝ) (W : Fin 144 → Fin 8192 → ℝ) (B : Fin 5 → Fin 256 → Fin 256 → ℝ)

/-- The bias tile of query `τ` and key `κ`. -/
def tile (τ κ : Fin 8192) : Fin 5 := ⟨min 4 (κ.val / 256 + 2 - τ.val / 256), by omega⟩
/-- The score of key `κ` for query `τ` in map `n`. -/
def score (n : Fin 2) (τ κ : Fin 8192) : ℝ :=
  ∑ e : Fin 64, K n κ e * Q ⟨64 * n.val + e.val, by omega⟩ τ + B (tile τ κ) ⟨κ.val % 256, by omega⟩ ⟨τ.val % 256, by omega⟩

theorem bias_at (hB : ∀ n i j, x6 (ix4 0 n i j) = (B n i j : EReal)) (t d : ℕ) (ht : t < 32) (hd : d < 16) (x : Fin 512) (y : Fin 256)
    (τ : Fin 8192) (hτ : τ.val = 256 * t + y.val) :
    (if hx : x.val < 256 then bt (F := Ideal) x6 t (2 * d) (ix4 0 0 ⟨x.val, hx⟩ y) else bt (F := Ideal) x6 t (2 * d + 1) (ix4 0 0 ⟨x.val - 256, by omega⟩ y) : EReal)
      = (B (tile τ (krow d x)) ⟨(krow d x).val % 256, by omega⟩ ⟨τ.val % 256, by omega⟩ : EReal) := by
  have hx := x.isLt
  have hy := y.isLt
  have hk : (krow d x).val = 512 * (d % 16) + x.val := rfl
  have key : ∀ (n : Fin 5) (i z : Fin 256), n.val = min 4 ((krow d x).val / 256 + 2 - τ.val / 256) → i.val = (krow d x).val % 256 → z.val = τ.val % 256 →
      B n i z = B (tile τ (krow d x)) ⟨(krow d x).val % 256, by omega⟩ ⟨τ.val % 256, by omega⟩ := fun n i z hn hi hz => by
    rw [show n = tile τ (krow d x) from Fin.ext hn, show i = ⟨(krow d x).val % 256, by omega⟩ from Fin.ext hi,
      show z = ⟨τ.val % 256, by omega⟩ from Fin.ext hz]
  split_ifs with h <;> rw [bt_at, hB] <;> refine congrArg _ (key _ _ _ ?_ ?_ ?_) <;> (try simp only []) <;> omega

theorem tS_at (hQ : ∀ e x, x2 (ix4 0 0 e x) = (Q e x : EReal)) (hK0 : ∀ κ e, x3 (ix4 0 0 κ e) = (K 0 κ e : EReal))
    (hK1 : ∀ κ e, x4 (ix4 0 0 κ e) = (K 1 κ e : EReal)) (hB : ∀ n i j, x6 (ix4 0 n i j) = (B n i j : EReal))
    (t d : ℕ) (ht : t < 32) (hd : d < 16) (x j : Fin 512) :
    tS (F := Ideal) x2 x3 x4 x6 t d (ix2 x j) = (score Q K B (hf j) (qcol t j) (krow d x) : EReal) := by
  have hj := j.isLt
  have hq : (qcol t j).val = 256 * (t % 32) + j.val % 256 := rfl
  unfold tS score
  rw [EReal.coe_add, ← coe_sum]
  by_cases h : j.val < 256
  · rw [pay168_lo _ _ _ _ _ _ _ h, bias_at x6 B hB t d ht hd x ⟨j.val, h⟩ (qcol t j) (by rw [hq]; simp only []; omega)]
    refine congrArg₂ (· + ·) (Finset.sum_congr rfl fun e _ => ?_) rfl
    rw [show kc (F := Ideal) x3 d (ix4 0 0 x e) = _ from kc_at x3 d x e, hK0, qt_at, hQ, EReal.coe_mul]
    have h0 : hf j = 0 := Fin.ext (by show j.val / 256 = 0; omega)
    rw [h0]
    refine congrArg₂ (· * ·) rfl (congrArg _ (congrArg₂ Q (Fin.ext ?_) (Fin.ext ?_)))
    · show e.val = 64 * 0 + e.val
      omega
    · show 256 * (t % 32) + j.val = 256 * (t % 32) + j.val % 256
      omega
  · rw [pay168_hi _ _ _ _ _ _ _ h, bias_at x6 B hB t d ht hd x ⟨j.val - 256, by omega⟩ (qcol t j) (by rw [hq]; simp only []; omega)]
    refine congrArg₂ (· + ·) (Finset.sum_congr rfl fun e _ => ?_) rfl
    rw [show kc (F := Ideal) x4 d (ix4 0 0 x e) = _ from kc_at x4 d x e, hK1, qt_at, hQ, EReal.coe_mul]
    have h0 : hf j = 1 := Fin.ext (by show j.val / 256 = 1; omega)
    rw [h0]
    refine congrArg₂ (· * ·) rfl (congrArg _ (congrArg₂ Q (Fin.ext ?_) (Fin.ext ?_)))
    · show 64 + e.val = 64 * 1 + e.val
      omega
    · show 256 * (t % 32) + (j.val - 256) = 256 * (t % 32) + j.val % 256
      omega

/-- After `d` chunks the offset is some real, and every row the result reads is its weighted sum against that offset. -/
theorem aS_at (hQ : ∀ e x, x2 (ix4 0 0 e x) = (Q e x : EReal)) (hK0 : ∀ κ e, x3 (ix4 0 0 κ e) = (K 0 κ e : EReal))
    (hK1 : ∀ κ e, x4 (ix4 0 0 κ e) = (K 1 κ e : EReal)) (hB : ∀ n i j, x6 (ix4 0 n i j) = (B n i j : EReal))
    (hW : ∀ i κ, i.val ≤ 128 → x5 (ix4 0 0 i κ) = (W i κ : EReal)) (t : ℕ) (ht : t < 32) (j : Fin 512) (d : ℕ) (hd : d ≤ 16) :
    ∃ μ : ℝ, mS (F := Ideal) (tS x2 x3 x4 x6 t) (tM x2 x3 x4 x6 t) d (ix2 0 j) = (μ : EReal) ∧ ∀ i : Fin 144, i.val ≤ 128 →
      aS (F := Ideal) (tS x2 x3 x4 x6 t) (tM x2 x3 x4 x6 t) x5 (k0_pay171 (F := Ideal)) d (ix2 i j)
        = ((∑ b ∈ Finset.range d, ∑ x, W i (krow b x) * (2 : ℝ) ^ (score Q K B (hf j) (qcol t j) (krow b x) - μ) : ℝ) : EReal) := by
  induction d with
  | zero =>
    obtain ⟨μ, h⟩ := pay170_at (tS (F := Ideal) x2 x3 x4 x6 t 0) j _ fun x => tS_at x2 x3 x4 x6 Q K B hQ hK0 hK1 hB t 0 ht (by norm_num) x j
    refine ⟨μ, h, fun i _ => ?_⟩
    rw [Finset.range_zero, Finset.sum_empty]
    unfold aS
    pointwise [k0_pay171]
    simp
  | succ d ih =>
    obtain ⟨μ, hm, ha⟩ := ih (by omega)
    have hS := fun x => tS_at x2 x3 x4 x6 Q K B hQ hK0 hK1 hB t d ht (by omega) x j
    obtain ⟨u, hu⟩ := pay10_at (tS (F := Ideal) x2 x3 x4 x6 t d) _ j _ μ hS hm
    refine ⟨μ + u, ?_, fun i hi => ?_⟩
    · rw [mS_succ]
      exact pay13_at _ _ j μ u hm hu
    · rw [aS_succ]
      refine (pay11_at _ _ j _ μ _ _ i _ u (fun x => W i (krow d x)) hS hm hu (ha i hi) fun x => (vc_at x5 d i x).trans (hW _ _ hi)).trans ?_
      rw [← Finset.sum_range_succ (fun b => ∑ x, W i (krow b x) * (2 : ℝ) ^ (score Q K B (hf j) (qcol t j) (krow b x) - μ)), Finset.sum_mul]
      refine congrArg _ (Finset.sum_congr rfl fun b _ => ?_)
      rw [Finset.sum_mul]
      refine Finset.sum_congr rfl fun x _ => ?_
      rw [mul_assoc, ← Real.rpow_add (by norm_num), ← sub_eq_add_neg, sub_sub]

/-- The attention of query `τ` in map `n` and value row `r`: the mean of the values weighted by `2` to the scores. -/
def att (n : Fin 2) (r : Fin 144) (τ : Fin 8192) : ℝ :=
  (∑ κ, W r κ * (2 : ℝ) ^ score Q K B n τ κ) / ∑ κ, (2 : ℝ) ^ score Q K B n τ κ

theorem sum_pos (n : Fin 2) (τ : Fin 8192) : 0 < ∑ κ, (2 : ℝ) ^ score Q K B n τ κ :=
  Finset.sum_pos (fun κ _ => by positivity) Finset.univ_nonempty

theorem tA_div (hQ : ∀ e x, x2 (ix4 0 0 e x) = (Q e x : EReal)) (hK0 : ∀ κ e, x3 (ix4 0 0 κ e) = (K 0 κ e : EReal))
    (hK1 : ∀ κ e, x4 (ix4 0 0 κ e) = (K 1 κ e : EReal)) (hB : ∀ n i j, x6 (ix4 0 n i j) = (B n i j : EReal))
    (hW : ∀ i κ, i.val ≤ 128 → x5 (ix4 0 0 i κ) = (W i κ : EReal)) (h1 : ∀ κ, W 128 κ = 1) (t : ℕ) (ht : t < 32) (j : Fin 512)
    (r : Fin 144) (hr : r.val ≤ 128) :
    (tA (F := Ideal) x2 x3 x4 x5 x6 t (ix2 r j) : EReal) * Ideal.div 1 (tA (F := Ideal) x2 x3 x4 x5 x6 t (ix2 128 j))
      = (att Q K W B (hf j) r (qcol t j) : EReal) := by
  obtain ⟨μ, -, h⟩ := aS_at x2 x3 x4 x5 x6 Q K W B hQ hK0 hK1 hB hW t ht j 16 le_rfl
  have h' : ∀ i : Fin 144, i.val ≤ 128 → tA (F := Ideal) x2 x3 x4 x5 x6 t (ix2 i j)
        = (((∑ κ, W i κ * (2 : ℝ) ^ score Q K B (hf j) (qcol t j) κ) * (2 : ℝ) ^ (-μ) : ℝ) : EReal) := fun i hi => (h i hi).trans (by
    rw [sum_chunks fun κ => W i κ * (2 : ℝ) ^ (score Q K B (hf j) (qcol t j) κ - μ), shift_div])
  have hs := sum_pos Q K B (hf j) (qcol t j)
  have hp : 0 < (2 : ℝ) ^ (-μ) := by positivity
  rw [h' r hr, h' 128 (le_refl _)]
  simp only [h1, one_mul]
  rw [← EReal.coe_one, div_coe _ (mul_pos hs hp).ne', ← EReal.coe_mul]
  refine congrArg _ ?_
  unfold att
  field_simp

theorem tO_at (hQ : ∀ e x, x2 (ix4 0 0 e x) = (Q e x : EReal)) (hK0 : ∀ κ e, x3 (ix4 0 0 κ e) = (K 0 κ e : EReal))
    (hK1 : ∀ κ e, x4 (ix4 0 0 κ e) = (K 1 κ e : EReal)) (hB : ∀ n i j, x6 (ix4 0 n i j) = (B n i j : EReal))
    (hW : ∀ i κ, i.val ≤ 128 → x5 (ix4 0 0 i κ) = (W i κ : EReal)) (h1 : ∀ κ, W 128 κ = 1) (t : ℕ) (ht : t < 32) (i : Fin 256) (e : Fin 128)
    (τ : Fin 8192) (hτ : τ.val = 256 * t + i.val) :
    (tO (F := Ideal) x2 x3 x4 x5 x6 x7 x8 x9 t (ix3 0 i e) : EReal)
      = nrm (fun e => (att Q K W B 0 ⟨e.val, by omega⟩ τ : EReal) - lam x7 * (att Q K W B 1 ⟨e.val, by omega⟩ τ : EReal)) e (x8 (ix2 e i))
        * x9 (ix3 0 τ e) := by
  have hi := i.isLt
  unfold tO
  rw [fin_at, sgt_at]
  have hs : (⟨256 * (t % 32) + i.val, by omega⟩ : Fin 8192) = τ := Fin.ext (by simp only []; omega)
  refine congrArg₂ (· * ·) (congrArg (fun f => nrm f e (x8 (ix2 e i))) (funext fun e => ?_)) (by rw [hs])
  have c0 : qcol t ⟨i.val, by omega⟩ = τ := Fin.ext (by simp only [qcol]; omega)
  have c1 : qcol t ⟨256 + i.val, by omega⟩ = τ := Fin.ext (by simp only [qcol]; omega)
  have d0 : hf ⟨i.val, by omega⟩ = 0 := Fin.ext (by show i.val / 256 = 0; omega)
  have d1 : hf ⟨256 + i.val, by omega⟩ = 1 := Fin.ext (by show (256 + i.val) / 256 = 1; omega)
  rw [tA_div x2 x3 x4 x5 x6 Q K W B hQ hK0 hK1 hB hW h1 t ht _ _ (by simp only []; omega),
    tA_div x2 x3 x4 x5 x6 Q K W B hQ hK0 hK1 hB hW h1 t ht _ _ (by simp only []; omega), c0, c1, d0, d1]

end Cert.Proof.Dv
end
-- ==== Proof.Dv.Ref.lean ====
module

public import proofs.«01_k».proof.Proof.Gen.Reference4Ideal.Run
public import proofs.«01_k».proof.Proof.Val.Ref
public import proofs.«01_k».proof.Proof.Dv.Tile
public import Idealize.ShloMosaic.Lib.Pointwise

@[expose] public section
set_option maxRecDepth 16384
noncomputable section

/-! The reference, read at an index. -/

namespace Cert.Proof.Dv.Ref
open Cert.Reference4Ideal Cert.Reference4Ideal.Gen
open Idealize.ShloMosaic

/-- The bias tile of each pair of a query tile and a key tile. -/
def ids : IVec S1x32x1x32x1 32 :=
  broadcastInDim S1x32x1x32x1 ![1, 3] bcast_S32x32_S1x32x1x32x1_1_3 (addi (minsi (broadcastInDim S32x32 ![] bcast_S_S32x32 (id (constantI S_ 32 2#32))) (maxsi (broadcastInDim S32x32 ![] bcast_S_S32x32 (id (constantI S_ 32 4294967294#32))) (subi (broadcastInDim S32x32 ![0, 1] bcast_S1x32_S32x32_0_1 (broadcastInDim S1x32 ![1] bcast_S32_S1x32_1 (iotaInDim S32 32 0))) (broadcastInDim S32x32 ![0, 1] bcast_S32x1_S32x32_0_1 (broadcastInDim S32x1 ![0] bcast_S32_S32x1_0 (iotaInDim S32 32 0)))))) (broadcastInDim S32x32 ![] bcast_S_S32x32 (constantI S_ 32 2#32)))
/-- Tile `n` where the pair asks for it, else what the other tiles gave. -/
def pick (i : IVec S1x32x1x32x1 32) (b : FVec Ideal S4x5x256x256 .f32) (n : ℕ) (hn : S4x5x256x256.Slices ![0, n, 0, 0] S4x1x256x256) (z : FVec Ideal S4x32x256x32x256 .f32) :
    FVec Ideal S4x32x256x32x256 .f32 :=
  select (broadcastInDim S4x32x256x32x256 ![0, 1, 2, 3, 4] bcast_S1x32x1x32x1_S4x32x256x32x256_0_1_2_3_4 (cmpi .eq i (broadcastInDim S1x32x1x32x1 ![] bcast_S_S1x32x1x32x1 (constantI S_ 32 (BitVec.ofNat 32 n)))))
    (broadcastInDim S4x32x256x32x256 ![0, 1, 2, 3, 4] bcast_S4x1x256x1x256_S4x32x256x32x256_0_1_2_3_4 (broadcastInDim S4x1x256x1x256 ![0, 2, 4] bcast_S4x256x256_S4x1x256x1x256_0_2_4 (transpose S4x256x256 [0, 2, 1] (shapeCast _ (extractStridedSlice S4x1x256x256 ![0, n, 0, 0] b hn) shapeCasts_S4x1x256x256_S4x256x256) transposes_S4x256x256_S4x256x256_0_2_1))) z
def picks (i : IVec S1x32x1x32x1 32) (b : FVec Ideal S4x5x256x256 .f32) : FVec Ideal S4x32x256x32x256 .f32 :=
  pick i b 4 slices_S4x5x256x256_S4x1x256x256_0_4_0_0 (pick i b 3 slices_S4x5x256x256_S4x1x256x256_0_3_0_0 (pick i b 2 slices_S4x5x256x256_S4x1x256x256_0_2_0_0
    (pick i b 1 slices_S4x5x256x256_S4x1x256x256_0_1_0_0 (pick i b 0 slices_S4x5x256x256_S4x1x256x256_0_0_0_0 (broadcastInDim S4x32x256x32x256 ![] bcast_S_S4x32x256x32x256 (constant S_ .f32 0x00000000#32))))))
def bs (p : FVec Ideal S4x32x256x32x256 .f32) : FVec Ideal S4x8192x8192 .f32 := shapeCast _ p shapeCasts_S4x32x256x32x256_S4x8192x8192

/-- Its scores times `ln 2`, their maxima, its exponentials, its weights, its two maps' difference and its result. -/
def ss (q : FVec Ideal S8x4x128x8192 .bf16) (k : FVec Ideal S8x8x8192x64 .bf16) (z : FVec Ideal S4x8192x8192 .f32) : FVec Ideal S8x4x2x8192x8192 .f32 :=
  mulf (addf (Host.dotGeneral dot_S8x4x2x64x8192_S8x4x2x8192x64_S8x4x2x8192x8192_3_4_4_3_012_012 none (shapeCast _ (extf .f32 q bitsLt_bf16_f32) shapeCasts_S8x4x128x8192_S8x4x2x64x8192) (shapeCast _ (extf .f32 k bitsLt_bf16_f32) shapeCasts_S8x8x8192x64_S8x4x2x8192x64)) (broadcastInDim S8x4x2x8192x8192 ![0, 1, 2, 3, 4] bcast_S1x4x1x8192x8192_S8x4x2x8192x8192_0_1_2_3_4 (broadcastInDim S1x4x1x8192x8192 ![1, 3, 4] bcast_S4x8192x8192_S1x4x1x8192x8192_1_3_4 z))) (broadcastInDim S8x4x2x8192x8192 ![] bcast_S_S8x4x2x8192x8192 (Host.log (constant (F := Ideal) S_ .f32 0x40000000#32)))
def mx (s : FVec Ideal S8x4x2x8192x8192 .f32) : FVec Ideal S8x4x2x8192 .f32 :=
  Host.reduce FloatOps.maximumf s (constant (F := Ideal) S_ .f32 0xFF800000#32) reducesTo_S8x4x2x8192x8192_S8x4x2x8192_d4 h_S_
def es (s : FVec Ideal S8x4x2x8192x8192 .f32) (M : FVec Ideal S8x4x2x8192 .f32) : FVec Ideal S8x4x2x8192x8192 .f32 :=
  Host.exp (subf s (broadcastInDim S8x4x2x8192x8192 ![0, 1, 2, 3, 4] bcast_S8x4x2x8192x1_S8x4x2x8192x8192_0_1_2_3_4 (broadcastInDim S8x4x2x8192x1 ![0, 1, 2, 3] bcast_S8x4x2x8192_S8x4x2x8192x1_0_1_2_3 (maximumf (broadcastInDim S8x4x2x8192 ![] bcast_S_S8x4x2x8192 (constant S_ .f32 0xFF800000#32)) M))))
def ws (e : FVec Ideal S8x4x2x8192x8192 .f32) : FVec Ideal S8x4x2x8192x8192 .f32 :=
  Host.divf e (broadcastInDim S8x4x2x8192x8192 ![0, 1, 2, 3, 4] bcast_S8x4x2x8192x1_S8x4x2x8192x8192_0_1_2_3_4 (broadcastInDim S8x4x2x8192x1 ![0, 1, 2, 3] bcast_S8x4x2x8192_S8x4x2x8192x1_0_1_2_3 (Host.reduceAdd e (constant S_ .f32 0x00000000#32) reducesTo_S8x4x2x8192x8192_S8x4x2x8192_d4 h_S_)))
def lm (l1 l2 l3 l4 : FVec Ideal S64 .f32) : FVec Ideal S_ .f32 :=
  addf (subf (Host.exp (Host.reduceAdd (mulf l1 l2) (constant S_ .f32 0x00000000#32) reducesTo_S64_S_d0 h_S_)) (Host.exp (Host.reduceAdd (mulf l3 l4) (constant S_ .f32 0x00000000#32) reducesTo_S64_S_d0 h_S_))) (constant S_ .f32 0x3E4CCCCD#32)
def os (w : FVec Ideal S8x4x2x8192x8192 .f32) (v : FVec Ideal S8x4x144x8192 .bf16) (y : FVec Ideal S_ .f32) : FVec Ideal S8x8192x4x128 .f32 :=
  transpose S8x8192x4x128 [0, 3, 1, 2] (Host.dotGeneral dot_S8x4x128x8192_S8x4x8192x8192_S8x4x128x8192_3_3_2_2_01_01 none (extf .f32 (extractStridedSlice S8x4x128x8192 ![0, 0, 0, 0] v slices_S8x4x144x8192_S8x4x128x8192_0_0_0_0) bitsLt_bf16_f32) (subf (shapeCast _ (extractStridedSlice S8x4x1x8192x8192 ![0, 0, 0, 0, 0] w slices_S8x4x2x8192x8192_S8x4x1x8192x8192_0_0_0_0_0) shapeCasts_S8x4x1x8192x8192_S8x4x8192x8192) (mulf (broadcastInDim S8x4x8192x8192 ![] bcast_S_S8x4x8192x8192 y) (shapeCast _ (extractStridedSlice S8x4x1x8192x8192 ![0, 0, 1, 0, 0] w slices_S8x4x2x8192x8192_S8x4x1x8192x8192_0_0_1_0_0) shapeCasts_S8x4x1x8192x8192_S8x4x8192x8192)))) transposes_S8x4x128x8192_S8x8192x4x128_0_3_1_2
def rs (o : FVec Ideal S8x8192x4x128 .f32) (g : FVec Ideal S128 .f32) (sg : FVec Ideal S8x8192x512 .bf16) : FVec Ideal S8x8192x512 .bf16 :=
  truncf .bf16 (mulf (shapeCast _ (mulf (mulf (mulf o (broadcastInDim S8x8192x4x128 ![0, 1, 2, 3] bcast_S8x8192x4x1_S8x8192x4x128_0_1_2_3 (Host.rsqrt (addf (Host.divf (broadcastInDim S8x8192x4x1 ![0, 1, 2] bcast_S8x8192x4_S8x8192x4x1_0_1_2 (Host.reduceAdd (mulf o o) (constant S_ .f32 0x00000000#32) reducesTo_S8x8192x4x128_S8x8192x4_d3 h_S_)) (broadcastInDim S8x8192x4x1 ![] bcast_S_S8x8192x4x1 (constant S_ .f32 0x43000000#32))) (broadcastInDim S8x8192x4x1 ![] bcast_S_S8x8192x4x1 (constant S_ .f32 0x358637BD#32)))))) (broadcastInDim S8x8192x4x128 ![0, 1, 2, 3] bcast_S1x1x1x128_S8x8192x4x128_0_1_2_3 (broadcastInDim S1x1x1x128 ![3] bcast_S128_S1x1x1x128_3 g))) (broadcastInDim S8x8192x4x128 ![] bcast_S_S8x8192x4x128 (constant S_ .f32 0x3F4CCCCD#32))) shapeCasts_S8x8192x4x128_S8x8192x512) (extf .f32 sg bitsLt_bf16_f32)) bitsLt_bf16_f32

theorem ids_at (i k : Fin 32) : ids (ix5 0 i 0 k 0) = BitVec.ofNat 32 (min 4 (k.val + 2 - i.val)) := by
  pointwise [ids]
  revert i k
  decide +kernel

theorem pick_at (t : IVec S1x32x1x32x1 32) (b : FVec Ideal S4x5x256x256 .f32) (n : ℕ) (hn : S4x5x256x256.Slices ![0, n, 0, 0] S4x1x256x256) (h5 : n < 5)
    (z : FVec Ideal S4x32x256x32x256 .f32) (h : Fin 4) (i k : Fin 32) (x y : Fin 256) :
    (pick t b n hn z (ix5 h i x k y) : EReal) = if t (ix5 0 i 0 k 0) = BitVec.ofNat 32 n then b (ix4 h ⟨n, h5⟩ y x) else z (ix5 h i x k y) := by
  pointwise [pick]
  by_cases hc : t (ix5 0 i 0 k 0) = BitVec.ofNat 32 n
  · simp [Scalar.select, IntOp.cmpi, hc]
  · simp [Scalar.select, IntOp.cmpi, hc, beq_eq_false_iff_ne.mpr hc]

theorem bs_at (p : FVec Ideal S4x32x256x32x256 .f32) (h : Fin 4) (τ κ : Fin 8192) :
    (bs p (ix3 h τ κ) : EReal) = p (ix5 h ⟨τ.val / 256, by omega⟩ ⟨τ.val % 256, by omega⟩ ⟨κ.val / 256, by omega⟩ ⟨κ.val % 256, by omega⟩) := by
  pointwise [bs]

theorem reduces_keys : S8x4x2x8192x8192.Reduces [(4 : Fin 5)] S8x4x2x8192 := by decide

theorem mx_at (s : FVec Ideal S8x4x2x8192x8192 .f32) (r : S8x4x2x8192x8192.Idx → ℝ) (hs : ∀ i, s i = (r i : EReal)) (j : S8x4x2x8192.Idx) :
    ∃ μ : ℝ, mx s j = (μ : EReal) := by
  unfold mx
  haveI : Nonempty (Fin (S8x4x2x8192x8192.size (4 : Fin 5))) := ⟨(⟨0, by decide⟩ : Fin 8192)⟩
  exact Val.Ref.reduce_max_real s r hs _ _ reduces_keys _ Val.bot_f32 j

variable (q : FVec Ideal S8x4x128x8192 .bf16) (k : FVec Ideal S8x8x8192x64 .bf16) (v : FVec Ideal S8x4x144x8192 .bf16) (z : FVec Ideal S4x8192x8192 .f32)
  (s : FVec Ideal S8x4x2x8192x8192 .f32) (b : Fin 8) (l κ : Fin 8192) (h : Fin 4) (n : Fin 2)

theorem ss_at : (ss q k z (ix5 b h n l κ) : EReal)
    = ((∑ x : Fin 64, (q (ix4 b h ⟨n.val * 64 + x.val, by omega⟩ l) : EReal) * k (ix4 b ⟨h.val * 2 + n.val, by omega⟩ κ x)) + z (ix3 h l κ))
      * Ideal.log (Ideal.ofBits FTy.f32 0x40000000#32) := by
  pointwise [ss]
theorem es_at (M : FVec Ideal S8x4x2x8192 .f32) : (es s M (ix5 b h n l κ) : EReal) = Ideal.exp ((s (ix5 b h n l κ) : EReal) - max (Ideal.ofBits FTy.f32 0xFF800000#32) (M (ix4 b h n l))) := by
  pointwise [es]
theorem ws_at : (ws s (ix5 b h n l κ) : EReal) = Ideal.div (s (ix5 b h n l κ)) (∑ x, (s (ix5 b h n l x) : EReal)) := by
  pointwise [ws]
theorem lm_at (l1 l2 l3 l4 : FVec Ideal S64 .f32) : (lm l1 l2 l3 l4 ix0 : EReal)
    = Ideal.exp (∑ x, (l1 (ix1 x) : EReal) * l2 (ix1 x)) - Ideal.exp (∑ x, (l3 (ix1 x) : EReal) * l4 (ix1 x)) + Ideal.ofBits .f32 0x3E4CCCCD#32 := by
  pointwise [lm]
theorem os_at (y : FVec Ideal S_ .f32) (e : Fin 128) : (os s v y (ix4 b l h e) : EReal)
    = ∑ x, (v (ix4 b h ⟨e.val, by omega⟩ x) : EReal) * ((s (ix5 b h 0 l x) : EReal) - y ix0 * s (ix5 b h 1 l x)) := by
  pointwise [os]
theorem rs_at (o : FVec Ideal S8x8192x4x128 .f32) (g : FVec Ideal S128 .f32) (sg : FVec Ideal S8x8192x512 .bf16) (j : Fin 512) : (rs o g sg (ix3 b l j) : EReal)
    = nrm (fun e => o (ix4 b l ⟨j.val / 128, by omega⟩ e)) ⟨j.val % 128, by omega⟩ (g (ix1 ⟨j.val % 128, by omega⟩)) * sg (ix3 b l j) := by
  unfold nrm
  pointwise [rs]

end Cert.Proof.Dv.Ref
end
-- ==== Proof.Dv.Alg.lean ====
module

public import proofs.«01_k».proof.Proof.Dv.Ref

@[expose] public section
set_option maxRecDepth 16384
noncomputable section

/-! The reference is the difference of the two maps too. -/

namespace Cert.Proof.Dv.Ref
open Cert.Proof.Val (coe_sum two_f32 log_coe exp_coe div_coe bot_f32)
open Cert.Reference4Ideal Cert.Reference4Ideal.Gen
open Idealize.ShloMosaic Idealize.ShloMosaic.StableHlo Idealize.SL.Sem

/-- The reference's result in the pieces read above. -/
def sc (m : (ℓ : Loc nD τ sig) → Buf (Elt Ideal) ℓ) (c : Dev nD) : FVec Ideal S8x4x2x8192x8192 .f32 :=
  ss (m ((c.tc : Thread nD τ).loc main_arg0)) (m ((c.tc : Thread nD τ).loc main_arg1)) (bs (picks ids (m ((c.tc : Thread nD τ).loc main_arg3))))
def res (m : (ℓ : Loc nD τ sig) → Buf (Elt Ideal) ℓ) (c : Dev nD) : FVec Ideal S8x8192x512 .bf16 :=
  rs (os (ws (es (sc m c) (mx (sc m c)))) (m ((c.tc : Thread nD τ).loc main_arg2))
    (lm (m ((c.tc : Thread nD τ).loc main_arg4)) (m ((c.tc : Thread nD τ).loc main_arg5)) (m ((c.tc : Thread nD τ).loc main_arg6)) (m ((c.tc : Thread nD τ).loc main_arg7))))
    (m ((c.tc : Thread nD τ).loc main_arg8)) (m ((c.tc : Thread nD τ).loc main_arg9))

theorem v15_eq (m : (ℓ : Loc nD τ sig) → Buf (Elt Ideal) ℓ) (c : Dev nD) : Value.res_main_v15 (F := Ideal) (launchContents m c) = ids := by
  unfold Value.res_main_v15 ids Value.res_main_v6
  rfl
theorem v59_eq (m : (ℓ : Loc nD τ sig) → Buf (Elt Ideal) ℓ) (c : Dev nD) : Value.res_main_v59 (F := Ideal) (launchContents m c) = sc m c := by
  unfold Value.res_main_v59 sc ss bs picks pick
  rw [v15_eq]
theorem v70_eq (m : (ℓ : Loc nD τ sig) → Buf (Elt Ideal) ℓ) (c : Dev nD) : Value.res_main_v70 (F := Ideal) (launchContents m c) = ws (es (sc m c) (mx (sc m c))) := by
  unfold Value.res_main_v70 Value.res_main_v66 ws es mx
  rw [v59_eq]
theorem v87_eq (m : (ℓ : Loc nD τ sig) → Buf (Elt Ideal) ℓ) (c : Dev nD) : Value.res_main_v87 (F := Ideal) (launchContents m c)
    = os (ws (es (sc m c) (mx (sc m c)))) (m ((c.tc : Thread nD τ).loc main_arg2))
      (lm (m ((c.tc : Thread nD τ).loc main_arg4)) (m ((c.tc : Thread nD τ).loc main_arg5)) (m ((c.tc : Thread nD τ).loc main_arg6)) (m ((c.tc : Thread nD τ).loc main_arg7))) := by
  unfold Value.res_main_v87 os lm
  rw [v70_eq]

variable (q : FVec Ideal S8x4x128x8192 .bf16) (k : FVec Ideal S8x8x8192x64 .bf16) (v : FVec Ideal S8x4x144x8192 .bf16) (bt : FVec Ideal S4x5x256x256 .f32)
  (Q : Fin 8 → Fin 4 → Fin 128 → Fin 8192 → ℝ) (K : Fin 8 → Fin 8 → Fin 8192 → Fin 64 → ℝ) (W : Fin 8 → Fin 4 → Fin 144 → Fin 8192 → ℝ)
  (B : Fin 4 → Fin 5 → Fin 256 → Fin 256 → ℝ)

/-- The keys of the two maps of head `h`. -/
def kk (b : Fin 8) (h : Fin 4) (n : Fin 2) : Fin 8192 → Fin 64 → ℝ := K b ⟨h.val * 2 + n.val, by omega⟩

/-- The bias of query `τ` and key `κ` is the entry of the pair's tile. -/
theorem picks_at (h : Fin 4) (τ κ : Fin 8192) :
    (bs (picks ids bt) (ix3 h τ κ) : EReal) = bt (ix4 h (tile τ κ) ⟨κ.val % 256, by omega⟩ ⟨τ.val % 256, by omega⟩) := by
  have hi := ids_at ⟨τ.val / 256, by omega⟩ ⟨κ.val / 256, by omega⟩
  have ht : (tile τ κ).val = min 4 (κ.val / 256 + 2 - τ.val / 256) := rfl
  simp only [] at hi
  rw [← ht] at hi
  rw [bs_at]
  unfold picks
  rw [pick_at _ _ _ _ (by norm_num), pick_at _ _ _ _ (by norm_num), pick_at _ _ _ _ (by norm_num), pick_at _ _ _ _ (by norm_num), pick_at _ _ _ _ (by norm_num), hi]
  generalize tile τ κ = n
  fin_cases n <;> rfl

variable (hQ : ∀ b h e x, q (ix4 b h e x) = (Q b h e x : EReal)) (hK : ∀ b g κ e, k (ix4 b g κ e) = (K b g κ e : EReal))
  (hB : ∀ h n i j, bt (ix4 h n i j) = (B h n i j : EReal))
include hQ hK hB

theorem ss_real (b : Fin 8) (l κ : Fin 8192) (h : Fin 4) (n : Fin 2) :
    (ss q k (bs (picks ids bt)) (ix5 b h n l κ) : EReal) = ((score (Q b h) (kk K b h) (B h) n l κ * Real.log 2 : ℝ) : EReal) := by
  rw [ss_at, two_f32, log_coe (by norm_num), EReal.coe_mul, picks_at, hB]
  refine congrArg₂ (· * ·) ?_ rfl
  unfold score
  rw [EReal.coe_add, ← coe_sum]
  refine congrArg₂ (· + ·) (Finset.sum_congr rfl fun e _ => ?_) rfl
  rw [hK, hQ, mul_comm, EReal.coe_mul]
  refine congrArg₂ (· * ·) rfl (congrArg _ (congrArg (fun i => Q b h i l) (Fin.ext ?_)))
  show n.val * 64 + e.val = 64 * n.val + e.val
  omega

theorem es_real (M : FVec Ideal S8x4x2x8192 .f32) (b : Fin 8) (l : Fin 8192) (h : Fin 4) (n : Fin 2) (μ : ℝ) (hM : M (ix4 b h n l) = (μ : EReal)) (κ : Fin 8192) :
    (es (ss q k (bs (picks ids bt))) M (ix5 b h n l κ) : EReal) = (((2 : ℝ) ^ score (Q b h) (kk K b h) (B h) n l κ * Real.exp (-μ) : ℝ) : EReal) := by
  rw [es_at, ss_real q k bt Q K B hQ hK hB, hM, bot_f32, max_eq_right bot_le, ← EReal.coe_sub, exp_coe]
  refine congrArg _ ?_
  rw [sub_eq_add_neg, Real.exp_add, Real.rpow_def_of_pos (by norm_num), mul_comm (Real.log 2)]

theorem ws_real (b : Fin 8) (l κ : Fin 8192) (h : Fin 4) (n : Fin 2) :
    (ws (es (ss q k (bs (picks ids bt))) (mx (ss q k (bs (picks ids bt))))) (ix5 b h n l κ) : EReal)
      = (((2 : ℝ) ^ score (Q b h) (kk K b h) (B h) n l κ / ∑ κ, (2 : ℝ) ^ score (Q b h) (kk K b h) (B h) n l κ : ℝ) : EReal) := by
  obtain ⟨μ, hμ⟩ := mx_at (ss q k (bs (picks ids bt))) (fun i => (ss q k (bs (picks ids bt)) i : EReal).toReal) (fun i => by
    idx_vars i
    rw [ss_real q k bt Q K B hQ hK hB, EReal.toReal_coe]) (ix4 b h n l)
  have he := es_real q k bt Q K B hQ hK hB (mx (ss q k (bs (picks ids bt)))) b l h n μ hμ
  have hs := sum_pos (Q b h) (kk K b h) (B h) n l
  have hp := Real.exp_pos (-μ)
  rw [ws_at, he, Finset.sum_congr rfl fun κ _ => he κ, coe_sum, ← Finset.sum_mul, div_coe _ (mul_pos hs hp).ne']
  refine congrArg _ ?_
  rw [mul_div_mul_right _ _ hp.ne']

theorem os_real (hW : ∀ b h i κ, i.val ≤ 128 → v (ix4 b h i κ) = (W b h i κ : EReal)) (y : FVec Ideal S_ .f32) (Λ : ℝ) (hy : y ix0 = (Λ : EReal))
    (b : Fin 8) (l : Fin 8192) (h : Fin 4) (e : Fin 128) :
    (os (ws (es (ss q k (bs (picks ids bt))) (mx (ss q k (bs (picks ids bt)))))) v y (ix4 b l h e) : EReal)
      = (att (Q b h) (kk K b h) (W b h) (B h) 0 ⟨e.val, by omega⟩ l : EReal) - (Λ : EReal) * (att (Q b h) (kk K b h) (W b h) (B h) 1 ⟨e.val, by omega⟩ l : EReal) := by
  rw [os_at, ← EReal.coe_mul, ← EReal.coe_sub]
  unfold att
  rw [Finset.sum_div, Finset.sum_div, Finset.mul_sum, ← Finset.sum_sub_distrib, ← coe_sum]
  refine Finset.sum_congr rfl fun κ _ => ?_
  rw [ws_real q k bt Q K B hQ hK hB, ws_real q k bt Q K B hQ hK hB, hW _ _ _ _ (by show e.val ≤ 128; omega), hy, ← EReal.coe_mul, ← EReal.coe_sub, ← EReal.coe_mul]
  refine congrArg _ ?_
  ring

end Cert.Proof.Dv.Ref
end
-- ==== Proof.Dv.Out.lean ====
module

public import proofs.«01_k».proof.Proof.DI.Run
public import proofs.«01_k».proof.Proof.Dv.Alg
public import Idealize.ShloMosaic.Lib.Pipeline.ValueKit
public import Idealize.ShloMosaic.Lib.Pipeline.ValueKit.Acc
public import Idealize.ShloMosaic.Lib.StableHlo.ReadAt
public import Idealize.ShloMosaic.Lib.Pointwise

@[expose] public section
set_option maxRecDepth 16384
noncomputable section

/-! The result array after the launch. -/

namespace Cert.Proof.Dv
open Cert.Proof.Kernel4Ideal Cert.Kernel4Ideal Cert.Kernel4Ideal.Gen
open Idealize.ShloMosaic Idealize.ShloMosaic.TcCoe

variable (m : (ℓ : Loc nD τ sig) → Buf (Elt Ideal) ℓ) (c : Dev nD)

/-- The four vectors stacked as rows, and the gain spread over the columns. -/
theorem V4 (x : Fin 64) : (V m c main_v4 (ix2 0 x) : EReal) = m ((c.tc : Thread nD τ).loc main_arg4) (ix1 x)
    ∧ (V m c main_v4 (ix2 1 x) : EReal) = m ((c.tc : Thread nD τ).loc main_arg5) (ix1 x)
    ∧ (V m c main_v4 (ix2 2 x) : EReal) = m ((c.tc : Thread nD τ).loc main_arg6) (ix1 x)
    ∧ (V m c main_v4 (ix2 3 x) : EReal) = m ((c.tc : Thread nD τ).loc main_arg7) (ix1 x) := by
  unfold V
  refine ⟨?_, ?_, ?_, ?_⟩ <;> after_reads_at <;> rw [StableHlo.unary_result'] <;> pointwise
  · exact congrFun (StableHlo.upto_unwritten [] rfl (by decide) _) _
  · exact congrFun (StableHlo.upto_unwritten [main_v0] rfl (by decide) _) _
  · exact congrFun (StableHlo.upto_unwritten [main_v0, main_v1] rfl (by decide) _) _
  · exact congrFun (StableHlo.upto_unwritten [main_v0, main_v1, main_v2] rfl (by decide) _) _
theorem V6 (e : Fin 128) (i : Fin 256) : (V m c main_v6 (ix2 e i) : EReal) = m ((c.tc : Thread nD τ).loc main_arg8) (ix1 e) := by
  unfold V
  after_reads_at

/-- The blocks of a grid point: its batch row and its head. -/
theorem idx : ∀ t : Fin grid0.N, win0_0.index t = ![(grid0.coords t 0).val, (grid0.coords t 1).val, 0, 0]
    ∧ win0_1.index t = ![(grid0.coords t 0).val, 2 * (grid0.coords t 1).val, 0, 0] ∧ win0_2.index t = ![(grid0.coords t 0).val, 2 * (grid0.coords t 1).val + 1, 0, 0]
    ∧ win0_3.index t = ![(grid0.coords t 0).val, (grid0.coords t 1).val, 0, 0] ∧ win0_4.index t = ![(grid0.coords t 1).val, 0, 0, 0]
    ∧ win0_5.index t = ![0, 0] ∧ win0_6.index t = ![0, 0]
    ∧ win0_7.index t = ![(grid0.coords t 0).val, 0, (grid0.coords t 1).val] ∧ win0_8.index t = ![(grid0.coords t 0).val, 0, (grid0.coords t 1).val] := by
  decide +kernel

def pb (t : Fin cfg0.N) : Fin 8 := ⟨(grid0.coords t 0).val, (grid0.coords t 0).isLt⟩
def ph (t : Fin cfg0.N) : Fin 4 := ⟨(grid0.coords t 1).val, (grid0.coords t 1).isLt⟩

theorem blk0 (t : Fin cfg0.N) (e : Fin 128) (x : Fin 8192) : (iblk m c 0 t (ix4 0 0 e x) : EReal) = m ((c.tc : Thread nD τ).loc main_arg0) (ix4 (pb t) (ph t) e x) := by
  have h := (idx t).1
  refine Eq.trans ?_ (congrFun (V_main_arg0 m c) _)
  blk_ext [iblk, h, pb, ph]
theorem blk1 (t : Fin cfg0.N) (κ : Fin 8192) (e : Fin 64) : (iblk m c 1 t (ix4 0 0 κ e) : EReal)
    = m ((c.tc : Thread nD τ).loc main_arg1) (ix4 (pb t) ⟨(ph t).val * 2 + 0, by have := (ph t).isLt; omega⟩ κ e) := by
  have h := (idx t).2.1
  refine Eq.trans ?_ (congrFun (V_main_arg1 m c) _)
  blk_ext [iblk, h, pb, ph]
theorem blk2 (t : Fin cfg0.N) (κ : Fin 8192) (e : Fin 64) : (iblk m c 2 t (ix4 0 0 κ e) : EReal)
    = m ((c.tc : Thread nD τ).loc main_arg1) (ix4 (pb t) ⟨(ph t).val * 2 + 1, by have := (ph t).isLt; omega⟩ κ e) := by
  have h := (idx t).2.2.1
  refine Eq.trans ?_ (congrFun (V_main_arg1 m c) _)
  blk_ext [iblk, h, pb, ph]
theorem blk3 (t : Fin cfg0.N) (i : Fin 144) (κ : Fin 8192) : (iblk m c 3 t (ix4 0 0 i κ) : EReal) = m ((c.tc : Thread nD τ).loc main_arg2) (ix4 (pb t) (ph t) i κ) := by
  have h := (idx t).2.2.2.1
  refine Eq.trans ?_ (congrFun (V_main_arg2 m c) _)
  blk_ext [iblk, h, pb, ph]
theorem blk4 (t : Fin cfg0.N) (n : Fin 5) (i j : Fin 256) : (iblk m c 4 t (ix4 0 n i j) : EReal) = m ((c.tc : Thread nD τ).loc main_arg3) (ix4 (ph t) n i j) := by
  have h := (idx t).2.2.2.2.1
  refine Eq.trans ?_ (congrFun (V_main_arg3 m c) _)
  blk_ext [iblk, h, ph]
theorem blk5 (t : Fin cfg0.N) (i : Fin 4) (x : Fin 64) : (iblk m c 5 t (ix2 i x) : EReal) = V m c main_v4 (ix2 i x) := by
  have h := (idx t).2.2.2.2.2.1
  blk_ext [iblk, h]
theorem blk6 (t : Fin cfg0.N) (e : Fin 128) (i : Fin 256) : (iblk m c 6 t (ix2 e i) : EReal) = m ((c.tc : Thread nD τ).loc main_arg8) (ix1 e) := by
  have h := (idx t).2.2.2.2.2.2.1
  refine Eq.trans ?_ (V6 m c e i)
  blk_ext [iblk, h]
theorem blk7 (t : Fin cfg0.N) (l : Fin 8192) (j : Fin 128) : (iblk m c 7 t (ix3 0 l j) : EReal)
    = m ((c.tc : Thread nD τ).loc main_arg9) (ix3 (pb t) l ⟨128 * (ph t).val + j.val, by have := (ph t).isLt; omega⟩) := by
  have h := (idx t).2.2.2.2.2.2.2.1
  refine Eq.trans ?_ (congrFun (V_main_arg9 m c) _)
  blk_ext [iblk, h, pb, ph]

theorem emb8 (t : Fin cfg0.N) (l : Fin 8192) (j : Fin 128) : (win0_8.blk t).view.emb (ix3 0 l j)
    = (ix3 (pb t) l ⟨128 * (ph t).val + j.val, by have := (ph t).isLt; omega⟩ : S8x8192x512.Idx) := by
  have h := (idx t).2.2.2.2.2.2.2.2
  blk_ext [h, pb, ph]

/-- The weight of the second map, from the arguments. -/
theorem lam_blk (t : Fin cfg0.N) : lam (iblk m c 5 t) = Ref.lm (m ((c.tc : Thread nD τ).loc main_arg4)) (m ((c.tc : Thread nD τ).loc main_arg5))
    (m ((c.tc : Thread nD τ).loc main_arg6)) (m ((c.tc : Thread nD τ).loc main_arg7)) ix0 := by
  unfold lam
  rw [Ref.lm_at]
  refine congrArg₂ (· + ·) (congrArg₂ (· - ·) (congrArg _ (Finset.sum_congr rfl fun x _ => ?_)) (congrArg _ (Finset.sum_congr rfl fun x _ => ?_))) rfl
  · exact congrArg₂ (· * ·) ((blk5 m c t 0 x).trans (V4 m c x).1) ((blk5 m c t 1 x).trans (V4 m c x).2.1)
  · exact congrArg₂ (· * ·) ((blk5 m c t 2 x).trans (V4 m c x).2.2.1) ((blk5 m c t 3 x).trans (V4 m c x).2.2.2)

/-- Row by row the output block is its tiles. -/
theorem oBlk_at (x2 : FVec Ideal S1x1x128x8192 .bf16) (x3 x4 : FVec Ideal S1x1x8192x64 .bf16) (x5 : FVec Ideal S1x1x144x8192 .bf16)
    (x6 : FVec Ideal S1x5x256x256 .f32) (x7 : FVec Ideal S4x64 .f32) (x8 : FVec Ideal S128x256 .f32) (x9 : FVec Ideal S1x8192x128 .bf16) (l : Fin 8192) (j : Fin 128) :
    oBlk (F := Ideal) x2 x3 x4 x5 x6 x7 x8 x9 (ix3 0 l j) = tO (F := Ideal) x2 x3 x4 x5 x6 x7 x8 x9 (l.val / 256) (ix3 0 ⟨l.val % 256, by omega⟩ j) := by
  unfold oBlk
  refine congrArg _ (funext fun a => Fin.ext ?_)
  fin_cases a <;> rfl

/-- The array holds the gated, normed difference of the two maps. -/
theorem out_eq (Q : Fin 8 → Fin 4 → Fin 128 → Fin 8192 → ℝ) (K : Fin 8 → Fin 8 → Fin 8192 → Fin 64 → ℝ) (W : Fin 8 → Fin 4 → Fin 144 → Fin 8192 → ℝ)
    (B : Fin 4 → Fin 5 → Fin 256 → Fin 256 → ℝ)
    (hQ : ∀ b h e x, m ((c.tc : Thread nD τ).loc main_arg0) (ix4 b h e x) = (Q b h e x : EReal))
    (hK : ∀ b g κ e, m ((c.tc : Thread nD τ).loc main_arg1) (ix4 b g κ e) = (K b g κ e : EReal))
    (hW : ∀ b h i κ, i.val ≤ 128 → m ((c.tc : Thread nD τ).loc main_arg2) (ix4 b h i κ) = (W b h i κ : EReal)) (h1 : ∀ b h κ, W b h 128 κ = 1)
    (hB : ∀ h n i j, m ((c.tc : Thread nD τ).loc main_arg3) (ix4 h n i j) = (B h n i j : EReal))
    (G : Buf (Elt Ideal) ((c.tc : Thread nD τ).loc main_v7_0))
    (hG : ∀ (b : Fin 8) (l : Fin 8192) (h : Fin 4) (e : Fin 128), G (ix3 b l ⟨128 * h.val + e.val, by omega⟩)
      = nrm (fun e => (att (Q b h) (Ref.kk K b h) (W b h) (B h) 0 ⟨e.val, by omega⟩ l : EReal)
          - Ref.lm (m ((c.tc : Thread nD τ).loc main_arg4)) (m ((c.tc : Thread nD τ).loc main_arg5)) (m ((c.tc : Thread nD τ).loc main_arg6)) (m ((c.tc : Thread nD τ).loc main_arg7)) ix0
            * (att (Q b h) (Ref.kk K b h) (W b h) (B h) 1 ⟨e.val, by omega⟩ l : EReal)) e (m ((c.tc : Thread nD τ).loc main_arg8) (ix1 e))
        * m ((c.tc : Thread nD τ).loc main_arg9) (ix3 b l ⟨128 * h.val + e.val, by omega⟩)) :
    (dats m 0 c).arrAt 8 cfg0.N = G := by
  refine (dats m 0 c).arrAt_eq_of_covers 8 _ (by decide +kernel) fun t hf y => ?_
  blk_simp
  rw [after0_8]
  obtain ⟨l, j, rfl⟩ : ∃ (l : Fin 8192) (j : Fin 128), y = ix3 0 l j := ⟨y 1, y 2, by
    funext a
    have h0 : (y 0).val < 1 := (y 0).isLt
    refine Fin.ext ?_
    fin_cases a
    · show (y 0).val = 0
      omega
    · rfl
    · rfl⟩
  have hl := l.isLt
  refine (oBlk_at _ _ _ _ _ _ _ _ l j).trans ((tO_at _ _ _ _ _ _ _ _ (Q (pb t) (ph t)) (Ref.kk K (pb t) (ph t)) (W (pb t) (ph t)) (B (ph t))
    (fun e x => (blk0 m c t e x).trans (hQ _ _ _ _)) (fun κ e => (blk1 m c t κ e).trans (hK _ _ _ _)) (fun κ e => (blk2 m c t κ e).trans (hK _ _ _ _))
    (fun n i j => (blk4 m c t n i j).trans (hB _ _ _ _)) (fun i κ hi => (blk3 m c t i κ).trans (hW _ _ _ _ hi)) (h1 _ _) _ (by omega) _ j l
    (by show l.val = 256 * (l.val / 256) + l.val % 256; omega)).trans ?_)
  rw [emb8, hG, blk6, blk7, lam_blk]

end Cert.Proof.Dv
end
-- ==== Proof.Dv.Pre.lean ====
module

public import proofs.«01_k».proof.Pre_pre4
public import proofs.«01_k».proof.Proof.Val.Pre

@[expose] public section
set_option maxRecDepth 16384
noncomputable section

/-! What the precondition says of the arguments: queries, keys, the 128 value rows, the bias tiles and the four
vectors behind the second map's weight are real, and value row 128 is all ones. -/

namespace Cert.Proof.Dv.Pre
open Cert.Proof.Val.Pre (andi_at real_of_all one_of_all lt_of_cmp)
open Cert.Pre_pre4
open Idealize.ShloMosaic

instance facts : Cert.Pre_pre4.Facts where
  bitsLt_bf16_f32 := by decide
  bcast_S_S8x4x128x8192 := by decide
  reducesTo_S8x4x128x8192_S_d0_1_2_3 := by decide
  h_S_ := by decide
  bcast_S_S8x8x8192x64 := by decide
  reducesTo_S8x8x8192x64_S_d0_1_2_3 := by decide
  slices_S8x4x144x8192_S8x4x128x8192_0_0_0_0 := by decide
  slices_S8x4x144x8192_S8x4x1x8192_0_0_128_0 := by decide
  shapeCasts_S8x4x1x8192_S8x4x8192 := by decide
  bcast_S_S8x4x8192 := by decide
  reducesTo_S8x4x8192_S_d0_1_2 := by decide
  bcast_S_S4x5x256x256 := by decide
  reducesTo_S4x5x256x256_S_d0_1_2_3 := by decide
  bcast_S_S64 := by decide
  reducesTo_S64_S_d0 := by decide

open Cert.Pre_pre4.Facts

/-- The same of an array that comes in 32 bits. -/
theorem real_of_all' {s : Shape} (x : FVec Ideal s .f32) (hb : S_.BroadcastsInDim s (![] : Fin 0 → Fin s.rank))
    (a : List (Fin s.rank)) (hr : s.ReducesTo a S_) (hu : 0 < S_.numel)
    (h : Host.reduce IntOp.andi (cmpf .olt (Host.absf x) (broadcastInDim s ![] hb (constant (F := Ideal) S_ .f32 0x7F800000#32))) (constantI S_ 1 1#1) hr hu = fun _ => 1#1)
    (i : s.Idx) : (x i : EReal) = ((x i : EReal).toReal : EReal) := by
  haveI : Subsingleton S_.Idx := ⟨fun a b => funext fun k => k.elim0⟩
  have h1 := Host.reduce_andi_all _ _ hr hu ix0 (congrFun h ix0) i
  refine Val.real_of_abs_lt_top ?_
  rw [← Val.top_f32]
  exact lt_of_cmp h1

theorem decode (q : FVec Ideal S8x4x128x8192 .bf16) (k : FVec Ideal S8x8x8192x64 .bf16) (v : FVec Ideal S8x4x144x8192 .bf16) (bt : FVec Ideal S4x5x256x256 .f32)
    (l1 l2 l3 l4 : FVec Ideal S64 .f32) (g : FVec Ideal S128 .f32) (sg : FVec Ideal S8x8192x512 .bf16)
    (h : Cert.Pre_pre4.fn (F := Ideal) q k v bt l1 l2 l3 l4 g sg = fun _ => 1#1) :
    (∀ i, (q i : EReal) = ((q i : EReal).toReal : EReal)) ∧ (∀ i, (k i : EReal) = ((k i : EReal).toReal : EReal))
      ∧ (∀ b h (i : Fin 144) κ, i.val < 128 → (v (ix4 b h i κ) : EReal) = ((v (ix4 b h i κ) : EReal).toReal : EReal))
      ∧ (∀ b h κ, (v (ix4 b h 128 κ) : EReal) = 1) ∧ (∀ i, (bt i : EReal) = ((bt i : EReal).toReal : EReal))
      ∧ (∀ i, (l1 i : EReal) = ((l1 i : EReal).toReal : EReal)) ∧ (∀ i, (l2 i : EReal) = ((l2 i : EReal).toReal : EReal))
      ∧ (∀ i, (l3 i : EReal) = ((l3 i : EReal).toReal : EReal)) ∧ ∀ i, (l4 i : EReal) = ((l4 i : EReal).toReal : EReal) := by
  unfold Cert.Pre_pre4.fn Cert.Pre_pre4.fn_part1 Cert.Pre_pre4.fn_part2 at h
  obtain ⟨h, h9⟩ := andi_at _ _ h
  obtain ⟨h, h8⟩ := andi_at _ _ h
  obtain ⟨h, h7⟩ := andi_at _ _ h
  obtain ⟨h, h6⟩ := andi_at _ _ h
  obtain ⟨h, h5⟩ := andi_at _ _ h
  obtain ⟨h, h4⟩ := andi_at _ _ h
  obtain ⟨h, h3⟩ := andi_at _ _ h
  obtain ⟨h1, h2⟩ := andi_at _ _ h
  refine ⟨real_of_all q _ _ _ _ _ h1, real_of_all k _ _ _ _ _ h2, fun b h i κ hi => ?_, fun b h κ => ?_, real_of_all' bt _ _ _ _ h5,
    real_of_all' l1 _ _ _ _ h6, real_of_all' l2 _ _ _ _ h7, real_of_all' l3 _ _ _ _ h8, real_of_all' l4 _ _ _ _ h9⟩
  · have e := real_of_all _ _ _ _ _ _ h3 (ix4 b h ⟨i.val, hi⟩ κ)
    pointwise at e
    exact e
  · have e := one_of_all _ _ _ _ _ _ h4 (ix3 b h κ)
    pointwise at e
    exact e

end Cert.Proof.Dv.Pre
end
-- ==== Proof.Dv.Claim.lean ====
module

public import proofs.«01_k».proof.Defs
public import proofs.«01_k».proof.Proof.Dv.Out
public import proofs.«01_k».proof.Proof.Dv.Pre
public import Idealize.ShloMosaic.Adequacy
public import Idealize.ShloMosaic.Init

@[expose] public section
set_option maxRecDepth 16384
noncomputable section

/-! The claims on the differential attention's values. -/

namespace Cert.Proof.Dv
open Idealize.ShloMosaic Idealize.ShloMosaic.StableHlo Idealize.SL.Sem

/-- The one rewritten constant, 1/ln 2, is its rounded word over the machine's floats. -/
theorem preserves : Cert.preserves_Kernel4_Kernel4Ideal :=
  IdealRules.named_const.statement Cert.Kernel4Ideal.κ "inv_ln2" .f32 0x3FB8AA3B#32 (((Real.log 2)⁻¹ : ℝ) : EReal) rfl

/-- The reference runs, keeps its arguments, and has no counters. -/
theorem frame_reference : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run (F := Ideal) m ρ)

theorem lam_word : ∃ r : ℝ, Ideal.ofBits .f32 0x3E4CCCCD#32 = (r : EReal) :=
  ⟨13421773 / 67108864, by simp [Ideal.ofBits, Ideal.ieee, -EReal.coe_mul]; norm_num⟩

/-- The second map's weight is real when the four vectors are. -/
theorem lm_real (l1 l2 l3 l4 : FVec Ideal Cert.Reference4Ideal.S64 .f32) (h1 : ∀ i, (l1 i : EReal) = ((l1 i : EReal).toReal : EReal))
    (h2 : ∀ i, (l2 i : EReal) = ((l2 i : EReal).toReal : EReal)) (h3 : ∀ i, (l3 i : EReal) = ((l3 i : EReal).toReal : EReal))
    (h4 : ∀ i, (l4 i : EReal) = ((l4 i : EReal).toReal : EReal)) : ∃ r : ℝ, (Ref.lm l1 l2 l3 l4 ix0 : EReal) = (r : EReal) := by
  obtain ⟨w, hw⟩ := lam_word
  have key : ∀ (a b : FVec Ideal Cert.Reference4Ideal.S64 .f32), (∀ i, (a i : EReal) = ((a i : EReal).toReal : EReal)) → (∀ i, (b i : EReal) = ((b i : EReal).toReal : EReal)) →
      ∃ r : ℝ, Ideal.exp (∑ x, (a (ix1 x) : EReal) * b (ix1 x)) = (r : EReal) := fun a b ha hb => by
    refine ⟨Real.exp (∑ x, (a (ix1 x) : EReal).toReal * (b (ix1 x) : EReal).toReal), ?_⟩
    rw [← Val.exp_coe, ← Val.coe_sum]
    refine congrArg _ (Finset.sum_congr rfl fun x _ => ?_)
    rw [EReal.coe_mul, ← ha, ← hb]
  obtain ⟨r, hr⟩ := key l1 l2 h1 h2
  obtain ⟨r', hr'⟩ := key l3 l4 h3 h4
  refine ⟨r - r' + w, ?_⟩
  rw [Ref.lm_at, hr, hr', hw, EReal.coe_add, EReal.coe_sub]

/-- Call and reference both leave the gated, normed difference of the two maps. -/
theorem algebraic : Cert.algebraic_Kernel4Ideal_Reference4Ideal_pre_pre4 (hPre_pre4 := Pre.facts) := by
  intro m ρ m' ρ' hpre hagree
  have key : ∀ c : Dev Cert.Kernel4Ideal.nD, (Kernel4Ideal.dats m 0 c).arrAt 8 Cert.Kernel4Ideal.cfg0.N = Ref.res m' c := by
    intro c
    obtain ⟨hq, hk, hv, h1, hb, hl1, hl2, hl3, hl4⟩ := Pre.decode _ _ _ _ _ _ _ _ _ _ (hpre c)
    obtain ⟨e0, e1, e2, e3, e4, e5, e6, e7, e8, e9⟩ := hagree c
    obtain ⟨Λ, hΛ⟩ := lm_real _ _ _ _ hl1 hl2 hl3 hl4
    have hW : ∀ b h (i : Fin 144) κ, i.val ≤ 128 → (m ((c.tc : Thread Cert.Kernel4Ideal.nD Cert.Kernel4Ideal.τ).loc Cert.Kernel4Ideal.main_arg2) (ix4 b h i κ) : EReal)
        = ((m ((c.tc : Thread Cert.Kernel4Ideal.nD Cert.Kernel4Ideal.τ).loc Cert.Kernel4Ideal.main_arg2) (ix4 b h i κ) : EReal).toReal : EReal) := fun b h i κ hi => by
      rcases Nat.lt_or_eq_of_le hi with hlt | heq
      · exact hv b h i κ hlt
      · obtain rfl : i = 128 := Fin.ext heq
        rw [h1, EReal.toReal_one, EReal.coe_one]
    refine out_eq m c (fun b h e x => (m ((c.tc : Thread Cert.Kernel4Ideal.nD Cert.Kernel4Ideal.τ).loc Cert.Kernel4Ideal.main_arg0) (ix4 b h e x) : EReal).toReal)
      (fun b g κ e => (m ((c.tc : Thread Cert.Kernel4Ideal.nD Cert.Kernel4Ideal.τ).loc Cert.Kernel4Ideal.main_arg1) (ix4 b g κ e) : EReal).toReal)
      (fun b h i κ => (m ((c.tc : Thread Cert.Kernel4Ideal.nD Cert.Kernel4Ideal.τ).loc Cert.Kernel4Ideal.main_arg2) (ix4 b h i κ) : EReal).toReal)
      (fun h n i j => (m ((c.tc : Thread Cert.Kernel4Ideal.nD Cert.Kernel4Ideal.τ).loc Cert.Kernel4Ideal.main_arg3) (ix4 h n i j) : EReal).toReal)
      (fun b h e x => hq _) (fun b g κ e => hk _) hW (fun b h κ => ?_) (fun h n i j => hb _) _ fun b l h e => ?_
    · rw [h1, EReal.toReal_one]
    · have he := e.isLt
      have hh := h.isLt
      have d1 : (⟨(128 * h.val + e.val) / 128, by omega⟩ : Fin 4) = h := Fin.ext (by simp only []; omega)
      have d2 : (⟨(128 * h.val + e.val) % 128, by omega⟩ : Fin 128) = e := Fin.ext (by simp only []; omega)
      unfold Ref.res Ref.sc
      rw [e0, e1, e2, e3, e4, e5, e6, e7, e8, e9, Ref.rs_at, d1, d2]
      refine congrArg₂ (· * ·) (congrArg (fun f => nrm f e _) (funext fun e => ?_)) rfl
      rw [hΛ]
      exact Ref.os_real _ _ _ _ _ _ _ _ (fun b h e x => hq _) (fun b g κ e => hk _) (fun h n i j => hb _) hW _ Λ hΛ b l h e
  refine ⟨_, (θ_run Cert.Kernel4Ideal.defs _ _).mono (fun r h c => ⟨((h.1 c).1 8).trans (key c), h.2.1 c⟩)
    (θ_run_and (Kernel4Ideal.run_main m ρ) (Kernel4Ideal.frame m ρ)),
    (θ_run Cert.Reference4Ideal.defs _ _).mono (fun r h c => ⟨(h c).1.trans ?_, (h c).2⟩) (Cert.Reference4Ideal.Value.run (F := Ideal) m' ρ')⟩
  rw [Ref.v87_eq]
  rfl

end Cert.Proof.Dv
end
-- ==== Proof.lean ====
module

public import proofs.«01_k».proof.Defs
public import proofs.«01_k».proof.Proof.K.Run
public import proofs.«01_k».proof.Proof.KI.Run
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Loops
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Loops
public import proofs.«01_k».proof.Proof.Gen.Kernel4Ideal.Frame
public import proofs.«01_k».proof.Proof.Gen.Reference4Ideal
public import proofs.«01_k».proof.Proof.Gen.Reference4Ideal.Run
public import proofs.«01_k».proof.Proof.Val.Out
public import proofs.«01_k».proof.Proof.Val.Alg
public import proofs.«01_k».proof.Proof.Val.Pre
public import proofs.«01_k».proof.Proof.Merge.Claim
public import proofs.«01_k».proof.Proof.In.Claim
public import proofs.«01_k».proof.Proof.D.Run
public import proofs.«01_k».proof.Proof.DI.Run
public import proofs.«01_k».proof.Proof.Dv.Claim
public import Idealize.ShloMosaic.Adequacy
public import Idealize.ShloMosaic.Init

@[expose] public section

set_option maxRecDepth 16384

noncomputable section

namespace Cert.Proof

open Idealize.ShloMosaic Idealize.SL.Sem Cert.Kernel

/-- The kernel's one rewritten constant, 1/ln 2, is its rounded word over the machine's floats. -/
theorem preserves : Cert.preserves_Kernel_KernelIdeal :=
  IdealRules.named_const.statement Cert.KernelIdeal.κ "inv_ln2" .f32 0x3FB8AA3B#32 (((Real.log 2)⁻¹ : ℝ) : EReal) rfl

/-- The reference runs, keeps its arguments, and has no counters. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The kernel's result and the reference's are both the gated attention, element by element. -/
theorem algebraic : Cert.algebraic_KernelIdeal_ReferenceIdeal_pre_pre (hPre_pre := Val.Pre.facts) := by
  intro m ρ m' ρ' hpre hagree
  have hd := fun c : Dev Cert.KernelIdeal.nD => Val.Pre.decode _ _ _ _ (hpre c)
  have key : ∀ c : Dev Cert.KernelIdeal.nD, (KernelIdeal.dats m 0 c).arrAt 4 Cert.KernelIdeal.cfg0.N = Cert.ReferenceIdeal.Value.res_main_v28 m' c := by
    intro c
    obtain ⟨hq, hk, hv, h1⟩ := hd c
    have hW : ∀ b g (i : Fin 80) κ, i.val ≤ 64 → (m ((c.tc : Thread Cert.KernelIdeal.nD Cert.KernelIdeal.τ).loc Cert.KernelIdeal.main_arg2) (ix4 b g i κ) : EReal)
        = ((m ((c.tc : Thread Cert.KernelIdeal.nD Cert.KernelIdeal.τ).loc Cert.KernelIdeal.main_arg2) (ix4 b g i κ) : EReal).toReal : EReal) := fun b g i κ hi => by
      rcases Nat.lt_or_eq_of_le hi with h | h
      · exact hv b g i κ h
      · obtain rfl : i = 64 := Fin.ext h
        rw [h1, EReal.toReal_one, EReal.coe_one]
    refine Val.out_eq m c (fun b g e x => (m ((c.tc : Thread Cert.KernelIdeal.nD Cert.KernelIdeal.τ).loc Cert.KernelIdeal.main_arg0) (ix4 b g e x) : EReal).toReal)
      (fun b g κ e => (m ((c.tc : Thread Cert.KernelIdeal.nD Cert.KernelIdeal.τ).loc Cert.KernelIdeal.main_arg1) (ix4 b g κ e) : EReal).toReal)
      (fun b g i κ => (m ((c.tc : Thread Cert.KernelIdeal.nD Cert.KernelIdeal.τ).loc Cert.KernelIdeal.main_arg2) (ix4 b g i κ) : EReal).toReal)
      (fun b g e x => hq _) (fun b g κ e => hk _) hW (fun b g κ => ?_) _ fun b l j => ?_
    · rw [h1, EReal.toReal_one]
    · rw [Val.Ref.res_eq, (hagree c).1, (hagree c).2.1, (hagree c).2.2.1, (hagree c).2.2.2]
      exact Val.Ref.os_real _ _ _ _ _ _ _ (fun b g e x => hq _) (fun b g κ e => hk _) hW b l j
  refine ⟨_, (θ_run Cert.KernelIdeal.defs _ _).mono (fun r h c => ⟨((h.1 c).1 4).trans (key c), h.2.1 c⟩)
    (θ_run_and (KernelIdeal.run_main m ρ) (KernelIdeal.frame m ρ)),
    (θ_run Cert.ReferenceIdeal.defs _ _).mono (fun _ h => h) (Cert.ReferenceIdeal.Value.run (F := Ideal) m' ρ')⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Val.Pre.facts, Dv.Pre.facts,
    fun m ρ _ => Kernel.frame m ρ, fun m ρ _ => KernelIdeal.frame m ρ, fun m ρ _ => KernelIdeal.frame m ρ,
    frame_reference, fun m ρ _ => frame_reference m ρ trivial,
    fun m ρ _ => Cert.Kernel2.Gen.frame m ρ, fun m ρ _ => Cert.Kernel2Ideal.Gen.frame m ρ, Merge.frame_reference,
    fun m ρ _ => Cert.Kernel3.Gen.frame m ρ, fun m ρ _ => Cert.Kernel3Ideal.Gen.frame m ρ, In.frame_reference,
    fun m ρ _ => Kernel4.frame m ρ, fun m ρ _ => Kernel4Ideal.frame m ρ, fun m ρ _ => Kernel4Ideal.frame m ρ,
    Dv.frame_reference, fun m ρ _ => Dv.frame_reference m ρ trivial,
    preserves, algebraic, trivial, Merge.algebraic, In.preserves, In.algebraic, Dv.preserves, Dv.algebraic⟩

end Cert.Proof

end
